-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_XAttn (m : (ℓ : Loc Cert.XAttn.nD Cert.XAttn.τ Cert.XAttn.sig) → Buf (Elt Bits) ℓ) : Prop :=
  True

def Pre_XAttnIdeal (m : (ℓ : Loc Cert.XAttnIdeal.nD Cert.XAttnIdeal.τ Cert.XAttnIdeal.sig) → Buf (Elt Ideal) ℓ) : Prop :=
  True

def Pre_XAttnIdeal_xattn_finite [hPre_xattn_finite : Cert.Pre_xattn_finite.Facts] (m : (ℓ : Loc Cert.XAttnIdeal.nD Cert.XAttnIdeal.τ Cert.XAttnIdeal.sig) → Buf (Elt Ideal) ℓ) : Prop :=
  ∀ c : Dev Cert.XAttnIdeal.nD,
    (Cert.Pre_xattn_finite.fn (F := Ideal) (m ((c.tc : Thread Cert.XAttnIdeal.nD Cert.XAttnIdeal.τ).loc Cert.XAttnIdeal.main_arg0)) (m ((c.tc : Thread Cert.XAttnIdeal.nD Cert.XAttnIdeal.τ).loc Cert.XAttnIdeal.main_arg1)) (m ((c.tc : Thread Cert.XAttnIdeal.nD Cert.XAttnIdeal.τ).loc Cert.XAttnIdeal.main_arg2)) (m ((c.tc : Thread Cert.XAttnIdeal.nD Cert.XAttnIdeal.τ).loc Cert.XAttnIdeal.main_arg3)) (m ((c.tc : Thread Cert.XAttnIdeal.nD Cert.XAttnIdeal.τ).loc Cert.XAttnIdeal.main_arg4)) (m ((c.tc : Thread Cert.XAttnIdeal.nD Cert.XAttnIdeal.τ).loc Cert.XAttnIdeal.main_arg5)) (m ((c.tc : Thread Cert.XAttnIdeal.nD Cert.XAttnIdeal.τ).loc Cert.XAttnIdeal.main_arg6))) = (fun _ => 1#1)

def Pre_XAttnRefIdeal (m : (ℓ : Loc Cert.XAttnRefIdeal.nD Cert.XAttnRefIdeal.τ Cert.XAttnRefIdeal.sig) → Buf (Elt Ideal) ℓ) : Prop :=
  True

def Pre_XAttnRefIdeal_xattn_finite [hPre_xattn_finite : Cert.Pre_xattn_finite.Facts] (m : (ℓ : Loc Cert.XAttnRefIdeal.nD Cert.XAttnRefIdeal.τ Cert.XAttnRefIdeal.sig) → Buf (Elt Ideal) ℓ) : Prop :=
  ∀ c : Dev Cert.XAttnRefIdeal.nD,
    (Cert.Pre_xattn_finite.fn (F := Ideal) (m ((c.tc : Thread Cert.XAttnRefIdeal.nD Cert.XAttnRefIdeal.τ).loc Cert.XAttnRefIdeal.main_arg0)) (m ((c.tc : Thread Cert.XAttnRefIdeal.nD Cert.XAttnRefIdeal.τ).loc Cert.XAttnRefIdeal.main_arg1)) (m ((c.tc : Thread Cert.XAttnRefIdeal.nD Cert.XAttnRefIdeal.τ).loc Cert.XAttnRefIdeal.main_arg2)) (m ((c.tc : Thread Cert.XAttnRefIdeal.nD Cert.XAttnRefIdeal.τ).loc Cert.XAttnRefIdeal.main_arg3)) (m ((c.tc : Thread Cert.XAttnRefIdeal.nD Cert.XAttnRefIdeal.τ).loc Cert.XAttnRefIdeal.main_arg4)) (m ((c.tc : Thread Cert.XAttnRefIdeal.nD Cert.XAttnRefIdeal.τ).loc Cert.XAttnRefIdeal.main_arg5)) (m ((c.tc : Thread Cert.XAttnRefIdeal.nD Cert.XAttnRefIdeal.τ).loc Cert.XAttnRefIdeal.main_arg6))) = (fun _ => 1#1)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5))
      ∧ r.2.sem = fun _ => 0)

def quiescent_XAttn [hXAttn : Cert.XAttn.Facts] : Prop :=
  ∀ (m : (ℓ : Loc Cert.XAttn.nD Cert.XAttn.τ Cert.XAttn.sig) → Buf (Elt Bits) ℓ) (g : Dev Cert.XAttn.nD → PrngReg), Pre_XAttn m →
    θ_run (Cert.XAttn.defs (F := Bits)) (onTc (τ := Cert.XAttn.τ) (Cert.XAttn.main (F := Bits))) ⟨m, fun _ => 0, g⟩ (fun r => (∀ c : Dev Cert.XAttn.nD,
      r.2.mem ((c.tc : Thread Cert.XAttn.nD Cert.XAttn.τ).loc Cert.XAttn.main_arg0) = m ((c.tc : Thread Cert.XAttn.nD Cert.XAttn.τ).loc Cert.XAttn.main_arg0)
      ∧ r.2.mem ((c.tc : Thread Cert.XAttn.nD Cert.XAttn.τ).loc Cert.XAttn.main_arg1) = m ((c.tc : Thread Cert.XAttn.nD Cert.XAttn.τ).loc Cert.XAttn.main_arg1)
      ∧ r.2.mem ((c.tc : Thread Cert.XAttn.nD Cert.XAttn.τ).loc Cert.XAttn.main_arg2) = m ((c.tc : Thread Cert.XAttn.nD Cert.XAttn.τ).loc Cert.XAttn.main_arg2)
      ∧ r.2.mem ((c.tc : Thread Cert.XAttn.nD Cert.XAttn.τ).loc Cert.XAttn.main_arg3) = m ((c.tc : Thread Cert.XAttn.nD Cert.XAttn.τ).loc Cert.XAttn.main_arg3)
      ∧ r.2.mem ((c.tc : Thread Cert.XAttn.nD Cert.XAttn.τ).loc Cert.XAttn.main_arg4) = m ((c.tc : Thread Cert.XAttn.nD Cert.XAttn.τ).loc Cert.XAttn.main_arg4)
      ∧ r.2.mem ((c.tc : Thread Cert.XAttn.nD Cert.XAttn.τ).loc Cert.XAttn.main_arg5) = m ((c.tc : Thread Cert.XAttn.nD Cert.XAttn.τ).loc Cert.XAttn.main_arg5)
      ∧ r.2.mem ((c.tc : Thread Cert.XAttn.nD Cert.XAttn.τ).loc Cert.XAttn.main_arg6) = m ((c.tc : Thread Cert.XAttn.nD Cert.XAttn.τ).loc Cert.XAttn.main_arg6))
      ∧ r.2.sem = fun _ => 0)

def quiescent_XAttnIdeal [hXAttnIdeal : Cert.XAttnIdeal.Facts] : Prop :=
  ∀ (m : (ℓ : Loc Cert.XAttnIdeal.nD Cert.XAttnIdeal.τ Cert.XAttnIdeal.sig) → Buf (Elt Ideal) ℓ) (g : Dev Cert.XAttnIdeal.nD → PrngReg), Pre_XAttnIdeal m →
    θ_run (Cert.XAttnIdeal.defs (F := Ideal)) (onTc (τ := Cert.XAttnIdeal.τ) (Cert.XAttnIdeal.main (F := Ideal))) ⟨m, fun _ => 0, g⟩ (fun r => (∀ c : Dev Cert.XAttnIdeal.nD,
      r.2.mem ((c.tc : Thread Cert.XAttnIdeal.nD Cert.XAttnIdeal.τ).loc Cert.XAttnIdeal.main_arg0) = m ((c.tc : Thread Cert.XAttnIdeal.nD Cert.XAttnIdeal.τ).loc Cert.XAttnIdeal.main_arg0)
      ∧ r.2.mem ((c.tc : Thread Cert.XAttnIdeal.nD Cert.XAttnIdeal.τ).loc Cert.XAttnIdeal.main_arg1) = m ((c.tc : Thread Cert.XAttnIdeal.nD Cert.XAttnIdeal.τ).loc Cert.XAttnIdeal.main_arg1)
      ∧ r.2.mem ((c.tc : Thread Cert.XAttnIdeal.nD Cert.XAttnIdeal.τ).loc Cert.XAttnIdeal.main_arg2) = m ((c.tc : Thread Cert.XAttnIdeal.nD Cert.XAttnIdeal.τ).loc Cert.XAttnIdeal.main_arg2)
      ∧ r.2.mem ((c.tc : Thread Cert.XAttnIdeal.nD Cert.XAttnIdeal.τ).loc Cert.XAttnIdeal.main_arg3) = m ((c.tc : Thread Cert.XAttnIdeal.nD Cert.XAttnIdeal.τ).loc Cert.XAttnIdeal.main_arg3)
      ∧ r.2.mem ((c.tc : Thread Cert.XAttnIdeal.nD Cert.XAttnIdeal.τ).loc Cert.XAttnIdeal.main_arg4) = m ((c.tc : Thread Cert.XAttnIdeal.nD Cert.XAttnIdeal.τ).loc Cert.XAttnIdeal.main_arg4)
      ∧ r.2.mem ((c.tc : Thread Cert.XAttnIdeal.nD Cert.XAttnIdeal.τ).loc Cert.XAttnIdeal.main_arg5) = m ((c.tc : Thread Cert.XAttnIdeal.nD Cert.XAttnIdeal.τ).loc Cert.XAttnIdeal.main_arg5)
      ∧ r.2.mem ((c.tc : Thread Cert.XAttnIdeal.nD Cert.XAttnIdeal.τ).loc Cert.XAttnIdeal.main_arg6) = m ((c.tc : Thread Cert.XAttnIdeal.nD Cert.XAttnIdeal.τ).loc Cert.XAttnIdeal.main_arg6))
      ∧ r.2.sem = fun _ => 0)

def quiescent_XAttnIdeal_pre_xattn_finite [hXAttnIdeal : Cert.XAttnIdeal.Facts] [hPre_xattn_finite : Cert.Pre_xattn_finite.Facts] : Prop :=
  ∀ (m : (ℓ : Loc Cert.XAttnIdeal.nD Cert.XAttnIdeal.τ Cert.XAttnIdeal.sig) → Buf (Elt Ideal) ℓ) (g : Dev Cert.XAttnIdeal.nD → PrngReg), Pre_XAttnIdeal_xattn_finite m →
    θ_run (Cert.XAttnIdeal.defs (F := Ideal)) (onTc (τ := Cert.XAttnIdeal.τ) (Cert.XAttnIdeal.main (F := Ideal))) ⟨m, fun _ => 0, g⟩ (fun r => (∀ c : Dev Cert.XAttnIdeal.nD,
      r.2.mem ((c.tc : Thread Cert.XAttnIdeal.nD Cert.XAttnIdeal.τ).loc Cert.XAttnIdeal.main_arg0) = m ((c.tc : Thread Cert.XAttnIdeal.nD Cert.XAttnIdeal.τ).loc Cert.XAttnIdeal.main_arg0)
      ∧ r.2.mem ((c.tc : Thread Cert.XAttnIdeal.nD Cert.XAttnIdeal.τ).loc Cert.XAttnIdeal.main_arg1) = m ((c.tc : Thread Cert.XAttnIdeal.nD Cert.XAttnIdeal.τ).loc Cert.XAttnIdeal.main_arg1)
      ∧ r.2.mem ((c.tc : Thread Cert.XAttnIdeal.nD Cert.XAttnIdeal.τ).loc Cert.XAttnIdeal.main_arg2) = m ((c.tc : Thread Cert.XAttnIdeal.nD Cert.XAttnIdeal.τ).loc Cert.XAttnIdeal.main_arg2)
      ∧ r.2.mem ((c.tc : Thread Cert.XAttnIdeal.nD Cert.XAttnIdeal.τ).loc Cert.XAttnIdeal.main_arg3) = m ((c.tc : Thread Cert.XAttnIdeal.nD Cert.XAttnIdeal.τ).loc Cert.XAttnIdeal.main_arg3)
      ∧ r.2.mem ((c.tc : Thread Cert.XAttnIdeal.nD Cert.XAttnIdeal.τ).loc Cert.XAttnIdeal.main_arg4) = m ((c.tc : Thread Cert.XAttnIdeal.nD Cert.XAttnIdeal.τ).loc Cert.XAttnIdeal.main_arg4)
      ∧ r.2.mem ((c.tc : Thread Cert.XAttnIdeal.nD Cert.XAttnIdeal.τ).loc Cert.XAttnIdeal.main_arg5) = m ((c.tc : Thread Cert.XAttnIdeal.nD Cert.XAttnIdeal.τ).loc Cert.XAttnIdeal.main_arg5)
      ∧ r.2.mem ((c.tc : Thread Cert.XAttnIdeal.nD Cert.XAttnIdeal.τ).loc Cert.XAttnIdeal.main_arg6) = m ((c.tc : Thread Cert.XAttnIdeal.nD Cert.XAttnIdeal.τ).loc Cert.XAttnIdeal.main_arg6))
      ∧ r.2.sem = fun _ => 0)

def quiescent_XAttnRefIdeal [hXAttnRefIdeal : Cert.XAttnRefIdeal.Facts] : Prop :=
  ∀ (m : (ℓ : Loc Cert.XAttnRefIdeal.nD Cert.XAttnRefIdeal.τ Cert.XAttnRefIdeal.sig) → Buf (Elt Ideal) ℓ) (g : Dev Cert.XAttnRefIdeal.nD → PrngReg), Pre_XAttnRefIdeal m →
    θ_run (Cert.XAttnRefIdeal.defs (F := Ideal)) (onTc (τ := Cert.XAttnRefIdeal.τ) (Cert.XAttnRefIdeal.main (F := Ideal))) ⟨m, fun _ => 0, g⟩ (fun r => (∀ c : Dev Cert.XAttnRefIdeal.nD,
      r.2.mem ((c.tc : Thread Cert.XAttnRefIdeal.nD Cert.XAttnRefIdeal.τ).loc Cert.XAttnRefIdeal.main_arg0) = m ((c.tc : Thread Cert.XAttnRefIdeal.nD Cert.XAttnRefIdeal.τ).loc Cert.XAttnRefIdeal.main_arg0)
      ∧ r.2.mem ((c.tc : Thread Cert.XAttnRefIdeal.nD Cert.XAttnRefIdeal.τ).loc Cert.XAttnRefIdeal.main_arg1) = m ((c.tc : Thread Cert.XAttnRefIdeal.nD Cert.XAttnRefIdeal.τ).loc Cert.XAttnRefIdeal.main_arg1)
      ∧ r.2.mem ((c.tc : Thread Cert.XAttnRefIdeal.nD Cert.XAttnRefIdeal.τ).loc Cert.XAttnRefIdeal.main_arg2) = m ((c.tc : Thread Cert.XAttnRefIdeal.nD Cert.XAttnRefIdeal.τ).loc Cert.XAttnRefIdeal.main_arg2)
      ∧ r.2.mem ((c.tc : Thread Cert.XAttnRefIdeal.nD Cert.XAttnRefIdeal.τ).loc Cert.XAttnRefIdeal.main_arg3) = m ((c.tc : Thread Cert.XAttnRefIdeal.nD Cert.XAttnRefIdeal.τ).loc Cert.XAttnRefIdeal.main_arg3)
      ∧ r.2.mem ((c.tc : Thread Cert.XAttnRefIdeal.nD Cert.XAttnRefIdeal.τ).loc Cert.XAttnRefIdeal.main_arg4) = m ((c.tc : Thread Cert.XAttnRefIdeal.nD Cert.XAttnRefIdeal.τ).loc Cert.XAttnRefIdeal.main_arg4)
      ∧ r.2.mem ((c.tc : Thread Cert.XAttnRefIdeal.nD Cert.XAttnRefIdeal.τ).loc Cert.XAttnRefIdeal.main_arg5) = m ((c.tc : Thread Cert.XAttnRefIdeal.nD Cert.XAttnRefIdeal.τ).loc Cert.XAttnRefIdeal.main_arg5)
      ∧ r.2.mem ((c.tc : Thread Cert.XAttnRefIdeal.nD Cert.XAttnRefIdeal.τ).loc Cert.XAttnRefIdeal.main_arg6) = m ((c.tc : Thread Cert.XAttnRefIdeal.nD Cert.XAttnRefIdeal.τ).loc Cert.XAttnRefIdeal.main_arg6))
      ∧ r.2.sem = fun _ => 0)

def quiescent_XAttnRefIdeal_pre_xattn_finite [hXAttnRefIdeal : Cert.XAttnRefIdeal.Facts] [hPre_xattn_finite : Cert.Pre_xattn_finite.Facts] : Prop :=
  ∀ (m : (ℓ : Loc Cert.XAttnRefIdeal.nD Cert.XAttnRefIdeal.τ Cert.XAttnRefIdeal.sig) → Buf (Elt Ideal) ℓ) (g : Dev Cert.XAttnRefIdeal.nD → PrngReg), Pre_XAttnRefIdeal_xattn_finite m →
    θ_run (Cert.XAttnRefIdeal.defs (F := Ideal)) (onTc (τ := Cert.XAttnRefIdeal.τ) (Cert.XAttnRefIdeal.main (F := Ideal))) ⟨m, fun _ => 0, g⟩ (fun r => (∀ c : Dev Cert.XAttnRefIdeal.nD,
      r.2.mem ((c.tc : Thread Cert.XAttnRefIdeal.nD Cert.XAttnRefIdeal.τ).loc Cert.XAttnRefIdeal.main_arg0) = m ((c.tc : Thread Cert.XAttnRefIdeal.nD Cert.XAttnRefIdeal.τ).loc Cert.XAttnRefIdeal.main_arg0)
      ∧ r.2.mem ((c.tc : Thread Cert.XAttnRefIdeal.nD Cert.XAttnRefIdeal.τ).loc Cert.XAttnRefIdeal.main_arg1) = m ((c.tc : Thread Cert.XAttnRefIdeal.nD Cert.XAttnRefIdeal.τ).loc Cert.XAttnRefIdeal.main_arg1)
      ∧ r.2.mem ((c.tc : Thread Cert.XAttnRefIdeal.nD Cert.XAttnRefIdeal.τ).loc Cert.XAttnRefIdeal.main_arg2) = m ((c.tc : Thread Cert.XAttnRefIdeal.nD Cert.XAttnRefIdeal.τ).loc Cert.XAttnRefIdeal.main_arg2)
      ∧ r.2.mem ((c.tc : Thread Cert.XAttnRefIdeal.nD Cert.XAttnRefIdeal.τ).loc Cert.XAttnRefIdeal.main_arg3) = m ((c.tc : Thread Cert.XAttnRefIdeal.nD Cert.XAttnRefIdeal.τ).loc Cert.XAttnRefIdeal.main_arg3)
      ∧ r.2.mem ((c.tc : Thread Cert.XAttnRefIdeal.nD Cert.XAttnRefIdeal.τ).loc Cert.XAttnRefIdeal.main_arg4) = m ((c.tc : Thread Cert.XAttnRefIdeal.nD Cert.XAttnRefIdeal.τ).loc Cert.XAttnRefIdeal.main_arg4)
      ∧ r.2.mem ((c.tc : Thread Cert.XAttnRefIdeal.nD Cert.XAttnRefIdeal.τ).loc Cert.XAttnRefIdeal.main_arg5) = m ((c.tc : Thread Cert.XAttnRefIdeal.nD Cert.XAttnRefIdeal.τ).loc Cert.XAttnRefIdeal.main_arg5)
      ∧ r.2.mem ((c.tc : Thread Cert.XAttnRefIdeal.nD Cert.XAttnRefIdeal.τ).loc Cert.XAttnRefIdeal.main_arg6) = m ((c.tc : Thread Cert.XAttnRefIdeal.nD Cert.XAttnRefIdeal.τ).loc Cert.XAttnRefIdeal.main_arg6))
      ∧ r.2.sem = fun _ => 0)

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v41) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v9_0)) (v1 : (c : Dev Cert.InProjIdeal.nD) → Buf (Elt Ideal) ((c.tc : Thread Cert.InProjIdeal.nD Cert.InProjIdeal.τ).loc Cert.InProjIdeal.main_v9_1)) (v2 : (c : Dev Cert.InProjIdeal.nD) → Buf (Elt Ideal) ((c.tc : Thread Cert.InProjIdeal.nD Cert.InProjIdeal.τ).loc Cert.InProjIdeal.main_v9_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9_0) = v0 c
          ∧ r.2.mem ((c.tc : Thread Cert.InProjIdeal.nD Cert.InProjIdeal.τ).loc Cert.InProjIdeal.main_v9_1) = v1 c
          ∧ r.2.mem ((c.tc : Thread Cert.InProjIdeal.nD Cert.InProjIdeal.τ).loc Cert.InProjIdeal.main_v9_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_v23) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)) →
    ∃ (v0 : (c : Dev Cert.InProjSIdeal.nD) → Buf (Elt Ideal) ((c.tc : Thread Cert.InProjSIdeal.nD Cert.InProjSIdeal.τ).loc Cert.InProjSIdeal.main_v2_0)) (v1 : (c : Dev Cert.InProjSIdeal.nD) → Buf (Elt Ideal) ((c.tc : Thread Cert.InProjSIdeal.nD Cert.InProjSIdeal.τ).loc Cert.InProjSIdeal.main_v2_1)) (v2 : (c : Dev Cert.InProjSIdeal.nD) → Buf (Elt Ideal) ((c.tc : Thread Cert.InProjSIdeal.nD Cert.InProjSIdeal.τ).loc Cert.InProjSIdeal.main_v2_2)) (v3 : (c : Dev Cert.InProjSIdeal.nD) → Buf (Elt Ideal) ((c.tc : Thread Cert.InProjSIdeal.nD Cert.InProjSIdeal.τ).loc Cert.InProjSIdeal.main_v2_3)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v2_0) = v0 c
          ∧ r.2.mem ((c.tc : Thread Cert.InProjSIdeal.nD Cert.InProjSIdeal.τ).loc Cert.InProjSIdeal.main_v2_1) = v1 c
          ∧ r.2.mem ((c.tc : Thread Cert.InProjSIdeal.nD Cert.InProjSIdeal.τ).loc Cert.InProjSIdeal.main_v2_2) = v2 c
          ∧ r.2.mem ((c.tc : Thread Cert.InProjSIdeal.nD Cert.InProjSIdeal.τ).loc Cert.InProjSIdeal.main_v2_3) = v3 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v17) = v0 c
          ∧ r.2.mem ((c.tc : Thread Cert.InProjSRefIdeal.nD Cert.InProjSRefIdeal.τ).loc Cert.InProjSRefIdeal.main_v18) = v1 c
          ∧ r.2.mem ((c.tc : Thread Cert.InProjSRefIdeal.nD Cert.InProjSRefIdeal.τ).loc Cert.InProjSRefIdeal.main_v25) = v2 c
          ∧ r.2.mem ((c.tc : Thread Cert.InProjSRefIdeal.nD Cert.InProjSRefIdeal.τ).loc Cert.InProjSRefIdeal.main_v30) = v3 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v4_0)) (v1 : (c : Dev Cert.MemKvIdeal.nD) → Buf (Elt Ideal) ((c.tc : Thread Cert.MemKvIdeal.nD Cert.MemKvIdeal.τ).loc Cert.MemKvIdeal.main_v4_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4_0) = v0 c
          ∧ r.2.mem ((c.tc : Thread Cert.MemKvIdeal.nD Cert.MemKvIdeal.τ).loc Cert.MemKvIdeal.main_v4_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_v16) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)) →
    ∃ (v0 : (c : Dev Cert.ConvSIdeal.nD) → Buf (Elt Ideal) ((c.tc : Thread Cert.ConvSIdeal.nD Cert.ConvSIdeal.τ).loc Cert.ConvSIdeal.main_v3_0)) (v1 : (c : Dev Cert.ConvSIdeal.nD) → Buf (Elt Ideal) ((c.tc : Thread Cert.ConvSIdeal.nD Cert.ConvSIdeal.τ).loc Cert.ConvSIdeal.main_v3_1)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v3_0) = v0 c
          ∧ r.2.mem ((c.tc : Thread Cert.ConvSIdeal.nD Cert.ConvSIdeal.τ).loc Cert.ConvSIdeal.main_v3_1) = v1 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v256) = v0 c
          ∧ r.2.mem ((c.tc : Thread Cert.ConvSRefIdeal.nD Cert.ConvSRefIdeal.τ).loc Cert.ConvSRefIdeal.main_v257) = v1 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5))

def preserves_XAttn_XAttnIdeal : Prop :=
  True

def algebraic_XAttnIdeal_XAttnRefIdeal_pre_xattn_finite [hXAttnIdeal : Cert.XAttnIdeal.Facts] [hXAttnRefIdeal : Cert.XAttnRefIdeal.Facts] [hPre_xattn_finite : Cert.Pre_xattn_finite.Facts] : Prop :=
  ∀ (m : (ℓ : Loc Cert.XAttnIdeal.nD Cert.XAttnIdeal.τ Cert.XAttnIdeal.sig) → Buf (Elt Ideal) ℓ) (g : Dev Cert.XAttnIdeal.nD → PrngReg)
    (m' : (ℓ : Loc Cert.XAttnRefIdeal.nD Cert.XAttnRefIdeal.τ Cert.XAttnRefIdeal.sig) → Buf (Elt Ideal) ℓ) (g' : Dev Cert.XAttnRefIdeal.nD → PrngReg), Pre_XAttnIdeal_xattn_finite m →
    (∀ c : Dev Cert.XAttnIdeal.nD,
      m' ((c.tc : Thread Cert.XAttnRefIdeal.nD Cert.XAttnRefIdeal.τ).loc Cert.XAttnRefIdeal.main_arg0) = m ((c.tc : Thread Cert.XAttnIdeal.nD Cert.XAttnIdeal.τ).loc Cert.XAttnIdeal.main_arg0)
      ∧ m' ((c.tc : Thread Cert.XAttnRefIdeal.nD Cert.XAttnRefIdeal.τ).loc Cert.XAttnRefIdeal.main_arg1) = m ((c.tc : Thread Cert.XAttnIdeal.nD Cert.XAttnIdeal.τ).loc Cert.XAttnIdeal.main_arg1)
      ∧ m' ((c.tc : Thread Cert.XAttnRefIdeal.nD Cert.XAttnRefIdeal.τ).loc Cert.XAttnRefIdeal.main_arg2) = m ((c.tc : Thread Cert.XAttnIdeal.nD Cert.XAttnIdeal.τ).loc Cert.XAttnIdeal.main_arg2)
      ∧ m' ((c.tc : Thread Cert.XAttnRefIdeal.nD Cert.XAttnRefIdeal.τ).loc Cert.XAttnRefIdeal.main_arg3) = m ((c.tc : Thread Cert.XAttnIdeal.nD Cert.XAttnIdeal.τ).loc Cert.XAttnIdeal.main_arg3)
      ∧ m' ((c.tc : Thread Cert.XAttnRefIdeal.nD Cert.XAttnRefIdeal.τ).loc Cert.XAttnRefIdeal.main_arg4) = m ((c.tc : Thread Cert.XAttnIdeal.nD Cert.XAttnIdeal.τ).loc Cert.XAttnIdeal.main_arg4)
      ∧ m' ((c.tc : Thread Cert.XAttnRefIdeal.nD Cert.XAttnRefIdeal.τ).loc Cert.XAttnRefIdeal.main_arg5) = m ((c.tc : Thread Cert.XAttnIdeal.nD Cert.XAttnIdeal.τ).loc Cert.XAttnIdeal.main_arg5)
      ∧ m' ((c.tc : Thread Cert.XAttnRefIdeal.nD Cert.XAttnRefIdeal.τ).loc Cert.XAttnRefIdeal.main_arg6) = m ((c.tc : Thread Cert.XAttnIdeal.nD Cert.XAttnIdeal.τ).loc Cert.XAttnIdeal.main_arg6)) →
    ∃ (v0 : (c : Dev Cert.XAttnIdeal.nD) → Buf (Elt Ideal) ((c.tc : Thread Cert.XAttnIdeal.nD Cert.XAttnIdeal.τ).loc Cert.XAttnIdeal.main_v7)),
      θ_run (Cert.XAttnIdeal.defs (F := Ideal)) (onTc (τ := Cert.XAttnIdeal.τ) (Cert.XAttnIdeal.main (F := Ideal))) ⟨m, fun _ => 0, g⟩ (fun r => ∀ c : Dev Cert.XAttnIdeal.nD,
          r.2.mem ((c.tc : Thread Cert.XAttnIdeal.nD Cert.XAttnIdeal.τ).loc Cert.XAttnIdeal.main_v7) = v0 c
          ∧ r.2.mem ((c.tc : Thread Cert.XAttnIdeal.nD Cert.XAttnIdeal.τ).loc Cert.XAttnIdeal.main_arg0) = m ((c.tc : Thread Cert.XAttnIdeal.nD Cert.XAttnIdeal.τ).loc Cert.XAttnIdeal.main_arg0)
          ∧ r.2.mem ((c.tc : Thread Cert.XAttnIdeal.nD Cert.XAttnIdeal.τ).loc Cert.XAttnIdeal.main_arg1) = m ((c.tc : Thread Cert.XAttnIdeal.nD Cert.XAttnIdeal.τ).loc Cert.XAttnIdeal.main_arg1)
          ∧ r.2.mem ((c.tc : Thread Cert.XAttnIdeal.nD Cert.XAttnIdeal.τ).loc Cert.XAttnIdeal.main_arg2) = m ((c.tc : Thread Cert.XAttnIdeal.nD Cert.XAttnIdeal.τ).loc Cert.XAttnIdeal.main_arg2)
          ∧ r.2.mem ((c.tc : Thread Cert.XAttnIdeal.nD Cert.XAttnIdeal.τ).loc Cert.XAttnIdeal.main_arg3) = m ((c.tc : Thread Cert.XAttnIdeal.nD Cert.XAttnIdeal.τ).loc Cert.XAttnIdeal.main_arg3)
          ∧ r.2.mem ((c.tc : Thread Cert.XAttnIdeal.nD Cert.XAttnIdeal.τ).loc Cert.XAttnIdeal.main_arg4) = m ((c.tc : Thread Cert.XAttnIdeal.nD Cert.XAttnIdeal.τ).loc Cert.XAttnIdeal.main_arg4)
          ∧ r.2.mem ((c.tc : Thread Cert.XAttnIdeal.nD Cert.XAttnIdeal.τ).loc Cert.XAttnIdeal.main_arg5) = m ((c.tc : Thread Cert.XAttnIdeal.nD Cert.XAttnIdeal.τ).loc Cert.XAttnIdeal.main_arg5)
          ∧ r.2.mem ((c.tc : Thread Cert.XAttnIdeal.nD Cert.XAttnIdeal.τ).loc Cert.XAttnIdeal.main_arg6) = m ((c.tc : Thread Cert.XAttnIdeal.nD Cert.XAttnIdeal.τ).loc Cert.XAttnIdeal.main_arg6))
      ∧ θ_run (Cert.XAttnRefIdeal.defs (F := Ideal)) (onTc (τ := Cert.XAttnRefIdeal.τ) (Cert.XAttnRefIdeal.main (F := Ideal))) ⟨m', fun _ => 0, g'⟩ (fun r => ∀ c : Dev Cert.XAttnRefIdeal.nD,
          r.2.mem ((c.tc : Thread Cert.XAttnRefIdeal.nD Cert.XAttnRefIdeal.τ).loc Cert.XAttnRefIdeal.main_v47) = v0 c
          ∧ r.2.mem ((c.tc : Thread Cert.XAttnRefIdeal.nD Cert.XAttnRefIdeal.τ).loc Cert.XAttnRefIdeal.main_arg0) = m' ((c.tc : Thread Cert.XAttnRefIdeal.nD Cert.XAttnRefIdeal.τ).loc Cert.XAttnRefIdeal.main_arg0)
          ∧ r.2.mem ((c.tc : Thread Cert.XAttnRefIdeal.nD Cert.XAttnRefIdeal.τ).loc Cert.XAttnRefIdeal.main_arg1) = m' ((c.tc : Thread Cert.XAttnRefIdeal.nD Cert.XAttnRefIdeal.τ).loc Cert.XAttnRefIdeal.main_arg1)
          ∧ r.2.mem ((c.tc : Thread Cert.XAttnRefIdeal.nD Cert.XAttnRefIdeal.τ).loc Cert.XAttnRefIdeal.main_arg2) = m' ((c.tc : Thread Cert.XAttnRefIdeal.nD Cert.XAttnRefIdeal.τ).loc Cert.XAttnRefIdeal.main_arg2)
          ∧ r.2.mem ((c.tc : Thread Cert.XAttnRefIdeal.nD Cert.XAttnRefIdeal.τ).loc Cert.XAttnRefIdeal.main_arg3) = m' ((c.tc : Thread Cert.XAttnRefIdeal.nD Cert.XAttnRefIdeal.τ).loc Cert.XAttnRefIdeal.main_arg3)
          ∧ r.2.mem ((c.tc : Thread Cert.XAttnRefIdeal.nD Cert.XAttnRefIdeal.τ).loc Cert.XAttnRefIdeal.main_arg4) = m' ((c.tc : Thread Cert.XAttnRefIdeal.nD Cert.XAttnRefIdeal.τ).loc Cert.XAttnRefIdeal.main_arg4)
          ∧ r.2.mem ((c.tc : Thread Cert.XAttnRefIdeal.nD Cert.XAttnRefIdeal.τ).loc Cert.XAttnRefIdeal.main_arg5) = m' ((c.tc : Thread Cert.XAttnRefIdeal.nD Cert.XAttnRefIdeal.τ).loc Cert.XAttnRefIdeal.main_arg5)
          ∧ r.2.mem ((c.tc : Thread Cert.XAttnRefIdeal.nD Cert.XAttnRefIdeal.τ).loc Cert.XAttnRefIdeal.main_arg6) = m' ((c.tc : Thread Cert.XAttnRefIdeal.nD Cert.XAttnRefIdeal.τ).loc Cert.XAttnRefIdeal.main_arg6))

def Claim : Prop :=
  ∃ (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hInProjS : Cert.InProjS.Facts) (hInProjSIdeal : Cert.InProjSIdeal.Facts) (hInProjSRefIdeal : Cert.InProjSRefIdeal.Facts) (hMemKv : Cert.MemKv.Facts) (hMemKvIdeal : Cert.MemKvIdeal.Facts) (hMemKvRefIdeal : Cert.MemKvRefIdeal.Facts) (hConvS : Cert.ConvS.Facts) (hConvSIdeal : Cert.ConvSIdeal.Facts) (hConvSRefIdeal : Cert.ConvSRefIdeal.Facts) (hXAttn : Cert.XAttn.Facts) (hXAttnIdeal : Cert.XAttnIdeal.Facts) (hXAttnRefIdeal : Cert.XAttnRefIdeal.Facts) (hPre_xattn_finite : Cert.Pre_xattn_finite.Facts),
    quiescent_Mix (hMix := hMix)
    ∧ quiescent_MixIdeal (hMixIdeal := hMixIdeal)
    ∧ quiescent_MixRefIdeal (hMixRefIdeal := hMixRefIdeal)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_ConvS (hConvS := hConvS)
    ∧ quiescent_ConvSIdeal (hConvSIdeal := hConvSIdeal)
    ∧ quiescent_ConvSRefIdeal (hConvSRefIdeal := hConvSRefIdeal)
    ∧ quiescent_XAttn (hXAttn := hXAttn)
    ∧ quiescent_XAttnIdeal (hXAttnIdeal := hXAttnIdeal)
    ∧ quiescent_XAttnIdeal_pre_xattn_finite (hXAttnIdeal := hXAttnIdeal) (hPre_xattn_finite := hPre_xattn_finite)
    ∧ quiescent_XAttnRefIdeal (hXAttnRefIdeal := hXAttnRefIdeal)
    ∧ quiescent_XAttnRefIdeal_pre_xattn_finite (hXAttnRefIdeal := hXAttnRefIdeal) (hPre_xattn_finite := hPre_xattn_finite)
    ∧ preserves_Mix_MixIdeal
    ∧ algebraic_MixIdeal_MixRefIdeal (hMixIdeal := hMixIdeal) (hMixRefIdeal := hMixRefIdeal)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_InProjS_InProjSIdeal
    ∧ algebraic_InProjSIdeal_InProjSRefIdeal (hInProjSIdeal := hInProjSIdeal) (hInProjSRefIdeal := hInProjSRefIdeal)
    ∧ preserves_MemKv_MemKvIdeal
    ∧ algebraic_MemKvIdeal_MemKvRefIdeal (hMemKvIdeal := hMemKvIdeal) (hMemKvRefIdeal := hMemKvRefIdeal)
    ∧ preserves_ConvS_ConvSIdeal
    ∧ algebraic_ConvSIdeal_ConvSRefIdeal (hConvSIdeal := hConvSIdeal) (hConvSRefIdeal := hConvSRefIdeal)
    ∧ preserves_XAttn_XAttnIdeal
    ∧ algebraic_XAttnIdeal_XAttnRefIdeal_pre_xattn_finite (hXAttnIdeal := hXAttnIdeal) (hXAttnRefIdeal := hXAttnRefIdeal) (hPre_xattn_finite := hPre_xattn_finite)
-- ==== Pre_xattn_finite.lean ====
abbrev S2x4096x2048 : Shape := ⟨3, ![2, 4096, 2048]⟩
abbrev S2x256x4x128 : Shape := ⟨4, ![2, 256, 4, 128]⟩
abbrev S2048 : Shape := ⟨1, ![2048]⟩
abbrev S2048x512 : Shape := ⟨2, ![2048, 512]⟩
abbrev S512x2048 : Shape := ⟨2, ![512, 2048]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2x256x4x128 : S_.BroadcastsInDim S2x256x4x128 (![] : Fin 0 → Fin S2x256x4x128.rank)
  reducesTo_S2x256x4x128_S_d0_1_2_3 : S2x256x4x128.ReducesTo [0, 1, 2, 3] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  main_v18

def fn {F : FTy → Type} [FloatOps F] (main_arg0 : FVec F S2x4096x2048 .f32) (main_arg1 : FVec F S2x256x4x128 .f32) (main_arg2 : FVec F S2x256x4x128 .f32) (main_arg3 : FVec F S2048 .f32) (main_arg4 : FVec F S2048x512 .f32) (main_arg5 : FVec F S512x2048 .f32) (main_arg6 : FVec F S2048 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2x256x4x128 .f32 := Host.absf main_arg1
  let main_cst_0 : FVec F S_ .f32 := constant S_ .f32 0x7F800000#32
  let main_v5 : FVec F S2x256x4x128 .f32 := broadcastInDim S2x256x4x128 ![] bcast_S_S2x256x4x128 main_cst_0
  let main_v6 : IVec S2x256x4x128 1 := cmpf .olt main_v4 main_v5
  let main_c_1 : IVec S_ 1 := constantI S_ 1 1#1
  let main_v7 : IVec S_ 1 := (fun x v => Host.reduce IntOp.andi x v reducesTo_S2x256x4x128_S_d0_1_2_3 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x512 .f32 := Host.absf main_arg4
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_v13 main_v16
-- ==== Mix.lean ====
abbrev S8192x1024 : Shape := ⟨2, ![8192, 1024]⟩
abbrev S8192x2048 : Shape := ⟨2, ![8192, 2048]⟩
abbrev S1024 : Shape := ⟨1, ![1024]⟩
abbrev S2048x2048 : Shape := ⟨2, ![2048, 2048]⟩
abbrev S2048 : Shape := ⟨1, ![2048]⟩
abbrev S1x1024 : Shape := ⟨2, ![1, 1024]⟩
abbrev S1x2048 : Shape := ⟨2, ![1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1024, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S2048x2048, .bf16⟩
  | .hbm, ⟨8, _⟩ => ⟨S1x1024, .f32⟩
  | .hbm, ⟨9, _⟩ => ⟨S1x1024, .f32⟩
  | .hbm, ⟨10, _⟩ => ⟨S1x2048, .f32⟩
  | .hbm, ⟨11, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1x1024, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixRefIdeal.lean ====
abbrev S8192x1024 : Shape := ⟨2, ![8192, 1024]⟩
abbrev S8192x2048 : Shape := ⟨2, ![8192, 2048]⟩
abbrev S1024 : Shape := ⟨1, ![1024]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1024, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Ffn.lean ====
abbrev S8192x2048 : Shape := ⟨2, ![8192, 2048]⟩
abbrev S2048 : Shape := ⟨1, ![2048]⟩
abbrev S2048x11264 : Shape := ⟨2, ![2048, 11264]⟩
abbrev S5632x2048 : Shape := ⟨2, ![5632, 2048]⟩
abbrev S2048x22x512 : Shape := ⟨3, ![2048, 22, 512]⟩
abbrev S22x2048x512 : Shape := ⟨3, ![22, 2048, 512]⟩
abbrev S11x2048x512 : Shape := ⟨3, ![11, 2048, 512]⟩
abbrev S1x2048 : Shape := ⟨2, ![1, 2048]⟩
abbrev S512x2048 : Shape := ⟨2, ![512, 2048]⟩
abbrev S4x2048x512 : Shape := ⟨3, ![4, 2048, 512]⟩
abbrev S4x512x2048 : Shape := ⟨3, ![4, 512, 2048]⟩
abbrev S3x4 : Shape := ⟨2, ![3, 4]⟩
abbrev S1x1 : Shape := ⟨2, ![1, 1]⟩
abbrev S_ : Shape := ⟨0, ![]⟩
abbrev S1x2048x512 : Shape := ⟨3, ![1, 2048, 512]⟩
abbrev S2048x512 : Shape := ⟨2, ![2048, 512]⟩
abbrev S1x512x2048 : Shape := ⟨3, ![1, 512, 2048]⟩
abbrev S512 : Shape := ⟨1, ![512]⟩
abbrev S512x1 : Shape := ⟨2, ![512, 1]⟩
abbrev S512x512 : Shape := ⟨2, ![512, 512]⟩

abbrev nBuf : Space → Nat
  | .hbm => 14
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S2048x22x512, .f32⟩
  | .hbm, ⟨6, _⟩ => ⟨S22x2048x512, .f32⟩
  | .hbm, ⟨7, _⟩ => ⟨S22x2048x512, .bf16⟩
  | .hbm, ⟨8, _⟩ => ⟨S11x2048x512, .bf16⟩
  | .hbm, ⟨9, _⟩ => ⟨S11x2048x512, .bf16⟩
  | .hbm, ⟨10, _⟩ => ⟨S5632x2048, .bf16⟩
  | .hbm, ⟨11, _⟩ => ⟨S1x2048, .f32⟩
  | .hbm, ⟨12, _⟩ => ⟨S1x2048, .f32⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S4x2048x512, .bf16⟩
  | .local _ .vmem, ⟨7, _⟩ => ⟨S4x2048x512, .bf16⟩
  | .local _ .vmem, ⟨8, _⟩ => ⟨S4x512x2048, .bf16⟩
  | .local _ .vmem, ⟨9, _⟩ => ⟨S512x2048, .bf16⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 : BitVec 32 :=
  let c0_i32_114 : BitVec 32 := 0#32
  c0_i32_114
def k0_mult2 : BitVec 32 :=
  let c512_i32_137 : BitVec 32 := 512#32
  c512_i32_137
def k0_mult3 : BitVec 32 :=
  let c1024_i32 : BitVec 32 := 1024#32
  c1024_i32
def k0_mult4 (i : grid0.Coords) : BitVec 32 :=
  let arg0 : BitVec 32 := BitVec.ofNat 32 (i 0).val
  let c11_i32 : BitVec 32 := 11#32
  let v0 : BitVec 32 := Scalar.muli arg0 c11_i32
  let c0_i32_1 : BitVec 32 := 0#32
  let v4 : BitVec 32 := Scalar.addi v0 c0_i32_1
  let c11_i32_2 : BitVec 32 := 11#32
  let c0_i32_3 : BitVec 32 := 0#32
  let v5 : BitVec 1 := Scalar.cmpi .eq c11_i32_2 c0_i32_3
  let c1_i32 : BitVec 32 := 1#32
  let v6 : BitVec 32 := Scalar.select v5 c1_i32 c11_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c512_i32 : BitVec 32 := 512#32
  let v25 : BitVec 32 := Scalar.muli v14 c512_i32
  v25
def k0_off1 (i : grid0.Coords) (c0_i32_1 : BitVec 32) : Fin 2 → Nat :=
  let c0_i32_12 : BitVec 32 := 0#32
  let arg0 : BitVec 32 := BitVec.ofNat 32 (i 0).val
  let c11_i32 : BitVec 32 := 11#32
  let v0 : BitVec 32 := Scalar.muli arg0 c11_i32
  let v4 : BitVec 32 := Scalar.addi v0 c0_i32_1
  let c4_i32 : BitVec 32 := 4#32
  let c0_i32_7 : BitVec 32 := 0#32
  let v15 : BitVec 1 := Scalar.cmpi .eq c4_i32 c0_i32_7
  let c1_i32_8 : BitVec 32 := 1#32
  let v16 : BitVec 32 := Scalar.select v15 c1_i32_8 c4_i32
  let v17 : BitVec 32 := Scalar.remsi v4 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  ![0, v24.toNat]
def k0_off2 (i : grid0.Coords) (c0_i32_1 : BitVec 32) : Fin 3 → Nat :=
  let arg0 : BitVec 32 := BitVec.ofNat 32 (i 0).val
  let c11_i32 : BitVec 32 := 11#32
  let v0 : BitVec 32 := Scalar.muli arg0 c11_i32
  let v4 : BitVec 32 := Scalar.addi v0 c0_i32_1
  let c4_i32 : BitVec 32 := 4#32
  let c0_i32_7 : BitVec 32 := 0#32
  let v15 : BitVec 1 := Scalar.cmpi .eq c4_i32 c0_i32_7
  let c1_i32_8 : BitVec 32 := 1#32
  let v16 : BitVec 32 := Scalar.select v15 c1_i32_8 c4_i32
  let v17 : BitVec 32 := Scalar.remsi v4 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c0_i32_13 : BitVec 32 := 0#32
  let c0_i32_14 : BitVec 32 := 0#32
  ![v24.toNat, 0, 0]
def k0_off3 (i : grid0.Coords) (c0_i32_1 : BitVec 32) : Fin 3 → Nat :=
  let arg0 : BitVec 32 := BitVec.ofNat 32 (i 0).val
  let c11_i32 : BitVec 32 := 11#32
  let v0 : BitVec 32 := Scalar.muli arg0 c11_i32
  let v4 : BitVec 32 := Scalar.addi v0 c0_i32_1
  let c11_i32_2 : BitVec 32 := 11#32
  let c0_i32_3 : BitVec 32 := 0#32
  let v5 : BitVec 1 := Scalar.cmpi .eq c11_i32_2 c0_i32_3
  let c1_i32 : BitVec 32 := 1#32
  let v6 : BitVec 32 := Scalar.select v5 c1_i32 c11_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c0_i32_15 : BitVec 32 := 0#32
  let c0_i32_16 : BitVec 32 := 0#32
  ![v14.toNat, 0, 0]
def k0_off4 (i : grid0.Coords) (c0_i32_1 : BitVec 32) : Fin 2 → Nat :=
  let c1_i32_17 : BitVec 32 := 1#32
  let arg0 : BitVec 32 := BitVec.ofNat 32 (i 0).val
  let c11_i32 : BitVec 32 := 11#32
  let v0 : BitVec 32 := Scalar.muli arg0 c11_i32
  let v4 : BitVec 32 := Scalar.addi v0 c0_i32_1
  let c4_i32 : BitVec 32 := 4#32
  let c0_i32_7 : BitVec 32 := 0#32
  let v15 : BitVec 1 := Scalar.cmpi .eq c4_i32 c0_i32_7
  let c1_i32_8 : BitVec 32 := 1#32
  let v16 : BitVec 32 := Scalar.select v15 c1_i32_8 c4_i32
  let v17 : BitVec 32 := Scalar.remsi v4 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  ![1, v24.toNat]
def k0_off5 (i : grid0.Coords) (c0_i32_1 : BitVec 32) : Fin 2 → Nat :=
  let c2_i32 : BitVec 32 := 2#32
  let arg0 : BitVec 32 := BitVec.ofNat 32 (i 0).val
  let c11_i32 : BitVec 32 := 11#32
  let v0 : BitVec 32 := Scalar.muli arg0 c11_i32
  let v4 : BitVec 32 := Scalar.addi v0 c0_i32_1
  let c4_i32 : BitVec 32 := 4#32
  let c0_i32_7 : BitVec 32 := 0#32
  let v15 : BitVec 1 := Scalar.cmpi .eq c4_i32 c0_i32_7
  let c1_i32_8 : BitVec 32 := 1#32
  let v16 : BitVec 32 := Scalar.select v15 c1_i32_8 c4_i32
  let v17 : BitVec 32 := Scalar.remsi v4 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  ![2, v24.toNat]
def k0_off6 (i : grid0.Coords) (c0_i32_1 : BitVec 32) : Fin 3 → Nat :=
  let arg0 : BitVec 32 := BitVec.ofNat 32 (i 0).val
  let c11_i32 : BitVec 32 := 11#32
  let v0 : BitVec 32 := Scalar.muli arg0 c11_i32
  let v4 : BitVec 32 := Scalar.addi v0 c0_i32_1
  let c4_i32 : BitVec 32 := 4#32
  let c0_i32_7 : BitVec 32 := 0#32
  let v15 : BitVec 1 := Scalar.cmpi .eq c4_i32 c0_i32_7
  let c1_i32_8 : BitVec 32 := 1#32
  let v16 : BitVec 32 := Scalar.select v15 c1_i32_8 c4_i32
  let v17 : BitVec 32 := Scalar.remsi v4 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c0_i32_22 : BitVec 32 := 0#32
  let c0_i32_23 : BitVec 32 := 0#32
  ![v24.toNat, 0, 0]
def k0_off7 (i : grid0.Coords) (c0_i32_1 : BitVec 32) : Fin 2 → Nat :=
  let arg0 : BitVec 32 := BitVec.ofNat 32 (i 0).val
  let c11_i32 : BitVec 32 := 11#32
  let v0 : BitVec 32 := Scalar.muli arg0 c11_i32
  let v4 : BitVec 32 := Scalar.addi v0 c0_i32_1
  let c11_i32_2 : BitVec 32 := 11#32
  let c0_i32_3 : BitVec 32 := 0#32
  let v5 : BitVec 1 := Scalar.cmpi .eq c11_i32_2 c0_i32_3
  let c1_i32 : BitVec 32 := 1#32
  let v6 : BitVec 32 := Scalar.select v5 c1_i32 c11_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c512_i32 : BitVec 32 := 512#32
  let v25 : BitVec 32 := Scalar.muli v14 c512_i32
  let v26 : BitVec 32 := v25
  let c0_i32_24 : BitVec 32 := 0#32
  ![v26.toNat, 0]
def k0_cond2 (i : grid0.Coords) : BitVec 1 :=
  let arg0 : BitVec 32 := BitVec.ofNat 32 (i 0).val
  let c11_i32 : BitVec 32 := 11#32
  let v0 : BitVec 32 := Scalar.muli arg0 c11_i32
  let c0_i32_1 : BitVec 32 := 0#32
  let v4 : BitVec 32 := Scalar.addi v0 c0_i32_1
  let c4_i32_25 : BitVec 32 := 4#32
  let v44 : BitVec 32 := Scalar.addi v4 c4_i32_25
  let c1_i32_26 : BitVec 32 := 1#32
  let v45 : BitVec 32 := Scalar.subi v44 c1_i32_26
  let c176_i32 : BitVec 32 := 176#32
  let v46 : BitVec 1 := Scalar.cmpi .slt v45 c176_i32
  let v47 : BitVec 32 := Scalar.extui v46
  let c0_i32_27 : BitVec 32 := 0#32
  let v48 : BitVec 1 := Scalar.cmpi .ne v47 c0_i32_27
  v48

def k0_mult5 (i : grid0.Coords) : BitVec 32 :=
  let arg0 : BitVec 32 := BitVec.ofNat 32 (i 0).val
  let c11_i32 : BitVec 32 := 11#32
  let v0 : BitVec 32 := Scalar.muli arg0 c11_i32
  let c0_i32_1 : BitVec 32 := 0#32
  let v4 : BitVec 32 := Scalar.addi v0 c0_i32_1
  let c4_i32_114 : BitVec 32 := 4#32
  let v189 : BitVec 32 := Scalar.addi v4 c4_i32_114
  let c1_i32_115 : BitVec 32 := 1#32
  let v190 : BitVec 32 := Scalar.subi v189 c1_i32_115
  let c11_i32_116 : BitVec 32 := 11#32
  let c0_i32_117 : BitVec 32 := 0#32
  let v191 : BitVec 1 := Scalar.cmpi .eq c11_i32_116 c0_i32_117
  let c1_i32_118 : BitVec 32 := 1#32
  let v192 : BitVec 32 := Scalar.select v191 c1_i32_118 c11_i32_116
  let v193 : BitVec 32 := Scalar.remsi v190 v192
  let c0_i32_120 : BitVec 32 := 0#32
  let v195 : BitVec 1 := Scalar.cmpi .slt v193 c0_i32_120
  let c0_i32_121 : BitVec 32 := 0#32
  let v196 : BitVec 1 := Scalar.cmpi .slt v192 c0_i32_121
  let v197 : BitVec 1 := Scalar.xori v195 v196
  let c0_i32_119 : BitVec 32 := 0#32
  let v194 : BitVec 1 := Scalar.cmpi .ne v193 c0_i32_119
  let v198 : BitVec 1 := Scalar.andi v197 v194
  let v199 : BitVec 32 := Scalar.addi v193 v192
  let v200 : BitVec 32 := Scalar.select v198 v199 v193
  let c512_i32_128 : BitVec 32 := 512#32
  let v211 : BitVec 32 := Scalar.muli v200 c512_i32_128
  v211
def k0_off8 (i : grid0.Coords) : Fin 2 → Nat :=
  let c0_i32_129 : BitVec 32 := 0#32
  let arg0 : BitVec 32 := BitVec.ofNat 32 (i 0).val
  let c11_i32 : BitVec 32 := 11#32
  let v0 : BitVec 32 := Scalar.muli arg0 c11_i32
  let c0_i32_1 : BitVec 32 := 0#32
  let v4 : BitVec 32 := Scalar.addi v0 c0_i32_1
  let c4_i32_114 : BitVec 32 := 4#32
  let v189 : BitVec 32 := Scalar.addi v4 c4_i32_114
  let c1_i32_115 : BitVec 32 := 1#32
  let v190 : BitVec 32 := Scalar.subi v189 c1_i32_115
  let c4_i32_122 : BitVec 32 := 4#32
  let c0_i32_123 : BitVec 32 := 0#32
  let v201 : BitVec 1 := Scalar.cmpi .eq c4_i32_122 c0_i32_123
  let c1_i32_124 : BitVec 32 := 1#32
  let v202 : BitVec 32 := Scalar.select v201 c1_i32_124 c4_i32_122
  let v203 : BitVec 32 := Scalar.remsi v190 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  ![0, v210.toNat]
def k0_off9 (i : grid0.Coords) : Fin 3 → Nat :=
  let arg0 : BitVec 32 := BitVec.ofNat 32 (i 0).val
  let c11_i32 : BitVec 32 := 11#32
  let v0 : BitVec 32 := Scalar.muli arg0 c11_i32
  let c0_i32_1 : BitVec 32 := 0#32
  let v4 : BitVec 32 := Scalar.addi v0 c0_i32_1
  let c4_i32_114 : BitVec 32 := 4#32
  let v189 : BitVec 32 := Scalar.addi v4 c4_i32_114
  let c1_i32_115 : BitVec 32 := 1#32
  let v190 : BitVec 32 := Scalar.subi v189 c1_i32_115
  let c4_i32_122 : BitVec 32 := 4#32
  let c0_i32_123 : BitVec 32 := 0#32
  let v201 : BitVec 1 := Scalar.cmpi .eq c4_i32_122 c0_i32_123
  let c1_i32_124 : BitVec 32 := 1#32
  let v202 : BitVec 32 := Scalar.select v201 c1_i32_124 c4_i32_122
  let v203 : BitVec 32 := Scalar.remsi v190 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  let c0_i32_130 : BitVec 32 := 0#32
  let c0_i32_131 : BitVec 32 := 0#32
  ![v210.toNat, 0, 0]
def k0_off10 (i : grid0.Coords) : Fin 3 → Nat :=
  let arg0 : BitVec 32 := BitVec.ofNat 32 (i 0).val
  let c11_i32 : BitVec 32 := 11#32
  let v0 : BitVec 32 := Scalar.muli arg0 c11_i32
  let c0_i32_1 : BitVec 32 := 0#32
  let v4 : BitVec 32 := Scalar.addi v0 c0_i32_1
  let c4_i32_114 : BitVec 32 := 4#32
  let v189 : BitVec 32 := Scalar.addi v4 c4_i32_114
  let c1_i32_115 : BitVec 32 := 1#32
  let v190 : BitVec 32 := Scalar.subi v189 c1_i32_115
  let c11_i32_116 : BitVec 32 := 11#32
  let c0_i32_117 : BitVec 32 := 0#32
  let v191 : BitVec 1 := Scalar.cmpi .eq c11_i32_116 c0_i32_117
  let c1_i32_118 : BitVec 32 := 1#32
  let v192 : BitVec 32 := Scalar.select v191 c1_i32_118 c11_i32_116
  let v193 : BitVec 32 := Scalar.remsi v190 v192
  let c0_i32_120 : BitVec 32 := 0#32
  let v195 : BitVec 1 := Scalar.cmpi .slt v193 c0_i32_120
  let c0_i32_121 : BitVec 32 := 0#32
  let v196 : BitVec 1 := Scalar.cmpi .slt v192 c0_i32_121
  let v197 : BitVec 1 := Scalar.xori v195 v196
  let c0_i32_119 : BitVec 32 := 0#32
  let v194 : BitVec 1 := Scalar.cmpi .ne v193 c0_i32_119
  let v198 : BitVec 1 := Scalar.andi v197 v194
  let v199 : BitVec 32 := Scalar.addi v193 v192
  let v200 : BitVec 32 := Scalar.select v198 v199 v193
  let c0_i32_132 : BitVec 32 := 0#32
  let c0_i32_133 : BitVec 32 := 0#32
  ![v200.toNat, 0, 0]
def k0_off11 (i : grid0.Coords) : Fin 2 → Nat :=
  let c1_i32_134 : BitVec 32 := 1#32
  let arg0 : BitVec 32 := BitVec.ofNat 32 (i 0).val
  let c11_i32 : BitVec 32 := 11#32
  let v0 : BitVec 32 := Scalar.muli arg0 c11_i32
  let c0_i32_1 : BitVec 32 := 0#32
  let v4 : BitVec 32 := Scalar.addi v0 c0_i32_1
  let c4_i32_114 : BitVec 32 := 4#32
  let v189 : BitVec 32 := Scalar.addi v4 c4_i32_114
  let c1_i32_115 : BitVec 32 := 1#32
  let v190 : BitVec 32 := Scalar.subi v189 c1_i32_115
  let c4_i32_122 : BitVec 32 := 4#32
  let c0_i32_123 : BitVec 32 := 0#32
  let v201 : BitVec 1 := Scalar.cmpi .eq c4_i32_122 c0_i32_123
  let c1_i32_124 : BitVec 32 := 1#32
  let v202 : BitVec 32 := Scalar.select v201 c1_i32_124 c4_i32_122
  let v203 : BitVec 32 := Scalar.remsi v190 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  ![1, v210.toNat]
def k0_off12 (i : grid0.Coords) : Fin 2 → Nat :=
  let c2_i32_139 : BitVec 32 := 2#32
  let arg0 : BitVec 32 := BitVec.ofNat 32 (i 0).val
  let c11_i32 : BitVec 32 := 11#32
  let v0 : BitVec 32 := Scalar.muli arg0 c11_i32
  let c0_i32_1 : BitVec 32 := 0#32
  let v4 : BitVec 32 := Scalar.addi v0 c0_i32_1
  let c4_i32_114 : BitVec 32 := 4#32
  let v189 : BitVec 32 := Scalar.addi v4 c4_i32_114
  let c1_i32_115 : BitVec 32 := 1#32
  let v190 : BitVec 32 := Scalar.subi v189 c1_i32_115
  let c4_i32_122 : BitVec 32 := 4#32
  let c0_i32_123 : BitVec 32 := 0#32
  let v201 : BitVec 1 := Scalar.cmpi .eq c4_i32_122 c0_i32_123
  let c1_i32_124 : BitVec 32 := 1#32
  let v202 : BitVec 32 := Scalar.select v201 c1_i32_124 c4_i32_122
  let v203 : BitVec 32 := Scalar.remsi v190 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  ![2, v210.toNat]
def k0_off13 (i : grid0.Coords) : Fin 3 → Nat :=
  let arg0 : BitVec 32 := BitVec.ofNat 32 (i 0).val
  let c11_i32 : BitVec 32 := 11#32
  let v0 : BitVec 32 := Scalar.muli arg0 c11_i32
  let c0_i32_1 : BitVec 32 := 0#32
  let v4 : BitVec 32 := Scalar.addi v0 c0_i32_1
  let c4_i32_114 : BitVec 32 := 4#32
  let v189 : BitVec 32 := Scalar.addi v4 c4_i32_114
  let c1_i32_115 : BitVec 32 := 1#32
  let v190 : BitVec 32 := Scalar.subi v189 c1_i32_115
  let c4_i32_122 : BitVec 32 := 4#32
  let c0_i32_123 : BitVec 32 := 0#32
  let v201 : BitVec 1 := Scalar.cmpi .eq c4_i32_122 c0_i32_123
  let c1_i32_124 : BitVec 32 := 1#32
  let v202 : BitVec 32 := Scalar.select v201 c1_i32_124 c4_i32_122
  let v203 : BitVec 32 := Scalar.remsi v190 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  let c0_i32_140 : BitVec 32 := 0#32
  let c0_i32_141 : BitVec 32 := 0#32
  ![v210.toNat, 0, 0]
def k0_off14 (i : grid0.Coords) : Fin 2 → Nat :=
  let arg0 : BitVec 32 := BitVec.ofNat 32 (i 0).val
  let c11_i32 : BitVec 32 := 11#32
  let v0 : BitVec 32 := Scalar.muli arg0 c11_i32
  let c0_i32_1 : BitVec 32 := 0#32
  let v4 : BitVec 32 := Scalar.addi v0 c0_i32_1
  let c4_i32_114 : BitVec 32 := 4#32
  let v189 : BitVec 32 := Scalar.addi v4 c4_i32_114
  let c1_i32_115 : BitVec 32 := 1#32
  let v190 : BitVec 32 := Scalar.subi v189 c1_i32_115
  let c11_i32_116 : BitVec 32 := 11#32
  let c0_i32_117 : BitVec 32 := 0#32
  let v191 : BitVec 1 := Scalar.cmpi .eq c11_i32_116 c0_i32_117
  let c1_i32_118 : BitVec 32 := 1#32
  let v192 : BitVec 32 := Scalar.select v191 c1_i32_118 c11_i32_116
  let v193 : BitVec 32 := Scalar.remsi v190 v192
  let c0_i32_120 : BitVec 32 := 0#32
  let v195 : BitVec 1 := Scalar.cmpi .slt v193 c0_i32_120
  let c0_i32_121 : BitVec 32 := 0#32
  let v196 : BitVec 1 := Scalar.cmpi .slt v192 c0_i32_121
  let v197 : BitVec 1 := Scalar.xori v195 v196
  let c0_i32_119 : BitVec 32 := 0#32
  let v194 : BitVec 1 := Scalar.cmpi .ne v193 c0_i32_119
  let v198 : BitVec 1 := Scalar.andi v197 v194
  let v199 : BitVec 32 := Scalar.addi v193 v192
  let v200 : BitVec 32 := Scalar.select v198 v199 v193
  let c512_i32_128 : BitVec 32 := 512#32
  let v211 : BitVec 32 := Scalar.muli v200 c512_i32_128
  let v212 : BitVec 32 := v211
  let c0_i32_142 : BitVec 32 := 0#32
  ![v212.toNat, 0]
def k0_off15 (i : grid0.Coords) (c0_i32_1 : BitVec 32) : Fin 3 → Nat :=
  let arg0 : BitVec 32 := BitVec.ofNat 32 (i 0).val
  let c11_i32 : BitVec 32 := 11#32
  let v0 : BitVec 32 := Scalar.muli arg0 c11_i32
  let v4 : BitVec 32 := Scalar.addi v0 c0_i32_1
  let c4_i32_28 : BitVec 32 := 4#32
  let c0_i32_29 : BitVec 32 := 0#32
  let v49 : BitVec 1 := Scalar.cmpi .eq c4_i32_28 c0_i32_29
  let c1_i32_30 : BitVec 32 := 1#32
  let v50 : BitVec 32 := Scalar.select v49 c1_i32_30 c4_i32_28
  let v51 : BitVec 32 := Scalar.remsi v4 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let v78 : Index := Scalar.indexCast v58
  let c0_41 : Index := 0#32
  let c0_42 : Index := 0#32
  ![v78.toNat, 0, 0]
def k0_off16 (i : grid0.Coords) (c0_i32_1 : BitVec 32) : Fin 3 → Nat :=
  let arg0 : BitVec 32 := BitVec.ofNat 32 (i 0).val
  let c11_i32 : BitVec 32 := 11#32
  let v0 : BitVec 32 := Scalar.muli arg0 c11_i32
  let v4 : BitVec 32 := Scalar.addi v0 c0_i32_1
  let c4_i32_28 : BitVec 32 := 4#32
  let c0_i32_29 : BitVec 32 := 0#32
  let v49 : BitVec 1 := Scalar.cmpi .eq c4_i32_28 c0_i32_29
  let c1_i32_30 : BitVec 32 := 1#32
  let v50 : BitVec 32 := Scalar.select v49 c1_i32_30 c4_i32_28
  let v51 : BitVec 32 := Scalar.remsi v4 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let v90 : Index := Scalar.indexCast v58
  let c0_47 : Index := 0#32
  let c0_48 : Index := 0#32
  ![v90.toNat, 0, 0]
@[reducible] def k0_t1_loop : Scf.Loop 32 :=
  let c1_i32_52 : BitVec 32 := 1#32
  let c9_i32 : BitVec 32 := 9#32
  let v97 : BitVec 32 := Scalar.addi c1_i32_52 c9_i32
  let c1_i32_53 : BitVec 32 := 1#32
  ⟨c1_i32_52, v97, c1_i32_53⟩
def k0_mult6 (i : grid0.Coords) (k0_t1 : Fin k0_t1_loop.trips) : BitVec 32 :=
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c11_i32_114 : BitVec 32 := 11#32
  let c0_i32_115 : BitVec 32 := 0#32
  let v190 : BitVec 1 := Scalar.cmpi .eq c11_i32_114 c0_i32_115
  let c1_i32_116 : BitVec 32 := 1#32
  let v191 : BitVec 32 := Scalar.select v190 c1_i32_116 c11_i32_114
  let v192 : BitVec 32 := Scalar.remsi v189 v191
  let c0_i32_118 : BitVec 32 := 0#32
  let v194 : BitVec 1 := Scalar.cmpi .slt v192 c0_i32_118
  let c0_i32_119 : BitVec 32 := 0#32
  let v195 : BitVec 1 := Scalar.cmpi .slt v191 c0_i32_119
  let v196 : BitVec 1 := Scalar.xori v194 v195
  let c0_i32_117 : BitVec 32 := 0#32
  let v193 : BitVec 1 := Scalar.cmpi .ne v192 c0_i32_117
  let v197 : BitVec 1 := Scalar.andi v196 v193
  let v198 : BitVec 32 := Scalar.addi v192 v191
  let v199 : BitVec 32 := Scalar.select v197 v198 v192
  let c512_i32_126 : BitVec 32 := 512#32
  let v210 : BitVec 32 := Scalar.muli v199 c512_i32_126
  v210
def k0_off17 (i : grid0.Coords) (k0_t1 : Fin k0_t1_loop.trips) : Fin 2 → Nat :=
  let c0_i32_127 : BitVec 32 := 0#32
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_120 : BitVec 32 := 4#32
  let c0_i32_121 : BitVec 32 := 0#32
  let v200 : BitVec 1 := Scalar.cmpi .eq c4_i32_120 c0_i32_121
  let c1_i32_122 : BitVec 32 := 1#32
  let v201 : BitVec 32 := Scalar.select v200 c1_i32_122 c4_i32_120
  let v202 : BitVec 32 := Scalar.remsi v189 v201
  let c0_i32_124 : BitVec 32 := 0#32
  let v204 : BitVec 1 := Scalar.cmpi .slt v202 c0_i32_124
  let c0_i32_125 : BitVec 32 := 0#32
  let v205 : BitVec 1 := Scalar.cmpi .slt v201 c0_i32_125
  let v206 : BitVec 1 := Scalar.xori v204 v205
  let c0_i32_123 : BitVec 32 := 0#32
  let v203 : BitVec 1 := Scalar.cmpi .ne v202 c0_i32_123
  let v207 : BitVec 1 := Scalar.andi v206 v203
  let v208 : BitVec 32 := Scalar.addi v202 v201
  let v209 : BitVec 32 := Scalar.select v207 v208 v202
  ![0, v209.toNat]
def k0_off18 (i : grid0.Coords) (k0_t1 : Fin k0_t1_loop.trips) : Fin 3 → Nat :=
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_120 : BitVec 32 := 4#32
  let c0_i32_121 : BitVec 32 := 0#32
  let v200 : BitVec 1 := Scalar.cmpi .eq c4_i32_120 c0_i32_121
  let c1_i32_122 : BitVec 32 := 1#32
  let v201 : BitVec 32 := Scalar.select v200 c1_i32_122 c4_i32_120
  let v202 : BitVec 32 := Scalar.remsi v189 v201
  let c0_i32_124 : BitVec 32 := 0#32
  let v204 : BitVec 1 := Scalar.cmpi .slt v202 c0_i32_124
  let c0_i32_125 : BitVec 32 := 0#32
  let v205 : BitVec 1 := Scalar.cmpi .slt v201 c0_i32_125
  let v206 : BitVec 1 := Scalar.xori v204 v205
  let c0_i32_123 : BitVec 32 := 0#32
  let v203 : BitVec 1 := Scalar.cmpi .ne v202 c0_i32_123
  let v207 : BitVec 1 := Scalar.andi v206 v203
  let v208 : BitVec 32 := Scalar.addi v202 v201
  let v209 : BitVec 32 := Scalar.select v207 v208 v202
  let c0_i32_128 : BitVec 32 := 0#32
  let c0_i32_129 : BitVec 32 := 0#32
  ![v209.toNat, 0, 0]
def k0_off19 (i : grid0.Coords) (k0_t1 : Fin k0_t1_loop.trips) : Fin 3 → Nat :=
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c11_i32_114 : BitVec 32 := 11#32
  let c0_i32_115 : BitVec 32 := 0#32
  let v190 : BitVec 1 := Scalar.cmpi .eq c11_i32_114 c0_i32_115
  let c1_i32_116 : BitVec 32 := 1#32
  let v191 : BitVec 32 := Scalar.select v190 c1_i32_116 c11_i32_114
  let v192 : BitVec 32 := Scalar.remsi v189 v191
  let c0_i32_118 : BitVec 32 := 0#32
  let v194 : BitVec 1 := Scalar.cmpi .slt v192 c0_i32_118
  let c0_i32_119 : BitVec 32 := 0#32
  let v195 : BitVec 1 := Scalar.cmpi .slt v191 c0_i32_119
  let v196 : BitVec 1 := Scalar.xori v194 v195
  let c0_i32_117 : BitVec 32 := 0#32
  let v193 : BitVec 1 := Scalar.cmpi .ne v192 c0_i32_117
  let v197 : BitVec 1 := Scalar.andi v196 v193
  let v198 : BitVec 32 := Scalar.addi v192 v191
  let v199 : BitVec 32 := Scalar.select v197 v198 v192
  let c0_i32_130 : BitVec 32 := 0#32
  let c0_i32_131 : BitVec 32 := 0#32
  ![v199.toNat, 0, 0]
def k0_off20 (i : grid0.Coords) (k0_t1 : Fin k0_t1_loop.trips) : Fin 2 → Nat :=
  let c1_i32_132 : BitVec 32 := 1#32
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_120 : BitVec 32 := 4#32
  let c0_i32_121 : BitVec 32 := 0#32
  let v200 : BitVec 1 := Scalar.cmpi .eq c4_i32_120 c0_i32_121
  let c1_i32_122 : BitVec 32 := 1#32
  let v201 : BitVec 32 := Scalar.select v200 c1_i32_122 c4_i32_120
  let v202 : BitVec 32 := Scalar.remsi v189 v201
  let c0_i32_124 : BitVec 32 := 0#32
  let v204 : BitVec 1 := Scalar.cmpi .slt v202 c0_i32_124
  let c0_i32_125 : BitVec 32 := 0#32
  let v205 : BitVec 1 := Scalar.cmpi .slt v201 c0_i32_125
  let v206 : BitVec 1 := Scalar.xori v204 v205
  let c0_i32_123 : BitVec 32 := 0#32
  let v203 : BitVec 1 := Scalar.cmpi .ne v202 c0_i32_123
  let v207 : BitVec 1 := Scalar.andi v206 v203
  let v208 : BitVec 32 := Scalar.addi v202 v201
  let v209 : BitVec 32 := Scalar.select v207 v208 v202
  ![1, v209.toNat]
def k0_off21 (i : grid0.Coords) (k0_t1 : Fin k0_t1_loop.trips) : Fin 2 → Nat :=
  let c2_i32_137 : BitVec 32 := 2#32
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_120 : BitVec 32 := 4#32
  let c0_i32_121 : BitVec 32 := 0#32
  let v200 : BitVec 1 := Scalar.cmpi .eq c4_i32_120 c0_i32_121
  let c1_i32_122 : BitVec 32 := 1#32
  let v201 : BitVec 32 := Scalar.select v200 c1_i32_122 c4_i32_120
  let v202 : BitVec 32 := Scalar.remsi v189 v201
  let c0_i32_124 : BitVec 32 := 0#32
  let v204 : BitVec 1 := Scalar.cmpi .slt v202 c0_i32_124
  let c0_i32_125 : BitVec 32 := 0#32
  let v205 : BitVec 1 := Scalar.cmpi .slt v201 c0_i32_125
  let v206 : BitVec 1 := Scalar.xori v204 v205
  let c0_i32_123 : BitVec 32 := 0#32
  let v203 : BitVec 1 := Scalar.cmpi .ne v202 c0_i32_123
  let v207 : BitVec 1 := Scalar.andi v206 v203
  let v208 : BitVec 32 := Scalar.addi v202 v201
  let v209 : BitVec 32 := Scalar.select v207 v208 v202
  ![2, v209.toNat]
def k0_off22 (i : grid0.Coords) (k0_t1 : Fin k0_t1_loop.trips) : Fin 3 → Nat :=
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_120 : BitVec 32 := 4#32
  let c0_i32_121 : BitVec 32 := 0#32
  let v200 : BitVec 1 := Scalar.cmpi .eq c4_i32_120 c0_i32_121
  let c1_i32_122 : BitVec 32 := 1#32
  let v201 : BitVec 32 := Scalar.select v200 c1_i32_122 c4_i32_120
  let v202 : BitVec 32 := Scalar.remsi v189 v201
  let c0_i32_124 : BitVec 32 := 0#32
  let v204 : BitVec 1 := Scalar.cmpi .slt v202 c0_i32_124
  let c0_i32_125 : BitVec 32 := 0#32
  let v205 : BitVec 1 := Scalar.cmpi .slt v201 c0_i32_125
  let v206 : BitVec 1 := Scalar.xori v204 v205
  let c0_i32_123 : BitVec 32 := 0#32
  let v203 : BitVec 1 := Scalar.cmpi .ne v202 c0_i32_123
  let v207 : BitVec 1 := Scalar.andi v206 v203
  let v208 : BitVec 32 := Scalar.addi v202 v201
  let v209 : BitVec 32 := Scalar.select v207 v208 v202
  let c0_i32_138 : BitVec 32 := 0#32
  let c0_i32_139 : BitVec 32 := 0#32
  ![v209.toNat, 0, 0]
def k0_off23 (i : grid0.Coords) (k0_t1 : Fin k0_t1_loop.trips) : Fin 2 → Nat :=
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c11_i32_114 : BitVec 32 := 11#32
  let c0_i32_115 : BitVec 32 := 0#32
  let v190 : BitVec 1 := Scalar.cmpi .eq c11_i32_114 c0_i32_115
  let c1_i32_116 : BitVec 32 := 1#32
  let v191 : BitVec 32 := Scalar.select v190 c1_i32_116 c11_i32_114
  let v192 : BitVec 32 := Scalar.remsi v189 v191
  let c0_i32_118 : BitVec 32 := 0#32
  let v194 : BitVec 1 := Scalar.cmpi .slt v192 c0_i32_118
  let c0_i32_119 : BitVec 32 := 0#32
  let v195 : BitVec 1 := Scalar.cmpi .slt v191 c0_i32_119
  let v196 : BitVec 1 := Scalar.xori v194 v195
  let c0_i32_117 : BitVec 32 := 0#32
  let v193 : BitVec 1 := Scalar.cmpi .ne v192 c0_i32_117
  let v197 : BitVec 1 := Scalar.andi v196 v193
  let v198 : BitVec 32 := Scalar.addi v192 v191
  let v199 : BitVec 32 := Scalar.select v197 v198 v192
  let c512_i32_126 : BitVec 32 := 512#32
  let v210 : BitVec 32 := Scalar.muli v199 c512_i32_126
  let v211 : BitVec 32 := v210
  let c0_i32_140 : BitVec 32 := 0#32
  ![v211.toNat, 0]
def k0_cond3 (i : grid0.Coords) (k0_t1 : Fin k0_t1_loop.trips) : BitVec 1 :=
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_141 : BitVec 32 := 4#32
  let v229 : BitVec 32 := Scalar.addi v189 c4_i32_141
  let c1_i32_142 : BitVec 32 := 1#32
  let v230 : BitVec 32 := Scalar.subi v229 c1_i32_142
  let c176_i32_143 : BitVec 32 := 176#32
  let v231 : BitVec 1 := Scalar.cmpi .slt v230 c176_i32_143
  let v232 : BitVec 32 := Scalar.extui v231
  let c0_i32_144 : BitVec 32 := 0#32
  let v233 : BitVec 1 := Scalar.cmpi .ne v232 c0_i32_144
  v233

def k0_mult7 (i : grid0.Coords) (k0_t1 : Fin k0_t1_loop.trips) : BitVec 32 :=
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_166 : BitVec 32 := 4#32
  let v266 : BitVec 32 := Scalar.addi v189 c4_i32_166
  let c1_i32_167 : BitVec 32 := 1#32
  let v267 : BitVec 32 := Scalar.subi v266 c1_i32_167
  let c11_i32_168 : BitVec 32 := 11#32
  let c0_i32_169 : BitVec 32 := 0#32
  let v268 : BitVec 1 := Scalar.cmpi .eq c11_i32_168 c0_i32_169
  let c1_i32_170 : BitVec 32 := 1#32
  let v269 : BitVec 32 := Scalar.select v268 c1_i32_170 c11_i32_168
  let v270 : BitVec 32 := Scalar.remsi v267 v269
  let c0_i32_172 : BitVec 32 := 0#32
  let v272 : BitVec 1 := Scalar.cmpi .slt v270 c0_i32_172
  let c0_i32_173 : BitVec 32 := 0#32
  let v273 : BitVec 1 := Scalar.cmpi .slt v269 c0_i32_173
  let v274 : BitVec 1 := Scalar.xori v272 v273
  let c0_i32_171 : BitVec 32 := 0#32
  let v271 : BitVec 1 := Scalar.cmpi .ne v270 c0_i32_171
  let v275 : BitVec 1 := Scalar.andi v274 v271
  let v276 : BitVec 32 := Scalar.addi v270 v269
  let v277 : BitVec 32 := Scalar.select v275 v276 v270
  let c512_i32_180 : BitVec 32 := 512#32
  let v288 : BitVec 32 := Scalar.muli v277 c512_i32_180
  v288
def k0_off24 (i : grid0.Coords) (k0_t1 : Fin k0_t1_loop.trips) : Fin 2 → Nat :=
  let c0_i32_181 : BitVec 32 := 0#32
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_166 : BitVec 32 := 4#32
  let v266 : BitVec 32 := Scalar.addi v189 c4_i32_166
  let c1_i32_167 : BitVec 32 := 1#32
  let v267 : BitVec 32 := Scalar.subi v266 c1_i32_167
  let c4_i32_174 : BitVec 32 := 4#32
  let c0_i32_175 : BitVec 32 := 0#32
  let v278 : BitVec 1 := Scalar.cmpi .eq c4_i32_174 c0_i32_175
  let c1_i32_176 : BitVec 32 := 1#32
  let v279 : BitVec 32 := Scalar.select v278 c1_i32_176 c4_i32_174
  let v280 : BitVec 32 := Scalar.remsi v267 v279
  let c0_i32_178 : BitVec 32 := 0#32
  let v282 : BitVec 1 := Scalar.cmpi .slt v280 c0_i32_178
  let c0_i32_179 : BitVec 32 := 0#32
  let v283 : BitVec 1 := Scalar.cmpi .slt v279 c0_i32_179
  let v284 : BitVec 1 := Scalar.xori v282 v283
  let c0_i32_177 : BitVec 32 := 0#32
  let v281 : BitVec 1 := Scalar.cmpi .ne v280 c0_i32_177
  let v285 : BitVec 1 := Scalar.andi v284 v281
  let v286 : BitVec 32 := Scalar.addi v280 v279
  let v287 : BitVec 32 := Scalar.select v285 v286 v280
  ![0, v287.toNat]
def k0_off25 (i : grid0.Coords) (k0_t1 : Fin k0_t1_loop.trips) : Fin 3 → Nat :=
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_166 : BitVec 32 := 4#32
  let v266 : BitVec 32 := Scalar.addi v189 c4_i32_166
  let c1_i32_167 : BitVec 32 := 1#32
  let v267 : BitVec 32 := Scalar.subi v266 c1_i32_167
  let c4_i32_174 : BitVec 32 := 4#32
  let c0_i32_175 : BitVec 32 := 0#32
  let v278 : BitVec 1 := Scalar.cmpi .eq c4_i32_174 c0_i32_175
  let c1_i32_176 : BitVec 32 := 1#32
  let v279 : BitVec 32 := Scalar.select v278 c1_i32_176 c4_i32_174
  let v280 : BitVec 32 := Scalar.remsi v267 v279
  let c0_i32_178 : BitVec 32 := 0#32
  let v282 : BitVec 1 := Scalar.cmpi .slt v280 c0_i32_178
  let c0_i32_179 : BitVec 32 := 0#32
  let v283 : BitVec 1 := Scalar.cmpi .slt v279 c0_i32_179
  let v284 : BitVec 1 := Scalar.xori v282 v283
  let c0_i32_177 : BitVec 32 := 0#32
  let v281 : BitVec 1 := Scalar.cmpi .ne v280 c0_i32_177
  let v285 : BitVec 1 := Scalar.andi v284 v281
  let v286 : BitVec 32 := Scalar.addi v280 v279
  let v287 : BitVec 32 := Scalar.select v285 v286 v280
  let c0_i32_182 : BitVec 32 := 0#32
  let c0_i32_183 : BitVec 32 := 0#32
  ![v287.toNat, 0, 0]
def k0_off26 (i : grid0.Coords) (k0_t1 : Fin k0_t1_loop.trips) : Fin 3 → Nat :=
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_166 : BitVec 32 := 4#32
  let v266 : BitVec 32 := Scalar.addi v189 c4_i32_166
  let c1_i32_167 : BitVec 32 := 1#32
  let v267 : BitVec 32 := Scalar.subi v266 c1_i32_167
  let c11_i32_168 : BitVec 32 := 11#32
  let c0_i32_169 : BitVec 32 := 0#32
  let v268 : BitVec 1 := Scalar.cmpi .eq c11_i32_168 c0_i32_169
  let c1_i32_170 : BitVec 32 := 1#32
  let v269 : BitVec 32 := Scalar.select v268 c1_i32_170 c11_i32_168
  let v270 : BitVec 32 := Scalar.remsi v267 v269
  let c0_i32_172 : BitVec 32 := 0#32
  let v272 : BitVec 1 := Scalar.cmpi .slt v270 c0_i32_172
  let c0_i32_173 : BitVec 32 := 0#32
  let v273 : BitVec 1 := Scalar.cmpi .slt v269 c0_i32_173
  let v274 : BitVec 1 := Scalar.xori v272 v273
  let c0_i32_171 : BitVec 32 := 0#32
  let v271 : BitVec 1 := Scalar.cmpi .ne v270 c0_i32_171
  let v275 : BitVec 1 := Scalar.andi v274 v271
  let v276 : BitVec 32 := Scalar.addi v270 v269
  let v277 : BitVec 32 := Scalar.select v275 v276 v270
  let c0_i32_184 : BitVec 32 := 0#32
  let c0_i32_185 : BitVec 32 := 0#32
  ![v277.toNat, 0, 0]
def k0_off27 (i : grid0.Coords) (k0_t1 : Fin k0_t1_loop.trips) : Fin 2 → Nat :=
  let c1_i32_186 : BitVec 32 := 1#32
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_166 : BitVec 32 := 4#32
  let v266 : BitVec 32 := Scalar.addi v189 c4_i32_166
  let c1_i32_167 : BitVec 32 := 1#32
  let v267 : BitVec 32 := Scalar.subi v266 c1_i32_167
  let c4_i32_174 : BitVec 32 := 4#32
  let c0_i32_175 : BitVec 32 := 0#32
  let v278 : BitVec 1 := Scalar.cmpi .eq c4_i32_174 c0_i32_175
  let c1_i32_176 : BitVec 32 := 1#32
  let v279 : BitVec 32 := Scalar.select v278 c1_i32_176 c4_i32_174
  let v280 : BitVec 32 := Scalar.remsi v267 v279
  let c0_i32_178 : BitVec 32 := 0#32
  let v282 : BitVec 1 := Scalar.cmpi .slt v280 c0_i32_178
  let c0_i32_179 : BitVec 32 := 0#32
  let v283 : BitVec 1 := Scalar.cmpi .slt v279 c0_i32_179
  let v284 : BitVec 1 := Scalar.xori v282 v283
  let c0_i32_177 : BitVec 32 := 0#32
  let v281 : BitVec 1 := Scalar.cmpi .ne v280 c0_i32_177
  let v285 : BitVec 1 := Scalar.andi v284 v281
  let v286 : BitVec 32 := Scalar.addi v280 v279
  let v287 : BitVec 32 := Scalar.select v285 v286 v280
  ![1, v287.toNat]
def k0_off28 (i : grid0.Coords) (k0_t1 : Fin k0_t1_loop.trips) : Fin 2 → Nat :=
  let c2_i32_191 : BitVec 32 := 2#32
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_166 : BitVec 32 := 4#32
  let v266 : BitVec 32 := Scalar.addi v189 c4_i32_166
  let c1_i32_167 : BitVec 32 := 1#32
  let v267 : BitVec 32 := Scalar.subi v266 c1_i32_167
  let c4_i32_174 : BitVec 32 := 4#32
  let c0_i32_175 : BitVec 32 := 0#32
  let v278 : BitVec 1 := Scalar.cmpi .eq c4_i32_174 c0_i32_175
  let c1_i32_176 : BitVec 32 := 1#32
  let v279 : BitVec 32 := Scalar.select v278 c1_i32_176 c4_i32_174
  let v280 : BitVec 32 := Scalar.remsi v267 v279
  let c0_i32_178 : BitVec 32 := 0#32
  let v282 : BitVec 1 := Scalar.cmpi .slt v280 c0_i32_178
  let c0_i32_179 : BitVec 32 := 0#32
  let v283 : BitVec 1 := Scalar.cmpi .slt v279 c0_i32_179
  let v284 : BitVec 1 := Scalar.xori v282 v283
  let c0_i32_177 : BitVec 32 := 0#32
  let v281 : BitVec 1 := Scalar.cmpi .ne v280 c0_i32_177
  let v285 : BitVec 1 := Scalar.andi v284 v281
  let v286 : BitVec 32 := Scalar.addi v280 v279
  let v287 : BitVec 32 := Scalar.select v285 v286 v280
  ![2, v287.toNat]
def k0_off29 (i : grid0.Coords) (k0_t1 : Fin k0_t1_loop.trips) : Fin 3 → Nat :=
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_166 : BitVec 32 := 4#32
  let v266 : BitVec 32 := Scalar.addi v189 c4_i32_166
  let c1_i32_167 : BitVec 32 := 1#32
  let v267 : BitVec 32 := Scalar.subi v266 c1_i32_167
  let c4_i32_174 : BitVec 32 := 4#32
  let c0_i32_175 : BitVec 32 := 0#32
  let v278 : BitVec 1 := Scalar.cmpi .eq c4_i32_174 c0_i32_175
  let c1_i32_176 : BitVec 32 := 1#32
  let v279 : BitVec 32 := Scalar.select v278 c1_i32_176 c4_i32_174
  let v280 : BitVec 32 := Scalar.remsi v267 v279
  let c0_i32_178 : BitVec 32 := 0#32
  let v282 : BitVec 1 := Scalar.cmpi .slt v280 c0_i32_178
  let c0_i32_179 : BitVec 32 := 0#32
  let v283 : BitVec 1 := Scalar.cmpi .slt v279 c0_i32_179
  let v284 : BitVec 1 := Scalar.xori v282 v283
  let c0_i32_177 : BitVec 32 := 0#32
  let v281 : BitVec 1 := Scalar.cmpi .ne v280 c0_i32_177
  let v285 : BitVec 1 := Scalar.andi v284 v281
  let v286 : BitVec 32 := Scalar.addi v280 v279
  let v287 : BitVec 32 := Scalar.select v285 v286 v280
  let c0_i32_192 : BitVec 32 := 0#32
  let c0_i32_193 : BitVec 32 := 0#32
  ![v287.toNat, 0, 0]
def k0_off30 (i : grid0.Coords) (k0_t1 : Fin k0_t1_loop.trips) : Fin 2 → Nat :=
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_166 : BitVec 32 := 4#32
  let v266 : BitVec 32 := Scalar.addi v189 c4_i32_166
  let c1_i32_167 : BitVec 32 := 1#32
  let v267 : BitVec 32 := Scalar.subi v266 c1_i32_167
  let c11_i32_168 : BitVec 32 := 11#32
  let c0_i32_169 : BitVec 32 := 0#32
  let v268 : BitVec 1 := Scalar.cmpi .eq c11_i32_168 c0_i32_169
  let c1_i32_170 : BitVec 32 := 1#32
  let v269 : BitVec 32 := Scalar.select v268 c1_i32_170 c11_i32_168
  let v270 : BitVec 32 := Scalar.remsi v267 v269
  let c0_i32_172 : BitVec 32 := 0#32
  let v272 : BitVec 1 := Scalar.cmpi .slt v270 c0_i32_172
  let c0_i32_173 : BitVec 32 := 0#32
  let v273 : BitVec 1 := Scalar.cmpi .slt v269 c0_i32_173
  let v274 : BitVec 1 := Scalar.xori v272 v273
  let c0_i32_171 : BitVec 32 := 0#32
  let v271 : BitVec 1 := Scalar.cmpi .ne v270 c0_i32_171
  let v275 : BitVec 1 := Scalar.andi v274 v271
  let v276 : BitVec 32 := Scalar.addi v270 v269
  let v277 : BitVec 32 := Scalar.select v275 v276 v270
  let c512_i32_180 : BitVec 32 := 512#32
  let v288 : BitVec 32 := Scalar.muli v277 c512_i32_180
  let v289 : BitVec 32 := v288
  let c0_i32_194 : BitVec 32 := 0#32
  ![v289.toNat, 0]
def k0_off31 (i : grid0.Coords) (k0_t1 : Fin k0_t1_loop.trips) : Fin 3 → Nat :=
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_145 : BitVec 32 := 4#32
  let c0_i32_146 : BitVec 32 := 0#32
  let v234 : BitVec 1 := Scalar.cmpi .eq c4_i32_145 c0_i32_146
  let c1_i32_147 : BitVec 32 := 1#32
  let v235 : BitVec 32 := Scalar.select v234 c1_i32_147 c4_i32_145
  let v236 : BitVec 32 := Scalar.remsi v189 v235
  let c0_i32_149 : BitVec 32 := 0#32
  let v238 : BitVec 1 := Scalar.cmpi .slt v236 c0_i32_149
  let c0_i32_150 : BitVec 32 := 0#32
  let v239 : BitVec 1 := Scalar.cmpi .slt v235 c0_i32_150
  let v240 : BitVec 1 := Scalar.xori v238 v239
  let c0_i32_148 : BitVec 32 := 0#32
  let v237 : BitVec 1 := Scalar.cmpi .ne v236 c0_i32_148
  let v241 : BitVec 1 := Scalar.andi v240 v237
  let v242 : BitVec 32 := Scalar.addi v236 v235
  let v243 : BitVec 32 := Scalar.select v241 v242 v236
  let v245 : Index := Scalar.indexCast v243
  let c0_153 : Index := 0#32
  let c0_154 : Index := 0#32
  ![v245.toNat, 0, 0]
def k0_off32 (i : grid0.Coords) (k0_t1 : Fin k0_t1_loop.trips) : Fin 3 → Nat :=
  let arg0 : BitVec 32 := BitVec.ofNat 32 (i 0).val
  let c11_i32 : BitVec 32 := 11#32
  let v0 : BitVec 32 := Scalar.muli arg0 c11_i32
  let c1_i32_52 : BitVec 32 := 1#32
  let c1_i32_53 : BitVec 32 := 1#32
  let arg14 : BitVec 32 := Scf.iv c1_i32_52 c1_i32_53 k0_t1
  let v189 : BitVec 32 := Scalar.addi v0 arg14
  let c4_i32_145 : BitVec 32 := 4#32
  let c0_i32_146 : BitVec 32 := 0#32
  let v234 : BitVec 1 := Scalar.cmpi .eq c4_i32_145 c0_i32_146
  let c1_i32_147 : BitVec 32 := 1#32
  let v235 : BitVec 32 := Scalar.select v234 c1_i32_147 c4_i32_145
  let v236 : BitVec 32 := Scalar.remsi v189 v235
  let c0_i32_149 : BitVec 32 := 0#32
  let v238 : BitVec 1 := Scalar.cmpi .slt v236 c0_i32_149
  let c0_i32_150 : BitVec 32 := 0#32
  let v239 : BitVec 1 := Scalar.cmpi .slt v235 c0_i32_150
  let v240 : BitVec 1 := Scalar.xori v238 v239
  let c0_i32_148 : BitVec 32 := 0#32
  let v237 : BitVec 1 := Scalar.cmpi .ne v236 c0_i32_148
  let v241 : BitVec 1 := Scalar.andi v240 v237
  let v242 : BitVec 32 := Scalar.addi v236 v235
  let v243 : BitVec 32 := Scalar.select v241 v242 v236
  let v257 : Index := Scalar.indexCast v243
  let c0_159 : Index := 0#32
  let c0_160 : Index := 0#32
  ![v257.toNat, 0, 0]
def k0_mult8 (i : grid0.Coords) : BitVec 32 :=
  let arg0 : BitVec 32 := BitVec.ofNat 32 (i 0).val
  let c11_i32 : BitVec 32 := 11#32
  let v0 : BitVec 32 := Scalar.muli arg0 c11_i32
  let c10_i32 : BitVec 32 := 10#32
  let v98 : BitVec 32 := Scalar.addi v0 c10_i32
  let c11_i32_55 : BitVec 32 := 11#32
  let c0_i32_56 : BitVec 32 := 0#32
  let v99 : BitVec 1 := Scalar.cmpi .eq c11_i32_55 c0_i32_56
  let c1_i32_57 : BitVec 32 := 1#32
  let v100 : BitVec 32 := Scalar.select v99 c1_i32_57 c11_i32_55
  let v101 : BitVec 32 := Scalar.remsi v98 v100
  let c0_i32_59 : BitVec 32 := 0#32
  let v103 : BitVec 1 := Scalar.cmpi .slt v101 c0_i32_59
  let c0_i32_60 : BitVec 32 := 0#32
  let v104 : BitVec 1 := Scalar.cmpi .slt v100 c0_i32_60
  let v105 : BitVec 1 := Scalar.xori v103 v104
  let c0_i32_58 : BitVec 32 := 0#32
  let v102 : BitVec 1 := Scalar.cmpi .ne v101 c0_i32_58
  let v106 : BitVec 1 := Scalar.andi v105 v102
  let v107 : BitVec 32 := Scalar.addi v101 v100
  let v108 : BitVec 32 := Scalar.select v106 v107 v101
  let c512_i32_67 : BitVec 32 := 512#32
  let v119 : BitVec 32 := Scalar.muli v108 c512_i32_67
  v119
def k0_cond4 (i : grid0.Coords) : BitVec 1 :=
  let arg0 : BitVec 32 := BitVec.ofNat 32 (i 0).val
  let c11_i32 : BitVec 32 := 11#32
  let v0 : BitVec 32 := Scalar.muli arg0 c11_i32
  let c10_i32 : BitVec 32 := 10#32
  let v98 : BitVec 32 := Scalar.addi v0 c10_i32
  let c4_i32_82 : BitVec 32 := 4#32
  let v138 : BitVec 32 := Scalar.addi v98 c4_i32_82
  let c1_i32_83 : BitVec 32 := 1#32
  let v139 : BitVec 32 := Scalar.subi v138 c1_i32_83
  let c176_i32_84 : BitVec 32 := 176#32
  let v140 : BitVec 1 := Scalar.cmpi .slt v139 c176_i32_84
  let v141 : BitVec 32 := Scalar.extui v140
  let c0_i32_85 : BitVec 32 := 0#32
  let v142 : BitVec 1 := Scalar.cmpi .ne v141 c0_i32_85
  v142

def k0_mult9 (i : grid0.Coords) : BitVec 32 :=
  let arg0 : BitVec 32 := BitVec.ofNat 32 (i 0).val
  let c11_i32 : BitVec 32 := 11#32
  let v0 : BitVec 32 := Scalar.muli arg0 c11_i32
  let c10_i32 : BitVec 32 := 10#32
  let v98 : BitVec 32 := Scalar.addi v0 c10_i32
  let c4_i32_114 : BitVec 32 := 4#32
  let v189 : BitVec 32 := Scalar.addi v98 c4_i32_114
  let c1_i32_115 : BitVec 32 := 1#32
  let v190 : BitVec 32 := Scalar.subi v189 c1_i32_115
  let c11_i32_116 : BitVec 32 := 11#32
  let c0_i32_117 : BitVec 32 := 0#32
  let v191 : BitVec 1 := Scalar.cmpi .eq c11_i32_116 c0_i32_117
  let c1_i32_118 : BitVec 32 := 1#32
  let v192 : BitVec 32 := Scalar.select v191 c1_i32_118 c11_i32_116
  let v193 : BitVec 32 := Scalar.remsi v190 v192
  let c0_i32_120 : BitVec 32 := 0#32
  let v195 : BitVec 1 := Scalar.cmpi .slt v193 c0_i32_120
  let c0_i32_121 : BitVec 32 := 0#32
  let v196 : BitVec 1 := Scalar.cmpi .slt v192 c0_i32_121
  let v197 : BitVec 1 := Scalar.xori v195 v196
  let c0_i32_119 : BitVec 32 := 0#32
  let v194 : BitVec 1 := Scalar.cmpi .ne v193 c0_i32_119
  let v198 : BitVec 1 := Scalar.andi v197 v194
  let v199 : BitVec 32 := Scalar.addi v193 v192
  let v200 : BitVec 32 := Scalar.select v198 v199 v193
  let c512_i32_128 : BitVec 32 := 512#32
  let v211 : BitVec 32 := Scalar.muli v200 c512_i32_128
  v211
def k0_off33 (i : grid0.Coords) : Fin 2 → Nat :=
  let c0_i32_129 : BitVec 32 := 0#32
  let arg0 : BitVec 32 := BitVec.ofNat 32 (i 0).val
  let c11_i32 : BitVec 32 := 11#32
  let v0 : BitVec 32 := Scalar.muli arg0 c11_i32
  let c10_i32 : BitVec 32 := 10#32
  let v98 : BitVec 32 := Scalar.addi v0 c10_i32
  let c4_i32_114 : BitVec 32 := 4#32
  let v189 : BitVec 32 := Scalar.addi v98 c4_i32_114
  let c1_i32_115 : BitVec 32 := 1#32
  let v190 : BitVec 32 := Scalar.subi v189 c1_i32_115
  let c4_i32_122 : BitVec 32 := 4#32
  let c0_i32_123 : BitVec 32 := 0#32
  let v201 : BitVec 1 := Scalar.cmpi .eq c4_i32_122 c0_i32_123
  let c1_i32_124 : BitVec 32 := 1#32
  let v202 : BitVec 32 := Scalar.select v201 c1_i32_124 c4_i32_122
  let v203 : BitVec 32 := Scalar.remsi v190 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  ![0, v210.toNat]
def k0_off34 (i : grid0.Coords) : Fin 3 → Nat :=
  let arg0 : BitVec 32 := BitVec.ofNat 32 (i 0).val
  let c11_i32 : BitVec 32 := 11#32
  let v0 : BitVec 32 := Scalar.muli arg0 c11_i32
  let c10_i32 : BitVec 32 := 10#32
  let v98 : BitVec 32 := Scalar.addi v0 c10_i32
  let c4_i32_114 : BitVec 32 := 4#32
  let v189 : BitVec 32 := Scalar.addi v98 c4_i32_114
  let c1_i32_115 : BitVec 32 := 1#32
  let v190 : BitVec 32 := Scalar.subi v189 c1_i32_115
  let c4_i32_122 : BitVec 32 := 4#32
  let c0_i32_123 : BitVec 32 := 0#32
  let v201 : BitVec 1 := Scalar.cmpi .eq c4_i32_122 c0_i32_123
  let c1_i32_124 : BitVec 32 := 1#32
  let v202 : BitVec 32 := Scalar.select v201 c1_i32_124 c4_i32_122
  let v203 : BitVec 32 := Scalar.remsi v190 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  let c0_i32_130 : BitVec 32 := 0#32
  let c0_i32_131 : BitVec 32 := 0#32
  ![v210.toNat, 0, 0]
def k0_off35 (i : grid0.Coords) : Fin 3 → Nat :=
  let arg0 : BitVec 32 := BitVec.ofNat 32 (i 0).val
  let c11_i32 : BitVec 32 := 11#32
  let v0 : BitVec 32 := Scalar.muli arg0 c11_i32
  let c10_i32 : BitVec 32 := 10#32
  let v98 : BitVec 32 := Scalar.addi v0 c10_i32
  let c4_i32_114 : BitVec 32 := 4#32
  let v189 : BitVec 32 := Scalar.addi v98 c4_i32_114
  let c1_i32_115 : BitVec 32 := 1#32
  let v190 : BitVec 32 := Scalar.subi v189 c1_i32_115
  let c11_i32_116 : BitVec 32 := 11#32
  let c0_i32_117 : BitVec 32 := 0#32
  let v191 : BitVec 1 := Scalar.cmpi .eq c11_i32_116 c0_i32_117
  let c1_i32_118 : BitVec 32 := 1#32
  let v192 : BitVec 32 := Scalar.select v191 c1_i32_118 c11_i32_116
  let v193 : BitVec 32 := Scalar.remsi v190 v192
  let c0_i32_120 : BitVec 32 := 0#32
  let v195 : BitVec 1 := Scalar.cmpi .slt v193 c0_i32_120
  let c0_i32_121 : BitVec 32 := 0#32
  let v196 : BitVec 1 := Scalar.cmpi .slt v192 c0_i32_121
  let v197 : BitVec 1 := Scalar.xori v195 v196
  let c0_i32_119 : BitVec 32 := 0#32
  let v194 : BitVec 1 := Scalar.cmpi .ne v193 c0_i32_119
  let v198 : BitVec 1 := Scalar.andi v197 v194
  let v199 : BitVec 32 := Scalar.addi v193 v192
  let v200 : BitVec 32 := Scalar.select v198 v199 v193
  let c0_i32_132 : BitVec 32 := 0#32
  let c0_i32_133 : BitVec 32 := 0#32
  ![v200.toNat, 0, 0]
def k0_off36 (i : grid0.Coords) : Fin 2 → Nat :=
  let c1_i32_134 : BitVec 32 := 1#32
  let arg0 : BitVec 32 := BitVec.ofNat 32 (i 0).val
  let c11_i32 : BitVec 32 := 11#32
  let v0 : BitVec 32 := Scalar.muli arg0 c11_i32
  let c10_i32 : BitVec 32 := 10#32
  let v98 : BitVec 32 := Scalar.addi v0 c10_i32
  let c4_i32_114 : BitVec 32 := 4#32
  let v189 : BitVec 32 := Scalar.addi v98 c4_i32_114
  let c1_i32_115 : BitVec 32 := 1#32
  let v190 : BitVec 32 := Scalar.subi v189 c1_i32_115
  let c4_i32_122 : BitVec 32 := 4#32
  let c0_i32_123 : BitVec 32 := 0#32
  let v201 : BitVec 1 := Scalar.cmpi .eq c4_i32_122 c0_i32_123
  let c1_i32_124 : BitVec 32 := 1#32
  let v202 : BitVec 32 := Scalar.select v201 c1_i32_124 c4_i32_122
  let v203 : BitVec 32 := Scalar.remsi v190 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  ![1, v210.toNat]
def k0_off37 (i : grid0.Coords) : Fin 2 → Nat :=
  let c2_i32_139 : BitVec 32 := 2#32
  let arg0 : BitVec 32 := BitVec.ofNat 32 (i 0).val
  let c11_i32 : BitVec 32 := 11#32
  let v0 : BitVec 32 := Scalar.muli arg0 c11_i32
  let c10_i32 : BitVec 32 := 10#32
  let v98 : BitVec 32 := Scalar.addi v0 c10_i32
  let c4_i32_114 : BitVec 32 := 4#32
  let v189 : BitVec 32 := Scalar.addi v98 c4_i32_114
  let c1_i32_115 : BitVec 32 := 1#32
  let v190 : BitVec 32 := Scalar.subi v189 c1_i32_115
  let c4_i32_122 : BitVec 32 := 4#32
  let c0_i32_123 : BitVec 32 := 0#32
  let v201 : BitVec 1 := Scalar.cmpi .eq c4_i32_122 c0_i32_123
  let c1_i32_124 : BitVec 32 := 1#32
  let v202 : BitVec 32 := Scalar.select v201 c1_i32_124 c4_i32_122
  let v203 : BitVec 32 := Scalar.remsi v190 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  ![2, v210.toNat]
def k0_off38 (i : grid0.Coords) : Fin 3 → Nat :=
  let arg0 : BitVec 32 := BitVec.ofNat 32 (i 0).val
  let c11_i32 : BitVec 32 := 11#32
  let v0 : BitVec 32 := Scalar.muli arg0 c11_i32
  let c10_i32 : BitVec 32 := 10#32
  let v98 : BitVec 32 := Scalar.addi v0 c10_i32
  let c4_i32_114 : BitVec 32 := 4#32
  let v189 : BitVec 32 := Scalar.addi v98 c4_i32_114
  let c1_i32_115 : BitVec 32 := 1#32
  let v190 : BitVec 32 := Scalar.subi v189 c1_i32_115
  let c4_i32_122 : BitVec 32 := 4#32
  let c0_i32_123 : BitVec 32 := 0#32
  let v201 : BitVec 1 := Scalar.cmpi .eq c4_i32_122 c0_i32_123
  let c1_i32_124 : BitVec 32 := 1#32
  let v202 : BitVec 32 := Scalar.select v201 c1_i32_124 c4_i32_122
  let v203 : BitVec 32 := Scalar.remsi v190 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  let c0_i32_140 : BitVec 32 := 0#32
  let c0_i32_141 : BitVec 32 := 0#32
  ![v210.toNat, 0, 0]
def k0_off39 (i : grid0.Coords) : Fin 2 → Nat :=
  let arg0 : BitVec 32 := BitVec.ofNat 32 (i 0).val
  let c11_i32 : BitVec 32 := 11#32
  let v0 : BitVec 32 := Scalar.muli arg0 c11_i32
  let c10_i32 : BitVec 32 := 10#32
  let v98 : BitVec 32 := Scalar.addi v0 c10_i32
  let c4_i32_114 : BitVec 32 := 4#32
  let v189 : BitVec 32 := Scalar.addi v98 c4_i32_114
  let c1_i32_115 : BitVec 32 := 1#32
  let v190 : BitVec 32 := Scalar.subi v189 c1_i32_115
  let c11_i32_116 : BitVec 32 := 11#32
  let c0_i32_117 : BitVec 32 := 0#32
  let v191 : BitVec 1 := Scalar.cmpi .eq c11_i32_116 c0_i32_117
  let c1_i32_118 : BitVec 32 := 1#32
  let v192 : BitVec 32 := Scalar.select v191 c1_i32_118 c11_i32_116
  let v193 : BitVec 32 := Scalar.remsi v190 v192
  let c0_i32_120 : BitVec 32 := 0#32
  let v195 : BitVec 1 := Scalar.cmpi .slt v193 c0_i32_120
  let c0_i32_121 : BitVec 32 := 0#32
  let v196 : BitVec 1 := Scalar.cmpi .slt v192 c0_i32_121
  let v197 : BitVec 1 := Scalar.xori v195 v196
  let c0_i32_119 : BitVec 32 := 0#32
  let v194 : BitVec 1 := Scalar.cmpi .ne v193 c0_i32_119
  let v198 : BitVec 1 := Scalar.andi v197 v194
  let v199 : BitVec 32 := Scalar.addi v193 v192
  let v200 : BitVec 32 := Scalar.select v198 v199 v193
  let c512_i32_128 : BitVec 32 := 512#32
  let v211 : BitVec 32 := Scalar.muli v200 c512_i32_128
  let v212 : BitVec 32 := v211
  let c0_i32_142 : BitVec 32 := 0#32
  ![v212.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnRefIdeal.lean ====
abbrev S8192x2048 : Shape := ⟨2, ![8192, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x11264 : Shape := ⟨2, ![8192, 11264]⟩
abbrev S8192x5632 : Shape := ⟨2, ![8192, 5632]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x11264, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== InProj.lean ====
abbrev S2x4096x2048 : Shape := ⟨3, ![2, 4096, 2048]⟩
abbrev S2048 : Shape := ⟨1, ![2048]⟩
abbrev S2048x5120 : Shape := ⟨2, ![2048, 5120]⟩
abbrev S2048x5x1024 : Shape := ⟨3, ![2048, 5, 1024]⟩
abbrev S5x2048x1024 : Shape := ⟨3, ![5, 2048, 1024]⟩
abbrev S2x2048x1024 : Shape := ⟨3, ![2, 2048, 1024]⟩
abbrev S1x2048x1024 : Shape := ⟨3, ![1, 2048, 1024]⟩
abbrev S8192x2048 : Shape := ⟨2, ![8192, 2048]⟩
abbrev S1x2048 : Shape := ⟨2, ![1, 2048]⟩
abbrev S8192x1024 : Shape := ⟨2, ![8192, 1024]⟩
abbrev S3x8192x1024 : Shape := ⟨3, ![3, 8192, 1024]⟩
abbrev S1024x2048 : Shape := ⟨2, ![1024, 2048]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 15
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5120, .f32⟩
  | .hbm, ⟨3, _⟩ => ⟨S2048x5x1024, .f32⟩
  | .hbm, ⟨4, _⟩ => ⟨S5x2048x1024, .f32⟩
  | .hbm, ⟨5, _⟩ => ⟨S2x2048x1024, .f32⟩
  | .hbm, ⟨6, _⟩ => ⟨S1x2048x1024, .f32⟩
  | .hbm, ⟨7, _⟩ => ⟨S2x2048x1024, .f32⟩
  | .hbm, ⟨8, _⟩ => ⟨S5x2048x1024, .f32⟩
  | .hbm, ⟨9, _⟩ => ⟨S5x2048x1024, .bf16⟩
  | .hbm, ⟨10, _⟩ => ⟨S8192x2048, .f32⟩
  | .hbm, ⟨11, _⟩ => ⟨S1x2048, .f32⟩
  | .hbm, ⟨12, _⟩ => ⟨S8192x1024, .f32⟩
  | .hbm, ⟨13, _⟩ => ⟨S8192x1024, .f32⟩
  | .hbm, ⟨14, _⟩ => ⟨S3x8192x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v3 : BitVec 32 := Scalar.extui v0
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c1_i32 : BitVec 32 := 1#32
  let v1 : BitVec 1 := Scalar.cmpi .eq arg1 c1_i32
  let v5 : BitVec 32 := Scalar.extui v1
  let c0_i32_1 : BitVec 32 := 0#32
  let v6 : BitVec 1 := Scalar.cmpi .ne v5 c0_i32_1
  v6

def k0_cond3 (i : grid0.Coords) : BitVec 1 :=
  let arg1 : BitVec 32 := BitVec.ofNat 32 (i 1).val
  let c2_i32 : BitVec 32 := 2#32
  let v2 : BitVec 1 := Scalar.cmpi .sge arg1 c2_i32
  let v7 : BitVec 32 := Scalar.extui v2
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S2x4096x2048 : Shape := ⟨3, ![2, 4096, 2048]⟩
abbrev S2048 : Shape := ⟨1, ![2048]⟩
abbrev S2048x5120 : Shape := ⟨2, ![2048, 5120]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x5120 : Shape := ⟨3, ![2, 4096, 5120]⟩
abbrev S8192x5120 : Shape := ⟨2, ![8192, 5120]⟩
abbrev S8192x1024 : Shape := ⟨2, ![8192, 1024]⟩
abbrev S1x8192x1024 : Shape := ⟨3, ![1, 8192, 1024]⟩
abbrev S3x8192x1024 : Shape := ⟨3, ![3, 8192, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5120, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2x4096x5120, .f32⟩
  | .hbm, ⟨20, _⟩ => ⟨S8192x5120, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S3x8192x1024, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== InProjS.lean ====
abbrev S8x8x2048 : Shape := ⟨3, ![8, 8, 2048]⟩
abbrev S2048 : Shape := ⟨1, ![2048]⟩
abbrev S2048x5120 : Shape := ⟨2, ![2048, 5120]⟩
abbrev S64x2048 : Shape := ⟨2, ![64, 2048]⟩
abbrev S1x2048 : Shape := ⟨2, ![1, 2048]⟩
abbrev S64x1024 : Shape := ⟨2, ![64, 1024]⟩
abbrev S3x64x1024 : Shape := ⟨3, ![3, 64, 1024]⟩
abbrev S5x2048x1024 : Shape := ⟨3, ![5, 2048, 1024]⟩
abbrev S2048x1024 : Shape := ⟨2, ![2048, 1024]⟩
abbrev S1x64x1024 : Shape := ⟨3, ![1, 64, 1024]⟩
abbrev S1x2048x1024 : Shape := ⟨3, ![1, 2048, 1024]⟩
abbrev S64 : Shape := ⟨1, ![64]⟩
abbrev S64x1 : Shape := ⟨2, ![64, 1]⟩

abbrev nBuf : Space → Nat
  | .hbm => 9
  | .vmem => 11
  | .smem => 0
  | _ => 0

abbrev bufTy : (tb : Table) → Fin (tcTables nBuf tb) → BufTy
  | .hbm, ⟨0, _⟩ => ⟨S8x8x2048, .f32⟩
  | .hbm, ⟨1, _⟩ => ⟨S2048, .f32⟩
  | .hbm, ⟨2, _⟩ => ⟨S2048x5120, .f32⟩
  | .hbm, ⟨3, _⟩ => ⟨S64x2048, .f32⟩
  | .hbm, ⟨4, _⟩ => ⟨S1x2048, .f32⟩
  | .hbm, ⟨5, _⟩ => ⟨S64x1024, .f32⟩
  | .hbm, ⟨6, _⟩ => ⟨S64x1024, .f32⟩
  | .hbm, ⟨7, _⟩ => ⟨S3x64x1024, .f32⟩
  | .hbm, ⟨8, _⟩ => ⟨S5x2048x1024, .bf16⟩
  | .local _ .vmem, ⟨0, _⟩ => ⟨S64x2048, .f32⟩
  | .local _ .vmem, ⟨1, _⟩ => ⟨S1x2048, .f32⟩
  | .local _ .vmem, ⟨2, _⟩ => ⟨S2048x1024, .f32⟩
  | .local _ .vmem, ⟨3, _⟩ => ⟨S2048x1024, .f32⟩
  | .local _ .vmem, ⟨4, _⟩ => ⟨S64x1024, .f32⟩
  | .local _ .vmem, ⟨5, _⟩ => ⟨S64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x2048x1024, .bf16⟩
  | .local _ .vmem, ⟨9, _⟩ => ⟨S1x2048x1024, .bf16⟩
  | .local _ .vmem, ⟨10, _⟩ => ⟨S64x2048, .bf16⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![1, 5], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v8 : BitVec 32 := Scalar.extui v5
  let c0_i32_4 : BitVec 32 := 0#32
  let v9 : BitVec 1 := Scalar.cmpi .ne v8 c0_i32_4
  v9

def k0_cond2 (i : grid0.Coords) : BitVec 1 :=
  let arg1 : BitVec 32 := BitVec.ofNat 32 (i 1).val
  let c1_i32 : BitVec 32 := 1#32
  let v6 : BitVec 1 := Scalar.cmpi .eq arg1 c1_i32
  let v10 : BitVec 32 := Scalar.extui v6
  let c0_i32_5 : BitVec 32 := 0#32
  let v11 : BitVec 1 := Scalar.cmpi .ne v10 c0_i32_5
  v11

def k0_cond3 (i : grid0.Coords) : BitVec 1 :=
  let arg1 : BitVec 32 := BitVec.ofNat 32 (i 1).val
  let c2_i32 : BitVec 32 := 2#32
  let v7 : BitVec 1 := Scalar.cmpi .sge arg1 c2_i32
  let v12 : BitVec 32 := Scalar.extui v7
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg1 c3_i32
  let c1_i32 : BitVec 32 := 1#32
  let v1 : BitVec 32 := Scalar.addi arg1 c1_i32
  let c3_i32_0 : BitVec 32 := 3#32
  let c0_i32 : BitVec 32 := 0#32
  let v2 : BitVec 1 := Scalar.cmpi .eq c3_i32_0 c0_i32
  let c1_i32_1 : BitVec 32 := 1#32
  let v3 : BitVec 32 := Scalar.select v2 c1_i32_1 c3_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let v12 : BitVec 32 := Scalar.select v0 v11 arg1
  let c0_i32_5 : BitVec 32 := 0#32
  let c0_i32_6 : BitVec 32 := 0#32
  ![c0_i32_5.toNat, v12.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== InProjSRefIdeal.lean ====
abbrev S8x8x2048 : Shape := ⟨3, ![8, 8, 2048]⟩
abbrev S2048 : Shape := ⟨1, ![2048]⟩
abbrev S2048x5120 : Shape := ⟨2, ![2048, 5120]⟩
abbrev S_ : Shape := ⟨0, ![]⟩
abbrev S8x8 : Shape := ⟨2, ![8, 8]⟩
abbrev S8x8x1 : Shape := ⟨3, ![8, 8, 1]⟩
abbrev S1x1x2048 : Shape := ⟨3, ![1, 1, 2048]⟩
abbrev S8x8x5120 : Shape := ⟨3, ![8, 8, 5120]⟩
abbrev S64x5120 : Shape := ⟨2, ![64, 5120]⟩
abbrev S2048x5x1024 : Shape := ⟨3, ![2048, 5, 1024]⟩
abbrev S5x2048x1024 : Shape := ⟨3, ![5, 2048, 1024]⟩
abbrev S64x1024 : Shape := ⟨2, ![64, 1024]⟩
abbrev S1x64x1024 : Shape := ⟨3, ![1, 64, 1024]⟩
abbrev S3x64x1024 : Shape := ⟨3, ![3, 64, 1024]⟩
abbrev S2x2048x1024 : Shape := ⟨3, ![2, 2048, 1024]⟩
abbrev S1x2048x1024 : Shape := ⟨3, ![1, 2048, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S2048, .f32⟩
  | .hbm, ⟨2, _⟩ => ⟨S2048x5120, .f32⟩
  | .hbm, ⟨3, _⟩ => ⟨S8x8x2048, .f32⟩
  | .hbm, ⟨4, _⟩ => ⟨S_, .f32⟩
  | .hbm, ⟨5, _⟩ => ⟨S8x8, .f32⟩
  | .hbm, ⟨6, _⟩ => ⟨S8x8x1, .f32⟩
  | .hbm, ⟨7, _⟩ => ⟨S_, .f32⟩
  | .hbm, ⟨8, _⟩ => ⟨S8x8x1, .f32⟩
  | .hbm, ⟨9, _⟩ => ⟨S8x8x1, .f32⟩
  | .hbm, ⟨10, _⟩ => ⟨S_, .f32⟩
  | .hbm, ⟨11, _⟩ => ⟨S8x8x1, .f32⟩
  | .hbm, ⟨12, _⟩ => ⟨S8x8x1, .f32⟩
  | .hbm, ⟨13, _⟩ => ⟨S8x8x1, .f32⟩
  | .hbm, ⟨14, _⟩ => ⟨S8x8x2048, .f32⟩
  | .hbm, ⟨15, _⟩ => ⟨S8x8x2048, .f32⟩
  | .hbm, ⟨16, _⟩ => ⟨S1x1x2048, .f32⟩
  | .hbm, ⟨17, _⟩ => ⟨S8x8x2048, .f32⟩
  | .hbm, ⟨18, _⟩ => ⟨S8x8x2048, .f32⟩
  | .hbm, ⟨19, _⟩ => ⟨S8x8x5120, .f32⟩
  | .hbm, ⟨20, _⟩ => ⟨S64x5120, .f32⟩
  | .hbm, ⟨21, _⟩ => ⟨S2048x5x1024, .f32⟩
  | .hbm, ⟨22, _⟩ => ⟨S5x2048x1024, .f32⟩
  | .hbm, ⟨23, _⟩ => ⟨S64x1024, .f32⟩
  | .hbm, ⟨24, _⟩ => ⟨S64x1024, .f32⟩
  | .hbm, ⟨25, _⟩ => ⟨S64x1024, .f32⟩
  | .hbm, ⟨26, _⟩ => ⟨S64x1024, .f32⟩
  | .hbm, ⟨27, _⟩ => ⟨S64x1024, .f32⟩
  | .hbm, ⟨28, _⟩ => ⟨S1x64x1024, .f32⟩
  | .hbm, ⟨29, _⟩ => ⟨S1x64x1024, .f32⟩
  | .hbm, ⟨30, _⟩ => ⟨S1x64x1024, .f32⟩
  | .hbm, ⟨31, _⟩ => ⟨S3x64x1024, .f32⟩
  | .hbm, ⟨32, _⟩ => ⟨S2x2048x1024, .f32⟩
  | .hbm, ⟨33, _⟩ => ⟨S1x2048x1024, .f32⟩
  | .hbm, ⟨34, _⟩ => ⟨S2x2048x1024, .f32⟩
  | .hbm, ⟨35, _⟩ => ⟨S5x2048x1024, .f32⟩
  | .hbm, ⟨36, _⟩ => ⟨S5x2048x1024, .bf16⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== MemKv.lean ====
abbrev S2x256x2048 : Shape := ⟨3, ![2, 256, 2048]⟩
abbrev S2048 : Shape := ⟨1, ![2048]⟩
abbrev S2048x512 : Shape := ⟨2, ![2048, 512]⟩
abbrev S2048x1024 : Shape := ⟨2, ![2048, 1024]⟩
abbrev S512x2048 : Shape := ⟨2, ![512, 2048]⟩
abbrev S1x2048 : Shape := ⟨2, ![1, 2048]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S2048x1024, .f32⟩
  | .hbm, ⟨5, _⟩ => ⟨S2048x1024, .bf16⟩
  | .hbm, ⟨6, _⟩ => ⟨S512x2048, .f32⟩
  | .hbm, ⟨7, _⟩ => ⟨S1x2048, .f32⟩
  | .hbm, ⟨8, _⟩ => ⟨S512x512, .f32⟩
  | .hbm, ⟨9, _⟩ => ⟨S512x512, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .sge arg1 c1_i32_3
  let c2_i32 : BitVec 32 := 2#32
  let v9 : BitVec 1 := Scalar.cmpi .slt arg1 c2_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemKvRefIdeal.lean ====
abbrev S2x256x2048 : Shape := ⟨3, ![2, 256, 2048]⟩
abbrev S2048 : Shape := ⟨1, ![2048]⟩
abbrev S2048x512 : Shape := ⟨2, ![2048, 512]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x512 : Shape := ⟨3, ![2, 256, 512]⟩
abbrev S512x512 : Shape := ⟨2, ![512, 512]⟩

abbrev nBuf : Space → Nat
  | .hbm => 24
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S1x1x2048, .f32⟩
  | .hbm, ⟨18, _⟩ => ⟨S2x256x2048, .f32⟩
  | .hbm, ⟨19, _⟩ => ⟨S2x256x2048, .f32⟩
  | .hbm, ⟨20, _⟩ => ⟨S2x256x512, .f32⟩
  | .hbm, ⟨21, _⟩ => ⟨S512x512, .f32⟩
  | .hbm, ⟨22, _⟩ => ⟨S2x256x512, .f32⟩
  | .hbm, ⟨23, _⟩ => ⟨S512x512, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== ConvS.lean ====
abbrev S3x8x8x1024 : Shape := ⟨4, ![3, 8, 8, 1024]⟩
abbrev S1x8x30x1024 : Shape := ⟨4, ![1, 8, 30, 1024]⟩
abbrev S31x1024 : Shape := ⟨2, ![31, 1024]⟩
abbrev S1024 : Shape := ⟨1, ![1024]⟩
abbrev S1x1024 : Shape := ⟨2, ![1, 1024]⟩
abbrev S8x8x1024 : Shape := ⟨3, ![8, 8, 1024]⟩
abbrev S8x30x1024 : Shape := ⟨3, ![8, 30, 1024]⟩
abbrev S1x1x8x1024 : Shape := ⟨4, ![1, 1, 8, 1024]⟩
abbrev S1x1x30x1024 : Shape := ⟨4, ![1, 1, 30, 1024]⟩
abbrev S1x8x1024 : Shape := ⟨3, ![1, 8, 1024]⟩
abbrev S1x30x1024 : Shape := ⟨3, ![1, 30, 1024]⟩
abbrev S40x1024 : Shape := ⟨2, ![40, 1024]⟩
abbrev S34x8x1024 : Shape := ⟨3, ![34, 8, 1024]⟩
abbrev S8x1024 : Shape := ⟨2, ![8, 1024]⟩
abbrev S32x1024 : Shape := ⟨2, ![32, 1024]⟩
abbrev S30x1024 : Shape := ⟨2, ![30, 1024]⟩
abbrev S1x8x256 : Shape := ⟨3, ![1, 8, 256]⟩
abbrev S8x256 : Shape := ⟨2, ![8, 256]⟩
abbrev S40x256 : Shape := ⟨2, ![40, 256]⟩
abbrev S32x256 : Shape := ⟨2, ![32, 256]⟩
abbrev S24x256 : Shape := ⟨2, ![24, 256]⟩
abbrev S8 : Shape := ⟨1, ![8]⟩
abbrev S8x1 : Shape := ⟨2, ![8, 1]⟩

abbrev nBuf : Space → Nat
  | .hbm => 11
  | .vmem => 17
  | .smem => 0
  | _ => 0

abbrev bufTy : (tb : Table) → Fin (tcTables nBuf tb) → BufTy
  | .hbm, ⟨0, _⟩ => ⟨S3x8x8x1024, .f32⟩
  | .hbm, ⟨1, _⟩ => ⟨S1x8x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8x8x1024, .f32⟩
  | .hbm, ⟨10, _⟩ => ⟨S8x30x1024, .f32⟩
  | .local _ .vmem, ⟨0, _⟩ => ⟨S1x1x8x1024, .f32⟩
  | .local _ .vmem, ⟨1, _⟩ => ⟨S1x1x8x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x1x30x1024, .f32⟩
  | .local _ .vmem, ⟨5, _⟩ => ⟨S1x1x30x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x30x1024, .f32⟩
  | .local _ .vmem, ⟨13, _⟩ => ⟨S1x30x1024, .f32⟩
  | .local _ .vmem, ⟨14, _⟩ => ⟨S40x1024, .f32⟩
  | .local _ .vmem, ⟨15, _⟩ => ⟨S34x8x1024, .f32⟩
  | .local _ .vmem, ⟨16, _⟩ => ⟨S8x1024, .f32⟩
  | _, _ => ⟨S3x8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 1], ![false, false]⟩

def k0_mult1 : BitVec 32 :=
  let c0_i32_3 : BitVec 32 := 0#32
  let c8_i32 : BitVec 32 := 8#32
  let v6 : BitVec 32 := Scalar.muli c0_i32_3 c8_i32
  v6
def k0_off1 : Fin 4 → Nat :=
  let c0 : Index := 0#32
  let c0_4 : Index := 0#32
  let c0_i32_3 : BitVec 32 := 0#32
  let c8_i32 : BitVec 32 := 8#32
  let v6 : BitVec 32 := Scalar.muli c0_i32_3 c8_i32
  let v7 : BitVec 32 := v6
  let v8 : Index := Scalar.indexCast v7
  let c0_5 : Index := 0#32
  ![0, 0, v8.toNat, 0]
def k0_off2 : Fin 2 → Nat :=
  let c32_i32 : BitVec 32 := 32#32
  let c0_i32_3 : BitVec 32 := 0#32
  let c8_i32 : BitVec 32 := 8#32
  let v6 : BitVec 32 := Scalar.muli c0_i32_3 c8_i32
  let v7 : BitVec 32 := v6
  let v22 : BitVec 32 := Scalar.addi c32_i32 v7
  let v23 : Index := Scalar.indexCast v22
  let c0_11 : Index := 0#32
  ![v23.toNat, 0]
def k0_mult2 : BitVec 32 :=
  let c0_i32_12 : BitVec 32 := 0#32
  let c8_i32_13 : BitVec 32 := 8#32
  let v27 : BitVec 32 := Scalar.muli c0_i32_12 c8_i32_13
  v27
def k0_off3 : Fin 2 → Nat :=
  let c0_i32_12 : BitVec 32 := 0#32
  let c8_i32_13 : BitVec 32 := 8#32
  let v27 : BitVec 32 := Scalar.muli c0_i32_12 c8_i32_13
  let v28 : BitVec 32 := v27
  let c0_i32_16 : BitVec 32 := 0#32
  ![v28.toNat, 0]
def k0_off4 : Fin 2 → Nat :=
  let c0_i32_12 : BitVec 32 := 0#32
  let c8_i32_13 : BitVec 32 := 8#32
  let v27 : BitVec 32 := Scalar.muli c0_i32_12 c8_i32_13
  let v28 : BitVec 32 := v27
  let v266 : Index := Scalar.indexCast v28
  let c0_103 : Index := 0#32
  ![v266.toNat, 0]
def k0_off5 : Fin 2 → Nat :=
  let c0_i32_12 : BitVec 32 := 0#32
  let c8_i32_13 : BitVec 32 := 8#32
  let v27 : BitVec 32 := Scalar.muli c0_i32_12 c8_i32_13
  let v28 : BitVec 32 := v27
  let c256_i32 : BitVec 32 := 256#32
  ![v28.toNat, 256]
def k0_off6 : Fin 2 → Nat :=
  let c0_i32_12 : BitVec 32 := 0#32
  let c8_i32_13 : BitVec 32 := 8#32
  let v27 : BitVec 32 := Scalar.muli c0_i32_12 c8_i32_13
  let v28 : BitVec 32 := v27
  let v507 : Index := Scalar.indexCast v28
  let c256_222 : Index := 256#32
  ![v507.toNat, 256]
def k0_off7 : Fin 2 → Nat :=
  let c0_i32_12 : BitVec 32 := 0#32
  let c8_i32_13 : BitVec 32 := 8#32
  let v27 : BitVec 32 := Scalar.muli c0_i32_12 c8_i32_13
  let v28 : BitVec 32 := v27
  let c512_i32 : BitVec 32 := 512#32
  ![v28.toNat, 512]
def k0_off8 : Fin 2 → Nat :=
  let c0_i32_12 : BitVec 32 := 0#32
  let c8_i32_13 : BitVec 32 := 8#32
  let v27 : BitVec 32 := Scalar.muli c0_i32_12 c8_i32_13
  let v28 : BitVec 32 := v27
  let v748 : Index := Scalar.indexCast v28
  let c512_341 : Index := 512#32
  ![v748.toNat, 512]
def k0_off9 : Fin 2 → Nat :=
  let c0_i32_12 : BitVec 32 := 0#32
  let c8_i32_13 : BitVec 32 := 8#32
  let v27 : BitVec 32 := Scalar.muli c0_i32_12 c8_i32_13
  let v28 : BitVec 32 := v27
  let c768_i32 : BitVec 32 := 768#32
  ![v28.toNat, 768]
def k0_off10 : Fin 2 → Nat :=
  let c0_i32_12 : BitVec 32 := 0#32
  let c8_i32_13 : BitVec 32 := 8#32
  let v27 : BitVec 32 := Scalar.muli c0_i32_12 c8_i32_13
  let v28 : BitVec 32 := v27
  let v989 : Index := Scalar.indexCast v28
  let c768_460 : Index := 768#32
  ![v989.toNat, 768]
def k0_mult3 : BitVec 32 :=
  let c0_i32_462 : BitVec 32 := 0#32
  let c8_i32_463 : BitVec 32 := 8#32
  let v993 : BitVec 32 := Scalar.muli c0_i32_462 c8_i32_463
  v993
def k0_off11 : Fin 2 → Nat :=
  let c0_i32_462 : BitVec 32 := 0#32
  let c8_i32_463 : BitVec 32 := 8#32
  let v993 : BitVec 32 := Scalar.muli c0_i32_462 c8_i32_463
  let v994 : BitVec 32 := v993
  let v995 : Index := Scalar.indexCast v994
  let c0_464 : Index := 0#32
  ![v995.toNat, 0]
def k0_off12 : Fin 3 → Nat :=
  let c0_477 : Index := 0#32
  let c0_i32_462 : BitVec 32 := 0#32
  let c8_i32_463 : BitVec 32 := 8#32
  let v993 : BitVec 32 := Scalar.muli c0_i32_462 c8_i32_463
  let v994 : BitVec 32 := v993
  let v1031 : Index := Scalar.indexCast v994
  let c0_478 : Index := 0#32
  ![0, v1031.toNat, 0]
def k0_cond3 (i : grid0.Coords) : BitVec 1 :=
  let arg1 : BitVec 32 := BitVec.ofNat 32 (i 1).val
  let c0_i32_480 : BitVec 32 := 0#32
  let v1035 : BitVec 1 := Scalar.cmpi .eq arg1 c0_i32_480
  let v1036 : BitVec 32 := Scalar.extui v1035
  let c0_i32_481 : BitVec 32 := 0#32
  let v1037 : BitVec 1 := Scalar.cmpi .ne v1036 c0_i32_481
  v1037

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x30x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x30x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvSRefIdeal.lean ====
abbrev S3x8x8x1024 : Shape := ⟨4, ![3, 8, 8, 1024]⟩
abbrev S1x8x30x1024 : Shape := ⟨4, ![1, 8, 30, 1024]⟩
abbrev S31x1024 : Shape := ⟨2, ![31, 1024]⟩
abbrev S1024 : Shape := ⟨1, ![1024]⟩
abbrev S1x8x8x1024 : Shape := ⟨4, ![1, 8, 8, 1024]⟩
abbrev S8x8x1024 : Shape := ⟨3, ![8, 8, 1024]⟩
abbrev S_ : Shape := ⟨0, ![]⟩
abbrev S8x30x1024 : Shape := ⟨3, ![8, 30, 1024]⟩
abbrev S8x38x1024 : Shape := ⟨3, ![8, 38, 1024]⟩
abbrev S1x1024 : Shape := ⟨2, ![1, 1024]⟩
abbrev S1x1x1024 : Shape := ⟨3, ![1, 1, 1024]⟩
abbrev S8x8 : Shape := ⟨2, ![8, 8]⟩
abbrev S8x8x1 : Shape := ⟨3, ![8, 8, 1]⟩

abbrev nBuf : Space → Nat
  | .hbm => 280
  | .vmem => 0
  | .smem => 0
  | _ => 0

abbrev hbmTy0_0 (i : Nat) : BufTy := match i % 128 with
  | 0 => ⟨S3x8x8x1024, .f32⟩
  | 1 => ⟨S1x8x30x1024, .f32⟩
  | 2 => ⟨S31x1024, .f32⟩
  | 3 => ⟨S1024, .f32⟩
  | 4 => ⟨S1024, .f32⟩
  | 5 => ⟨S1024, .f32⟩
  | 6 => ⟨S1x8x8x1024, .f32⟩
  | 7 => ⟨S8x8x1024, .f32⟩
  | 8 => ⟨S1x8x8x1024, .f32⟩
  | 9 => ⟨S8x8x1024, .f32⟩
  | 10 => ⟨S8x8x1024, .f32⟩
  | 11 => ⟨S8x8x1024, .f32⟩
  | 12 => ⟨S_, .f32⟩
  | 13 => ⟨S8x8x1024, .f32⟩
  | 14 => ⟨S8x8x1024, .f32⟩
  | 15 => ⟨S_, .f32⟩
  | 16 => ⟨S8x8x1024, .f32⟩
  | 17 => ⟨S8x8x1024, .f32⟩
  | 18 => ⟨S8x8x1024, .f32⟩
  | 19 => ⟨S8x30x1024, .f32⟩
  | 20 => ⟨S8x38x1024, .f32⟩
  | 21 => ⟨S8x8x1024, .f32⟩
  | 22 => ⟨S1x1024, .f32⟩
  | 23 => ⟨S1024, .f32⟩
  | 24 => ⟨S1x1x1024, .f32⟩
  | 25 => ⟨S8x8x1024, .f32⟩
  | 26 => ⟨S8x8x1024, .f32⟩
  | 27 => ⟨S_, .f32⟩
  | 28 => ⟨S8x8x1024, .f32⟩
  | 29 => ⟨S8x8x1024, .f32⟩
  | 30 => ⟨S8x8x1024, .f32⟩
  | 31 => ⟨S1x1024, .f32⟩
  | 32 => ⟨S1024, .f32⟩
  | 33 => ⟨S1x1x1024, .f32⟩
  | 34 => ⟨S8x8x1024, .f32⟩
  | 35 => ⟨S8x8x1024, .f32⟩
  | 36 => ⟨S8x8x1024, .f32⟩
  | 37 => ⟨S8x8x1024, .f32⟩
  | 38 => ⟨S1x1024, .f32⟩
  | 39 => ⟨S1024, .f32⟩
  | 40 => ⟨S1x1x1024, .f32⟩
  | 41 => ⟨S8x8x1024, .f32⟩
  | 42 => ⟨S8x8x1024, .f32⟩
  | 43 => ⟨S8x8x1024, .f32⟩
  | 44 => ⟨S8x8x1024, .f32⟩
  | 45 => ⟨S1x1024, .f32⟩
  | 46 => ⟨S1024, .f32⟩
  | 47 => ⟨S1x1x1024, .f32⟩
  | 48 => ⟨S8x8x1024, .f32⟩
  | 49 => ⟨S8x8x1024, .f32⟩
  | 50 => ⟨S8x8x1024, .f32⟩
  | 51 => ⟨S8x8x1024, .f32⟩
  | 52 => ⟨S1x1024, .f32⟩
  | 53 => ⟨S1024, .f32⟩
  | 54 => ⟨S1x1x1024, .f32⟩
  | 55 => ⟨S8x8x1024, .f32⟩
  | 56 => ⟨S8x8x1024, .f32⟩
  | 57 => ⟨S8x8x1024, .f32⟩
  | 58 => ⟨S8x8x1024, .f32⟩
  | 59 => ⟨S1x1024, .f32⟩
  | 60 => ⟨S1024, .f32⟩
  | 61 => ⟨S1x1x1024, .f32⟩
  | 62 => ⟨S8x8x1024, .f32⟩
  | 63 => ⟨S8x8x1024, .f32⟩
  | 64 => ⟨S8x8x1024, .f32⟩
  | 65 => ⟨S8x8x1024, .f32⟩
  | 66 => ⟨S1x1024, .f32⟩
  | 67 => ⟨S1024, .f32⟩
  | 68 => ⟨S1x1x1024, .f32⟩
  | 69 => ⟨S8x8x1024, .f32⟩
  | 70 => ⟨S8x8x1024, .f32⟩
  | 71 => ⟨S8x8x1024, .f32⟩
  | 72 => ⟨S8x8x1024, .f32⟩
  | 73 => ⟨S1x1024, .f32⟩
  | 74 => ⟨S1024, .f32⟩
  | 75 => ⟨S1x1x1024, .f32⟩
  | 76 => ⟨S8x8x1024, .f32⟩
  | 77 => ⟨S8x8x1024, .f32⟩
  | 78 => ⟨S8x8x1024, .f32⟩
  | 79 => ⟨S8x8x1024, .f32⟩
  | 80 => ⟨S1x1024, .f32⟩
  | 81 => ⟨S1024, .f32⟩
  | 82 => ⟨S1x1x1024, .f32⟩
  | 83 => ⟨S8x8x1024, .f32⟩
  | 84 => ⟨S8x8x1024, .f32⟩
  | 85 => ⟨S8x8x1024, .f32⟩
  | 86 => ⟨S8x8x1024, .f32⟩
  | 87 => ⟨S1x1024, .f32⟩
  | 88 => ⟨S1024, .f32⟩
  | 89 => ⟨S1x1x1024, .f32⟩
  | 90 => ⟨S8x8x1024, .f32⟩
  | 91 => ⟨S8x8x1024, .f32⟩
  | 92 => ⟨S8x8x1024, .f32⟩
  | 93 => ⟨S8x8x1024, .f32⟩
  | 94 => ⟨S1x1024, .f32⟩
  | 95 => ⟨S1024, .f32⟩
  | 96 => ⟨S1x1x1024, .f32⟩
  | 97 => ⟨S8x8x1024, .f32⟩
  | 98 => ⟨S8x8x1024, .f32⟩
  | 99 => ⟨S8x8x1024, .f32⟩
  | 100 => ⟨S8x8x1024, .f32⟩
  | 101 => ⟨S1x1024, .f32⟩
  | 102 => ⟨S1024, .f32⟩
  | 103 => ⟨S1x1x1024, .f32⟩
  | 104 => ⟨S8x8x1024, .f32⟩
  | 105 => ⟨S8x8x1024, .f32⟩
  | 106 => ⟨S8x8x1024, .f32⟩
  | 107 => ⟨S8x8x1024, .f32⟩
  | 108 => ⟨S1x1024, .f32⟩
  | 109 => ⟨S1024, .f32⟩
  | 110 => ⟨S1x1x1024, .f32⟩
  | 111 => ⟨S8x8x1024, .f32⟩
  | 112 => ⟨S8x8x1024, .f32⟩
  | 113 => ⟨S8x8x1024, .f32⟩
  | 114 => ⟨S8x8x1024, .f32⟩
  | 115 => ⟨S1x1024, .f32⟩
  | 116 => ⟨S1024, .f32⟩
  | 117 => ⟨S1x1x1024, .f32⟩
  | 118 => ⟨S8x8x1024, .f32⟩
  | 119 => ⟨S8x8x1024, .f32⟩
  | 120 => ⟨S8x8x1024, .f32⟩
  | 121 => ⟨S8x8x1024, .f32⟩
  | 122 => ⟨S1x1024, .f32⟩
  | 123 => ⟨S1024, .f32⟩
  | 124 => ⟨S1x1x1024, .f32⟩
  | 125 => ⟨S8x8x1024, .f32⟩
  | 126 => ⟨S8x8x1024, .f32⟩
  | 127 => ⟨S8x8x1024, .f32⟩
  | _ => ⟨S3x8x8x1024, .f32⟩

abbrev hbmTy0_1 (i : Nat) : BufTy := match i % 128 with
  | 0 => ⟨S8x8x1024, .f32⟩
  | 1 => ⟨S1x1024, .f32⟩
  | 2 => ⟨S1024, .f32⟩
  | 3 => ⟨S1x1x1024, .f32⟩
  | 4 => ⟨S8x8x1024, .f32⟩
  | 5 => ⟨S8x8x1024, .f32⟩
  | 6 => ⟨S8x8x1024, .f32⟩
  | 7 => ⟨S8x8x1024, .f32⟩
  | 8 => ⟨S1x1024, .f32⟩
  | 9 => ⟨S1024, .f32⟩
  | 10 => ⟨S1x1x1024, .f32⟩
  | 11 => ⟨S8x8x1024, .f32⟩
  | 12 => ⟨S8x8x1024, .f32⟩
  | 13 => ⟨S8x8x1024, .f32⟩
  | 14 => ⟨S8x8x1024, .f32⟩
  | 15 => ⟨S1x1024, .f32⟩
  | 16 => ⟨S1024, .f32⟩
  | 17 => ⟨S1x1x1024, .f32⟩
  | 18 => ⟨S8x8x1024, .f32⟩
  | 19 => ⟨S8x8x1024, .f32⟩
  | 20 => ⟨S8x8x1024, .f32⟩
  | 21 => ⟨S8x8x1024, .f32⟩
  | 22 => ⟨S1x1024, .f32⟩
  | 23 => ⟨S1024, .f32⟩
  | 24 => ⟨S1x1x1024, .f32⟩
  | 25 => ⟨S8x8x1024, .f32⟩
  | 26 => ⟨S8x8x1024, .f32⟩
  | 27 => ⟨S8x8x1024, .f32⟩
  | 28 => ⟨S8x8x1024, .f32⟩
  | 29 => ⟨S1x1024, .f32⟩
  | 30 => ⟨S1024, .f32⟩
  | 31 => ⟨S1x1x1024, .f32⟩
  | 32 => ⟨S8x8x1024, .f32⟩
  | 33 => ⟨S8x8x1024, .f32⟩
  | 34 => ⟨S8x8x1024, .f32⟩
  | 35 => ⟨S8x8x1024, .f32⟩
  | 36 => ⟨S1x1024, .f32⟩
  | 37 => ⟨S1024, .f32⟩
  | 38 => ⟨S1x1x1024, .f32⟩
  | 39 => ⟨S8x8x1024, .f32⟩
  | 40 => ⟨S8x8x1024, .f32⟩
  | 41 => ⟨S8x8x1024, .f32⟩
  | 42 => ⟨S8x8x1024, .f32⟩
  | 43 => ⟨S1x1024, .f32⟩
  | 44 => ⟨S1024, .f32⟩
  | 45 => ⟨S1x1x1024, .f32⟩
  | 46 => ⟨S8x8x1024, .f32⟩
  | 47 => ⟨S8x8x1024, .f32⟩
  | 48 => ⟨S8x8x1024, .f32⟩
  | 49 => ⟨S8x8x1024, .f32⟩
  | 50 => ⟨S1x1024, .f32⟩
  | 51 => ⟨S1024, .f32⟩
  | 52 => ⟨S1x1x1024, .f32⟩
  | 53 => ⟨S8x8x1024, .f32⟩
  | 54 => ⟨S8x8x1024, .f32⟩
  | 55 => ⟨S8x8x1024, .f32⟩
  | 56 => ⟨S8x8x1024, .f32⟩
  | 57 => ⟨S1x1024, .f32⟩
  | 58 => ⟨S1024, .f32⟩
  | 59 => ⟨S1x1x1024, .f32⟩
  | 60 => ⟨S8x8x1024, .f32⟩
  | 61 => ⟨S8x8x1024, .f32⟩
  | 62 => ⟨S8x8x1024, .f32⟩
  | 63 => ⟨S8x8x1024, .f32⟩
  | 64 => ⟨S1x1024, .f32⟩
  | 65 => ⟨S1024, .f32⟩
  | 66 => ⟨S1x1x1024, .f32⟩
  | 67 => ⟨S8x8x1024, .f32⟩
  | 68 => ⟨S8x8x1024, .f32⟩
  | 69 => ⟨S8x8x1024, .f32⟩
  | 70 => ⟨S8x8x1024, .f32⟩
  | 71 => ⟨S1x1024, .f32⟩
  | 72 => ⟨S1024, .f32⟩
  | 73 => ⟨S1x1x1024, .f32⟩
  | 74 => ⟨S8x8x1024, .f32⟩
  | 75 => ⟨S8x8x1024, .f32⟩
  | 76 => ⟨S8x8x1024, .f32⟩
  | 77 => ⟨S8x8x1024, .f32⟩
  | 78 => ⟨S1x1024, .f32⟩
  | 79 => ⟨S1024, .f32⟩
  | 80 => ⟨S1x1x1024, .f32⟩
  | 81 => ⟨S8x8x1024, .f32⟩
  | 82 => ⟨S8x8x1024, .f32⟩
  | 83 => ⟨S8x8x1024, .f32⟩
  | 84 => ⟨S8x8x1024, .f32⟩
  | 85 => ⟨S1x1024, .f32⟩
  | 86 => ⟨S1024, .f32⟩
  | 87 => ⟨S1x1x1024, .f32⟩
  | 88 => ⟨S8x8x1024, .f32⟩
  | 89 => ⟨S8x8x1024, .f32⟩
  | 90 => ⟨S8x8x1024, .f32⟩
  | 91 => ⟨S8x8x1024, .f32⟩
  | 92 => ⟨S1x1024, .f32⟩
  | 93 => ⟨S1024, .f32⟩
  | 94 => ⟨S1x1x1024, .f32⟩
  | 95 => ⟨S8x8x1024, .f32⟩
  | 96 => ⟨S8x8x1024, .f32⟩
  | 97 => ⟨S8x8x1024, .f32⟩
  | 98 => ⟨S8x8x1024, .f32⟩
  | 99 => ⟨S1x1024, .f32⟩
  | 100 => ⟨S1024, .f32⟩
  | 101 => ⟨S1x1x1024, .f32⟩
  | 102 => ⟨S8x8x1024, .f32⟩
  | 103 => ⟨S8x8x1024, .f32⟩
  | 104 => ⟨S8x8x1024, .f32⟩
  | 105 => ⟨S8x8x1024, .f32⟩
  | 106 => ⟨S1x1024, .f32⟩
  | 107 => ⟨S1024, .f32⟩
  | 108 => ⟨S1x1x1024, .f32⟩
  | 109 => ⟨S8x8x1024, .f32⟩
  | 110 => ⟨S8x8x1024, .f32⟩
  | 111 => ⟨S8x8x1024, .f32⟩
  | 112 => ⟨S1x1x1024, .f32⟩
  | 113 => ⟨S8x8x1024, .f32⟩
  | 114 => ⟨S8x8x1024, .f32⟩
  | 115 => ⟨S_, .f32⟩
  | 116 => ⟨S8x8, .f32⟩
  | 117 => ⟨S8x8x1, .f32⟩
  | 118 => ⟨S_, .f32⟩
  | 119 => ⟨S8x8x1, .f32⟩
  | 120 => ⟨S8x8x1, .f32⟩
  | 121 => ⟨S8x8x1024, .f32⟩
  | 122 => ⟨S8x8x1024, .f32⟩
  | 123 => ⟨S8x8x1024, .f32⟩
  | 124 => ⟨S_, .f32⟩
  | 125 => ⟨S8x8, .f32⟩
  | 126 => ⟨S8x8x1, .f32⟩
  | 127 => ⟨S_, .f32⟩
  | _ => ⟨S3x8x8x1024, .f32⟩

abbrev hbmTy0_2 (i : Nat) : BufTy := match i % 128 with
  | 0 => ⟨S8x8x1, .f32⟩
  | 1 => ⟨S8x8x1, .f32⟩
  | 2 => ⟨S_, .f32⟩
  | 3 => ⟨S8x8x1, .f32⟩
  | 4 => ⟨S8x8x1, .f32⟩
  | 5 => ⟨S8x8x1, .f32⟩
  | 6 => ⟨S8x8x1024, .f32⟩
  | 7 => ⟨S8x8x1024, .f32⟩
  | 8 => ⟨S1x1x1024, .f32⟩
  | 9 => ⟨S8x8x1024, .f32⟩
  | 10 => ⟨S8x8x1024, .f32⟩
  | 11 => ⟨S1x1x1024, .f32⟩
  | 12 => ⟨S8x8x1024, .f32⟩
  | 13 => ⟨S8x8x1024, .f32⟩
  | 14 => ⟨S8x8x1024, .f32⟩
  | 15 => ⟨S8x8x1024, .f32⟩
  | 16 => ⟨S_, .f32⟩
  | 17 => ⟨S8x8x1024, .f32⟩
  | 18 => ⟨S8x8x1024, .f32⟩
  | 19 => ⟨S_, .f32⟩
  | 20 => ⟨S8x8x1024, .f32⟩
  | 21 => ⟨S8x8x1024, .f32⟩
  | 22 => ⟨S8x8x1024, .f32⟩
  | 23 => ⟨S8x30x1024, .f32⟩
  | _ => ⟨S3x8x8x1024, .f32⟩

abbrev hbmTy (i : Nat) : BufTy := match i / 128 with
  | 0 => hbmTy0_0 i
  | 1 => hbmTy0_1 i
  | 2 => hbmTy0_2 i
  | _ => ⟨S3x8x8x1024, .f32⟩

abbrev bufTy : (tb : Table) → Fin (tcTables nBuf tb) → BufTy
  | .hbm, ⟨i, _⟩ => hbmTy i
  | _, _ => ⟨S3x8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_cst_2 : Ref sig .tc := ⟨.hbm, 243, rfl⟩
abbrev main_v234 : Ref sig .tc := ⟨.hbm, 244, rfl⟩
abbrev main_v235 : Ref sig .tc := ⟨.hbm, 245, rfl⟩
abbrev main_cst_3 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_cst_4 : Ref sig .tc := ⟨.hbm, 252, rfl⟩
abbrev main_v241 : Ref sig .tc := ⟨.hbm, 253, rfl⟩
abbrev main_v242 : Ref sig .tc := ⟨.hbm, 254, rfl⟩
abbrev main_cst_5 : Ref sig .tc := ⟨.hbm, 255, rfl⟩
abbrev main_v243 : Ref sig .tc := ⟨.hbm, 256, rfl⟩
abbrev main_v244 : Ref sig .tc := ⟨.hbm, 257, rfl⟩
abbrev main_cst_6 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_call0_v0 : Ref sig .tc := ⟨.hbm, 270, rfl⟩
abbrev main_call0_v1 : Ref sig .tc := ⟨.hbm, 271, rfl⟩
abbrev main_call0_cst : Ref sig .tc := ⟨.hbm, 272, rfl⟩
abbrev main_call0_v2 : Ref sig .tc := ⟨.hbm, 273, rfl⟩
abbrev main_call0_v3 : Ref sig .tc := ⟨.hbm, 274, rfl⟩
abbrev main_call0_cst_0 : Ref sig .tc := ⟨.hbm, 275, rfl⟩
abbrev main_call0_v4 : Ref sig .tc := ⟨.hbm, 276, rfl⟩
abbrev main_call0_v5 : Ref sig .tc := ⟨.hbm, 277, rfl⟩
abbrev main_v256 : Ref sig .tc := ⟨.hbm, 278, rfl⟩
abbrev main_v257 : Ref sig .tc := ⟨.hbm, 279, rfl⟩

abbrev nD : Nat := 1
abbrev τ : Topo := Topo.v7x

variable {F : FTy → Type} [FloatOps F]
-- ==== XAttn.lean ====
abbrev S2x4096x2048 : Shape := ⟨3, ![2, 4096, 2048]⟩
abbrev S2x256x4x128 : Shape := ⟨4, ![2, 256, 4, 128]⟩
abbrev S2048 : Shape := ⟨1, ![2048]⟩
abbrev S2048x512 : Shape := ⟨2, ![2048, 512]⟩
abbrev S512x2048 : Shape := ⟨2, ![512, 2048]⟩
abbrev S8192x2048 : Shape := ⟨2, ![8192, 2048]⟩
abbrev S1x2x256x512 : Shape := ⟨4, ![1, 2, 256, 512]⟩
abbrev S1x2048 : Shape := ⟨2, ![1, 2048]⟩
abbrev S1x1x256x512 : Shape := ⟨4, ![1, 1, 256, 512]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x1x256x128 : Shape := ⟨4, ![1, 1, 256, 128]⟩
abbrev S256x128 : Shape := ⟨2, ![256, 128]⟩
abbrev S512x256 : Shape := ⟨2, ![512, 256]⟩

abbrev nBuf : Space → Nat
  | .hbm => 15
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2x256x4x128, .f32⟩
  | .hbm, ⟨2, _⟩ => ⟨S2x256x4x128, .f32⟩
  | .hbm, ⟨3, _⟩ => ⟨S2048, .f32⟩
  | .hbm, ⟨4, _⟩ => ⟨S2048x512, .f32⟩
  | .hbm, ⟨5, _⟩ => ⟨S512x2048, .f32⟩
  | .hbm, ⟨6, _⟩ => ⟨S2048, .f32⟩
  | .hbm, ⟨7, _⟩ => ⟨S8192x2048, .f32⟩
  | .hbm, ⟨8, _⟩ => ⟨S1x2x256x512, .f32⟩
  | .hbm, ⟨9, _⟩ => ⟨S1x2x256x512, .f32⟩
  | .hbm, ⟨10, _⟩ => ⟨S2048x512, .bf16⟩
  | .hbm, ⟨11, _⟩ => ⟨S512x2048, .bf16⟩
  | .hbm, ⟨12, _⟩ => ⟨S1x2048, .f32⟩
  | .hbm, ⟨13, _⟩ => ⟨S1x2048, .f32⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x1x256x512, .f32⟩
  | .local _ .vmem, ⟨3, _⟩ => ⟨S1x1x256x512, .f32⟩
  | .local _ .vmem, ⟨4, _⟩ => ⟨S1x1x256x512, .f32⟩
  | .local _ .vmem, ⟨5, _⟩ => ⟨S1x1x256x512, .f32⟩
  | .local _ .vmem, ⟨6, _⟩ => ⟨S1x2048, .f32⟩
  | .local _ .vmem, ⟨7, _⟩ => ⟨S2048x512, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== XAttnRefIdeal.lean ====
abbrev S2x4096x2048 : Shape := ⟨3, ![2, 4096, 2048]⟩
abbrev S2x256x4x128 : Shape := ⟨4, ![2, 256, 4, 128]⟩
abbrev S2048 : Shape := ⟨1, ![2048]⟩
abbrev S2048x512 : Shape := ⟨2, ![2048, 512]⟩
abbrev S512x2048 : Shape := ⟨2, ![512, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x512 : Shape := ⟨3, ![2, 4096, 512]⟩
abbrev S2x4096x4x128 : Shape := ⟨4, ![2, 4096, 4, 128]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S8192x2048 : Shape := ⟨2, ![8192, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x4x128, .f32⟩
  | .hbm, ⟨2, _⟩ => ⟨S2x256x4x128, .f32⟩
  | .hbm, ⟨3, _⟩ => ⟨S2048, .f32⟩
  | .hbm, ⟨4, _⟩ => ⟨S2048x512, .f32⟩
  | .hbm, ⟨5, _⟩ => ⟨S512x2048, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2x4096x512, .f32⟩
  | .hbm, ⟨24, _⟩ => ⟨S2x4096x4x128, .f32⟩
  | .hbm, ⟨25, _⟩ => ⟨S2x4x4096x256, .f32⟩
  | .hbm, ⟨26, _⟩ => ⟨S_, .f32⟩
  | .hbm, ⟨27, _⟩ => ⟨S2x4x4096x256, .f32⟩
  | .hbm, ⟨28, _⟩ => ⟨S2x4x4096x256, .f32⟩
  | .hbm, ⟨29, _⟩ => ⟨S_, .f32⟩
  | .hbm, ⟨30, _⟩ => ⟨S2x4x4096, .f32⟩
  | .hbm, ⟨31, _⟩ => ⟨S_, .f32⟩
  | .hbm, ⟨32, _⟩ => ⟨S2x4x4096, .f32⟩
  | .hbm, ⟨33, _⟩ => ⟨S2x4x4096, .f32⟩
  | .hbm, ⟨34, _⟩ => ⟨S2x4x4096x1, .f32⟩
  | .hbm, ⟨35, _⟩ => ⟨S2x4x4096x256, .f32⟩
  | .hbm, ⟨36, _⟩ => ⟨S2x4x4096x256, .f32⟩
  | .hbm, ⟨37, _⟩ => ⟨S2x4x4096x256, .f32⟩
  | .hbm, ⟨38, _⟩ => ⟨S_, .f32⟩
  | .hbm, ⟨39, _⟩ => ⟨S2x4x4096, .f32⟩
  | .hbm, ⟨40, _⟩ => ⟨S2x4x4096x1, .f32⟩
  | .hbm, ⟨41, _⟩ => ⟨S2x4x4096x256, .f32⟩
  | .hbm, ⟨42, _⟩ => ⟨S2x4x4096x256, .f32⟩
  | .hbm, ⟨43, _⟩ => ⟨S2x4x128x4096, .f32⟩
  | .hbm, ⟨44, _⟩ => ⟨S2x4096x4x128, .f32⟩
  | .hbm, ⟨45, _⟩ => ⟨S2x4096x512, .f32⟩
  | .hbm, ⟨46, _⟩ => ⟨S2x4096x2048, .f32⟩
  | .hbm, ⟨47, _⟩ => ⟨S2x4096x2048, .f32⟩
  | .hbm, ⟨48, _⟩ => ⟨S_, .f32⟩
  | .hbm, ⟨49, _⟩ => ⟨S2x4096, .f32⟩
  | .hbm, ⟨50, _⟩ => ⟨S2x4096x1, .f32⟩
  | .hbm, ⟨51, _⟩ => ⟨S_, .f32⟩
  | .hbm, ⟨52, _⟩ => ⟨S2x4096x1, .f32⟩
  | .hbm, ⟨53, _⟩ => ⟨S2x4096x1, .f32⟩
  | .hbm, ⟨54, _⟩ => ⟨S_, .f32⟩
  | .hbm, ⟨55, _⟩ => ⟨S2x4096x1, .f32⟩
  | .hbm, ⟨56, _⟩ => ⟨S2x4096x1, .f32⟩
  | .hbm, ⟨57, _⟩ => ⟨S2x4096x1, .f32⟩
  | .hbm, ⟨58, _⟩ => ⟨S2x4096x2048, .f32⟩
  | .hbm, ⟨59, _⟩ => ⟨S2x4096x2048, .f32⟩
  | .hbm, ⟨60, _⟩ => ⟨S1x1x2048, .f32⟩
  | .hbm, ⟨61, _⟩ => ⟨S2x4096x2048, .f32⟩
  | .hbm, ⟨62, _⟩ => ⟨S2x4096x2048, .f32⟩
  | .hbm, ⟨63, _⟩ => ⟨S2x4096x2048, .f32⟩
  | .hbm, ⟨64, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Proof.MixValue.lean ====
/- The mixer's output projection: what the array that the call returns holds, and that it is what the reference computes. -/
module

public import proofs.«01_k».proof.Defs
public import proofs.«01_k».proof.Proof.Gen.MixIdeal.Value
public import proofs.«01_k».proof.Proof.Gen.MixRefIdeal.Run
public import Idealize.ShloMosaic.Lib.Pipeline.ValueKit
public import Idealize.ShloMosaic.Lib.Pointwise

@[expose] public section

set_option maxRecDepth 16384

noncomputable section

namespace Cert.MixValue

open Idealize.ShloMosaic Idealize.ShloMosaic.TcCoe Idealize.SL.Sem
open Cert.MixIdeal Cert.MixIdeal.Gen

variable (m : (ℓ : Loc nD τ sig) → Buf (Elt Ideal) ℓ)
  (m' : (ℓ : Loc Cert.MixRefIdeal.nD Cert.MixRefIdeal.τ Cert.MixRefIdeal.sig) → Buf (Elt Ideal) ℓ)

/-- Where each window's block lies at a point: the row windows move with the point, the weight and the gains do not. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] := by decide +kernel

set_option maxHeartbeats 4000000 in
/-- The result array is the reference's: read at a row of a point's block, both sides are the row of `x` plus the normalised
    product of the two normalised halves with the two halves of the weight's rows. -/
theorem final_eq (c : Dev nD)
    (h0 : m' ((c.tc : Thread Cert.MixRefIdeal.nD Cert.MixRefIdeal.τ).loc Cert.MixRefIdeal.main_arg0) = m ((c.tc : Thread nD τ).loc main_arg0))
    (h1 : m' ((c.tc : Thread Cert.MixRefIdeal.nD Cert.MixRefIdeal.τ).loc Cert.MixRefIdeal.main_arg1) = m ((c.tc : Thread nD τ).loc main_arg1))
    (h2 : m' ((c.tc : Thread Cert.MixRefIdeal.nD Cert.MixRefIdeal.τ).loc Cert.MixRefIdeal.main_arg2) = m ((c.tc : Thread nD τ).loc main_arg2))
    (h3 : m' ((c.tc : Thread Cert.MixRefIdeal.nD Cert.MixRefIdeal.τ).loc Cert.MixRefIdeal.main_arg3) = m ((c.tc : Thread nD τ).loc main_arg3))
    (h4 : m' ((c.tc : Thread Cert.MixRefIdeal.nD Cert.MixRefIdeal.τ).loc Cert.MixRefIdeal.main_arg4) = m ((c.tc : Thread nD τ).loc main_arg4))
    (h5 : m' ((c.tc : Thread Cert.MixRefIdeal.nD Cert.MixRefIdeal.τ).loc Cert.MixRefIdeal.main_arg5) = m ((c.tc : Thread nD τ).loc main_arg5))
    (h6 : m' ((c.tc : Thread Cert.MixRefIdeal.nD Cert.MixRefIdeal.τ).loc Cert.MixRefIdeal.main_arg6) = m ((c.tc : Thread nD τ).loc main_arg6)) :
    (dats m 0 c).arrAt 7 cfg0.N = Cert.MixRefIdeal.Value.res_main_v41 m' c := by
  refine (dats m 0 c).arrAt_eq_of_covers 7 _ (by decide +kernel) fun t hf y => ?_
  blk_simp
  rw [after0_7]
  frame_out
  unfold Cert.MixRefIdeal.Value.res_main_v41
  rw [h0, h1, h2, h3, h4, h5, h6]
  pointwise [k0_pay1, k0_pay2]
  blk_point [iblk, V, idx t]

/-- Both runs end at one array. -/
theorem algebraic : Cert.algebraic_MixIdeal_MixRefIdeal := by
  intro m g m' g' _ hagree
  refine ⟨fun c => Cert.MixRefIdeal.Value.res_main_v41 m' c, ?_, ?_⟩
  · refine (θ_run _ _ _).mono (fun r h c => ?_) (Cert.MixIdeal.Value.run_blocks m g)
    obtain ⟨h0, h1, h2, h3, h4, h5, h6⟩ := hagree c
    obtain ⟨hv, ha⟩ := h c
    exact ⟨hv.trans (final_eq m m' c h0 h1 h2 h3 h4 h5 h6), ha⟩
  · exact Cert.MixRefIdeal.Value.run m' g'

end Cert.MixValue

end
-- ==== Proof.FfnCopies.lean ====
/-
  One weight copy of the feed-forward kernel: a block of a weight array left in HBM is started into one slot of a ring
  held in VMEM on a semaphore cell of its own, and waited for. The copy is followed through three states of its slot,
  each holding the cell, the slot's elements and one share of the weight array: idle, in flight, and landed. The two
  rules take a slot from idle to in flight (the start) and from in flight to landed (the wait).
-/
module

public import proofs.«01_k».proof.Proof.Gen.FfnIdeal.Frame
public import proofs.«01_k».proof.Proof.Gen.FfnIdeal.Loops
public import Idealize.ShloMosaic.Lib.Pipeline.FrameBody
public import Idealize.ShloMosaic.Lib.Ring
public import Idealize.ShloMosaic.Lib.Ring.AtN
public import Idealize.ShloMosaic.Lib.Ring.Tabled
public import Idealize.ShloMosaic.Lib.Tactic

@[expose] public section

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (Pipeline.UD sig nD τ) ℕ

/-- The counters the copies are tracked by. -/
abbrev EC : UEmb Counters (MT nD τ sig Unit (Elt F) ℕ (Pipeline.UD sig nD τ) ℕ) := countersEmb (U := Pipeline.UD sig nD τ)

section Copy

variable (c : Dev nD) {s : Shape} {e : EltTy}
variable (sm : DmaSem sig) (D : Memref sig .tc .vmem s e) (S : Memref sig .tc .hbm s e)
variable (q : PosShare TreeShare) (fs : Buf (Elt F) (S.view.loc (c : Thread nD τ)))

/-- A slot holding the block that `S` names of the contents `fs`. -/
def Holds : sProp 𝕄 :=
  iprop(∃ g : Buf (Elt F) (D.view.loc (c : Thread nD τ)), ⌜D.view.read (Elt F) g = S.view.read (Elt F) fs⌝
    ∗ (D.view.loc (c : Thread nD τ) ↦[D.view.set]{fullShare} g))

/-- A slot at contents nothing is said of. -/
def Any : sProp 𝕄 :=
  iprop(∃ g : Buf (Elt F) (D.view.loc (c : Thread nD τ)), (D.view.loc (c : Thread nD τ) ↦[D.view.set]{fullShare} g))

/-- The slot while its copy is in flight: the copy, and the share of the weight array less the block lent to it. -/
def Fly : sProp 𝕄 :=
  iprop(Transfers.Flight EC (c : Thread nD τ) (.dma sm) () (D.view.amount (.dma sm))
      iprop(Holds c D S fs ∗ (S.view.loc (c : Thread nD τ) ↦[S.view.set]{q} fs))
    ∗ (S.view.loc (c : Thread nD τ) ↦[Finset.univ \ S.view.set]{q} fs))

/-- The slot with no copy under way: its cell at zero and its share of the weight array whole. -/
def Idle (ℓ : Loc nD τ sig) (f : Buf (Elt F) ℓ) (H : sProp 𝕄) : sProp 𝕄 :=
  iprop(semVal ((c : Thread nD τ), .dma sm) 0 ∗ H ∗ (ℓ ↦{q} f))

theorem Holds_any : Holds c D S fs ⊢ Any (F := F) c D := by
  unfold Holds Any
  iintro ⟨%g, %h, H⟩
  iexists g; iexact H

variable {c sm D S q fs}

/-- Starting the copy. -/
theorem start {α : Type} {hsrc : S.view.WordExact} {hdst : D.view.WordExact} {hsem : DmaTarget.Typed (nD := nD) (τ := τ) (p := .tc) .hbm (SemLoc.dma sm) (.here D)}
    {k : PUnit → Prog (TpuEff nD τ sig (Elt F) Λ₀ .tc) α} {Q : α → sProp 𝕄} (h0 : 0 < D.view.amount (.dma sm)) :
    Idle c sm q (S.view.loc (c : Thread nD τ)) fs (Any c D)
      ⊢ iprop((Fly c sm D S q fs -∗ wp frame (wpE (defs₀ (F := F)) Variants.none (c : Thread nD τ) none) Set.univ (k ⟨⟩) Q)
        -∗ wp frame (wpE (defs₀ (F := F)) Variants.none (c : Thread nD τ) none) Set.univ (.op (.enqueueDma S (.here D) (.dma sm) hsrc hdst hsem) k) Q) := by
  unfold Idle Any Fly
  iintro ⟨Hv, ⟨%g, Hd⟩, Hs⟩ Hk
  ihave Hs' := (pointsTo_split_subset (Finset.subset_univ S.view.set)).1 $$ Hs
  icases Hs' with ⟨Hs, Hr⟩
  iapply (Transfers.wp_dmaLocal EC Variants.none (c : Thread nD τ) none () (D.view.amount (.dma sm)) rfl h0 subset_rfl) $$ [Hs Hd Hv]
  · isplitl [Hs]; · iexact Hs
    isplitl [Hd]; · iexact Hd
    iexact Hv
  iintro Hf
  iapply Hk
  isplitl [Hf]
  · iapply (Transfers.Flight_mono EC (c : Thread nD τ) ?_) $$ Hf
    unfold Holds
    iintro ⟨Hd, Hs⟩
    isplitl [Hd]
    · iexists _
      isplitr; swap; · iexact Hd
      ipureintro
      exact View.read_write_univ _ _
    iexact Hs
  iexact Hr

/-- Waiting for the copy. -/
theorem wait {α : Type} {hsrc : S.view.WordExact} {hdst : D.view.WordExact}
    {k : PUnit → Prog (TpuEff nD τ sig (Elt F) Λ₀ .tc) α} {Q : α → sProp 𝕄} {W : Waits sig Unit} :
    iprop(Fly c sm D S q fs ∗ owes (c : Thread nD τ) 0 W)
      ⊢ iprop((iprop(Idle c sm q (S.view.loc (c : Thread nD τ)) fs (Holds c D S fs) ∗ (∃ W', owes (c : Thread nD τ) 0 W'))
            -∗ wp frame (wpE (defs₀ (F := F)) Variants.none (c : Thread nD τ) none) Set.univ (k ⟨⟩) Q)
        -∗ wp frame (wpE (defs₀ (F := F)) Variants.none (c : Thread nD τ) none) Set.univ (.op (.waitDma2 sm S D hsrc hdst) k) Q) := by
  unfold Idle Fly
  iintro ⟨⟨Hf, Hr⟩, HW⟩ Hk
  iapply (Transfers.wp_waitLocal EC Variants.none (c : Thread nD τ) none () rfl) $$ [Hf HW]
  · isplitl [Hf]; · iexact Hf
    iexact HW
  iintro ⟨⟨Hd, Hs⟩, Hv, HW⟩
  iapply Hk
  isplitl [Hd Hs Hr Hv]
  · isplitl [Hv]; · iexact Hv
    isplitl [Hd]; · iexact Hd
    iapply (pointsTo_split_subset (Finset.subset_univ S.view.set)).2
    isplitl [Hs]; · iexact Hs
    iexact Hr
  iexists _; iexact HW

end Copy

end Cert.FfnRun

end
-- ==== Proof.FfnOffsets.lean ====
/-
  Where step `f` of row tile `p` of the feed-forward kernel reads and copies: with `n = 11 p + f` counting the steps of
  the whole launch, the step's slot is `n mod 4` and its block of each weight is `n mod 11`; the copy it starts is the
  one of step `n + 3`, there is one while `n + 3 < 176`. Each offset the kernel computes is put in this form.
-/
module

public import proofs.«01_k».proof.Proof.Gen.FfnIdeal.Frame
public import proofs.«01_k».proof.Proof.Gen.FfnIdeal.Loops

@[expose] public section

noncomputable section

namespace Cert.FfnRun

open Cert.FfnIdeal Cert.FfnIdeal.Gen
open Idealize.ShloMosaic Idealize.ShloMosaic.TcCoe

/-- Step `n`'s slot. -/
def sl (n : ℕ) : Fin 4 := ⟨n % 4, Nat.mod_lt _ (by decide)⟩
/-- Step `n`'s block of the weights. -/
def bk (n : ℕ) : Fin 11 := ⟨n % 11, Nat.mod_lt _ (by decide)⟩

theorem sl_four (n : ℕ) : sl (n + 4) = sl n := Fin.ext (by simp [sl])

theorem off1_first : ∀ p : Fin grid0.N, k0_off1 (grid0.coords p) 0#32 = ![0, (sl (11 * p.val)).val] := by decide +kernel
theorem off1_last : ∀ p : Fin grid0.N, k0_off1 (grid0.coords p) 10#32 = ![0, (sl (11 * p.val + 10)).val] := by decide +kernel
theorem off2_first : ∀ p : Fin grid0.N, k0_off2 (grid0.coords p) 0#32 = ![(sl (11 * p.val)).val, 0, 0] := by decide +kernel
theorem off2_last : ∀ p : Fin grid0.N, k0_off2 (grid0.coords p) 10#32 = ![(sl (11 * p.val + 10)).val, 0, 0] := by decide +kernel
theorem off3_first : ∀ p : Fin grid0.N, k0_off3 (grid0.coords p) 0#32 = ![(bk (11 * p.val)).val, 0, 0] := by decide +kernel
theorem off3_last : ∀ p : Fin grid0.N, k0_off3 (grid0.coords p) 10#32 = ![(bk (11 * p.val + 10)).val, 0, 0] := by decide +kernel
theorem off4_first : ∀ p : Fin grid0.N, k0_off4 (grid0.coords p) 0#32 = ![1, (sl (11 * p.val)).val] := by decide +kernel
theorem off4_last : ∀ p : Fin grid0.N, k0_off4 (grid0.coords p) 10#32 = ![1, (sl (11 * p.val + 10)).val] := by decide +kernel
theorem off5_first : ∀ p : Fin grid0.N, k0_off5 (grid0.coords p) 0#32 = ![2, (sl (11 * p.val)).val] := by decide +kernel
theorem off5_last : ∀ p : Fin grid0.N, k0_off5 (grid0.coords p) 10#32 = ![2, (sl (11 * p.val + 10)).val] := by decide +kernel
theorem off6_first : ∀ p : Fin grid0.N, k0_off6 (grid0.coords p) 0#32 = ![(sl (11 * p.val)).val, 0, 0] := by decide +kernel
theorem off6_last : ∀ p : Fin grid0.N, k0_off6 (grid0.coords p) 10#32 = ![(sl (11 * p.val + 10)).val, 0, 0] := by decide +kernel
theorem off7_first : ∀ p : Fin grid0.N, k0_off7 (grid0.coords p) 0#32 = ![512 * (bk (11 * p.val)).val, 0] := by decide +kernel
theorem off7_last : ∀ p : Fin grid0.N, k0_off7 (grid0.coords p) 10#32 = ![512 * (bk (11 * p.val + 10)).val, 0] := by decide +kernel
theorem off15_first : ∀ p : Fin grid0.N, k0_off15 (grid0.coords p) 0#32 = ![(sl (11 * p.val)).val, 0, 0] := by decide +kernel
theorem off15_last : ∀ p : Fin grid0.N, k0_off15 (grid0.coords p) 10#32 = ![(sl (11 * p.val + 10)).val, 0, 0] := by decide +kernel
theorem off16_first : ∀ p : Fin grid0.N, k0_off16 (grid0.coords p) 0#32 = ![(sl (11 * p.val)).val, 0, 0] := by decide +kernel
theorem off16_last : ∀ p : Fin grid0.N, k0_off16 (grid0.coords p) 10#32 = ![(sl (11 * p.val + 10)).val, 0, 0] := by decide +kernel
theorem off8_eq : ∀ p : Fin grid0.N, k0_off8 (grid0.coords p) = ![0, (sl (11 * p.val + 3)).val] := by decide +kernel
theorem off9_eq : ∀ p : Fin grid0.N, k0_off9 (grid0.coords p) = ![(sl (11 * p.val + 3)).val, 0, 0] := by decide +kernel
theorem off10_eq : ∀ p : Fin grid0.N, k0_off10 (grid0.coords p) = ![(bk (11 * p.val + 3)).val, 0, 0] := by decide +kernel
theorem off11_eq : ∀ p : Fin grid0.N, k0_off11 (grid0.coords p) = ![1, (sl (11 * p.val + 3)).val] := by decide +kernel
theorem off12_eq : ∀ p : Fin grid0.N, k0_off12 (grid0.coords p) = ![2, (sl (11 * p.val + 3)).val] := by decide +kernel
theorem off13_eq : ∀ p : Fin grid0.N, k0_off13 (grid0.coords p) = ![(sl (11 * p.val + 3)).val, 0, 0] := by decide +kernel
theorem off14_eq : ∀ p : Fin grid0.N, k0_off14 (grid0.coords p) = ![512 * (bk (11 * p.val + 3)).val, 0] := by decide +kernel
theorem off33_eq : ∀ p : Fin grid0.N, k0_off33 (grid0.coords p) = ![0, (sl (11 * p.val + 10 + 3)).val] := by decide +kernel
theorem off34_eq : ∀ p : Fin grid0.N, k0_off34 (grid0.coords p) = ![(sl (11 * p.val + 10 + 3)).val, 0, 0] := by decide +kernel
theorem off35_eq : ∀ p : Fin grid0.N, k0_off35 (grid0.coords p) = ![(bk (11 * p.val + 10 + 3)).val, 0, 0] := by decide +kernel
theorem off36_eq : ∀ p : Fin grid0.N, k0_off36 (grid0.coords p) = ![1, (sl (11 * p.val + 10 + 3)).val] := by decide +kernel
theorem off37_eq : ∀ p : Fin grid0.N, k0_off37 (grid0.coords p) = ![2, (sl (11 * p.val + 10 + 3)).val] := by decide +kernel
theorem off38_eq : ∀ p : Fin grid0.N, k0_off38 (grid0.coords p) = ![(sl (11 * p.val + 10 + 3)).val, 0, 0] := by decide +kernel
theorem off39_eq : ∀ p : Fin grid0.N, k0_off39 (grid0.coords p) = ![512 * (bk (11 * p.val + 10 + 3)).val, 0] := by decide +kernel
theorem off17_eq : ∀ (p : Fin grid0.N) (t : Fin k0_t1_loop.trips), k0_off17 (grid0.coords p) t = ![0, (sl (11 * p.val + (t.val + 1))).val] := by decide +kernel
theorem off18_eq : ∀ (p : Fin grid0.N) (t : Fin k0_t1_loop.trips), k0_off18 (grid0.coords p) t = ![(sl (11 * p.val + (t.val + 1))).val, 0, 0] := by decide +kernel
theorem off19_eq : ∀ (p : Fin grid0.N) (t : Fin k0_t1_loop.trips), k0_off19 (grid0.coords p) t = ![(bk (11 * p.val + (t.val + 1))).val, 0, 0] := by decide +kernel
theorem off20_eq : ∀ (p : Fin grid0.N) (t : Fin k0_t1_loop.trips), k0_off20 (grid0.coords p) t = ![1, (sl (11 * p.val + (t.val + 1))).val] := by decide +kernel
theorem off21_eq : ∀ (p : Fin grid0.N) (t : Fin k0_t1_loop.trips), k0_off21 (grid0.coords p) t = ![2, (sl (11 * p.val + (t.val + 1))).val] := by decide +kernel
theorem off22_eq : ∀ (p : Fin grid0.N) (t : Fin k0_t1_loop.trips), k0_off22 (grid0.coords p) t = ![(sl (11 * p.val + (t.val + 1))).val, 0, 0] := by decide +kernel
theorem off23_eq : ∀ (p : Fin grid0.N) (t : Fin k0_t1_loop.trips), k0_off23 (grid0.coords p) t = ![512 * (bk (11 * p.val + (t.val + 1))).val, 0] := by decide +kernel
theorem off31_eq : ∀ (p : Fin grid0.N) (t : Fin k0_t1_loop.trips), k0_off31 (grid0.coords p) t = ![(sl (11 * p.val + (t.val + 1))).val, 0, 0] := by decide +kernel
theorem off32_eq : ∀ (p : Fin grid0.N) (t : Fin k0_t1_loop.trips), k0_off32 (grid0.coords p) t = ![(sl (11 * p.val + (t.val + 1))).val, 0, 0] := by decide +kernel
theorem off24_eq : ∀ (p : Fin grid0.N) (t : Fin k0_t1_loop.trips), k0_off24 (grid0.coords p) t = ![0, (sl (11 * p.val + (t.val + 1) + 3)).val] := by decide +kernel
theorem off25_eq : ∀ (p : Fin grid0.N) (t : Fin k0_t1_loop.trips), k0_off25 (grid0.coords p) t = ![(sl (11 * p.val + (t.val + 1) + 3)).val, 0, 0] := by decide +kernel
theorem off26_eq : ∀ (p : Fin grid0.N) (t : Fin k0_t1_loop.trips), k0_off26 (grid0.coords p) t = ![(bk (11 * p.val + (t.val + 1) + 3)).val, 0, 0] := by decide +kernel
theorem off27_eq : ∀ (p : Fin grid0.N) (t : Fin k0_t1_loop.trips), k0_off27 (grid0.coords p) t = ![1, (sl (11 * p.val + (t.val + 1) + 3)).val] := by decide +kernel
theorem off28_eq : ∀ (p : Fin grid0.N) (t : Fin k0_t1_loop.trips), k0_off28 (grid0.coords p) t = ![2, (sl (11 * p.val + (t.val + 1) + 3)).val] := by decide +kernel
theorem off29_eq : ∀ (p : Fin grid0.N) (t : Fin k0_t1_loop.trips), k0_off29 (grid0.coords p) t = ![(sl (11 * p.val + (t.val + 1) + 3)).val, 0, 0] := by decide +kernel
theorem off30_eq : ∀ (p : Fin grid0.N) (t : Fin k0_t1_loop.trips), k0_off30 (grid0.coords p) t = ![512 * (bk (11 * p.val + (t.val + 1) + 3)).val, 0] := by decide +kernel

theorem cond1_iff : ∀ p : Fin grid0.N, k0_cond1 (grid0.coords p) = 1#1 ↔ p.val = 0 := by decide +kernel
theorem cond2_iff : ∀ p : Fin grid0.N, k0_cond2 (grid0.coords p) = 1#1 ↔ 11 * p.val + 3 < 176 := by decide +kernel
theorem cond3_iff : ∀ (p : Fin grid0.N) (t : Fin k0_t1_loop.trips),
    k0_cond3 (grid0.coords p) t = 1#1 ↔ 11 * p.val + (t.val + 1) + 3 < 176 := by decide +kernel
theorem cond4_iff : ∀ p : Fin grid0.N, k0_cond4 (grid0.coords p) = 1#1 ↔ 11 * p.val + 10 + 3 < 176 := by decide +kernel

end Cert.FfnRun

end
-- ==== Proof.FfnRing.lean ====
/-
  The twelve slots of the feed-forward kernel's weight rings: four for each of the two input weights (blocks of
  [2048, 512]) and four for the output weight (blocks of [512, 2048]). A slot is idle or has the copy of one block in
  flight; the rules of a copy are restated at the offsets the kernel computes, and a load from a landed slot reads the
  weight's block.
-/
module

public import proofs.«01_k».proof.Proof.FfnCopies
public import proofs.«01_k».proof.Proof.FfnOffsets

@[expose] public section

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (Pipeline.UD sig nD τ) ℕ

theorem slotA_inb (s : Fin 4) : ∀ a, (![s.val, 0, 0] : Fin 3 → ℕ) a + S1x2048x512.size a ≤ S4x2048x512.size a := by
  revert s; decide
theorem blkA_inb (b : Fin 11) : ∀ a, (![b.val, 0, 0] : Fin 3 → ℕ) a + S1x2048x512.size a ≤ S11x2048x512.size a := by
  revert b; decide
theorem slotB_inb (s : Fin 4) : ∀ a, (![s.val, 0, 0] : Fin 3 → ℕ) a + S1x512x2048.size a ≤ S4x512x2048.size a := by
  revert s; decide
theorem blkB_inb (b : Fin 11) : ∀ a, (![512 * b.val, 0] : Fin 2 → ℕ) a + S512x2048.size a ≤ S5632x2048.size a := by
  revert b; decide
theorem cell_inb (a : Fin 3) (s : Fin 4) : ∀ d, (![a.val, s.val] : Fin 2 → ℕ) d + S1x1.size d ≤ S3x4.size d := by
  revert a s; decide

theorem pos_A : 0 < S2048x512.numel := by decide +kernel
theorem pos_B : 0 < S512x2048.numel := by decide +kernel

/-- The semaphore cell of weight `a`'s slot `s`. -/
abbrev cell (a : Fin 3) (s : Fin 4) : DmaSem sig :=
  ((cc0_scratch3.slice (Rect.unit (s := S3x4) ![a.val, s.val] S1x1.size (cell_inb a s))).squeeze S_ squeezes_S1x1_S_).sem
/-- Slot `s` of an input weight's ring. -/
abbrev slotA (R : Memref sig .tc .vmem S4x2048x512 .bf16) (s : Fin 4) : Memref sig .tc .vmem S2048x512 .bf16 :=
  (R.slice (Rect.unit (s := S4x2048x512) ![s.val, 0, 0] S1x2048x512.size (slotA_inb s)) (fun _ => rfl)).squeeze S2048x512
    squeezes_S1x2048x512_S2048x512
/-- Block `b` of an input weight. -/
abbrev blkA (W : Memref sig .tc .hbm S11x2048x512 .bf16) (b : Fin 11) : Memref sig .tc .hbm S2048x512 .bf16 :=
  (W.slice (Rect.unit (s := S11x2048x512) ![b.val, 0, 0] S1x2048x512.size (blkA_inb b)) (fun _ => rfl)).squeeze S2048x512
    squeezes_S1x2048x512_S2048x512
/-- Slot `s` of the output weight's ring. -/
abbrev slotB (R : Memref sig .tc .vmem S4x512x2048 .bf16) (s : Fin 4) : Memref sig .tc .vmem S512x2048 .bf16 :=
  (R.slice (Rect.unit (s := S4x512x2048) ![s.val, 0, 0] S1x512x2048.size (slotB_inb s)) (fun _ => rfl)).squeeze S512x2048
    squeezes_S1x512x2048_S512x2048
/-- Block `b` of the output weight. -/
abbrev blkB (W : Memref sig .tc .hbm S5632x2048 .bf16) (b : Fin 11) : Memref sig .tc .hbm S512x2048 .bf16 :=
  W.slice (Rect.unit (s := S5632x2048) ![512 * b.val, 0] S512x2048.size (blkB_inb b)) (fun _ => rfl)

/-- Slot `s`'s part of a weight array's elements. -/
abbrev part (s : Fin 4) : PosShare TreeShare := Ring.sharesN 4 fullShare s

section A

variable (c : Dev nD) (a : Fin 3) (R : Memref sig .tc .vmem S4x2048x512 .bf16) (W : Memref sig .tc .hbm S11x2048x512 .bf16)
variable (fs : Buf (Elt F) (W.view.loc (c : Thread nD τ))) (s : Fin 4)

/-- A slot of an input weight's ring, idle or with a block's copy in flight. -/
def laneA : Option (Fin 11) → sProp 𝕄
  | some b => Fly c (cell a s) (slotA R s) (blkA W b) (part s) fs
  | none => Idle c (cell a s) (part s) (W.view.loc (c : Thread nD τ)) fs (Any c (slotA R s))

/-- The slot once block `b` has landed. -/
def doneA (b : Fin 11) : sProp 𝕄 :=
  Idle c (cell a s) (part s) (W.view.loc (c : Thread nD τ)) fs (Holds c (slotA R s) (blkA W b) fs)

theorem doneA_idle (b : Fin 11) : doneA c a R W fs s b ⊢ laneA c a R W fs s none := by
  unfold doneA laneA Idle
  iintro ⟨Hv, H, Hs⟩
  isplitl [Hv]; · iexact Hv
  isplitl [H]; · iapply (Holds_any c (slotA R s) (blkA W b) fs); iexact H
  iexact Hs

variable {c a R W fs s}

theorem startA {α : Type} {b : Fin 11} {oS : Fin 2 → ℕ} {oD oW : Fin 3 → ℕ} (hS : oS = ![a.val, s.val])
    (hD : oD = ![s.val, 0, 0]) (hW : oW = ![b.val, 0, 0]) {iS iD iW}
    {hsrc hdst hsem} {k : PUnit → Prog (TpuEff nD τ sig (Elt F) Λ₀ .tc) α} {Q : α → sProp 𝕄} :
    laneA c a R W fs s none
      ⊢ iprop((laneA c a R W fs s (some b) -∗ wp frame (wpE (defs₀ (F := F)) Variants.none (c : Thread nD τ) none) Set.univ (k ⟨⟩) Q)
        -∗ wp frame (wpE (defs₀ (F := F)) Variants.none (c : Thread nD τ) none) Set.univ
          (.op (.enqueueDma ((W.slice (Rect.unit (s := S11x2048x512) oW S1x2048x512.size iW) (fun _ => rfl)).squeeze S2048x512 squeezes_S1x2048x512_S2048x512)
            (.here ((R.slice (Rect.unit (s := S4x2048x512) oD S1x2048x512.size iD) (fun _ => rfl)).squeeze S2048x512 squeezes_S1x2048x512_S2048x512))
            (.dma ((cc0_scratch3.slice (Rect.unit (s := S3x4) oS S1x1.size iS)).squeeze S_ squeezes_S1x1_S_).sem) hsrc hdst hsem) k) Q) := by
  subst hS hD hW
  unfold laneA
  exact start (c := c) (sm := cell a s) (D := slotA R s) (S := blkA W b) (q := part s) (fs := fs) (View.amount_pos _ _ pos_A)

theorem waitA {α : Type} {b : Fin 11} {oS : Fin 2 → ℕ} {oD oW : Fin 3 → ℕ} (hS : oS = ![a.val, s.val])
    (hD : oD = ![s.val, 0, 0]) (hW : oW = ![b.val, 0, 0]) {iS iD iW}
    {hsrc hdst} {k : PUnit → Prog (TpuEff nD τ sig (Elt F) Λ₀ .tc) α} {Q : α → sProp 𝕄} :
    iprop(laneA c a R W fs s (some b) ∗ (∃ V, owes (c : Thread nD τ) 0 V))
      ⊢ iprop((iprop(doneA c a R W fs s b ∗ (∃ V, owes (c : Thread nD τ) 0 V))
            -∗ wp frame (wpE (defs₀ (F := F)) Variants.none (c : Thread nD τ) none) Set.univ (k ⟨⟩) Q)
        -∗ wp frame (wpE (defs₀ (F := F)) Variants.none (c : Thread nD τ) none) Set.univ
          (.op (.waitDma2 ((cc0_scratch3.slice (Rect.unit (s := S3x4) oS S1x1.size iS)).squeeze S_ squeezes_S1x1_S_).sem
            ((W.slice (Rect.unit (s := S11x2048x512) oW S1x2048x512.size iW) (fun _ => rfl)).squeeze S2048x512 squeezes_S1x2048x512_S2048x512)
            ((R.slice (Rect.unit (s := S4x2048x512) oD S1x2048x512.size iD) (fun _ => rfl)).squeeze S2048x512 squeezes_S1x2048x512_S2048x512)
            hsrc hdst) k) Q) := by
  subst hS hD hW
  unfold laneA doneA
  iintro ⟨Hl, ⟨%V, HV⟩⟩
  iapply (wait (c := c) (sm := cell a s) (D := slotA R s) (S := blkA W b) (q := part s) (fs := fs))
  isplitl [Hl]; · iexact Hl
  iexact HV

theorem loadA {α : Type} {b : Fin 11} {oD : Fin 3 → ℕ} (hD : oD = ![s.val, 0, 0]) {iD hl}
    {k : Vec F S1x2048x512 .bf16 → Prog (TpuEff nD τ sig (Elt F) Λ₀ .tc) α} {Q : α → sProp 𝕄} :
    doneA c a R W fs s b
      ⊢ iprop((∀ v : Vec F S1x2048x512 .bf16, iprop(⌜shapeCast S2048x512 v shapeCasts_S1x2048x512_S2048x512 = (blkA W b).view.read (Elt F) fs⌝ ∗ doneA c a R W fs s b)
            -∗ wp frame (wpE (defs₀ (F := F)) Variants.none (c : Thread nD τ) none) Set.univ (k v) Q)
        -∗ wp frame (wpE (defs₀ (F := F)) Variants.none (c : Thread nD τ) none) Set.univ
          (.op (.load R (Rect.unit (s := S4x2048x512) oD S1x2048x512.size iD).toLoadRect hl) k) Q) := by
  subst hD
  unfold doneA Idle Holds
  iintro ⟨Hv, ⟨%g, %hg, Hd⟩, Hs⟩ Hk
  iapply (wp_load Variants.none (c : Thread nD τ) none Set.univ (m := R) (S := (slotA R s).view.set) ?_) $$ [Hd]
  rotate_left
  · iexact Hd
  · iintro Hd
    iapply Hk
    isplitr
    · ipureintro; exact hg
    isplitl [Hv]; · iexact Hv
    isplitl [Hd]
    · iexists g
      isplitr; · ipureintro; exact hg
      iexact Hd
    iexact Hs
  · rw [Memref.set_view_squeeze]; exact (View.set_slice _ _).ge

end A

section B

variable (c : Dev nD) (R : Memref sig .tc .vmem S4x512x2048 .bf16) (W : Memref sig .tc .hbm S5632x2048 .bf16)
variable (fs : Buf (Elt F) (W.view.loc (c : Thread nD τ))) (s : Fin 4)

/-- A slot of the output weight's ring, idle or with a block's copy in flight. -/
def laneB : Option (Fin 11) → sProp 𝕄
  | some b => Fly c (cell 2 s) (slotB R s) (blkB W b) (part s) fs
  | none => Idle c (cell 2 s) (part s) (W.view.loc (c : Thread nD τ)) fs (Any c (slotB R s))

/-- The slot once block `b` has landed. -/
def doneB (b : Fin 11) : sProp 𝕄 :=
  Idle c (cell 2 s) (part s) (W.view.loc (c : Thread nD τ)) fs (Holds c (slotB R s) (blkB W b) fs)

theorem doneB_idle (b : Fin 11) : doneB c R W fs s b ⊢ laneB c R W fs s none := by
  unfold doneB laneB Idle
  iintro ⟨Hv, H, Hs⟩
  isplitl [Hv]; · iexact Hv
  isplitl [H]; · iapply (Holds_any c (slotB R s) (blkB W b) fs); iexact H
  iexact Hs

variable {c R W fs s}

theorem startB {α : Type} {b : Fin 11} {oS oW : Fin 2 → ℕ} {oD : Fin 3 → ℕ} (hS : oS = ![2, s.val])
    (hD : oD = ![s.val, 0, 0]) (hW : oW = ![512 * b.val, 0]) {iS iD iW}
    {hsrc hdst hsem} {k : PUnit → Prog (TpuEff nD τ sig (Elt F) Λ₀ .tc) α} {Q : α → sProp 𝕄} :
    laneB c R W fs s none
      ⊢ iprop((laneB c R W fs s (some b) -∗ wp frame (wpE (defs₀ (F := F)) Variants.none (c : Thread nD τ) none) Set.univ (k ⟨⟩) Q)
        -∗ wp frame (wpE (defs₀ (F := F)) Variants.none (c : Thread nD τ) none) Set.univ
          (.op (.enqueueDma (W.slice (Rect.unit (s := S5632x2048) oW S512x2048.size iW) (fun _ => rfl))
            (.here ((R.slice (Rect.unit (s := S4x512x2048) oD S1x512x2048.size iD) (fun _ => rfl)).squeeze S512x2048 squeezes_S1x512x2048_S512x2048))
            (.dma ((cc0_scratch3.slice (Rect.unit (s := S3x4) oS S1x1.size iS)).squeeze S_ squeezes_S1x1_S_).sem) hsrc hdst hsem) k) Q) := by
  subst hS hD hW
  unfold laneB
  exact start (c := c) (sm := cell 2 s) (D := slotB R s) (S := blkB W b) (q := part s) (fs := fs) (View.amount_pos _ _ pos_B)

theorem waitB {α : Type} {b : Fin 11} {oS oW : Fin 2 → ℕ} {oD : Fin 3 → ℕ} (hS : oS = ![2, s.val])
    (hD : oD = ![s.val, 0, 0]) (hW : oW = ![512 * b.val, 0]) {iS iD iW}
    {hsrc hdst} {k : PUnit → Prog (TpuEff nD τ sig (Elt F) Λ₀ .tc) α} {Q : α → sProp 𝕄} :
    iprop(laneB c R W fs s (some b) ∗ (∃ V, owes (c : Thread nD τ) 0 V))
      ⊢ iprop((iprop(doneB c R W fs s b ∗ (∃ V, owes (c : Thread nD τ) 0 V))
            -∗ wp frame (wpE (defs₀ (F := F)) Variants.none (c : Thread nD τ) none) Set.univ (k ⟨⟩) Q)
        -∗ wp frame (wpE (defs₀ (F := F)) Variants.none (c : Thread nD τ) none) Set.univ
          (.op (.waitDma2 ((cc0_scratch3.slice (Rect.unit (s := S3x4) oS S1x1.size iS)).squeeze S_ squeezes_S1x1_S_).sem
            (W.slice (Rect.unit (s := S5632x2048) oW S512x2048.size iW) (fun _ => rfl))
            ((R.slice (Rect.unit (s := S4x512x2048) oD S1x512x2048.size iD) (fun _ => rfl)).squeeze S512x2048 squeezes_S1x512x2048_S512x2048)
            hsrc hdst) k) Q) := by
  subst hS hD hW
  unfold laneB doneB
  iintro ⟨Hl, ⟨%V, HV⟩⟩
  iapply (wait (c := c) (sm := cell 2 s) (D := slotB R s) (S := blkB W b) (q := part s) (fs := fs))
  isplitl [Hl]; · iexact Hl
  iexact HV

theorem loadB {α : Type} {b : Fin 11} {oD : Fin 3 → ℕ} (hD : oD = ![s.val, 0, 0]) {iD hl}
    {k : Vec F S1x512x2048 .bf16 → Prog (TpuEff nD τ sig (Elt F) Λ₀ .tc) α} {Q : α → sProp 𝕄} :
    doneB c R W fs s b
      ⊢ iprop((∀ v : Vec F S1x512x2048 .bf16, iprop(⌜shapeCast S512x2048 v shapeCasts_S1x512x2048_S512x2048 = (blkB W b).view.read (Elt F) fs⌝ ∗ doneB c R W fs s b)
            -∗ wp frame (wpE (defs₀ (F := F)) Variants.none (c : Thread nD τ) none) Set.univ (k v) Q)
        -∗ wp frame (wpE (defs₀ (F := F)) Variants.none (c : Thread nD τ) none) Set.univ
          (.op (.load R (Rect.unit (s := S4x512x2048) oD S1x512x2048.size iD).toLoadRect hl) k) Q) := by
  subst hD
  unfold doneB Idle Holds
  iintro ⟨Hv, ⟨%g, %hg, Hd⟩, Hs⟩ Hk
  iapply (wp_load Variants.none (c : Thread nD τ) none Set.univ (m := R) (S := (slotB R s).view.set) ?_) $$ [Hd]
  rotate_left
  · iexact Hd
  · iintro Hd
    iapply Hk
    isplitr
    · ipureintro; exact hg
    isplitl [Hv]; · iexact Hv
    isplitl [Hd]
    · iexists g
      isplitr; · ipureintro; exact hg
      iexact Hd
    iexact Hs
  · rw [Memref.set_view_squeeze]; exact (View.set_slice _ _).ge

end B

end Cert.FfnRun

end
-- ==== Proof.FfnTrip.lean ====
/-
  One trip of the feed-forward kernel's step loop, over the twelve ring slots: wait for the step's three blocks, start
  the three copies of the step three ahead where there is one, and add the block's part of the product to the partial
  sum. The rings are held from step `n` as the slots of steps `n`, `n + 1`, `n + 2`, each with its copy in flight (if
  there is such a step), and the idle slot of step `n + 3`.
-/
module

public import proofs.«01_k».proof.Proof.FfnRing
public import Idealize.ShloMosaic.Lib.VecWindow
public import Idealize.ShloMosaic.Lib.Pipeline.Value

@[expose] public section

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (Pipeline.UD sig nD τ) ℕ

section Buffers

variable {c : Dev nD} {s : Shape} {e : EltTy} {M : Memref sig .tc .vmem s e} {q : PosShare TreeShare}

/-- Loading a buffer whole. -/
theorem load_whole {α : Type} {x : s.Idx → Elt F e} {off : Fin s.rank → ℕ} {inb : ∀ a, off a + s.size a ≤ s.size a} {hl}
    {k : (s.Idx → Elt F e) → Prog (TpuEff nD τ sig (Elt F) Λ₀ .tc) α} {Q : α → sProp 𝕄} :
    owns (c : Thread nD τ) M q x
      ⊢ iprop((owns (c : Thread nD τ) M q x -∗ wp frame (wpE (defs₀ (F := F)) Variants.none (c : Thread nD τ) none) Set.univ (k x) Q)
        -∗ wp frame (wpE (defs₀ (F := F)) Variants.none (c : Thread nD τ) none) Set.univ
          (.op (.load M (Rect.unit off s.size inb).toLoadRect hl) k) Q) := by
  unfold owns
  iintro ⟨%f, %hf, H⟩ Hk
  have e1 : M.view.readAt (Elt F) (Rect.unit off s.size inb).toLoadRect f = x := (View.readAt_full M.view f inb).trans hf
  iapply (wp_load Variants.none (c : Thread nD τ) none Set.univ (m := M) (S := M.view.set) (View.setOn_subset_set _ _)) $$ H
  iintro H
  rw [e1]
  iapply Hk
  iexists f
  isplitr; · ipureintro; exact hf
  iexact H

/-- Storing a buffer whole. -/
theorem store_whole {α : Type} {x : s.Idx → Elt F e} {off : Fin s.rank → ℕ} {inb : ∀ a, off a + s.size a ≤ s.size a} {w : s.Idx → Elt F e} {hx hm}
    {k : PUnit → Prog (TpuEff nD τ sig (Elt F) Λ₀ .tc) α} {Q : α → sProp 𝕄} :
    owns (c : Thread nD τ) M fullShare x
      ⊢ iprop((owns (c : Thread nD τ) M fullShare w -∗ wp frame (wpE (defs₀ (F := F)) Variants.none (c : Thread nD τ) none) Set.univ (k ⟨⟩) Q)
        -∗ wp frame (wpE (defs₀ (F := F)) Variants.none (c : Thread nD τ) none) Set.univ
          (.op (.store M (Rect.unit off s.size inb) w Finset.univ hx hm) k) Q) := by
  unfold owns
  iintro ⟨%f, %hf, H⟩ Hk
  iapply (wp_store Variants.none (c : Thread nD τ) none Set.univ (m := M) (r := Rect.unit off s.size inb) (S := M.view.set) (f := f)
    (by rw [View.setOn_univ]; exact View.set_slice_subset M.view _)) $$ H
  iintro H
  iapply Hk
  iexists _
  isplitr; swap; · iexact H
  ipureintro
  exact ((View.readAt_full M.view _ inb).symm.trans (View.read_write_univ _ _))

end Buffers

/-- The block step `n` copies, none past the launch's last step. -/
def blk (n : ℕ) : Option (Fin 11) := if n < 176 then some (bk n) else none
theorem blk_lt {n : ℕ} (h : n < 176) : blk n = some (bk n) := if_pos h
theorem blk_ge {n : ℕ} (h : ¬ n < 176) : blk n = none := if_neg h

/-- The gated activation of a tile against one block of each input weight. -/
def act (xn : FVec F S512x2048 .bf16) (A B : FVec F S2048x512 .bf16) : FVec F S512x512 .bf16 :=
  let g : FVec F S512x512 .f32 := matmul dot_S512x2048_S2048x512_S512x512_1_0_0_1_n_n none xn A (constant S512x512 .f32 0x00000000#32)
  let u : FVec F S512x512 .f32 := matmul dot_S512x2048_S2048x512_S512x512_1_0_0_1_n_n none xn B (constant S512x512 .f32 0x00000000#32)
  truncf .bf16 (mulf (mulf g (logistic g)) u) bitsLt_bf16_f32
/-- The activation against one block of the output weight. -/
def proj (h : FVec F S512x512 .bf16) (C : FVec F S512x2048 .bf16) : FVec F S512x2048 .f32 :=
  matmul dot_S512x512_S512x2048_S512x2048_1_0_0_1_n_n none h C (constant S512x2048 .f32 0x00000000#32)

section Control

/-- A branch whose condition holds. -/
theorem branch_pos {c : Dev nD} {α : Type} {Q : α → sProp 𝕄} {P : Prop} [Decidable P] (h : P) {a : P → Prog (TpuEff nD τ sig (Elt F) Λ₀ .tc) α} {b : ¬ P → Prog (TpuEff nD τ sig (Elt F) Λ₀ .tc) α} :
    wp frame (wpE (defs₀ (F := F)) Variants.none (c : Thread nD τ) none) Set.univ (a h) Q ⊢ wp frame (wpE (defs₀ (F := F)) Variants.none (c : Thread nD τ) none) Set.univ (dite P a b) Q := by
  rw [dif_pos h]
/-- A branch whose condition does not hold. -/
theorem branch_neg {c : Dev nD} {α : Type} {Q : α → sProp 𝕄} {P : Prop} [Decidable P] (h : ¬ P) {a : P → Prog (TpuEff nD τ sig (Elt F) Λ₀ .tc) α} {b : ¬ P → Prog (TpuEff nD τ sig (Elt F) Λ₀ .tc) α} :
    wp frame (wpE (defs₀ (F := F)) Variants.none (c : Thread nD τ) none) Set.univ (b h) Q ⊢ wp frame (wpE (defs₀ (F := F)) Variants.none (c : Thread nD τ) none) Set.univ (dite P a b) Q := by
  rw [dif_neg h]
/-- A part of the body followed by the rest. -/
theorem call {c : Dev nD} {α β : Type} {Q : α → sProp 𝕄} {P : sProp 𝕄} {a : Prog (TpuEff nD τ sig (Elt F) Λ₀ .tc) β} {R : β → sProp 𝕄} (h : P ⊢ wp frame (wpE (defs₀ (F := F)) Variants.none (c : Thread nD τ) none) Set.univ a R)
    {k : β → Prog (TpuEff nD τ sig (Elt F) Λ₀ .tc) α} :
    P ⊢ iprop((∀ r, R r -∗ wp frame (wpE (defs₀ (F := F)) Variants.none (c : Thread nD τ) none) Set.univ (k r) Q) -∗ wp frame (wpE (defs₀ (F := F)) Variants.none (c : Thread nD τ) none) Set.univ (a >>= k) Q) := by
  rw [wp_bind]
  iintro HP Hk
  iapply (wp_wand_r _ _ _)
  isplitl [HP]; · iapply h; iexact HP
  iexact Hk

end Control

section Trip

variable (c : Dev nD) (p : Fin grid0.N)
variable (arg1 : Memref sig .tc .vmem S512x2048 .f32) (harg1 : arg1.IsWhole)
variable (arg2 : Memref sig .tc .vmem S1x2048 .f32) (harg2 : arg2.IsWhole)
variable (arg3 : Memref sig .tc .hbm S11x2048x512 .bf16) (harg3 : arg3.IsWhole)
variable (arg4 : Memref sig .tc .hbm S11x2048x512 .bf16) (harg4 : arg4.IsWhole)
variable (arg5 : Memref sig .tc .hbm S5632x2048 .bf16) (harg5 : arg5.IsWhole)
variable (arg6 : Memref sig .tc .vmem S1x2048 .f32) (harg6 : arg6.IsWhole)
variable (arg7 : Memref sig .tc .vmem S512x2048 .f32) (harg7 : arg7.IsWhole)
variable (arg8 : Memref sig .tc .vmem S4x2048x512 .bf16) (harg8 : arg8.IsWhole)
variable (arg9 : Memref sig .tc .vmem S4x2048x512 .bf16) (harg9 : arg9.IsWhole)
variable (arg10 : Memref sig .tc .vmem S4x512x2048 .bf16) (harg10 : arg10.IsWhole)
variable (arg12 : Memref sig .tc .vmem S512x2048 .bf16) (harg12 : arg12.IsWhole)
variable (arg13 : Memref sig .tc .vmem S512x2048 .f32) (harg13 : arg13.IsWhole)

variable (w0 : Buf (Elt F) (arg3.view.loc (c : Thread nD τ))) (w1 : Buf (Elt F) (arg4.view.loc (c : Thread nD τ)))
variable (w2 : Buf (Elt F) (arg5.view.loc (c : Thread nD τ)))

/-- Block `b` of the gate's weight. -/
def wA0 (b : Fin 11) : FVec F S2048x512 .bf16 := (blkA arg3 b).view.read (Elt F) w0
/-- Block `b` of the up projection's weight. -/
def wA1 (b : Fin 11) : FVec F S2048x512 .bf16 := (blkA arg4 b).view.read (Elt F) w1
/-- Block `b` of the output weight. -/
def wB (b : Fin 11) : FVec F S512x2048 .bf16 := (blkB arg5 b).view.read (Elt F) w2

/-- The three slots numbered `s`, idle or with block `o` in flight. -/
def lanes (s : Fin 4) (o : Option (Fin 11)) : sProp 𝕄 :=
  iprop(laneA c 0 arg8 arg3 w0 s o ∗ laneA c 1 arg9 arg4 w1 s o ∗ laneB c arg10 arg5 w2 s o)
/-- The three slots numbered `s`, with block `b` landed. -/
def dones (s : Fin 4) (b : Fin 11) : sProp 𝕄 :=
  iprop(doneA c 0 arg8 arg3 w0 s b ∗ doneA c 1 arg9 arg4 w1 s b ∗ doneB c arg10 arg5 w2 s b)

/-- The first wait of a trip. -/
theorem part5_run (t : Fin k0_t1_loop.trips) (v0 : BitVec 32) :
    iprop(laneA c 0 arg8 arg3 w0 (sl (11 * p.val + (t.val + 1))) (some (bk (11 * p.val + (t.val + 1)))) ∗ (∃ V, owes (c : Thread nD τ) 0 V))
      ⊢ wp frame (wpE (defs₀ (F := F)) Variants.none (c : Thread nD τ) none) Set.univ (k0_part5 (grid0.coords p) arg1 harg1 arg2 harg2 arg3 harg3 arg4 harg4 arg5 harg5 arg6 harg6 arg7 harg7 arg8 harg8 arg9 harg9 arg10 harg10 cc0_scratch3 arg12 harg12 arg13 harg13 v0 1#32 1#32 t)
        (fun _ => iprop(doneA c 0 arg8 arg3 w0 (sl (11 * p.val + (t.val + 1))) (bk (11 * p.val + (t.val + 1))) ∗ (∃ V, owes (c : Thread nD τ) 0 V))) := by
  rw [k0_part5_eq_skeleton]; unfold k0_part5_skel
  iintro H
  iapply (waitA (off17_eq p t) (off18_eq p t) (off19_eq p t)) $$ H
  iintro H
  iapply le_wp_ret
  iexact H

/-- The first copy a trip starts. -/
theorem part4_run (t : Fin k0_t1_loop.trips) (v : BitVec 32) (h : k0_cond3 (grid0.coords p) t = 1#1) :
    laneA c 0 arg8 arg3 w0 (sl (11 * p.val + (t.val + 1) + 3)) none
      ⊢ wp frame (wpE (defs₀ (F := F)) Variants.none (c : Thread nD τ) none) Set.univ (k0_part4 (grid0.coords p) arg1 harg1 arg2 harg2 arg3 harg3 arg4 harg4 arg5 harg5 arg6 harg6 arg7 harg7 arg8 harg8 arg9 harg9 arg10 harg10 cc0_scratch3 arg12 harg12 arg13 harg13 t v h)
        (fun _ => laneA c 0 arg8 arg3 w0 (sl (11 * p.val + (t.val + 1) + 3)) (some (bk (11 * p.val + (t.val + 1) + 3)))) := by
  rw [k0_part4_eq_skeleton]; unfold k0_part4_skel
  iintro H
  iapply (startA (off24_eq p t) (off25_eq p t) (off26_eq p t)) $$ H
  iintro H
  iapply le_wp_ret
  iexact H

set_option maxHeartbeats 4000000 in
/-- The other two waits of a trip, the copies it starts, and the activation. -/
theorem part6_run (t : Fin k0_t1_loop.trips) (v : BitVec 32) (xn : FVec F S512x2048 .bf16) :
    iprop(doneA c 0 arg8 arg3 w0 (sl (11 * p.val + (t.val + 1))) (bk (11 * p.val + (t.val + 1))) ∗ laneA c 1 arg9 arg4 w1 (sl (11 * p.val + (t.val + 1))) (some (bk (11 * p.val + (t.val + 1)))) ∗ laneB c arg10 arg5 w2 (sl (11 * p.val + (t.val + 1))) (some (bk (11 * p.val + (t.val + 1))))
        ∗ lanes c arg3 arg4 arg5 arg8 arg9 arg10 w0 w1 w2 (sl ((11 * p.val + (t.val + 1)) + 3)) none ∗ owns (c : Thread nD τ) arg12 fullShare xn ∗ (∃ V, owes (c : Thread nD τ) 0 V))
      ⊢ wp frame (wpE (defs₀ (F := F)) Variants.none (c : Thread nD τ) none) Set.univ (k0_part6 (grid0.coords p) arg1 harg1 arg2 harg2 arg3 harg3 arg4 harg4 arg5 harg5 arg6 harg6 arg7 harg7 arg8 harg8 arg9 harg9 arg10 harg10 cc0_scratch3 arg12 harg12 arg13 harg13 t v)
        (fun r => iprop(⌜r = act xn (wA0 c arg3 w0 (bk (11 * p.val + (t.val + 1)))) (wA1 c arg4 w1 (bk (11 * p.val + (t.val + 1))))⌝ ∗ dones c arg3 arg4 arg5 arg8 arg9 arg10 w0 w1 w2 (sl (11 * p.val + (t.val + 1))) (bk (11 * p.val + (t.val + 1)))
          ∗ lanes c arg3 arg4 arg5 arg8 arg9 arg10 w0 w1 w2 (sl ((11 * p.val + (t.val + 1)) + 3)) (blk ((11 * p.val + (t.val + 1)) + 3)) ∗ owns (c : Thread nD τ) arg12 fullShare xn ∗ (∃ V, owes (c : Thread nD τ) 0 V))) := by
  rw [k0_part6_eq_skeleton]; unfold k0_part6_skel lanes dones
  iintro ⟨D0, L1, LB, ⟨I0, I1, IB⟩, X, HW⟩
  iapply (waitA (a := 1) (off20_eq p t) (off18_eq p t) (off19_eq p t)) $$ [L1 HW]
  · isplitl [L1]; · iexact L1
    iexact HW
  iintro ⟨D1, HW⟩
  iapply (waitB (off21_eq p t) (off22_eq p t) (off23_eq p t)) $$ [LB HW]
  · isplitl [LB]; · iexact LB
    iexact HW
  iintro ⟨DB, HW⟩
  by_cases h : k0_cond3 (grid0.coords p) t = 1#1
  · rw [blk_lt ((cond3_iff p t).mp h)]
    iapply (branch_pos h)
    iapply (call (part4_run c p arg1 harg1 arg2 harg2 arg3 harg3 arg4 harg4 arg5 harg5 arg6 harg6 arg7 harg7 arg8 harg8 arg9 harg9 arg10 harg10 arg12 harg12 arg13 harg13 w0 t v h)) $$ I0
    iintro %_ I0
    iapply (startA (a := 1) (off27_eq p t) (off25_eq p t) (off26_eq p t)) $$ I1
    iintro I1
    iapply (startB (off28_eq p t) (off29_eq p t) (off30_eq p t)) $$ IB
    iintro IB
    iapply load_whole $$ X
    iintro X
    iapply (loadA (off31_eq p t)) $$ D0
    iintro %va ⟨%ha, D0⟩
    iapply (loadA (off31_eq p t)) $$ D1
    iintro %vb ⟨%hb, D1⟩
    iapply le_wp_ret
    isplitr
    · ipureintro
      exact (congrArg₂ (act xn) ha hb : _)
    isplitl [D0 D1 DB]
    · isplitl [D0]; · iexact D0
      isplitl [D1]; · iexact D1
      iexact DB
    isplitl [I0 I1 IB]
    · isplitl [I0]; · iexact I0
      isplitl [I1]; · iexact I1
      iexact IB
    isplitl [X]; · iexact X
    iexact HW
  · rw [blk_ge (fun h' => h ((cond3_iff p t).mpr h'))]
    iapply (branch_neg h)
    iapply load_whole $$ X
    iintro X
    iapply (loadA (off31_eq p t)) $$ D0
    iintro %va ⟨%ha, D0⟩
    iapply (loadA (off31_eq p t)) $$ D1
    iintro %vb ⟨%hb, D1⟩
    iapply le_wp_ret
    isplitr
    · ipureintro
      exact (congrArg₂ (act xn) ha hb : _)
    isplitl [D0 D1 DB]
    · isplitl [D0]; · iexact D0
      isplitl [D1]; · iexact D1
      iexact DB
    isplitl [I0 I1 IB]
    · isplitl [I0]; · iexact I0
      isplitl [I1]; · iexact I1
      iexact IB
    isplitl [X]; · iexact X
    iexact HW

/-- What step `n` adds to the projection: the activation at its block, against the output weight's block. -/
def contrib (xn : FVec F S512x2048 .bf16) (n : ℕ) : FVec F S512x2048 .f32 :=
  proj (act xn (wA0 c arg3 w0 (bk n)) (wA1 c arg4 w1 (bk n))) (wB c arg5 w2 (bk n))
/-- The partial sum after `k` steps past step `n`. -/
def partials (xn : FVec F S512x2048 .bf16) (n : ℕ) : ℕ → FVec F S512x2048 .f32
  | 0 => contrib c arg3 arg4 arg5 w0 w1 w2 xn n
  | k + 1 => addf (partials xn n k) (contrib c arg3 arg4 arg5 w0 w1 w2 xn (n + (k + 1)))

set_option maxHeartbeats 4000000 in
/-- One trip: its copies are waited for, the next ones started, and its block's contribution is added. -/
theorem trip_run (t : Fin k0_t1_loop.trips) (v0 v58 : BitVec 32) (v59 : FVec F S512x2048 .f32) (v61 : FVec F S1x2048 .f32) (v66 : FVec F S512x1 .f32)
    (xn : FVec F S512x2048 .bf16) (a : FVec F S512x2048 .f32) (u : Unit) :
    iprop(lanes c arg3 arg4 arg5 arg8 arg9 arg10 w0 w1 w2 (sl (11 * p.val + (t.val + 1))) (some (bk (11 * p.val + (t.val + 1)))) ∗ lanes c arg3 arg4 arg5 arg8 arg9 arg10 w0 w1 w2 (sl ((11 * p.val + (t.val + 1)) + 3)) none ∗ owns (c : Thread nD τ) arg12 fullShare xn ∗ owns (c : Thread nD τ) arg13 fullShare a ∗ (∃ V, owes (c : Thread nD τ) 0 V))
      ⊢ wp frame (wpE (defs₀ (F := F)) Variants.none (c : Thread nD τ) none) Set.univ (k0_t1_body (grid0.coords p) arg1 harg1 arg2 harg2 arg3 harg3 arg4 harg4 arg5 harg5 arg6 harg6 arg7 harg7 arg8 harg8 arg9 harg9 arg10 harg10 cc0_scratch3 arg12 harg12 arg13 harg13 v0 v58 v59 v61 v66 t u)
        (fun _ => iprop(lanes c arg3 arg4 arg5 arg8 arg9 arg10 w0 w1 w2 (sl (11 * p.val + (t.val + 1))) none ∗ lanes c arg3 arg4 arg5 arg8 arg9 arg10 w0 w1 w2 (sl ((11 * p.val + (t.val + 1)) + 3)) (blk ((11 * p.val + (t.val + 1)) + 3)) ∗ owns (c : Thread nD τ) arg12 fullShare xn ∗ owns (c : Thread nD τ) arg13 fullShare (addf a (contrib c arg3 arg4 arg5 w0 w1 w2 xn (11 * p.val + (t.val + 1)))) ∗ (∃ V, owes (c : Thread nD τ) 0 V))) := by
  unfold k0_t1_body
  iintro ⟨L, I, X, A, HW⟩
  unfold lanes
  icases L with ⟨L0, L1, LB⟩
  iapply (call (part5_run c p arg1 harg1 arg2 harg2 arg3 harg3 arg4 harg4 arg5 harg5 arg6 harg6 arg7 harg7 arg8 harg8 arg9 harg9 arg10 harg10 arg12 harg12 arg13 harg13 w0 t v0)) $$ [L0 HW]
  · isplitl [L0]; · iexact L0
    iexact HW
  iintro %v189 ⟨D0, HW⟩
  iapply (call (part6_run c p arg1 harg1 arg2 harg2 arg3 harg3 arg4 harg4 arg5 harg5 arg6 harg6 arg7 harg7 arg8 harg8 arg9 harg9 arg10 harg10 arg12 harg12 arg13 harg13 w0 w1 w2 t v189 xn)) $$ [D0 L1 LB I X HW]
  · isplitl [D0]; · iexact D0
    isplitl [L1]; · iexact L1
    isplitl [LB]; · iexact LB
    isplitl [I]; · unfold lanes; iexact I
    isplitl [X]; · iexact X
    iexact HW
  iintro %v256 ⟨%hr, D, I, X, HW⟩
  subst hr
  unfold dones lanes
  icases D with ⟨D0, D1, DB⟩
  iapply (loadB (off32_eq p t)) $$ DB
  iintro %vc ⟨%hc, DB⟩
  iapply load_whole $$ A
  iintro A
  iapply load_whole $$ A
  iintro A
  iapply store_whole $$ A
  iintro A
  iapply le_wp_ret
  isplitl [D0 D1 DB]
  · isplitl [D0]; · iapply doneA_idle; iexact D0
    isplitl [D1]; · iapply doneA_idle; iexact D1
    iapply doneB_idle; iexact DB
  isplitl [I]; · iexact I
  isplitl [X]; · iexact X
  isplitl [A]; swap; · iexact HW
  have e : k0_pay8 (act xn (wA0 c arg3 w0 (bk (11 * p.val + (t.val + 1)))) (wA1 c arg4 w1 (bk (11 * p.val + (t.val + 1))))) vc a = addf a (contrib c arg3 arg4 arg5 w0 w1 w2 xn (11 * p.val + (t.val + 1))) := by
    unfold k0_pay8 contrib
    exact (shapeCast_self _ _).trans (congrArg (fun z => addf a (proj _ z)) hc)
  rw [← e]
  iexact A

end Trip

end Cert.FfnRun

end
-- ==== Proof.FfnBody.lean ====
/-
  The feed-forward kernel's body at one grid point, part by part: eleven steps over the rings, then the norm and the
  residual. At the first point the first three steps' copies are started before anything is waited for; at every other
  point they are already in flight.
-/
module

public import proofs.«01_k».proof.Proof.FfnTrip

@[expose] public section

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (Pipeline.UD sig nD τ) ℕ

section Body

variable (c : Dev nD) (p : Fin grid0.N)
variable (arg1 : Memref sig .tc .vmem S512x2048 .f32) (harg1 : arg1.IsWhole)
variable (arg2 : Memref sig .tc .vmem S1x2048 .f32) (harg2 : arg2.IsWhole)
variable (arg3 : Memref sig .tc .hbm S11x2048x512 .bf16) (harg3 : arg3.IsWhole)
variable (arg4 : Memref sig .tc .hbm S11x2048x512 .bf16) (harg4 : arg4.IsWhole)
variable (arg5 : Memref sig .tc .hbm S5632x2048 .bf16) (harg5 : arg5.IsWhole)
variable (arg6 : Memref sig .tc .vmem S1x2048 .f32) (harg6 : arg6.IsWhole)
variable (arg7 : Memref sig .tc .vmem S512x2048 .f32) (harg7 : arg7.IsWhole)
variable (arg8 : Memref sig .tc .vmem S4x2048x512 .bf16) (harg8 : arg8.IsWhole)
variable (arg9 : Memref sig .tc .vmem S4x2048x512 .bf16) (harg9 : arg9.IsWhole)
variable (arg10 : Memref sig .tc .vmem S4x512x2048 .bf16) (harg10 : arg10.IsWhole)
variable (arg12 : Memref sig .tc .vmem S512x2048 .bf16) (harg12 : arg12.IsWhole)
variable (arg13 : Memref sig .tc .vmem S512x2048 .f32) (harg13 : arg13.IsWhole)

variable (w0 : Buf (Elt F) (arg3.view.loc (c : Thread nD τ))) (w1 : Buf (Elt F) (arg4.view.loc (c : Thread nD τ)))
variable (w2 : Buf (Elt F) (arg5.view.loc (c : Thread nD τ)))

/-- The rings before step `n`: three steps' copies in flight, the fourth slots idle. -/
def ring (n : ℕ) : sProp 𝕄 :=
  iprop(lanes c arg3 arg4 arg5 arg8 arg9 arg10 w0 w1 w2 (sl n) (blk n) ∗ lanes c arg3 arg4 arg5 arg8 arg9 arg10 w0 w1 w2 (sl (n + 1)) (blk (n + 1)) ∗ lanes c arg3 arg4 arg5 arg8 arg9 arg10 w0 w1 w2 (sl (n + 2)) (blk (n + 2)) ∗ lanes c arg3 arg4 arg5 arg8 arg9 arg10 w0 w1 w2 (sl (n + 3)) none)
/-- The rings with no copy in flight. -/
def idleRing : sProp 𝕄 :=
  iprop(lanes c arg3 arg4 arg5 arg8 arg9 arg10 w0 w1 w2 (sl 0) none ∗ lanes c arg3 arg4 arg5 arg8 arg9 arg10 w0 w1 w2 (sl 1) none ∗ lanes c arg3 arg4 arg5 arg8 arg9 arg10 w0 w1 w2 (sl 2) none ∗ lanes c arg3 arg4 arg5 arg8 arg9 arg10 w0 w1 w2 (sl 3) none)
/-- The rings before grid point `p`. -/
def pointRing (p : ℕ) : sProp 𝕄 := if p = 0 then idleRing c arg3 arg4 arg5 arg8 arg9 arg10 w0 w1 w2 else ring c arg3 arg4 arg5 arg8 arg9 arg10 w0 w1 w2 (11 * p)

theorem ring_step (n : ℕ) :
    iprop(lanes c arg3 arg4 arg5 arg8 arg9 arg10 w0 w1 w2 (sl n) none ∗ lanes c arg3 arg4 arg5 arg8 arg9 arg10 w0 w1 w2 (sl (n + 1)) (blk (n + 1)) ∗ lanes c arg3 arg4 arg5 arg8 arg9 arg10 w0 w1 w2 (sl (n + 2)) (blk (n + 2)) ∗ lanes c arg3 arg4 arg5 arg8 arg9 arg10 w0 w1 w2 (sl (n + 3)) (blk (n + 3)))
      ⊢ ring c arg3 arg4 arg5 arg8 arg9 arg10 w0 w1 w2 (n + 1) := by
  unfold ring
  iintro ⟨A, B, C, D⟩
  isplitl [B]; · iexact B
  isplitl [C]; · iexact C
  isplitl [D]; · iexact D
  rw [show n + 1 + 3 = n + 4 from rfl, sl_four]
  iexact A

theorem dones_idle (s : Fin 4) (b : Fin 11) : dones c arg3 arg4 arg5 arg8 arg9 arg10 w0 w1 w2 s b ⊢ lanes c arg3 arg4 arg5 arg8 arg9 arg10 w0 w1 w2 s none := by
  unfold dones lanes
  iintro ⟨D0, D1, DB⟩
  isplitl [D0]; · iapply doneA_idle; iexact D0
  isplitl [D1]; · iapply doneA_idle; iexact D1
  iapply doneB_idle; iexact DB

/-- The first step's copies. -/
theorem part1_run :
    lanes c arg3 arg4 arg5 arg8 arg9 arg10 w0 w1 w2 (sl 0) none ⊢ wp frame (wpE (defs₀ (F := F)) Variants.none (c : Thread nD τ) none) Set.univ (k0_part1 (grid0.coords p) arg1 harg1 arg2 harg2 arg3 harg3 arg4 harg4 arg5 harg5 arg6 harg6 arg7 harg7 arg8 harg8 arg9 harg9 arg10 harg10 cc0_scratch3 arg12 harg12 arg13 harg13) (fun _ => lanes c arg3 arg4 arg5 arg8 arg9 arg10 w0 w1 w2 (sl 0) (some (bk 0))) := by
  rw [k0_part1_eq_skeleton]; unfold k0_part1_skel lanes
  iintro ⟨I0, I1, IB⟩
  iapply (startA (a := 0) (s := sl 0) (b := bk 0) rfl rfl rfl) $$ I0
  iintro I0
  iapply (startA (a := 1) (s := sl 0) (b := bk 0) rfl rfl rfl) $$ I1
  iintro I1
  iapply (startB (s := sl 0) (b := bk 0) rfl rfl rfl) $$ IB
  iintro IB
  iapply le_wp_ret
  isplitl [I0]; · iexact I0
  isplitl [I1]; · iexact I1
  iexact IB

/-- The second step's copies, and two of the third's. -/
theorem part2_run :
    iprop(lanes c arg3 arg4 arg5 arg8 arg9 arg10 w0 w1 w2 (sl 1) none ∗ laneA c 0 arg8 arg3 w0 (sl 2) none ∗ laneA c 1 arg9 arg4 w1 (sl 2) none)
      ⊢ wp frame (wpE (defs₀ (F := F)) Variants.none (c : Thread nD τ) none) Set.univ (k0_part2 (grid0.coords p) arg1 harg1 arg2 harg2 arg3 harg3 arg4 harg4 arg5 harg5 arg6 harg6 arg7 harg7 arg8 harg8 arg9 harg9 arg10 harg10 cc0_scratch3 arg12 harg12 arg13 harg13) (fun _ => iprop(lanes c arg3 arg4 arg5 arg8 arg9 arg10 w0 w1 w2 (sl 1) (some (bk 1)) ∗ laneA c 0 arg8 arg3 w0 (sl 2) (some (bk 2)) ∗ laneA c 1 arg9 arg4 w1 (sl 2) (some (bk 2)))) := by
  rw [k0_part2_eq_skeleton]; unfold k0_part2_skel lanes
  iintro ⟨⟨I0, I1, IB⟩, J0, J1⟩
  iapply (startA (a := 0) (s := sl 1) (b := bk 1) rfl rfl rfl) $$ I0
  iintro I0
  iapply (startA (a := 1) (s := sl 1) (b := bk 1) rfl rfl rfl) $$ I1
  iintro I1
  iapply (startB (s := sl 1) (b := bk 1) rfl rfl rfl) $$ IB
  iintro IB
  iapply (startA (a := 0) (s := sl 2) (b := bk 2) rfl rfl rfl) $$ J0
  iintro J0
  iapply (startA (a := 1) (s := sl 2) (b := bk 2) rfl rfl rfl) $$ J1
  iintro J1
  iapply le_wp_ret
  isplitl [I0 I1 IB]
  · isplitl [I0]; · iexact I0
    isplitl [I1]; · iexact I1
    iexact IB
  isplitl [J0]; · iexact J0
  iexact J1

set_option maxHeartbeats 4000000 in
/-- The start of a point: at the first point the first three steps' copies; then the wait for the first block. -/
theorem part8_run :
    iprop(pointRing c arg3 arg4 arg5 arg8 arg9 arg10 w0 w1 w2 p.val ∗ (∃ V, owes (c : Thread nD τ) 0 V))
      ⊢ wp frame (wpE (defs₀ (F := F)) Variants.none (c : Thread nD τ) none) Set.univ (k0_part8 (grid0.coords p) arg1 harg1 arg2 harg2 arg3 harg3 arg4 harg4 arg5 harg5 arg6 harg6 arg7 harg7 arg8 harg8 arg9 harg9 arg10 harg10 cc0_scratch3 arg12 harg12 arg13 harg13)
        (fun _ => iprop(doneA c 0 arg8 arg3 w0 (sl (11 * p.val)) (bk (11 * p.val)) ∗ laneA c 1 arg9 arg4 w1 (sl (11 * p.val)) (some (bk (11 * p.val))) ∗ laneB c arg10 arg5 w2 (sl (11 * p.val)) (some (bk (11 * p.val))) ∗ lanes c arg3 arg4 arg5 arg8 arg9 arg10 w0 w1 w2 (sl ((11 * p.val) + 1)) (blk ((11 * p.val) + 1)) ∗ lanes c arg3 arg4 arg5 arg8 arg9 arg10 w0 w1 w2 (sl ((11 * p.val) + 2)) (blk ((11 * p.val) + 2))
          ∗ lanes c arg3 arg4 arg5 arg8 arg9 arg10 w0 w1 w2 (sl ((11 * p.val) + 3)) none ∗ (∃ V, owes (c : Thread nD τ) 0 V))) := by
  rw [k0_part8_eq_skeleton]; unfold k0_part8_skel pointRing
  by_cases h : k0_cond1 (grid0.coords p) = 1#1
  · have hp : p.val = 0 := (cond1_iff p).mp h
    have e1 := off1_first p; have e2 := off2_first p; have e3 := off3_first p
    rw [hp] at e1 e2 e3
    rw [hp, if_pos rfl]
    rw [show idleRing c arg3 arg4 arg5 arg8 arg9 arg10 w0 w1 w2 = iprop(lanes c arg3 arg4 arg5 arg8 arg9 arg10 w0 w1 w2 (sl 0) none ∗ lanes c arg3 arg4 arg5 arg8 arg9 arg10 w0 w1 w2 (sl 1) none ∗ (laneA c 0 arg8 arg3 w0 (sl 2) none ∗ laneA c 1 arg9 arg4 w1 (sl 2) none ∗ laneB c arg10 arg5 w2 (sl 2) none) ∗ lanes c arg3 arg4 arg5 arg8 arg9 arg10 w0 w1 w2 (sl 3) none) from rfl]
    rw [show blk (11 * 0 + 1) = some (bk 1) from rfl, show blk (11 * 0 + 2) = some (bk 2) from rfl]
    iintro ⟨⟨A, B, ⟨C0, C1, CB⟩, D⟩, HW⟩
    iapply (branch_pos h)
    iapply (call (part1_run c p arg1 harg1 arg2 harg2 arg3 harg3 arg4 harg4 arg5 harg5 arg6 harg6 arg7 harg7 arg8 harg8 arg9 harg9 arg10 harg10 arg12 harg12 arg13 harg13 w0 w1 w2)) $$ A
    iintro %_ A
    iapply (call (part2_run c p arg1 harg1 arg2 harg2 arg3 harg3 arg4 harg4 arg5 harg5 arg6 harg6 arg7 harg7 arg8 harg8 arg9 harg9 arg10 harg10 arg12 harg12 arg13 harg13 w0 w1 w2)) $$ [B C0 C1]
    · isplitl [B]; · iexact B
      isplitl [C0]; · iexact C0
      iexact C1
    iintro %_ ⟨B, C0, C1⟩
    iapply (startB (s := sl 2) (b := bk 2) rfl rfl rfl) $$ CB
    iintro CB
    ihave A := (show lanes c arg3 arg4 arg5 arg8 arg9 arg10 w0 w1 w2 (sl 0) (some (bk 0)) ⊢ iprop(laneA c 0 arg8 arg3 w0 (sl 0) (some (bk 0)) ∗ laneA c 1 arg9 arg4 w1 (sl 0) (some (bk 0)) ∗ laneB c arg10 arg5 w2 (sl 0) (some (bk 0))) from Entails.rfl) $$ A
    icases A with ⟨A0, A1, AB⟩
    iapply (waitA (a := 0) (s := sl (11 * 0)) (b := bk (11 * 0)) e1 e2 e3) $$ [A0 HW]
    · isplitl [A0]; · iexact A0
      iexact HW
    iintro ⟨A0, HW⟩
    iapply le_wp_ret
    isplitl [A0]; · iexact A0
    isplitl [A1]; · iexact A1
    isplitl [AB]; · iexact AB
    isplitl [B]; · iexact B
    isplitl [C0 C1 CB]
    · unfold lanes
      isplitl [C0]; · iexact C0
      isplitl [C1]; · iexact C1
      iexact CB
    isplitl [D]; · iexact D
    iexact HW
  · have hp : ¬ p.val = 0 := fun h' => h ((cond1_iff p).mpr h')
    have hlt : (11 * p.val) < 176 := by have : p.val < 16 := p.isLt; omega
    rw [if_neg hp]
    unfold ring
    rw [blk_lt hlt]
    rw [show lanes c arg3 arg4 arg5 arg8 arg9 arg10 w0 w1 w2 (sl (11 * p.val)) (some (bk (11 * p.val))) = iprop(laneA c 0 arg8 arg3 w0 (sl (11 * p.val)) (some (bk (11 * p.val))) ∗ laneA c 1 arg9 arg4 w1 (sl (11 * p.val)) (some (bk (11 * p.val))) ∗ laneB c arg10 arg5 w2 (sl (11 * p.val)) (some (bk (11 * p.val)))) from rfl]
    iintro ⟨⟨⟨A0, A1, AB⟩, B, C, D⟩, HW⟩
    iapply (branch_neg h)
    iapply (waitA (a := 0) (off1_first p) (off2_first p) (off3_first p)) $$ [A0 HW]
    · isplitl [A0]; · iexact A0
      iexact HW
    iintro ⟨A0, HW⟩
    iapply le_wp_ret
    isplitl [A0]; · iexact A0
    isplitl [A1]; · iexact A1
    isplitl [AB]; · iexact AB
    isplitl [B]; · iexact B
    isplitl [C]; · iexact C
    isplitl [D]; · iexact D
    iexact HW

/-- The first of the copies that a point's step starts. -/
theorem part3_run (v : BitVec 32) (h : k0_cond2 (grid0.coords p) = 1#1) :
    laneA c 0 arg8 arg3 w0 (sl ((11 * p.val) + 3)) none
      ⊢ wp frame (wpE (defs₀ (F := F)) Variants.none (c : Thread nD τ) none) Set.univ (k0_part3 (grid0.coords p) arg1 harg1 arg2 harg2 arg3 harg3 arg4 harg4 arg5 harg5 arg6 harg6 arg7 harg7 arg8 harg8 arg9 harg9 arg10 harg10 cc0_scratch3 arg12 harg12 arg13 harg13 v h) (fun _ => laneA c 0 arg8 arg3 w0 (sl ((11 * p.val) + 3)) (some (bk ((11 * p.val) + 3)))) := by
  rw [k0_part3_eq_skeleton]; unfold k0_part3_skel
  iintro H
  iapply (startA (off8_eq p) (off9_eq p) (off10_eq p)) $$ H
  iintro H
  iapply le_wp_ret
  iexact H

/-- The first of the copies that a point's step starts. -/
theorem part7_run (v : BitVec 32) (h : k0_cond4 (grid0.coords p) = 1#1) :
    laneA c 0 arg8 arg3 w0 (sl ((11 * p.val + 10) + 3)) none
      ⊢ wp frame (wpE (defs₀ (F := F)) Variants.none (c : Thread nD τ) none) Set.univ (k0_part7 (grid0.coords p) arg1 harg1 arg2 harg2 arg3 harg3 arg4 harg4 arg5 harg5 arg6 harg6 arg7 harg7 arg8 harg8 arg9 harg9 arg10 harg10 cc0_scratch3 arg12 harg12 arg13 harg13 v h) (fun _ => laneA c 0 arg8 arg3 w0 (sl ((11 * p.val + 10) + 3)) (some (bk ((11 * p.val + 10) + 3)))) := by
  rw [k0_part7_eq_skeleton]; unfold k0_part7_skel
  iintro H
  iapply (startA (off33_eq p) (off34_eq p) (off35_eq p)) $$ H
  iintro H
  iapply le_wp_ret
  iexact H

set_option maxHeartbeats 4000000 in
/-- The first step's other waits, the copies it starts, and the loads of the tile and the first norm's gain. -/
theorem part9_run (v : BitVec 32) (x : FVec F S512x2048 .f32) (g : FVec F S1x2048 .f32) :
    iprop(doneA c 0 arg8 arg3 w0 (sl (11 * p.val)) (bk (11 * p.val)) ∗ laneA c 1 arg9 arg4 w1 (sl (11 * p.val)) (some (bk (11 * p.val))) ∗ laneB c arg10 arg5 w2 (sl (11 * p.val)) (some (bk (11 * p.val))) ∗ lanes c arg3 arg4 arg5 arg8 arg9 arg10 w0 w1 w2 (sl ((11 * p.val) + 3)) none ∗ owns (c : Thread nD τ) arg1 fullShare x ∗ owns (c : Thread nD τ) arg2 fullShare g ∗ (∃ V, owes (c : Thread nD τ) 0 V))
      ⊢ wp frame (wpE (defs₀ (F := F)) Variants.none (c : Thread nD τ) none) Set.univ (k0_part9 (grid0.coords p) arg1 harg1 arg2 harg2 arg3 harg3 arg4 harg4 arg5 harg5 arg6 harg6 arg7 harg7 arg8 harg8 arg9 harg9 arg10 harg10 cc0_scratch3 arg12 harg12 arg13 harg13 v)
        (fun r => iprop(⌜r.2.1 = x ∧ r.2.2.1 = k0_pay3 g ∧ r.2.2.2 = k0_pay4 x⌝ ∗ dones c arg3 arg4 arg5 arg8 arg9 arg10 w0 w1 w2 (sl (11 * p.val)) (bk (11 * p.val)) ∗ lanes c arg3 arg4 arg5 arg8 arg9 arg10 w0 w1 w2 (sl ((11 * p.val) + 3)) (blk ((11 * p.val) + 3)) ∗ owns (c : Thread nD τ) arg1 fullShare x ∗ owns (c : Thread nD τ) arg2 fullShare g ∗ (∃ V, owes (c : Thread nD τ) 0 V))) := by
  rw [k0_part9_eq_skeleton]; unfold k0_part9_skel lanes dones
  iintro ⟨D0, L1, LB, ⟨I0, I1, IB⟩, X, G, HW⟩
  iapply (waitA (a := 1) (off4_first p) (off2_first p) (off3_first p)) $$ [L1 HW]
  · isplitl [L1]; · iexact L1
    iexact HW
  iintro ⟨D1, HW⟩
  iapply (waitB (off5_first p) (off6_first p) (off7_first p)) $$ [LB HW]
  · isplitl [LB]; · iexact LB
    iexact HW
  iintro ⟨DB, HW⟩
  by_cases h : k0_cond2 (grid0.coords p) = 1#1
  · rw [blk_lt ((cond2_iff p).mp h)]
    iapply (branch_pos h)
    iapply (call (part3_run c p arg1 harg1 arg2 harg2 arg3 harg3 arg4 harg4 arg5 harg5 arg6 harg6 arg7 harg7 arg8 harg8 arg9 harg9 arg10 harg10 arg12 harg12 arg13 harg13 w0 v h)) $$ I0
    iintro %_ I0
    iapply (startA (a := 1) (off11_eq p) (off9_eq p) (off10_eq p)) $$ I1
    iintro I1
    iapply (startB (off12_eq p) (off13_eq p) (off14_eq p)) $$ IB
    iintro IB
    iapply load_whole $$ X
    iintro X
    iapply load_whole $$ G
    iintro G
    iapply le_wp_ret
    isplitr; · ipureintro; exact ⟨rfl, rfl, rfl⟩
    isplitl [D0 D1 DB]
    · isplitl [D0]; · iexact D0
      isplitl [D1]; · iexact D1
      iexact DB
    isplitl [I0 I1 IB]
    · isplitl [I0]; · iexact I0
      isplitl [I1]; · iexact I1
      iexact IB
    isplitl [X]; · iexact X
    isplitl [G]; · iexact G
    iexact HW
  · rw [blk_ge (fun h' => h ((cond2_iff p).mpr h'))]
    iapply (branch_neg h)
    iapply load_whole $$ X
    iintro X
    iapply load_whole $$ G
    iintro G
    iapply le_wp_ret
    isplitr; · ipureintro; exact ⟨rfl, rfl, rfl⟩
    isplitl [D0 D1 DB]
    · isplitl [D0]; · iexact D0
      isplitl [D1]; · iexact D1
      iexact DB
    isplitl [I0 I1 IB]
    · isplitl [I0]; · iexact I0
      isplitl [I1]; · iexact I1
      iexact IB
    isplitl [X]; · iexact X
    isplitl [G]; · iexact G
    iexact HW

set_option maxHeartbeats 4000000 in
/-- The first block's contribution, then nine trips. -/
theorem part10_run (v0 v58 : BitVec 32) (v59 : FVec F S512x2048 .f32) (v61 : FVec F S1x2048 .f32) (v66 : FVec F S512x1 .f32)
    (x0 : FVec F S512x2048 .bf16) (a0 : FVec F S512x2048 .f32) :
    iprop(dones c arg3 arg4 arg5 arg8 arg9 arg10 w0 w1 w2 (sl (11 * p.val)) (bk (11 * p.val)) ∗ lanes c arg3 arg4 arg5 arg8 arg9 arg10 w0 w1 w2 (sl ((11 * p.val) + 1)) (blk ((11 * p.val) + 1)) ∗ lanes c arg3 arg4 arg5 arg8 arg9 arg10 w0 w1 w2 (sl ((11 * p.val) + 2)) (blk ((11 * p.val) + 2)) ∗ lanes c arg3 arg4 arg5 arg8 arg9 arg10 w0 w1 w2 (sl ((11 * p.val) + 3)) (blk ((11 * p.val) + 3))
        ∗ owns (c : Thread nD τ) arg12 fullShare x0 ∗ owns (c : Thread nD τ) arg13 fullShare a0 ∗ (∃ V, owes (c : Thread nD τ) 0 V))
      ⊢ wp frame (wpE (defs₀ (F := F)) Variants.none (c : Thread nD τ) none) Set.univ (k0_part10 (grid0.coords p) arg1 harg1 arg2 harg2 arg3 harg3 arg4 harg4 arg5 harg5 arg6 harg6 arg7 harg7 arg8 harg8 arg9 harg9 arg10 harg10 cc0_scratch3 arg12 harg12 arg13 harg13 v0 v58 v59 v61 v66)
        (fun _ => iprop(ring c arg3 arg4 arg5 arg8 arg9 arg10 w0 w1 w2 (11 * p.val + 10) ∗ owns (c : Thread nD τ) arg12 fullShare (k0_pay5 v59 v61 v66) ∗ owns (c : Thread nD τ) arg13 fullShare (partials c arg3 arg4 arg5 w0 w1 w2 (k0_pay5 v59 v61 v66) (11 * p.val) 9) ∗ (∃ V, owes (c : Thread nD τ) 0 V))) := by
  rw [k0_part10_eq_skeleton]; unfold k0_part10_skel
  iintro ⟨D, B, C, I, X, A, HW⟩
  unfold dones
  icases D with ⟨D0, D1, DB⟩
  iapply load_whole $$ X
  iintro X
  iapply store_whole $$ X
  iintro X
  iapply (loadA (off15_first p)) $$ D0
  iintro %va ⟨%ha, D0⟩
  iapply (loadA (off15_first p)) $$ D1
  iintro %vb ⟨%hb, D1⟩
  iapply (loadB (off16_first p)) $$ DB
  iintro %vc ⟨%hc, DB⟩
  iapply load_whole $$ A
  iintro A
  iapply store_whole $$ A
  iintro A
  have ex : k0_pay6 v59 v61 v66 = k0_pay5 v59 v61 v66 := shapeCast_self _ _
  have ea : k0_pay7 v59 v61 v66 va vb vc = contrib c arg3 arg4 arg5 w0 w1 w2 (k0_pay5 v59 v61 v66) (11 * p.val) := by
    unfold k0_pay7 contrib
    refine (shapeCast_self _ _).trans ?_
    exact (congrArg₂ (fun z w => proj z w) (congrArg₂ (act (k0_pay5 v59 v61 v66)) ha hb) hc : _)
  rw [ex, ea]
  iapply (Scf.wp_for_bind frame _ Set.univ _ _ _ _ _ _
    (fun k (_ : Unit) => iprop(ring c arg3 arg4 arg5 arg8 arg9 arg10 w0 w1 w2 ((11 * p.val) + (k + 1)) ∗ owns (c : Thread nD τ) arg12 fullShare (k0_pay5 v59 v61 v66)
      ∗ owns (c : Thread nD τ) arg13 fullShare (partials c arg3 arg4 arg5 w0 w1 w2 (k0_pay5 v59 v61 v66) (11 * p.val) k) ∗ (∃ V, owes (c : Thread nD τ) 0 V))) ?_) $$ [D0 D1 DB B C I X A HW]
  rotate_left
  · isplitl [D0 D1 DB B C I]
    · iapply (ring_step c arg3 arg4 arg5 arg8 arg9 arg10 w0 w1 w2 (11 * p.val))
      isplitl [D0 D1 DB]
      · iapply (dones_idle c arg3 arg4 arg5 arg8 arg9 arg10 w0 w1 w2 (sl (11 * p.val)) (bk (11 * p.val)))
        unfold dones
        isplitl [D0]; · iexact D0
        isplitl [D1]; · iexact D1
        iexact DB
      isplitl [B]; · iexact B
      isplitl [C]; · iexact C
      iexact I
    isplitl [X]; · iexact X
    isplitl [A]; · iexact A
    iexact HW
  · iintro %_ ⟨R, X, A, HW⟩
    iapply le_wp_ret
    isplitl [R]; · iexact R
    isplitl [X]; · iexact X
    isplitl [A]; · iexact A
    iexact HW
  · intro k acc
    have hlt : (11 * p.val) + (k.val + 1) < 176 := by
      have h1 : p.val < 16 := p.isLt
      have h2 : k.val < 9 := k.isLt
      omega
    have e : ring c arg3 arg4 arg5 arg8 arg9 arg10 w0 w1 w2 ((11 * p.val) + (k.val + 1)) = iprop(lanes c arg3 arg4 arg5 arg8 arg9 arg10 w0 w1 w2 (sl ((11 * p.val) + (k.val + 1))) (some (bk ((11 * p.val) + (k.val + 1)))) ∗ lanes c arg3 arg4 arg5 arg8 arg9 arg10 w0 w1 w2 (sl ((11 * p.val) + (k.val + 1) + 1)) (blk ((11 * p.val) + (k.val + 1) + 1)) ∗ lanes c arg3 arg4 arg5 arg8 arg9 arg10 w0 w1 w2 (sl ((11 * p.val) + (k.val + 1) + 2)) (blk ((11 * p.val) + (k.val + 1) + 2)) ∗ lanes c arg3 arg4 arg5 arg8 arg9 arg10 w0 w1 w2 (sl ((11 * p.val) + (k.val + 1) + 3)) none) := by
      unfold ring; rw [blk_lt hlt]
    rw [e]
    iintro ⟨⟨L, B, C, I⟩, X, A, HW⟩
    iapply (wp_wand_r _ _ _)
    isplitl [L I X A HW]
    · iapply (trip_run c p arg1 harg1 arg2 harg2 arg3 harg3 arg4 harg4 arg5 harg5 arg6 harg6 arg7 harg7 arg8 harg8 arg9 harg9 arg10 harg10 arg12 harg12 arg13 harg13 w0 w1 w2 k v0 v58 v59 v61 v66 (k0_pay5 v59 v61 v66) (partials c arg3 arg4 arg5 w0 w1 w2 (k0_pay5 v59 v61 v66) (11 * p.val) k.val) acc)
      isplitl [L]; · iexact L
      isplitl [I]; · iexact I
      isplitl [X]; · iexact X
      isplitl [A]; · iexact A
      iexact HW
    iintro %_ ⟨L, I, X, A, HW⟩
    isplitl [L I B C]
    · iapply (ring_step c arg3 arg4 arg5 arg8 arg9 arg10 w0 w1 w2 ((11 * p.val) + (k.val + 1)))
      isplitl [L]; · iexact L
      isplitl [B]; · iexact B
      isplitl [C]; · iexact C
      iexact I
    isplitl [X]; · iexact X
    isplitl [A]; · iexact A
    iexact HW

/-- The last step's first two waits. -/
theorem part11_run (v98 v100 v101 : BitVec 32) :
    iprop(laneA c 0 arg8 arg3 w0 (sl (11 * p.val + 10)) (some (bk (11 * p.val + 10))) ∗ laneA c 1 arg9 arg4 w1 (sl (11 * p.val + 10)) (some (bk (11 * p.val + 10))) ∗ (∃ V, owes (c : Thread nD τ) 0 V))
      ⊢ wp frame (wpE (defs₀ (F := F)) Variants.none (c : Thread nD τ) none) Set.univ (k0_part11 (grid0.coords p) arg1 harg1 arg2 harg2 arg3 harg3 arg4 harg4 arg5 harg5 arg6 harg6 arg7 harg7 arg8 harg8 arg9 harg9 arg10 harg10 cc0_scratch3 arg12 harg12 arg13 harg13 v98 v100 v101)
        (fun _ => iprop(doneA c 0 arg8 arg3 w0 (sl (11 * p.val + 10)) (bk (11 * p.val + 10)) ∗ doneA c 1 arg9 arg4 w1 (sl (11 * p.val + 10)) (bk (11 * p.val + 10)) ∗ (∃ V, owes (c : Thread nD τ) 0 V))) := by
  rw [k0_part11_eq_skeleton]; unfold k0_part11_skel
  iintro ⟨L0, L1, HW⟩
  iapply (waitA (a := 0) (off1_last p) (off2_last p) (off3_last p)) $$ [L0 HW]
  · isplitl [L0]; · iexact L0
    iexact HW
  iintro ⟨D0, HW⟩
  iapply (waitA (a := 1) (off4_last p) (off2_last p) (off3_last p)) $$ [L1 HW]
  · isplitl [L1]; · iexact L1
    iexact HW
  iintro ⟨D1, HW⟩
  iapply le_wp_ret
  isplitl [D0]; · iexact D0
  isplitl [D1]; · iexact D1
  iexact HW

set_option maxHeartbeats 8000000 in
/-- The last step's other wait, the copies it starts, and its contribution. -/
theorem part12_run (v : BitVec 32) (xn : FVec F S512x2048 .bf16) (a : FVec F S512x2048 .f32) :
    iprop(doneA c 0 arg8 arg3 w0 (sl (11 * p.val + 10)) (bk (11 * p.val + 10)) ∗ doneA c 1 arg9 arg4 w1 (sl (11 * p.val + 10)) (bk (11 * p.val + 10)) ∗ laneB c arg10 arg5 w2 (sl (11 * p.val + 10)) (some (bk (11 * p.val + 10))) ∗ lanes c arg3 arg4 arg5 arg8 arg9 arg10 w0 w1 w2 (sl ((11 * p.val + 10) + 3)) none ∗ owns (c : Thread nD τ) arg12 fullShare xn ∗ owns (c : Thread nD τ) arg13 fullShare a ∗ (∃ V, owes (c : Thread nD τ) 0 V))
      ⊢ wp frame (wpE (defs₀ (F := F)) Variants.none (c : Thread nD τ) none) Set.univ (k0_part12 (grid0.coords p) arg1 harg1 arg2 harg2 arg3 harg3 arg4 harg4 arg5 harg5 arg6 harg6 arg7 harg7 arg8 harg8 arg9 harg9 arg10 harg10 cc0_scratch3 arg12 harg12 arg13 harg13 v)
        (fun r => iprop(⌜r.1 = contrib c arg3 arg4 arg5 w0 w1 w2 xn (11 * p.val + 10) ∧ r.2 = a⌝ ∗ dones c arg3 arg4 arg5 arg8 arg9 arg10 w0 w1 w2 (sl (11 * p.val + 10)) (bk (11 * p.val + 10)) ∗ lanes c arg3 arg4 arg5 arg8 arg9 arg10 w0 w1 w2 (sl ((11 * p.val + 10) + 3)) (blk ((11 * p.val + 10) + 3)) ∗ owns (c : Thread nD τ) arg12 fullShare xn ∗ owns (c : Thread nD τ) arg13 fullShare a ∗ (∃ V, owes (c : Thread nD τ) 0 V))) := by
  rw [k0_part12_eq_skeleton]; unfold k0_part12_skel lanes dones
  iintro ⟨D0, D1, LB, ⟨I0, I1, IB⟩, X, A, HW⟩
  iapply (waitB (off5_last p) (off6_last p) (off7_last p)) $$ [LB HW]
  · isplitl [LB]; · iexact LB
    iexact HW
  iintro ⟨DB, HW⟩
  by_cases h : k0_cond4 (grid0.coords p) = 1#1
  · rw [blk_lt ((cond4_iff p).mp h)]
    iapply (branch_pos h)
    iapply (call (part7_run c p arg1 harg1 arg2 harg2 arg3 harg3 arg4 harg4 arg5 harg5 arg6 harg6 arg7 harg7 arg8 harg8 arg9 harg9 arg10 harg10 arg12 harg12 arg13 harg13 w0 v h)) $$ I0
    iintro %_ I0
    iapply (startA (a := 1) (off36_eq p) (off34_eq p) (off35_eq p)) $$ I1
    iintro I1
    iapply (startB (off37_eq p) (off38_eq p) (off39_eq p)) $$ IB
    iintro IB
    iapply load_whole $$ X
    iintro X
    iapply (loadA (off15_last p)) $$ D0
    iintro %va ⟨%ha, D0⟩
    iapply (loadA (off15_last p)) $$ D1
    iintro %vb ⟨%hb, D1⟩
    iapply (loadB (off16_last p)) $$ DB
    iintro %vc ⟨%hc, DB⟩
    iapply load_whole $$ A
    iintro A
    iapply le_wp_ret
    isplitr
    · ipureintro
      refine ⟨?_, rfl⟩
      exact (congrArg₂ (fun z w => proj z w) (congrArg₂ (act xn) ha hb) hc : _)
    isplitl [D0 D1 DB]
    · isplitl [D0]; · iexact D0
      isplitl [D1]; · iexact D1
      iexact DB
    isplitl [I0 I1 IB]
    · isplitl [I0]; · iexact I0
      isplitl [I1]; · iexact I1
      iexact IB
    isplitl [X]; · iexact X
    isplitl [A]; · iexact A
    iexact HW
  · rw [blk_ge (fun h' => h ((cond4_iff p).mpr h'))]
    iapply (branch_neg h)
    iapply load_whole $$ X
    iintro X
    iapply (loadA (off15_last p)) $$ D0
    iintro %va ⟨%ha, D0⟩
    iapply (loadA (off15_last p)) $$ D1
    iintro %vb ⟨%hb, D1⟩
    iapply (loadB (off16_last p)) $$ DB
    iintro %vc ⟨%hc, DB⟩
    iapply load_whole $$ A
    iintro A
    iapply le_wp_ret
    isplitr
    · ipureintro
      refine ⟨?_, rfl⟩
      exact (congrArg₂ (fun z w => proj z w) (congrArg₂ (act xn) ha hb) hc : _)
    isplitl [D0 D1 DB]
    · isplitl [D0]; · iexact D0
      isplitl [D1]; · iexact D1
      iexact DB
    isplitl [I0 I1 IB]
    · isplitl [I0]; · iexact I0
      isplitl [I1]; · iexact I1
      iexact IB
    isplitl [X]; · iexact X
    isplitl [A]; · iexact A
    iexact HW

set_option maxHeartbeats 8000000 in
/-- One grid point's body. -/
theorem body_run (x y : FVec F S512x2048 .f32) (g g' : FVec F S1x2048 .f32) (x0 : FVec F S512x2048 .bf16) (a0 : FVec F S512x2048 .f32) :
    iprop(pointRing c arg3 arg4 arg5 arg8 arg9 arg10 w0 w1 w2 p.val ∗ owns (c : Thread nD τ) arg1 fullShare x ∗ owns (c : Thread nD τ) arg2 fullShare g ∗ owns (c : Thread nD τ) arg6 fullShare g' ∗ owns (c : Thread nD τ) arg7 fullShare y ∗ owns (c : Thread nD τ) arg12 fullShare x0 ∗ owns (c : Thread nD τ) arg13 fullShare a0 ∗ (∃ V, owes (c : Thread nD τ) 0 V))
      ⊢ wp frame (wpE (defs₀ (F := F)) Variants.none (c : Thread nD τ) none) Set.univ (cc0_ffn_ring (grid0.coords p) arg1 harg1 arg2 harg2 arg3 harg3 arg4 harg4 arg5 harg5 arg6 harg6 arg7 harg7 arg8 harg8 arg9 harg9 arg10 harg10 cc0_scratch3 arg12 harg12 arg13 harg13)
        (fun _ => iprop(pointRing c arg3 arg4 arg5 arg8 arg9 arg10 w0 w1 w2 (p.val + 1) ∗ owns (c : Thread nD τ) arg1 fullShare x ∗ owns (c : Thread nD τ) arg2 fullShare g ∗ owns (c : Thread nD τ) arg6 fullShare g' ∗ owns (c : Thread nD τ) arg7 fullShare (k0_pay1 (contrib c arg3 arg4 arg5 w0 w1 w2 (k0_pay5 x (k0_pay3 g) (k0_pay4 x)) (11 * p.val + 10)) (partials c arg3 arg4 arg5 w0 w1 w2 (k0_pay5 x (k0_pay3 g) (k0_pay4 x)) (11 * p.val) 9) x g')
          ∗ (∃ x1, owns (c : Thread nD τ) arg12 fullShare x1) ∗ (∃ a1, owns (c : Thread nD τ) arg13 fullShare a1) ∗ (∃ V, owes (c : Thread nD τ) 0 V))) := by
  rw [cc0_ffn_ring_eq_skeleton]; unfold cc0_ffn_ring_skel
  iintro ⟨R, X1, X2, X6, X7, X, A, HW⟩
  iapply (call (part8_run c p arg1 harg1 arg2 harg2 arg3 harg3 arg4 harg4 arg5 harg5 arg6 harg6 arg7 harg7 arg8 harg8 arg9 harg9 arg10 harg10 arg12 harg12 arg13 harg13 w0 w1 w2)) $$ [R HW]
  · isplitl [R]; · iexact R
    iexact HW
  iintro %r8 ⟨D0, L1, LB, B, C, I, HW⟩
  obtain ⟨v0, v4⟩ := r8
  iapply (call (part9_run c p arg1 harg1 arg2 harg2 arg3 harg3 arg4 harg4 arg5 harg5 arg6 harg6 arg7 harg7 arg8 harg8 arg9 harg9 arg10 harg10 arg12 harg12 arg13 harg13 w0 w1 w2 v4 x g)) $$ [D0 L1 LB I X1 X2 HW]
  · isplitl [D0]; · iexact D0
    isplitl [L1]; · iexact L1
    isplitl [LB]; · iexact LB
    isplitl [I]; · iexact I
    isplitl [X1]; · iexact X1
    isplitl [X2]; · iexact X2
    iexact HW
  iintro %r9 ⟨%h9, D, I, X1, X2, HW⟩
  obtain ⟨v58, v59, v61, v66⟩ := r9
  obtain ⟨h1, h2, h3⟩ := h9
  dsimp only at h1 h2 h3
  subst h1 h2 h3
  iapply (call (part10_run c p arg1 harg1 arg2 harg2 arg3 harg3 arg4 harg4 arg5 harg5 arg6 harg6 arg7 harg7 arg8 harg8 arg9 harg9 arg10 harg10 arg12 harg12 arg13 harg13 w0 w1 w2 v0 v58 v59 (k0_pay3 g) (k0_pay4 v59) x0 a0)) $$ [D B C I X A HW]
  · isplitl [D]; · iexact D
    isplitl [B]; · iexact B
    isplitl [C]; · iexact C
    isplitl [I]; · iexact I
    isplitl [X]; · iexact X
    isplitl [A]; · iexact A
    iexact HW
  iintro %r10 ⟨R, X, A, HW⟩
  obtain ⟨v98, v100, v101⟩ := r10
  have hlt : (11 * p.val + 10) < 176 := by have : p.val < 16 := p.isLt; omega
  have e : ring c arg3 arg4 arg5 arg8 arg9 arg10 w0 w1 w2 (11 * p.val + 10) = iprop((laneA c 0 arg8 arg3 w0 (sl (11 * p.val + 10)) (some (bk (11 * p.val + 10))) ∗ laneA c 1 arg9 arg4 w1 (sl (11 * p.val + 10)) (some (bk (11 * p.val + 10))) ∗ laneB c arg10 arg5 w2 (sl (11 * p.val + 10)) (some (bk (11 * p.val + 10)))) ∗ lanes c arg3 arg4 arg5 arg8 arg9 arg10 w0 w1 w2 (sl ((11 * p.val + 10) + 1)) (blk ((11 * p.val + 10) + 1)) ∗ lanes c arg3 arg4 arg5 arg8 arg9 arg10 w0 w1 w2 (sl ((11 * p.val + 10) + 2)) (blk ((11 * p.val + 10) + 2)) ∗ lanes c arg3 arg4 arg5 arg8 arg9 arg10 w0 w1 w2 (sl ((11 * p.val + 10) + 3)) none) := by
    unfold ring; rw [blk_lt hlt]; rfl
  ihave R := (Entails.of_eq e) $$ R
  icases R with ⟨⟨L0, L1, LB⟩, B, C, I⟩
  iapply (call (part11_run c p arg1 harg1 arg2 harg2 arg3 harg3 arg4 harg4 arg5 harg5 arg6 harg6 arg7 harg7 arg8 harg8 arg9 harg9 arg10 harg10 arg12 harg12 arg13 harg13 w0 w1 v98 v100 v101)) $$ [L0 L1 HW]
  · isplitl [L0]; · iexact L0
    isplitl [L1]; · iexact L1
    iexact HW
  iintro %_ ⟨D0, D1, HW⟩
  iapply (call (part12_run c p arg1 harg1 arg2 harg2 arg3 harg3 arg4 harg4 arg5 harg5 arg6 harg6 arg7 harg7 arg8 harg8 arg9 harg9 arg10 harg10 arg12 harg12 arg13 harg13 w0 w1 w2 v98 (k0_pay5 v59 (k0_pay3 g) (k0_pay4 v59)) (partials c arg3 arg4 arg5 w0 w1 w2 (k0_pay5 v59 (k0_pay3 g) (k0_pay4 v59)) (11 * p.val) 9))) $$ [D0 D1 LB I X A HW]
  · isplitl [D0]; · iexact D0
    isplitl [D1]; · iexact D1
    isplitl [LB]; · iexact LB
    isplitl [I]; · iexact I
    isplitl [X]; · iexact X
    isplitl [A]; · iexact A
    iexact HW
  iintro %r12 ⟨%h12, D, I, X, A, HW⟩
  obtain ⟨v169, v170⟩ := r12
  obtain ⟨h1, h2⟩ := h12
  dsimp only at h1 h2
  subst h1 h2
  iapply load_whole $$ X1
  iintro X1
  iapply load_whole $$ X6
  iintro X6
  iapply load_whole $$ X7
  iintro X7
  iapply store_whole $$ X7
  iintro X7
  iapply le_wp_ret
  isplitl [D B C I]
  · rw [show pointRing c arg3 arg4 arg5 arg8 arg9 arg10 w0 w1 w2 (p.val + 1) = ring c arg3 arg4 arg5 arg8 arg9 arg10 w0 w1 w2 ((11 * p.val + 10) + 1) from by
      unfold pointRing; rw [if_neg (Nat.succ_ne_zero _)]; rfl]
    iapply (ring_step c arg3 arg4 arg5 arg8 arg9 arg10 w0 w1 w2 (11 * p.val + 10))
    isplitl [D]; · iapply (dones_idle c arg3 arg4 arg5 arg8 arg9 arg10 w0 w1 w2 (sl (11 * p.val + 10)) (bk (11 * p.val + 10))); iexact D
    isplitl [B]; · iexact B
    isplitl [C]; · iexact C
    iexact I
  isplitl [X1]; · iexact X1
  isplitl [X2]; · iexact X2
  isplitl [X6]; · iexact X6
  isplitl [X7]; · iexact X7
  isplitl [X]; · iexists _; iexact X
  isplitl [A]; · iexists _; iexact A
  iexact HW

end Body

end Cert.FfnRun

end
-- ==== Proof.FfnEntry.lean ====
/-
  Entering and leaving the feed-forward kernel's grid. What the region is handed - its scratch buffers at any contents,
  its twelve semaphore cells at zero, and the three weight arrays left in HBM - is the three rings with every slot idle;
  and after the last point, where no copy is in flight, the rings with every slot idle give it back.
-/
module

public import proofs.«01_k».proof.Proof.FfnBody

@[expose] public section

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (Pipeline.UD sig nD τ) ℕ

set_option maxRecDepth 16384

/-! ## A ring buffer's four slots -/

/-- The elements of slot `s` of an input weight's ring. -/
abbrev setA (s : Fin 4) : Finset S4x2048x512.Idx := (Rect.unit (s := S4x2048x512) ![s.val, 0, 0] S1x2048x512.size (slotA_inb s)).set
/-- The elements of slot `s` of the output weight's ring. -/
abbrev setB (s : Fin 4) : Finset S4x512x2048.Idx := (Rect.unit (s := S4x512x2048) ![s.val, 0, 0] S1x512x2048.size (slotB_inb s)).set

theorem setA_disjoint (s s' : Fin 4) (h : s ≠ s') : Disjoint (setA s) (setA s') :=
  Ring.lead_disjoint (s := S4x2048x512) (0 : Fin 3) 1 (fun s : Fin 4 => (![s.val, 0, 0] : Fin 3 → Nat)) S1x2048x512.size slotA_inb (fun s => by simp) rfl s s' h
theorem setA_cover : Finset.univ.biUnion setA = Finset.univ :=
  Ring.lead_cover (s := S4x2048x512) (0 : Fin 3) 1 (fun s : Fin 4 => (![s.val, 0, 0] : Fin 3 → Nat)) S1x2048x512.size slotA_inb (fun s => by simp)
    (fun s a ha => by fin_cases a <;> first | exact absurd rfl ha | rfl) rfl (fun a ha => by fin_cases a <;> first | exact absurd rfl ha | rfl) rfl
theorem setB_disjoint (s s' : Fin 4) (h : s ≠ s') : Disjoint (setB s) (setB s') :=
  Ring.lead_disjoint (s := S4x512x2048) (0 : Fin 3) 1 (fun s : Fin 4 => (![s.val, 0, 0] : Fin 3 → Nat)) S1x512x2048.size slotB_inb (fun s => by simp) rfl s s' h
theorem setB_cover : Finset.univ.biUnion setB = Finset.univ :=
  Ring.lead_cover (s := S4x512x2048) (0 : Fin 3) 1 (fun s : Fin 4 => (![s.val, 0, 0] : Fin 3 → Nat)) S1x512x2048.size slotB_inb (fun s => by simp)
    (fun s a ha => by fin_cases a <;> first | exact absurd rfl ha | rfl) rfl (fun a ha => by fin_cases a <;> first | exact absurd rfl ha | rfl) rfl

theorem slot0_set (s : Fin 4) : (slotA (Memref.whole cc0_scratch0) s).view.set = setA s := by
  simp only [slotA, Memref.view_squeeze, View.set_reshape]; exact View.set_slice_whole _ _
theorem split0 (c : Dev nD) : (iprop(∃ f : Buf (Elt F) ((c : Thread nD τ).loc cc0_scratch0), ((c : Thread nD τ).loc cc0_scratch0) ↦{fullShare} f) : sProp 𝕄) ⊢ iprop(Any c (slotA (Memref.whole cc0_scratch0) 0) ∗ Any c (slotA (Memref.whole cc0_scratch0) 1) ∗ Any c (slotA (Memref.whole cc0_scratch0) 2) ∗ Any c (slotA (Memref.whole cc0_scratch0) 3)) := by
  unfold Any
  exact Ring.slots4_split (U := Pipeline.UD sig nD τ) (ℓ := (c : Thread nD τ).loc cc0_scratch0) (q := fullShare) setA setA_disjoint setA_cover
    (fun f => ((slotA (Memref.whole cc0_scratch0) 0).view.loc (c : Thread nD τ) ↦[(slotA (Memref.whole cc0_scratch0) 0).view.set]{fullShare} f)) (fun f => ((slotA (Memref.whole cc0_scratch0) 1).view.loc (c : Thread nD τ) ↦[(slotA (Memref.whole cc0_scratch0) 1).view.set]{fullShare} f)) (fun f => ((slotA (Memref.whole cc0_scratch0) 2).view.loc (c : Thread nD τ) ↦[(slotA (Memref.whole cc0_scratch0) 2).view.set]{fullShare} f)) (fun f => ((slotA (Memref.whole cc0_scratch0) 3).view.loc (c : Thread nD τ) ↦[(slotA (Memref.whole cc0_scratch0) 3).view.set]{fullShare} f))
    (fun f => by rw [slot0_set]) (fun f => by rw [slot0_set]) (fun f => by rw [slot0_set]) (fun f => by rw [slot0_set])
theorem join0 (c : Dev nD) : (iprop(Any c (slotA (Memref.whole cc0_scratch0) 0) ∗ Any c (slotA (Memref.whole cc0_scratch0) 1) ∗ Any c (slotA (Memref.whole cc0_scratch0) 2) ∗ Any c (slotA (Memref.whole cc0_scratch0) 3)) : sProp 𝕄) ⊢ iprop(∃ f : Buf (Elt F) ((c : Thread nD τ).loc cc0_scratch0), ((c : Thread nD τ).loc cc0_scratch0) ↦{fullShare} f) := by
  unfold Any
  exact Ring.slots4_join (U := Pipeline.UD sig nD τ) (ℓ := (c : Thread nD τ).loc cc0_scratch0) (q := fullShare) setA setA_disjoint setA_cover
    (fun f => ((slotA (Memref.whole cc0_scratch0) 0).view.loc (c : Thread nD τ) ↦[(slotA (Memref.whole cc0_scratch0) 0).view.set]{fullShare} f)) (fun f => ((slotA (Memref.whole cc0_scratch0) 1).view.loc (c : Thread nD τ) ↦[(slotA (Memref.whole cc0_scratch0) 1).view.set]{fullShare} f)) (fun f => ((slotA (Memref.whole cc0_scratch0) 2).view.loc (c : Thread nD τ) ↦[(slotA (Memref.whole cc0_scratch0) 2).view.set]{fullShare} f)) (fun f => ((slotA (Memref.whole cc0_scratch0) 3).view.loc (c : Thread nD τ) ↦[(slotA (Memref.whole cc0_scratch0) 3).view.set]{fullShare} f))
    (fun f => by rw [slot0_set]) (fun f => by rw [slot0_set]) (fun f => by rw [slot0_set]) (fun f => by rw [slot0_set])

theorem slot1_set (s : Fin 4) : (slotA (Memref.whole cc0_scratch1) s).view.set = setA s := by
  simp only [slotA, Memref.view_squeeze, View.set_reshape]; exact View.set_slice_whole _ _
theorem split1 (c : Dev nD) : (iprop(∃ f : Buf (Elt F) ((c : Thread nD τ).loc cc0_scratch1), ((c : Thread nD τ).loc cc0_scratch1) ↦{fullShare} f) : sProp 𝕄) ⊢ iprop(Any c (slotA (Memref.whole cc0_scratch1) 0) ∗ Any c (slotA (Memref.whole cc0_scratch1) 1) ∗ Any c (slotA (Memref.whole cc0_scratch1) 2) ∗ Any c (slotA (Memref.whole cc0_scratch1) 3)) := by
  unfold Any
  exact Ring.slots4_split (U := Pipeline.UD sig nD τ) (ℓ := (c : Thread nD τ).loc cc0_scratch1) (q := fullShare) setA setA_disjoint setA_cover
    (fun f => ((slotA (Memref.whole cc0_scratch1) 0).view.loc (c : Thread nD τ) ↦[(slotA (Memref.whole cc0_scratch1) 0).view.set]{fullShare} f)) (fun f => ((slotA (Memref.whole cc0_scratch1) 1).view.loc (c : Thread nD τ) ↦[(slotA (Memref.whole cc0_scratch1) 1).view.set]{fullShare} f)) (fun f => ((slotA (Memref.whole cc0_scratch1) 2).view.loc (c : Thread nD τ) ↦[(slotA (Memref.whole cc0_scratch1) 2).view.set]{fullShare} f)) (fun f => ((slotA (Memref.whole cc0_scratch1) 3).view.loc (c : Thread nD τ) ↦[(slotA (Memref.whole cc0_scratch1) 3).view.set]{fullShare} f))
    (fun f => by rw [slot1_set]) (fun f => by rw [slot1_set]) (fun f => by rw [slot1_set]) (fun f => by rw [slot1_set])
theorem join1 (c : Dev nD) : (iprop(Any c (slotA (Memref.whole cc0_scratch1) 0) ∗ Any c (slotA (Memref.whole cc0_scratch1) 1) ∗ Any c (slotA (Memref.whole cc0_scratch1) 2) ∗ Any c (slotA (Memref.whole cc0_scratch1) 3)) : sProp 𝕄) ⊢ iprop(∃ f : Buf (Elt F) ((c : Thread nD τ).loc cc0_scratch1), ((c : Thread nD τ).loc cc0_scratch1) ↦{fullShare} f) := by
  unfold Any
  exact Ring.slots4_join (U := Pipeline.UD sig nD τ) (ℓ := (c : Thread nD τ).loc cc0_scratch1) (q := fullShare) setA setA_disjoint setA_cover
    (fun f => ((slotA (Memref.whole cc0_scratch1) 0).view.loc (c : Thread nD τ) ↦[(slotA (Memref.whole cc0_scratch1) 0).view.set]{fullShare} f)) (fun f => ((slotA (Memref.whole cc0_scratch1) 1).view.loc (c : Thread nD τ) ↦[(slotA (Memref.whole cc0_scratch1) 1).view.set]{fullShare} f)) (fun f => ((slotA (Memref.whole cc0_scratch1) 2).view.loc (c : Thread nD τ) ↦[(slotA (Memref.whole cc0_scratch1) 2).view.set]{fullShare} f)) (fun f => ((slotA (Memref.whole cc0_scratch1) 3).view.loc (c : Thread nD τ) ↦[(slotA (Memref.whole cc0_scratch1) 3).view.set]{fullShare} f))
    (fun f => by rw [slot1_set]) (fun f => by rw [slot1_set]) (fun f => by rw [slot1_set]) (fun f => by rw [slot1_set])

theorem slot2_set (s : Fin 4) : (slotB (Memref.whole cc0_scratch2) s).view.set = setB s := by
  simp only [slotB, Memref.view_squeeze, View.set_reshape]; exact View.set_slice_whole _ _
theorem split2 (c : Dev nD) : (iprop(∃ f : Buf (Elt F) ((c : Thread nD τ).loc cc0_scratch2), ((c : Thread nD τ).loc cc0_scratch2) ↦{fullShare} f) : sProp 𝕄) ⊢ iprop(Any c (slotB (Memref.whole cc0_scratch2) 0) ∗ Any c (slotB (Memref.whole cc0_scratch2) 1) ∗ Any c (slotB (Memref.whole cc0_scratch2) 2) ∗ Any c (slotB (Memref.whole cc0_scratch2) 3)) := by
  unfold Any
  exact Ring.slots4_split (U := Pipeline.UD sig nD τ) (ℓ := (c : Thread nD τ).loc cc0_scratch2) (q := fullShare) setB setB_disjoint setB_cover
    (fun f => ((slotB (Memref.whole cc0_scratch2) 0).view.loc (c : Thread nD τ) ↦[(slotB (Memref.whole cc0_scratch2) 0).view.set]{fullShare} f)) (fun f => ((slotB (Memref.whole cc0_scratch2) 1).view.loc (c : Thread nD τ) ↦[(slotB (Memref.whole cc0_scratch2) 1).view.set]{fullShare} f)) (fun f => ((slotB (Memref.whole cc0_scratch2) 2).view.loc (c : Thread nD τ) ↦[(slotB (Memref.whole cc0_scratch2) 2).view.set]{fullShare} f)) (fun f => ((slotB (Memref.whole cc0_scratch2) 3).view.loc (c : Thread nD τ) ↦[(slotB (Memref.whole cc0_scratch2) 3).view.set]{fullShare} f))
    (fun f => by rw [slot2_set]) (fun f => by rw [slot2_set]) (fun f => by rw [slot2_set]) (fun f => by rw [slot2_set])
theorem join2 (c : Dev nD) : (iprop(Any c (slotB (Memref.whole cc0_scratch2) 0) ∗ Any c (slotB (Memref.whole cc0_scratch2) 1) ∗ Any c (slotB (Memref.whole cc0_scratch2) 2) ∗ Any c (slotB (Memref.whole cc0_scratch2) 3)) : sProp 𝕄) ⊢ iprop(∃ f : Buf (Elt F) ((c : Thread nD τ).loc cc0_scratch2), ((c : Thread nD τ).loc cc0_scratch2) ↦{fullShare} f) := by
  unfold Any
  exact Ring.slots4_join (U := Pipeline.UD sig nD τ) (ℓ := (c : Thread nD τ).loc cc0_scratch2) (q := fullShare) setB setB_disjoint setB_cover
    (fun f => ((slotB (Memref.whole cc0_scratch2) 0).view.loc (c : Thread nD τ) ↦[(slotB (Memref.whole cc0_scratch2) 0).view.set]{fullShare} f)) (fun f => ((slotB (Memref.whole cc0_scratch2) 1).view.loc (c : Thread nD τ) ↦[(slotB (Memref.whole cc0_scratch2) 1).view.set]{fullShare} f)) (fun f => ((slotB (Memref.whole cc0_scratch2) 2).view.loc (c : Thread nD τ) ↦[(slotB (Memref.whole cc0_scratch2) 2).view.set]{fullShare} f)) (fun f => ((slotB (Memref.whole cc0_scratch2) 3).view.loc (c : Thread nD τ) ↦[(slotB (Memref.whole cc0_scratch2) 3).view.set]{fullShare} f))
    (fun f => by rw [slot2_set]) (fun f => by rw [slot2_set]) (fun f => by rw [slot2_set]) (fun f => by rw [slot2_set])

/-- A weight array whole is its four parts, -/
theorem parts {ℓ : Loc nD τ sig} {f : Buf (Elt F) ℓ} :
    (ℓ ↦{fullShare} f : sProp 𝕄) ⊢ iprop((ℓ ↦{part 0} f) ∗ (ℓ ↦{part 1} f) ∗ (ℓ ↦{part 2} f) ∗ (ℓ ↦{part 3} f)) :=
  (Ring.pointsTo_nths (U := Pipeline.UD sig nD τ) f 3 fullShare).1
/-- and back. -/
theorem parts_join {ℓ : Loc nD τ sig} {f : Buf (Elt F) ℓ} :
    (iprop((ℓ ↦{part 0} f) ∗ (ℓ ↦{part 1} f) ∗ (ℓ ↦{part 2} f) ∗ (ℓ ↦{part 3} f)) : sProp 𝕄) ⊢ (ℓ ↦{fullShare} f) :=
  (Ring.pointsTo_nths (U := Pipeline.UD sig nD τ) f 3 fullShare).2

/-! ## The kernel's own cells and arrays -/

/-- The cells of the three rings. -/
def osem0 : Fin 3 × Fin 4 → SemLoc sig := fun k => SemLoc.dma (cell k.1 k.2)
theorem ownSemFacts0 : Pipeline.OwnSemFacts spec0 osem0 := by decide
/-- The weight arrays that the body copies from. -/
abbrev H0 : Finset (Ref sig .tc) := {main_v3, main_v4, main_v5}
theorem H0_sub : H0 ⊆ Pipeline.restRefs sig spec0 := by decide

variable (m : (ℓ : Loc nD τ sig) → Buf (Elt F) ℓ)

/-- The three rings of the launched kernel before grid point `p`. -/
abbrev rings (c : Dev nD) (p : ℕ) : sProp 𝕄 :=
  pointRing c (Memref.whole main_v3) (Memref.whole main_v4) (Memref.whole main_v5) (Memref.whole cc0_scratch0) (Memref.whole cc0_scratch1) (Memref.whole cc0_scratch2)
    (V m c main_v3) (V m c main_v4) (V m c main_v5) p
/-- The same with no copy in flight. -/
abbrev rings0 (c : Dev nD) : sProp 𝕄 :=
  idleRing c (Memref.whole main_v3) (Memref.whole main_v4) (Memref.whole main_v5) (Memref.whole cc0_scratch0) (Memref.whole cc0_scratch1) (Memref.whole cc0_scratch2)
    (V m c main_v3) (V m c main_v4) (V m c main_v5)
/-- What the body keeps from one grid point to the next. -/
def kept (c : Dev nD) (p : ℕ) : sProp 𝕄 :=
  iprop(rings m c p ∗ (∃ x, owns (c : Thread nD τ) (Memref.whole cc0_scratch4) fullShare x) ∗ (∃ a, owns (c : Thread nD τ) (Memref.whole cc0_scratch5) fullShare a) ∗ (∃ r, prngReg c r))

theorem ownSems_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma (cell 0 0)) 0 ∗ semVal ((c : Thread nD τ), SemLoc.dma (cell 1 0)) 0 ∗ semVal ((c : Thread nD τ), SemLoc.dma (cell 2 0)) 0 ∗ semVal ((c : Thread nD τ), SemLoc.dma (cell 0 1)) 0 ∗ semVal ((c : Thread nD τ), SemLoc.dma (cell 1 1)) 0 ∗ semVal ((c : Thread nD τ), SemLoc.dma (cell 2 1)) 0 ∗ semVal ((c : Thread nD τ), SemLoc.dma (cell 0 2)) 0 ∗ semVal ((c : Thread nD τ), SemLoc.dma (cell 1 2)) 0 ∗ semVal ((c : Thread nD τ), SemLoc.dma (cell 2 2)) 0 ∗ semVal ((c : Thread nD τ), SemLoc.dma (cell 0 3)) 0 ∗ semVal ((c : Thread nD τ), SemLoc.dma (cell 1 3)) 0 ∗ semVal ((c : Thread nD τ), SemLoc.dma (cell 2 3)) 0) :=
  Pipeline.ownSems0_eq_of_list c osem0 [(0, 0), (1, 0), (2, 0), (0, 1), (1, 1), (2, 1), (0, 2), (1, 2), (2, 2), (0, 3), (1, 3), (2, 3)] (by decide) (by decide)
theorem arrays_eq (c : Dev nD) : (bigSep H0 fun b => (((c : Thread nD τ).loc b) ↦{fullShare} V m c b : sProp 𝕄))
    = iprop((((c : Thread nD τ).loc main_v3) ↦{fullShare} V m c main_v3) ∗ (((c : Thread nD τ).loc main_v4) ↦{fullShare} V m c main_v4) ∗ (((c : Thread nD τ).loc main_v5) ↦{fullShare} V m c main_v5)) :=
  bigSep_eq_bigSepL_of_eq [main_v3, main_v4, main_v5] (by decide) (by decide) _

theorem rings0_intro (c : Dev nD) :
    iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
      ∗ (semVal ((c : Thread nD τ), SemLoc.dma (cell 0 0)) 0 ∗ semVal ((c : Thread nD τ), SemLoc.dma (cell 1 0)) 0 ∗ semVal ((c : Thread nD τ), SemLoc.dma (cell 2 0)) 0 ∗ semVal ((c : Thread nD τ), SemLoc.dma (cell 0 1)) 0 ∗ semVal ((c : Thread nD τ), SemLoc.dma (cell 1 1)) 0 ∗ semVal ((c : Thread nD τ), SemLoc.dma (cell 2 1)) 0 ∗ semVal ((c : Thread nD τ), SemLoc.dma (cell 0 2)) 0 ∗ semVal ((c : Thread nD τ), SemLoc.dma (cell 1 2)) 0 ∗ semVal ((c : Thread nD τ), SemLoc.dma (cell 2 2)) 0 ∗ semVal ((c : Thread nD τ), SemLoc.dma (cell 0 3)) 0 ∗ semVal ((c : Thread nD τ), SemLoc.dma (cell 1 3)) 0 ∗ semVal ((c : Thread nD τ), SemLoc.dma (cell 2 3)) 0)
      ∗ (((c : Thread nD τ).loc main_v3) ↦{fullShare} V m c main_v3) ∗ (((c : Thread nD τ).loc main_v4) ↦{fullShare} V m c main_v4) ∗ (((c : Thread nD τ).loc main_v5) ↦{fullShare} V m c main_v5)) ⊢ rings0 m c := by
  unfold rings0 idleRing lanes laneA laneB Idle
  iintro ⟨S0, S1, S2, ⟨Q00, Q10, Q20, Q01, Q11, Q21, Q02, Q12, Q22, Q03, Q13, Q23⟩, A0, A1, A2⟩
  ihave S0 := (split0 c) $$ S0
  ihave S1 := (split1 c) $$ S1
  ihave S2 := (split2 c) $$ S2
  ihave A0 := parts $$ A0
  ihave A1 := parts $$ A1
  ihave A2 := parts $$ A2
  icases S0 with ⟨S00, S01, S02, S03⟩
  icases A0 with ⟨A00, A01, A02, A03⟩
  icases S1 with ⟨S10, S11, S12, S13⟩
  icases A1 with ⟨A10, A11, A12, A13⟩
  icases S2 with ⟨S20, S21, S22, S23⟩
  icases A2 with ⟨A20, A21, A22, A23⟩
  isplitl [Q00 S00 A00 Q10 S10 A10 Q20 S20 A20]
  · isplitl [Q00 S00 A00]
    · isplitl [Q00]; · iexact Q00
      isplitl [S00]; · iexact S00
      iexact A00
    isplitl [Q10 S10 A10]
    · isplitl [Q10]; · iexact Q10
      isplitl [S10]; · iexact S10
      iexact A10
    isplitl [Q20]; · iexact Q20
    isplitl [S20]; · iexact S20
    iexact A20
  isplitl [Q01 S01 A01 Q11 S11 A11 Q21 S21 A21]
  · isplitl [Q01 S01 A01]
    · isplitl [Q01]; · iexact Q01
      isplitl [S01]; · iexact S01
      iexact A01
    isplitl [Q11 S11 A11]
    · isplitl [Q11]; · iexact Q11
      isplitl [S11]; · iexact S11
      iexact A11
    isplitl [Q21]; · iexact Q21
    isplitl [S21]; · iexact S21
    iexact A21
  isplitl [Q02 S02 A02 Q12 S12 A12 Q22 S22 A22]
  · isplitl [Q02 S02 A02]
    · isplitl [Q02]; · iexact Q02
      isplitl [S02]; · iexact S02
      iexact A02
    isplitl [Q12 S12 A12]
    · isplitl [Q12]; · iexact Q12
      isplitl [S12]; · iexact S12
      iexact A12
    isplitl [Q22]; · iexact Q22
    isplitl [S22]; · iexact S22
    iexact A22
  isplitl [Q03 S03 A03]
  · isplitl [Q03]; · iexact Q03
    isplitl [S03]; · iexact S03
    iexact A03
  isplitl [Q13 S13 A13]
  · isplitl [Q13]; · iexact Q13
    isplitl [S13]; · iexact S13
    iexact A13
  isplitl [Q23]; · iexact Q23
  isplitl [S23]; · iexact S23
  iexact A23

theorem rings0_elim (c : Dev nD) : rings0 m c ⊢
    iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
      ∗ (semVal ((c : Thread nD τ), SemLoc.dma (cell 0 0)) 0 ∗ semVal ((c : Thread nD τ), SemLoc.dma (cell 1 0)) 0 ∗ semVal ((c : Thread nD τ), SemLoc.dma (cell 2 0)) 0 ∗ semVal ((c : Thread nD τ), SemLoc.dma (cell 0 1)) 0 ∗ semVal ((c : Thread nD τ), SemLoc.dma (cell 1 1)) 0 ∗ semVal ((c : Thread nD τ), SemLoc.dma (cell 2 1)) 0 ∗ semVal ((c : Thread nD τ), SemLoc.dma (cell 0 2)) 0 ∗ semVal ((c : Thread nD τ), SemLoc.dma (cell 1 2)) 0 ∗ semVal ((c : Thread nD τ), SemLoc.dma (cell 2 2)) 0 ∗ semVal ((c : Thread nD τ), SemLoc.dma (cell 0 3)) 0 ∗ semVal ((c : Thread nD τ), SemLoc.dma (cell 1 3)) 0 ∗ semVal ((c : Thread nD τ), SemLoc.dma (cell 2 3)) 0)
      ∗ (((c : Thread nD τ).loc main_v3) ↦{fullShare} V m c main_v3) ∗ (((c : Thread nD τ).loc main_v4) ↦{fullShare} V m c main_v4) ∗ (((c : Thread nD τ).loc main_v5) ↦{fullShare} V m c main_v5)) := by
  unfold rings0 idleRing lanes laneA laneB Idle
  iintro ⟨⟨⟨Q00, S00, A00⟩, ⟨Q10, S10, A10⟩, ⟨Q20, S20, A20⟩⟩, ⟨⟨Q01, S01, A01⟩, ⟨Q11, S11, A11⟩, ⟨Q21, S21, A21⟩⟩, ⟨⟨Q02, S02, A02⟩, ⟨Q12, S12, A12⟩, ⟨Q22, S22, A22⟩⟩, ⟨⟨Q03, S03, A03⟩, ⟨Q13, S13, A13⟩, ⟨Q23, S23, A23⟩⟩⟩
  isplitl [S00 S01 S02 S03]
  · iapply (join0 c)
    isplitl [S00]; · iexact S00
    isplitl [S01]; · iexact S01
    isplitl [S02]; · iexact S02
    iexact S03
  isplitl [S10 S11 S12 S13]
  · iapply (join1 c)
    isplitl [S10]; · iexact S10
    isplitl [S11]; · iexact S11
    isplitl [S12]; · iexact S12
    iexact S13
  isplitl [S20 S21 S22 S23]
  · iapply (join2 c)
    isplitl [S20]; · iexact S20
    isplitl [S21]; · iexact S21
    isplitl [S22]; · iexact S22
    iexact S23
  isplitl [Q00 Q10 Q20 Q01 Q11 Q21 Q02 Q12 Q22 Q03 Q13 Q23]
  · isplitl [Q00]; · iexact Q00
    isplitl [Q10]; · iexact Q10
    isplitl [Q20]; · iexact Q20
    isplitl [Q01]; · iexact Q01
    isplitl [Q11]; · iexact Q11
    isplitl [Q21]; · iexact Q21
    isplitl [Q02]; · iexact Q02
    isplitl [Q12]; · iexact Q12
    isplitl [Q22]; · iexact Q22
    isplitl [Q03]; · iexact Q03
    isplitl [Q13]; · iexact Q13
    iexact Q23
  isplitl [A00 A01 A02 A03]
  · iapply parts_join
    isplitl [A00]; · iexact A00
    isplitl [A01]; · iexact A01
    isplitl [A02]; · iexact A02
    iexact A03
  isplitl [A10 A11 A12 A13]
  · iapply parts_join
    isplitl [A10]; · iexact A10
    isplitl [A11]; · iexact A11
    isplitl [A12]; · iexact A12
    iexact A13
  iapply parts_join
  isplitl [A20]; · iexact A20
  isplitl [A21]; · iexact A21
  isplitl [A22]; · iexact A22
  iexact A23

theorem rings_zero (c : Dev nD) : rings0 m c ⊢ rings m c 0 := by
  unfold rings pointRing; rw [if_pos rfl]
/-- After the last point every block number is past the end: no copy is in flight. -/
theorem rings_last (c : Dev nD) : rings m c 16 ⊢ rings0 m c := by
  unfold rings rings0 pointRing; rw [if_neg (by decide)]
  unfold ring idleRing
  rw [blk_ge (n := 11 * 16) (by decide), blk_ge (n := 11 * 16 + 1) (by decide), blk_ge (n := 11 * 16 + 2) (by decide)]
  exact .rfl

theorem entry (c : Dev nD) : Pipeline.ΦD osem0 spec0 H0 (V m) c ⊢ kept m c 0 := by
  rw [Pipeline.ΦD_eq, scopedRest0_eq, ownSems_eq, arrays_eq]
  unfold kept
  iintro ⟨⟨S0, S1, S2, S4, S5⟩, Hg, Q, A0, A1, A2⟩
  isplitl [S0 S1 S2 Q A0 A1 A2]
  · iapply rings_zero
    iapply rings0_intro
    isplitl [S0]; · iexact S0
    isplitl [S1]; · iexact S1
    isplitl [S2]; · iexact S2
    isplitl [Q]; · iexact Q
    isplitl [A0]; · iexact A0
    isplitl [A1]; · iexact A1
    iexact A2
  isplitl [S4]; · iapply (Entails.of_eq (Memref.IsWhole.exists_owns_eq (c := (c : Thread nD τ)) (Memref.isWhole_whole cc0_scratch4) fullShare).symm); iexact S4
  isplitl [S5]; · iapply (Entails.of_eq (Memref.IsWhole.exists_owns_eq (c := (c : Thread nD τ)) (Memref.isWhole_whole cc0_scratch5) fullShare).symm); iexact S5
  iexact Hg

theorem leave (c : Dev nD) : kept m c 16 ⊢ Pipeline.ΦD osem0 spec0 H0 (V m) c := by
  rw [Pipeline.ΦD_eq, scopedRest0_eq, ownSems_eq, arrays_eq]
  unfold kept
  iintro ⟨R, S4, S5, Hg⟩
  ihave R := (rings_last m c) $$ R
  ihave R := (rings0_elim m c) $$ R
  icases R with ⟨S0, S1, S2, Q, A⟩
  isplitl [S0 S1 S2 S4 S5]
  · isplitl [S0]; · iexact S0
    isplitl [S1]; · iexact S1
    isplitl [S2]; · iexact S2
    isplitl [S4]; · iapply (Entails.of_eq (Memref.IsWhole.exists_owns_eq (c := (c : Thread nD τ)) (Memref.isWhole_whole cc0_scratch4) fullShare)); iexact S4
    iapply (Entails.of_eq (Memref.IsWhole.exists_owns_eq (c := (c : Thread nD τ)) (Memref.isWhole_whole cc0_scratch5) fullShare)); iexact S5
  isplitl [Hg]; · iexact Hg
  isplitl [Q]; · iexact Q
  iexact A

end Cert.FfnRun

end
-- ==== Proof.FfnFrame.lean ====
/-
  The run of the feed-forward kernel. Each grid point reads one block of 512 rows, runs the eleven steps over the hidden
  columns, and leaves the normalised sum with the rows added back in the result's block; the rings pass from point to
  point. The launched program ends, with every semaphore at zero, its arguments as they were, and the result's array
  at the blocks written point by point.
-/
module

public import proofs.«01_k».proof.Proof.FfnEntry

@[expose] public section

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

/-- The resource algebra of the run. -/
local notation "𝕄" => MT nD τ sig Unit (Elt F) ℕ (Pipeline.UD sig nD τ) ℕ

set_option maxRecDepth 16384

variable (m : (ℓ : Loc nD τ sig) → Buf (Elt F) ℓ) (ρ : Dev nD → PrngReg)

set_option maxHeartbeats 800000 in
/-- @main up to the kernel: the host operations. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Block `t` of the hidden state. -/
abbrev inX (c : Dev nD) (t : Fin cfg0.N) : FVec F S512x2048 .f32 := iblk m c 0 t
/-- The first norm's weights. -/
abbrev inG (c : Dev nD) (t : Fin cfg0.N) : FVec F S1x2048 .f32 := iblk m c 1 t
/-- The second norm's weights. -/
abbrev inG' (c : Dev nD) (t : Fin cfg0.N) : FVec F S1x2048 .f32 := iblk m c 2 t
/-- The rows of block `t` after the first norm. -/
def normed (c : Dev nD) (t : Fin cfg0.N) : FVec F S512x2048 .bf16 := k0_pay5 (inX m c t) (k0_pay3 (inG m c t)) (k0_pay4 (inX m c t))
/-- What grid point `t` leaves in the result's block. -/
def outAt (c : Dev nD) (t : Fin cfg0.N) : FVec F S512x2048 .f32 :=
  k0_pay1 (contrib c (Memref.whole main_v3) (Memref.whole main_v4) (Memref.whole main_v5) (V m c main_v3) (V m c main_v4) (V m c main_v5) (normed m c t) (11 * t.val + 10))
    (partials c (Memref.whole main_v3) (Memref.whole main_v4) (Memref.whole main_v5) (V m c main_v3) (V m c main_v4) (V m c main_v5) (normed m c t) (11 * t.val) 9) (inX m c t) (inG' m c t)

/-- The proof data: each window's block after a point, and what is kept between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := kept m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0_0, after0_1, after0_2, after0_3]
  rw [show (dats m 0 c).Φ t.succ = kept m c (t.val + 1) from rfl, show (dats m 0 c).Φ t.castSucc = kept m c t.val from rfl]
  simp only [before0_0, before0_1, before0_2]
  unfold Dat.owesAt Pipeline.owesWithin
  rw [show (dats m 0 c).owed t.castSucc = 0 from rfl, show (dats m 0 c).owed t.succ = 0 from rfl]
  unfold kept outAt normed
  iintro ⟨⟨R, ⟨%x0, X0⟩, ⟨%a0, A0⟩, Hg⟩, ⟨%W, -, HW⟩, ⟨%d0, H0⟩, ⟨%d1, H1⟩, ⟨%d2, H2⟩, ⟨%d3, H3⟩⟩
  iapply wp_wand_r
  isplitl [R X0 A0 HW H0 H1 H2 H3]
  · iapply (body_run c t)
    isplitl [R]; · iexact R
    isplitl [H0]; · iexact H0
    isplitl [H1]; · iexact H1
    isplitl [H2]; · iexact H2
    isplitl [H3]; · iexact H3
    isplitl [X0]; · iexact X0
    isplitl [A0]; · iexact A0
    iexists W; iexact HW
  iintro %r
  iintro ⟨R, H0, H1, H2, H3, X0, A0, ⟨%W', HW'⟩⟩
  isplitl [R X0 A0 Hg]
  · isplitl [R]; · iexact R
    isplitl [X0]; · iexact X0
    isplitl [A0]; · iexact A0
    iexact Hg
  isplitl [HW']
  · iexists W'; isplitr; · ipureintro; exact fun _ _ => Or.inl trivial
    iexact HW'
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => entry m c) (hout := fun c => leave m c)

/-- The arguments end as they began, and every semaphore at zero. -/
theorem frame_of (h : θ_run defs (onTc (τ := τ) (main (F := F))) (s₀ m ρ) (fun r => Pipeline.FramePost cfgs (dats m) 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) h
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := frame_of m ρ (run_main m ρ)

end Cert.FfnRun

end
-- ==== Proof.FfnPair.lean ====
/- The feed-forward's kernel and its ideal reading are one text: their body tables are equal, so the run of the one is the
   run of the other, and the kernel's frame is its ideal reading's. -/
module

public import proofs.«01_k».proof.Defs
public import proofs.«01_k».proof.Proof.Gen.Ffn
public import proofs.«01_k».proof.Proof.FfnFrame

@[expose] public section

set_option maxRecDepth 100000
set_option maxHeartbeats 4000000

noncomputable section

namespace Cert.FfnRun

open Idealize.ShloMosaic Idealize.SL.Sem

attribute [local instance] Cert.Ffn.Gen.facts Cert.FfnIdeal.Gen.facts

variable {F : FTy → Type} [FloatOps F]

/-- The two body tables hold the same kernel body. -/
theorem pair_defs₀ : Cert.FfnIdeal.defs₀ (F := F) = Cert.Ffn.defs₀ (F := F) := by
  unfold Cert.FfnIdeal.defs₀ Cert.Ffn.defs₀
  congr 1
  funext l a
  match l with
  | 0 => rfl

/-- With the pipeline's labels the tables are still the same. -/
theorem pair_defs : Cert.FfnIdeal.defs (F := F) = Cert.Ffn.defs (F := F) :=
  congrArg (Pipeline.defs Cert.FfnIdeal.pcfgs) pair_defs₀

/-- The kernel ends, leaves its arguments as they were and every counter at zero. -/
theorem frame_kernel : Cert.quiescent_Ffn (hFfn := Cert.Ffn.Gen.facts) := fun m ρ _ => by
  have h := frame_run (F := Bits) m ρ
  rw [pair_defs] at h
  exact h

end Cert.FfnRun

end
-- ==== Proof.FfnRef.lean ====
/-
  What the reference computes, stage by stage: the normalised rows, their product with the joined input weight, the gated
  activation, its product with the output weight, and the rows with the normalised product added.
-/
module

public import proofs.«01_k».proof.Defs
public import proofs.«01_k».proof.Proof.Gen.FfnRefIdeal.Run

@[expose] public section

set_option maxRecDepth 16384

noncomputable section

namespace Cert.FfnValue

open Idealize.ShloMosaic Idealize.ShloMosaic.TcCoe Idealize.SL.Sem
open Cert.FfnRefIdeal Cert.FfnRefIdeal.Gen

/-- Rows scaled by the reciprocal root of their mean square, then by the gains. -/
def refNorm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))
/-- The gate and the up projection side by side. -/
def refGu (xn : FVec Ideal S8192x2048 .f32) (w : FVec Ideal S2048x11264 .f32) : FVec Ideal S8192x11264 .f32 :=
  Host.dotGeneral dot_S8192x2048_S2048x11264_S8192x11264_1_0_0_1_n_n none xn w
/-- The gated activation. -/
def refAct (gu : FVec Ideal S8192x11264 .f32) : FVec Ideal S8192x5632 .f32 :=
  mulf (mulf (extractStridedSlice S8192x5632 ![0, 0] gu slices_S8192x11264_S8192x5632_0_0) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extractStridedSlice S8192x5632 ![0, 0] gu slices_S8192x11264_S8192x5632_0_0)))))) (extractStridedSlice S8192x5632 ![0, 5632] gu slices_S8192x11264_S8192x5632_0_5632)
/-- The product with the output weight. -/
def refY (a : FVec Ideal S8192x5632 .f32) (w : FVec Ideal S5632x2048 .f32) : FVec Ideal S8192x2048 .f32 :=
  Host.dotGeneral dot_S8192x5632_S5632x2048_S8192x2048_1_0_0_1_n_n none a w

/-- The result is the rows plus the normalised product. -/
theorem ref_eq (m' : (ℓ : Loc nD τ sig) → Buf (Elt Ideal) ℓ) (c : Dev nD) :
    Cert.FfnRefIdeal.Value.res_main_v32 m' c
      = addf (m' ((c.tc : Thread nD τ).loc main_arg0))
          (refNorm (refY (refAct (refGu (refNorm (m' ((c.tc : Thread nD τ).loc main_arg0)) (m' ((c.tc : Thread nD τ).loc main_arg1))) (m' ((c.tc : Thread nD τ).loc main_arg2)))) (m' ((c.tc : Thread nD τ).loc main_arg3))) (m' ((c.tc : Thread nD τ).loc main_arg4))) := by
  unfold Cert.FfnRefIdeal.Value.res_main_v32 refNorm refY refAct refGu; rfl

end Cert.FfnValue

end
-- ==== Proof.FfnBlocks.lean ====
/-
  The feed-forward kernel's blocks against the reference's stages: the normalised rows of a block, the contribution of one
  block of hidden columns, their sum over the eleven blocks.
-/
module

public import proofs.«01_k».proof.Proof.FfnRef
public import proofs.«01_k».proof.Proof.FfnFrame
public import Idealize.ShloMosaic.Lib.Pipeline.ValueKit
public import Idealize.ShloMosaic.Lib.Pointwise
public import Idealize.ShloMosaic.Lib.ValueLayout

@[expose] public section

set_option maxRecDepth 16384

noncomputable section

namespace Cert.FfnValue

open Idealize.ShloMosaic Idealize.ShloMosaic.TcCoe Idealize.SL.Sem
open Cert.FfnIdeal Cert.FfnIdeal.Gen Cert.FfnRun

variable (m : (ℓ : Loc nD τ sig) → Buf (Elt Ideal) ℓ)

theorem idx : ∀ t : Fin grid0.N, win0_0.index t = ![t.val, 0] ∧ win0_1.index t = ![0, 0] ∧ win0_2.index t = ![0, 0]
    ∧ win0_3.index t = ![t.val, 0] := by decide +kernel

/-- The hidden state. -/
abbrev aX (c : Dev nD) : FVec Ideal S8192x2048 .f32 := m ((c.tc : Thread nD τ).loc main_arg0)
abbrev aG (c : Dev nD) : FVec Ideal S2048 .f32 := m ((c.tc : Thread nD τ).loc main_arg1)
abbrev aW (c : Dev nD) : FVec Ideal S2048x11264 .f32 := m ((c.tc : Thread nD τ).loc main_arg2)
abbrev aO (c : Dev nD) : FVec Ideal S5632x2048 .f32 := m ((c.tc : Thread nD τ).loc main_arg3)
abbrev aG' (c : Dev nD) : FVec Ideal S2048 .f32 := m ((c.tc : Thread nD τ).loc main_arg4)

set_option maxHeartbeats 4000000 in
theorem normed_point (c : Dev nD) (t : Fin cfg0.N) (y : S512x2048.Idx) :
    normed m c t y = refNorm (aX m c) (aG m c) (((cfg0.win 0).blk t).view.emb y) := by
  unfold normed inX inG refNorm aX aG
  pointwise [k0_pay5, k0_pay3, k0_pay4]
  blk_point [iblk, V, idx t]

/-- Row `i` of block `t`. -/
def row (t : Fin cfg0.N) (i : Fin 512) : Fin 8192 := ⟨512 * t.val + i.val, by have h : t.val < 16 := Nat.lt_of_lt_of_eq t.isLt N_0; omega⟩
/-- Hidden column `q` of block `b`. -/
def hcol (b : Fin 11) (q : Fin 512) : Fin 5632 := ⟨b.val * 512 + q.val, by omega⟩

/-- A block's normalised rows are the reference's. -/
theorem normed_row (c : Dev nD) (t : Fin cfg0.N) (i : Fin 512) (k : Fin 2048) :
    normed m c t (ix2 i k) = refNorm (aX m c) (aG m c) (ix2 (row t i) k) := by
  rw [normed_point]
  congr 1
  blk_ext [idx t, row]

theorem blkA_emb0 (b : Fin 11) (k : Fin 2048) (q : Fin 512) : (blkA (Memref.whole main_v3) b).view.emb (ix2 k q) = ix3 b k q := by
  refine (congrArg (Rect.unit (s := S11x2048x512) ![b.val, 0, 0] S1x2048x512.size (blkA_inb b)).emb (ValueIdx.reshapeEquiv_ix2_1ab _ k q)).trans ?_
  funext a; apply Fin.ext; rw [Rect.emb_apply]
  fin_cases a <;> simp [ix3]
theorem blkA_emb1 (b : Fin 11) (k : Fin 2048) (q : Fin 512) : (blkA (Memref.whole main_v4) b).view.emb (ix2 k q) = ix3 b k q := by
  refine (congrArg (Rect.unit (s := S11x2048x512) ![b.val, 0, 0] S1x2048x512.size (blkA_inb b)).emb (ValueIdx.reshapeEquiv_ix2_1ab _ k q)).trans ?_
  funext a; apply Fin.ext; rw [Rect.emb_apply]
  fin_cases a <;> simp [ix3]
theorem blkB_emb (b : Fin 11) (q : Fin 512) (j : Fin 2048) : (blkB (Memref.whole main_v5) b).view.emb (ix2 q j) = ix2 (hcol b q) j := by
  refine (show _ = (Rect.unit (s := S5632x2048) ![512 * b.val, 0] S512x2048.size (blkB_inb b)).emb (ix2 q j) from rfl).trans ?_
  funext a; apply Fin.ext; rw [Rect.emb_apply]
  fin_cases a <;> simp [ix2, hcol]
  omega
/-- Block `b` of the gate's weight. -/
theorem wA0_point (c : Dev nD) (b : Fin 11) (k : Fin 2048) (q : Fin 512) :
    wA0 c (Memref.whole main_v3) (V m c main_v3) b (ix2 k q) = aW m c (ix2 k ⟨(hcol b q).val, by have := (hcol b q).isLt; omega⟩) := by
  unfold wA0
  refine (congrArg (V m c main_v3) (blkA_emb0 b k q)).trans ?_
  unfold aW
  pointwise []
  blk_point [V, hcol]
/-- Block `b` of the up projection's weight. -/
theorem wA1_point (c : Dev nD) (b : Fin 11) (k : Fin 2048) (q : Fin 512) :
    wA1 c (Memref.whole main_v4) (V m c main_v4) b (ix2 k q) = aW m c (ix2 k ⟨5632 + (hcol b q).val, by have := (hcol b q).isLt; omega⟩) := by
  unfold wA1
  refine (congrArg (V m c main_v4) (blkA_emb1 b k q)).trans ?_
  unfold aW
  pointwise []
  blk_point [V, hcol]
/-- Block `b` of the output weight. -/
theorem wB_point (c : Dev nD) (b : Fin 11) (q : Fin 512) (j : Fin 2048) :
    wB c (Memref.whole main_v5) (V m c main_v5) b (ix2 q j) = aO m c (ix2 (hcol b q) j) := by
  unfold wB
  refine (congrArg (V m c main_v5) (blkB_emb b q j)).trans ?_
  unfold aO
  blk_point [V, hcol]

set_option maxHeartbeats 4000000 in
/-- The gated activation of a block of rows against one block of hidden columns. -/
theorem act_point (c : Dev nD) (t : Fin cfg0.N) (b : Fin 11) (i : Fin 512) (q : Fin 512) :
    act (normed m c t) (wA0 c (Memref.whole main_v3) (V m c main_v3) b) (wA1 c (Memref.whole main_v4) (V m c main_v4) b) (ix2 i q)
      = refAct (refGu (refNorm (aX m c) (aG m c)) (aW m c)) (ix2 (row t i) (hcol b q)) := by
  have hg : (fun k : Fin 2048 => normed m c t (ix2 i k) * wA0 c (Memref.whole main_v3) (V m c main_v3) b (ix2 k q))
      = fun k => refNorm (aX m c) (aG m c) (ix2 (row t i) k) * aW m c (ix2 k ⟨(hcol b q).val, by have := (hcol b q).isLt; omega⟩) :=
    funext fun k => by rw [normed_row, wA0_point]
  have hu : (fun k : Fin 2048 => normed m c t (ix2 i k) * wA1 c (Memref.whole main_v4) (V m c main_v4) b (ix2 k q))
      = fun k => refNorm (aX m c) (aG m c) (ix2 (row t i) k) * aW m c (ix2 k ⟨5632 + (hcol b q).val, by have := (hcol b q).isLt; omega⟩) :=
    funext fun k => by rw [normed_row, wA1_point]
  generalize normed m c t = xk at *
  generalize wA0 c (Memref.whole main_v3) (V m c main_v3) b = A at *
  generalize wA1 c (Memref.whole main_v4) (V m c main_v4) b = B at *
  generalize refNorm (aX m c) (aG m c) = xr at *
  generalize aW m c = W at *
  unfold act refAct refGu
  pointwise []
  rw [hg, hu]; rfl

/-- What a step adds: the block's activation against the block of the output weight. -/
theorem contrib_point (c : Dev nD) (t : Fin cfg0.N) (n : ℕ) (i : Fin 512) (j : Fin 2048) :
    contrib c (Memref.whole main_v3) (Memref.whole main_v4) (Memref.whole main_v5) (V m c main_v3) (V m c main_v4) (V m c main_v5) (normed m c t) n (ix2 i j)
      = ∑ q : Fin 512, refAct (refGu (refNorm (aX m c) (aG m c)) (aW m c)) (ix2 (row t i) (hcol (bk n) q)) * aO m c (ix2 (hcol (bk n) q) j) := by
  unfold contrib
  have h : (fun q : Fin 512 => act (normed m c t) (wA0 c (Memref.whole main_v3) (V m c main_v3) (bk n)) (wA1 c (Memref.whole main_v4) (V m c main_v4) (bk n)) (ix2 i q) * wB c (Memref.whole main_v5) (V m c main_v5) (bk n) (ix2 q j))
      = fun q => refAct (refGu (refNorm (aX m c) (aG m c)) (aW m c)) (ix2 (row t i) (hcol (bk n) q)) * aO m c (ix2 (hcol (bk n) q) j) :=
    funext fun q => by rw [act_point, wB_point]
  rw [← h]
  generalize act (normed m c t) (wA0 c (Memref.whole main_v3) (V m c main_v3) (bk n)) (wA1 c (Memref.whole main_v4) (V m c main_v4) (bk n)) = A
  generalize wB c (Memref.whole main_v5) (V m c main_v5) (bk n) = B
  unfold proj
  pointwise []

theorem bk_step (t : Fin cfg0.N) (b : ℕ) (h : b < 11) : bk (11 * t.val + b) = ⟨b, h⟩ := Fin.ext (by simp [bk]; omega)
theorem bk_step0 (t : Fin cfg0.N) : bk (11 * t.val) = ⟨0, by decide⟩ := Fin.ext (by simp [bk])

theorem sum_eleven (G : Fin 11 → EReal) : ∑ s, G s = G ⟨0, by decide⟩ + G ⟨1, by decide⟩ + G ⟨2, by decide⟩ + G ⟨3, by decide⟩ + G ⟨4, by decide⟩ + G ⟨5, by decide⟩ + G ⟨6, by decide⟩ + G ⟨7, by decide⟩ + G ⟨8, by decide⟩ + G ⟨9, by decide⟩ + G ⟨10, by decide⟩ := by
  simp only [Fin.sum_univ_castSucc, Fin.sum_univ_zero, zero_add]; rfl

/-- The eleven steps' contributions are the product over all hidden columns. -/
theorem sum_point (c : Dev nD) (t : Fin cfg0.N) (i : Fin 512) (j : Fin 2048) :
    addf (partials c (Memref.whole main_v3) (Memref.whole main_v4) (Memref.whole main_v5) (V m c main_v3) (V m c main_v4) (V m c main_v5) (normed m c t) (11 * t.val) 9)
        (contrib c (Memref.whole main_v3) (Memref.whole main_v4) (Memref.whole main_v5) (V m c main_v3) (V m c main_v4) (V m c main_v5) (normed m c t) (11 * t.val + 10)) (ix2 i j)
      = refY (refAct (refGu (refNorm (aX m c) (aG m c)) (aW m c))) (aO m c) (ix2 (row t i) j) := by
  simp only [partials, addf_apply]
  iterate 11 rw [contrib_point m c t _ i j]
  rw [bk_step0, bk_step t 1 (by decide), bk_step t 2 (by decide), bk_step t 3 (by decide), bk_step t 4 (by decide), bk_step t 5 (by decide), bk_step t 6 (by decide), bk_step t 7 (by decide), bk_step t 8 (by decide), bk_step t 9 (by decide), bk_step t 10 (by decide)]
  generalize refAct (refGu (refNorm (aX m c) (aG m c)) (aW m c)) = A
  generalize aO m c = W
  unfold refY
  pointwise []
  refine Eq.trans ?_ (Fin.sum_mul_add_fin (S := 11) (n := 512) (L := 5632) (fun l => A (ix2 (row t i) l) * W (ix2 l j)) (by decide))
  rw [sum_eleven]
  rfl

end Cert.FfnValue

end
-- ==== Proof.FfnValue.lean ====
/-
  The feed-forward kernel's result: the array that the call returns holds what the reference computes.
-/
module

public import proofs.«01_k».proof.Proof.FfnBlocks

@[expose] public section

set_option maxRecDepth 16384

noncomputable section

namespace Cert.FfnValue

open Idealize.ShloMosaic Idealize.ShloMosaic.TcCoe Idealize.SL.Sem
open Cert.FfnIdeal Cert.FfnIdeal.Gen Cert.FfnRun

variable (m : (ℓ : Loc nD τ sig) → Buf (Elt Ideal) ℓ)
  (m' : (ℓ : Loc Cert.FfnRefIdeal.nD Cert.FfnRefIdeal.τ Cert.FfnRefIdeal.sig) → Buf (Elt Ideal) ℓ)

set_option maxHeartbeats 4000000 in
/-- The last step of a block: the product's rows normalised and added to the hidden state, given the product's rows. -/
theorem out_point (c : Dev nD) (t : Fin cfg0.N) (p s : FVec Ideal S512x2048 .f32) (Y : FVec Ideal S8192x2048 .f32)
    (h : ∀ (i : Fin 512) (j : Fin 2048), addf s p (ix2 i j) = Y (ix2 (row t i) j)) (i : Fin 512) (j : Fin 2048) :
    k0_pay1 p s (inX m c t) (inG' m c t) (ix2 i j) = addf (aX m c) (refNorm Y (aG' m c)) (ix2 (row t i) j) := by
  have hx : inX m c t (ix2 i j) = aX m c (ix2 (row t i) j) := by
    unfold inX aX; blk_point [iblk, V, idx t, row]
  have hg : inG' m c t (ix2 (0 : Fin 1) j) = aG' m c (ix1 j) := by
    unfold inG' aG'; blk_point [iblk, V, idx t, row]
  generalize inX m c t = x at *
  generalize inG' m c t = g at *
  generalize aX m c = X at *
  generalize aG' m c = G at *
  have h' : ∀ (i : Fin 512) (j : Fin 2048), s (ix2 i j) + p (ix2 i j) = Y (ix2 (row t i) j) := h
  unfold refNorm
  pointwise [k0_pay1]
  simp only [h', hx, hg]

/-- The result array is the reference's. -/
theorem final_eq (c : Dev nD)
    (h0 : m' ((c.tc : Thread Cert.FfnRefIdeal.nD Cert.FfnRefIdeal.τ).loc Cert.FfnRefIdeal.main_arg0) = m ((c.tc : Thread nD τ).loc main_arg0))
    (h1 : m' ((c.tc : Thread Cert.FfnRefIdeal.nD Cert.FfnRefIdeal.τ).loc Cert.FfnRefIdeal.main_arg1) = m ((c.tc : Thread nD τ).loc main_arg1))
    (h2 : m' ((c.tc : Thread Cert.FfnRefIdeal.nD Cert.FfnRefIdeal.τ).loc Cert.FfnRefIdeal.main_arg2) = m ((c.tc : Thread nD τ).loc main_arg2))
    (h3 : m' ((c.tc : Thread Cert.FfnRefIdeal.nD Cert.FfnRefIdeal.τ).loc Cert.FfnRefIdeal.main_arg3) = m ((c.tc : Thread nD τ).loc main_arg3))
    (h4 : m' ((c.tc : Thread Cert.FfnRefIdeal.nD Cert.FfnRefIdeal.τ).loc Cert.FfnRefIdeal.main_arg4) = m ((c.tc : Thread nD τ).loc main_arg4)) :
    (dats m 0 c).arrAt 3 cfg0.N = Cert.FfnRefIdeal.Value.res_main_v32 m' c := by
  refine (dats m 0 c).arrAt_eq_of_covers 3 _ (by decide +kernel) fun t hf y => ?_
  blk_simp
  rw [after0_3, ref_eq, h0, h1, h2, h3, h4]
  have hy : (win0_3.blk t).view.emb y = ix2 (row t (y 0)) (y 1) := by
    blk_ext [idx t, row]
  have ey : y = (ix2 (y 0) (y 1) : S512x2048.Idx) := by
    funext a; fin_cases a <;> rfl
  rw [hy]
  refine (congrArg (outAt m c t) ey).trans ?_
  exact out_point m c t _ _ _ (fun i j => sum_point m c t i j) (y 0) (y 1)

/-- Both runs end at one array. -/
theorem algebraic : Cert.algebraic_FfnIdeal_FfnRefIdeal := by
  intro m g m' g' _ hagree
  refine ⟨fun c => Cert.FfnRefIdeal.Value.res_main_v32 m' c, ?_, ?_⟩
  · refine (θ_run _ _ _).mono (fun r h c => ?_) (run_main m g)
    obtain ⟨h0, h1, h2, h3, h4⟩ := hagree c
    exact ⟨((h.1 c).1 3).trans (final_eq m m' c h0 h1 h2 h3 h4),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩
  · exact Cert.FfnRefIdeal.Value.run m' g'

end Cert.FfnValue

end
-- ==== Proof.ColumnTiles.lean ====
/-
  Shared by the projections whose grid runs over column tiles: a body that stores one of its results only at some of a
  row block's points. What such a point leaves in a window's buffer, a buffer loaded or stored whole, and branches.
-/
module

public import Idealize.ShloMosaic.Lib.Pipeline.TableIdle
public import Idealize.ShloMosaic.Lib.Pipeline.FrameBody
public import Idealize.ShloMosaic.Lib.VecWindow
public import Idealize.ShloMosaic.Lib.Pipeline.Value
public import Idealize.ShloMosaic.Lib.Tactic

@[expose] public section

noncomputable section

namespace Cert.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {F : FTy → Type} [FloatOps F] {nD : Nat} {τ : Topo} {sig : RefSig} {Λ₀ : Labels}

local notation "𝕄" => MT nD τ sig Unit (Elt F) ℕ (UR sig nD τ) ℕ

section Left

variable {cfg : Cfg sig Λ₀} {c : Dev nD}

/-- What a point leaves in window `w`'s buffer: at a point that stores it, the new block; at one that does not, what was
    there, which has to be the block where it is written back. -/
def left (dat : Dat τ (Elt F) Unit ℕ (UR sig nD τ) ℕ cfg c) (w : Fin cfg.W) (t : Fin cfg.N) : sProp 𝕄 :=
  match cfg.idle w (cfg.grid.coords t) with
  | true =>
    match (cfg.win w).flush t with
    | false => iprop(∃ d, owns (c : Thread nD τ) ((cfg.win w).stage (cfg.slots t w)) fullShare (dat.before w t d))
    | true => owns (c : Thread nD τ) ((cfg.win w).stage (cfg.slots t w)) fullShare (dat.after w t)
  | false => owns (c : Thread nD τ) ((cfg.win w).stage (cfg.slots t w)) fullShare (dat.after w t)

/-- A point that does not store the window leaves its buffer as it found it. -/
theorem left_kept (dat : Dat τ (Elt F) Unit ℕ (UR sig nD τ) ℕ cfg c) (w : Fin cfg.W) (t : Fin cfg.N)
    (hi : cfg.idle w (cfg.grid.coords t) = true) (d)
    (hf : (cfg.win w).flush t = true → dat.before w t d = dat.after w t) :
    owns (c : Thread nD τ) ((cfg.win w).stage (cfg.slots t w)) fullShare (dat.before w t d) ⊢ left dat w t := by
  unfold left
  rw [hi]
  cases hfl : (cfg.win w).flush t
  · iintro H; iexists d; iexact H
  · rw [hf hfl]

/-- A point that stores the window leaves the new block. -/
theorem left_stored (dat : Dat τ (Elt F) Unit ℕ (UR sig nD τ) ℕ cfg c) (w : Fin cfg.W) (t : Fin cfg.N)
    (hi : cfg.idle w (cfg.grid.coords t) = false) :
    owns (c : Thread nD τ) ((cfg.win w).stage (cfg.slots t w)) fullShare (dat.after w t) ⊢ left dat w t := by
  unfold left
  rw [hi]

end Left

section Buffers

variable {defs : Defs nD τ sig (Elt F) Λ₀} {c : Dev nD} {s : Shape} {e : EltTy} {M : Memref sig .tc .vmem s e} {q : PosShare TreeShare}

/-- Loading a buffer whole. -/
theorem load_whole {α : Type} {x : s.Idx → Elt F e} {off : Fin s.rank → ℕ} {inb : ∀ a, off a + s.size a ≤ s.size a} {hl}
    {k : (s.Idx → Elt F e) → Prog (TpuEff nD τ sig (Elt F) Λ₀ .tc) α} {Q : α → sProp 𝕄} :
    owns (c : Thread nD τ) M q x
      ⊢ iprop((owns (c : Thread nD τ) M q x -∗ wp frame (wpE defs Variants.none (c : Thread nD τ) none) Set.univ (k x) Q)
        -∗ wp frame (wpE defs Variants.none (c : Thread nD τ) none) Set.univ
          (.op (.load M (Rect.unit off s.size inb).toLoadRect hl) k) Q) := by
  unfold owns
  iintro ⟨%f, %hf, H⟩ Hk
  have e1 : M.view.readAt (Elt F) (Rect.unit off s.size inb).toLoadRect f = x := (View.readAt_full M.view f inb).trans hf
  iapply (wp_load Variants.none (c : Thread nD τ) none Set.univ (m := M) (S := M.view.set) (View.setOn_subset_set _ _)) $$ H
  iintro H
  rw [e1]
  iapply Hk
  iexists f
  isplitr; · ipureintro; exact hf
  iexact H

/-- Storing a buffer whole. -/
theorem store_whole {α : Type} {x : s.Idx → Elt F e} {off : Fin s.rank → ℕ} {inb : ∀ a, off a + s.size a ≤ s.size a} {w : s.Idx → Elt F e} {hx hm}
    {k : PUnit → Prog (TpuEff nD τ sig (Elt F) Λ₀ .tc) α} {Q : α → sProp 𝕄} :
    owns (c : Thread nD τ) M fullShare x
      ⊢ iprop((owns (c : Thread nD τ) M fullShare w -∗ wp frame (wpE defs Variants.none (c : Thread nD τ) none) Set.univ (k ⟨⟩) Q)
        -∗ wp frame (wpE defs Variants.none (c : Thread nD τ) none) Set.univ
          (.op (.store M (Rect.unit off s.size inb) w Finset.univ hx hm) k) Q) := by
  unfold owns
  iintro ⟨%f, %hf, H⟩ Hk
  iapply (wp_store Variants.none (c : Thread nD τ) none Set.univ (m := M) (r := Rect.unit off s.size inb) (S := M.view.set) (f := f)
    (by rw [View.setOn_univ]; exact View.set_slice_subset M.view _)) $$ H
  iintro H
  iapply Hk
  iexists _
  isplitr; swap; · iexact H
  ipureintro
  exact ((View.readAt_full M.view _ inb).symm.trans (View.read_write_univ _ _))

/-- A branch whose condition holds. -/
theorem then_pos {α : Type} {Q : α → sProp 𝕄} {P : Prop} [Decidable P] (h : P) {a : P → Prog (TpuEff nD τ sig (Elt F) Λ₀ .tc) α}
    {b : ¬ P → Prog (TpuEff nD τ sig (Elt F) Λ₀ .tc) α} :
    wp frame (wpE defs Variants.none (c : Thread nD τ) none) Set.univ (a h) Q
      ⊢ wp frame (wpE defs Variants.none (c : Thread nD τ) none) Set.univ (dite P a b) Q := by
  rw [dif_pos h]
/-- A branch whose condition does not hold. -/
theorem then_neg {α : Type} {Q : α → sProp 𝕄} {P : Prop} [Decidable P] (h : ¬ P) {a : P → Prog (TpuEff nD τ sig (Elt F) Λ₀ .tc) α}
    {b : ¬ P → Prog (TpuEff nD τ sig (Elt F) Λ₀ .tc) α} :
    wp frame (wpE defs Variants.none (c : Thread nD τ) none) Set.univ (b h) Q
      ⊢ wp frame (wpE defs Variants.none (c : Thread nD τ) none) Set.univ (dite P a b) Q := by
  rw [dif_neg h]

end Buffers

end Cert.Tiles

end
-- ==== Proof.InProjFrame.lean ====
/-
  The run of the input projection of the prompt. A grid point is a block of 1024 rows and one tile of 1024 columns: the
  row block's first point norms its rows, keeps them, and multiplies them with the first tile; the later points multiply
  the kept rows with theirs. The first two tiles' results are written back at the row block's last point only. The
  launched program ends with its arguments as they were and every semaphore at zero.
-/
module

public import proofs.«01_k».proof.Proof.Gen.InProjIdeal.Frame
public import proofs.«01_k».proof.Proof.Gen.InProjIdeal.Launch
public import proofs.«01_k».proof.Proof.Gen.InProjIdeal.Skeleton
public import proofs.«01_k».proof.Proof.Gen.InProjIdeal.Points
public import proofs.«01_k».proof.Proof.ColumnTiles

@[expose] public section

noncomputable section

namespace Cert.InProjRun

open Cert.InProjIdeal Cert.InProjIdeal.Gen Cert.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the run. -/
local notation "𝕄" => MT nD τ sig Unit (Elt F) ℕ (UR sig nD τ) ℕ

set_option maxRecDepth 16384

set_option maxHeartbeats 4000000 in
/-- A row block's first point: norm the rows, keep them, and store the first tile's product. -/
theorem first_tile (c : Dev nD) (i : grid0.Coords) (h1 : k0_cond1 i = 1#1) (h2 : ¬ k0_cond2 i = 1#1) (h3 : ¬ k0_cond3 i = 1#1) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x2048 .bf16) (harg8 : arg8.IsWhole) (x : FVec F S1024x2048 .f32) (g : FVec F S1x2048 .f32) (w : FVec F S1x2048x1024 .bf16) (o : FVec F S1024x1024 .f32) (s : FVec F S1024x2048 .bf16) (K : PUnit → sProp 𝕄) :
    iprop(owns (c : Thread nD τ) arg2 fullShare x ∗ owns (c : Thread nD τ) arg3 fullShare g ∗ owns (c : Thread nD τ) arg4 fullShare w ∗ owns (c : Thread nD τ) arg5 fullShare o ∗ owns (c : Thread nD τ) arg8 fullShare s
        ∗ (iprop(owns (c : Thread nD τ) arg2 fullShare x ∗ owns (c : Thread nD τ) arg3 fullShare g ∗ owns (c : Thread nD τ) arg4 fullShare w ∗ owns (c : Thread nD τ) arg5 fullShare (k0_pay3 x g w) ∗ owns (c : Thread nD τ) arg8 fullShare (k0_pay2 x g)) -∗ K ⟨⟩))
      ⊢ wp frame (wpE (defs₀ (F := F)) Variants.none (c : Thread nD τ) none) Set.univ (cc0_in_proj i arg2 harg2 arg3 harg3 arg4 harg4 arg5 harg5 arg6 harg6 arg7 harg7 arg8 harg8) K := by
  rw [cc0_in_proj_eq_skeleton]; unfold cc0_in_proj_skel
  iintro ⟨X, G, W, O, S, Hk⟩
  iapply (then_pos h1)
  iapply load_whole $$ X
  iintro X
  iapply load_whole $$ G
  iintro G
  iapply load_whole $$ S
  iintro S
  iapply store_whole $$ S
  iintro S
  iapply load_whole $$ W
  iintro W
  iapply load_whole $$ O
  iintro O
  iapply store_whole $$ O
  iintro O
  iapply (then_neg h2)
  iapply (then_neg h3)
  iapply le_wp_ret
  iapply Hk
  isplitl [X]; · iexact X
  isplitl [G]; · iexact G
  isplitl [W]; · iexact W
  isplitl [O]; · iexact O
  iexact S

set_option maxHeartbeats 4000000 in
/-- Its second point: the second tile's product with the kept rows. -/
theorem second_tile (c : Dev nD) (i : grid0.Coords) (h1 : ¬ k0_cond1 i = 1#1) (h2 : k0_cond2 i = 1#1) (h3 : ¬ k0_cond3 i = 1#1) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x2048 .bf16) (harg8 : arg8.IsWhole) (w : FVec F S1x2048x1024 .bf16) (o : FVec F S1024x1024 .f32) (s : FVec F S1024x2048 .bf16) (K : PUnit → sProp 𝕄) :
    iprop(owns (c : Thread nD τ) arg4 fullShare w ∗ owns (c : Thread nD τ) arg6 fullShare o ∗ owns (c : Thread nD τ) arg8 fullShare s
        ∗ (iprop(owns (c : Thread nD τ) arg4 fullShare w ∗ owns (c : Thread nD τ) arg6 fullShare (k0_pay4 s w) ∗ owns (c : Thread nD τ) arg8 fullShare s) -∗ K ⟨⟩))
      ⊢ wp frame (wpE (defs₀ (F := F)) Variants.none (c : Thread nD τ) none) Set.univ (cc0_in_proj i arg2 harg2 arg3 harg3 arg4 harg4 arg5 harg5 arg6 harg6 arg7 harg7 arg8 harg8) K := by
  rw [cc0_in_proj_eq_skeleton]; unfold cc0_in_proj_skel
  iintro ⟨W, O, S, Hk⟩
  iapply (then_neg h1)
  iapply (then_pos h2)
  iapply load_whole $$ S
  iintro S
  iapply load_whole $$ W
  iintro W
  iapply load_whole $$ O
  iintro O
  iapply store_whole $$ O
  iintro O
  iapply (then_neg h3)
  iapply le_wp_ret
  iapply Hk
  isplitl [W]; · iexact W
  isplitl [O]; · iexact O
  iexact S

set_option maxHeartbeats 4000000 in
/-- Its later points: one more tile's product with the kept rows. -/
theorem later_tile (c : Dev nD) (i : grid0.Coords) (h1 : ¬ k0_cond1 i = 1#1) (h2 : ¬ k0_cond2 i = 1#1) (h3 : k0_cond3 i = 1#1) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x2048 .bf16) (harg8 : arg8.IsWhole) (w : FVec F S1x2048x1024 .bf16) (o : FVec F S1x1024x1024 .f32) (s : FVec F S1024x2048 .bf16) (K : PUnit → sProp 𝕄) :
    iprop(owns (c : Thread nD τ) arg4 fullShare w ∗ owns (c : Thread nD τ) arg7 fullShare o ∗ owns (c : Thread nD τ) arg8 fullShare s
        ∗ (iprop(owns (c : Thread nD τ) arg4 fullShare w ∗ owns (c : Thread nD τ) arg7 fullShare (k0_pay5 s w) ∗ owns (c : Thread nD τ) arg8 fullShare s) -∗ K ⟨⟩))
      ⊢ wp frame (wpE (defs₀ (F := F)) Variants.none (c : Thread nD τ) none) Set.univ (cc0_in_proj i arg2 harg2 arg3 harg3 arg4 harg4 arg5 harg5 arg6 harg6 arg7 harg7 arg8 harg8) K := by
  rw [cc0_in_proj_eq_skeleton]; unfold cc0_in_proj_skel
  iintro ⟨W, O, S, Hk⟩
  iapply (then_neg h1)
  iapply (then_neg h2)
  iapply (then_pos h3)
  iapply load_whole $$ S
  iintro S
  iapply load_whole $$ W
  iintro W
  iapply load_whole $$ O
  iintro O
  iapply store_whole $$ O
  iintro O
  iapply le_wp_ret
  iapply Hk
  isplitl [W]; · iexact W
  isplitl [O]; · iexact O
  iexact S

variable (m : (ℓ : Loc nD τ sig) → Buf (Elt F) ℓ) (ρ : Dev nD → PrngReg)

/-! ## The grid: point `5 i + j` is row block `i`, tile `j` -/

/-- The first point of `t`'s row block. -/
def first (t : Fin cfg0.N) : Fin cfg0.N := ⟨5 * (t.val / 5), by have := t.isLt; omega⟩
/-- Its second point. -/
def second (t : Fin cfg0.N) : Fin cfg0.N := ⟨5 * (t.val / 5) + 1, by have : t.val < 40 := t.isLt; show _ < 40; omega⟩

theorem cond1_iff (t : Fin cfg0.N) : k0_cond1 (grid0.coords t) = 1#1 ↔ t.val % 5 = 0 :=
  (by decide +kernel : ∀ t : Fin grid0.N, k0_cond1 (grid0.coords t) = 1#1 ↔ t.val % 5 = 0) t
theorem cond2_iff (t : Fin cfg0.N) : k0_cond2 (grid0.coords t) = 1#1 ↔ t.val % 5 = 1 :=
  (by decide +kernel : ∀ t : Fin grid0.N, k0_cond2 (grid0.coords t) = 1#1 ↔ t.val % 5 = 1) t
theorem cond3_iff (t : Fin cfg0.N) : k0_cond3 (grid0.coords t) = 1#1 ↔ 2 ≤ t.val % 5 :=
  (by decide +kernel : ∀ t : Fin grid0.N, k0_cond3 (grid0.coords t) = 1#1 ↔ 2 ≤ t.val % 5) t
theorem fresh3 (t : Fin cfg0.N) : cfg0.fresh 3 t.val = true ↔ t.val % 5 = 0 :=
  (by decide +kernel : ∀ t : Fin grid0.N, cfg0.fresh 3 t.val = true ↔ t.val % 5 = 0) t
theorem fresh4 (t : Fin cfg0.N) : cfg0.fresh 4 t.val = true ↔ t.val % 5 ≤ 1 :=
  (by decide +kernel : ∀ t : Fin grid0.N, cfg0.fresh 4 t.val = true ↔ t.val % 5 ≤ 1) t
theorem flush5 (t : Fin cfg0.N) : (cfg0.win 5).flush t = true ↔ 2 ≤ t.val % 5 :=
  (by decide +kernel : ∀ t : Fin grid0.N, win0_5.flush t = true ↔ 2 ≤ t.val % 5) t

/-! ## The proof data -/

/-- Row block of `t`, its weights, and tile `t`. -/
abbrev inX (c : Dev nD) (t : Fin cfg0.N) : FVec F S1024x2048 .f32 := iblk m c 0 t
abbrev inG (c : Dev nD) (t : Fin cfg0.N) : FVec F S1x2048 .f32 := iblk m c 1 t
abbrev inW (c : Dev nD) (t : Fin cfg0.N) : FVec F S1x2048x1024 .bf16 := iblk m c 2 t
/-- The normed rows of `t`'s row block. -/
def normed (c : Dev nD) (t : Fin cfg0.N) : FVec F S1024x2048 .bf16 := k0_pay2 (inX m c (first t)) (inG m c (first t))
/-- The first tile's product, the second's, and tile `t`'s. -/
def outK (c : Dev nD) (t : Fin cfg0.N) : FVec F S1024x1024 .f32 := k0_pay3 (inX m c (first t)) (inG m c (first t)) (inW m c (first t))
def outV (c : Dev nD) (t : Fin cfg0.N) : FVec F S1024x1024 .f32 := k0_pay4 (normed m c t) (inW m c (second t))
def outQ (c : Dev nD) (t : Fin cfg0.N) : FVec F S1x1024x1024 .f32 := k0_pay5 (normed m c t) (inW m c t)

/-- What is kept between points: the scratch holds the normed rows of the row block under way, anything between row
    blocks; and the generator's register. -/
def kept (c : Dev nD) (n : ℕ) : sProp 𝕄 :=
  iprop((∃ s, ⌜∀ h : n < cfg0.N, n % 5 ≠ 0 → s = normed m c ⟨n, h⟩⌝ ∗ owns (c : Thread nD τ) (Memref.whole cc0_scratch0) fullShare s) ∗ ∃ r, prngReg c r)

/-- The proof data: each window's block after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outK m c t
    | ⟨4, _⟩ => outV m c t
    | ⟨5, _⟩ => outQ m c t
  Φ t := kept m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outK m c t := by dsimp only [dats]
theorem after0_4 (c : Dev nD) (t : Fin cfg0.N) : (dats m 0 c).after 4 t = outV m c t := by dsimp only [dats]
theorem after0_5 (c : Dev nD) (t : Fin cfg0.N) : (dats m 0 c).after 5 t = outQ m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Points of one row block share its first and second point. -/
theorem first_prev (t : Fin cfg0.N) (h : t.val % 5 ≠ 0) : first (⟨t.val - 1, by omega⟩ : Fin cfg0.N) = first t := by
  unfold first; apply Fin.ext; show 5 * ((t.val - 1) / 5) = 5 * (t.val / 5); omega
theorem second_prev (t : Fin cfg0.N) (h : t.val % 5 ≠ 0) : second (⟨t.val - 1, by omega⟩ : Fin cfg0.N) = second t := by
  unfold second; apply Fin.ext; show 5 * ((t.val - 1) / 5) + 1 = 5 * (t.val / 5) + 1; omega
theorem normed_prev (c : Dev nD) (t : Fin cfg0.N) (h : t.val % 5 ≠ 0) : normed m c ⟨t.val - 1, by omega⟩ = normed m c t := by
  unfold normed; rw [first_prev t h]
theorem outK_prev (c : Dev nD) (t : Fin cfg0.N) (h : t.val % 5 ≠ 0) : outK m c ⟨t.val - 1, by omega⟩ = outK m c t := by
  unfold outK; rw [first_prev t h]
theorem outV_prev (c : Dev nD) (t : Fin cfg0.N) (h : t.val % 5 ≠ 0) : outV m c ⟨t.val - 1, by omega⟩ = outV m c t := by
  unfold outV; rw [normed_prev m c t h, second_prev t h]
theorem first_self (t : Fin cfg0.N) (h : t.val % 5 = 0) : first t = t := by
  unfold first; apply Fin.ext; show 5 * (t.val / 5) = t.val; omega
theorem second_self (t : Fin cfg0.N) (h : t.val % 5 = 1) : second t = t := by
  unfold second; apply Fin.ext; show 5 * (t.val / 5) + 1 = t.val; omega

/-- Past its first point, a row block's buffer of the first tile holds that tile's product. -/
theorem before0_3 (c : Dev nD) (t : Fin cfg0.N) (h : t.val % 5 ≠ 0) (d) : (dats m 0 c).before 3 t d = (dats m 0 c).after 3 t := by
  have hc : ∀ (t : Fin cfg0.N) (_ : t.val ≠ 0), cfg0.idle 3 (cfg0.grid.coords t) = true → cfg0.fresh 3 t.val = false →
      (dats m 0 c).after 3 t = (dats m 0 c).after 3 ⟨t.val - 1, by omega⟩ := by
    intro t h0 _ hf
    have h5 : t.val % 5 ≠ 0 := fun h => by rw [(fresh3 t).mpr h] at hf; exact Bool.noConfusion hf
    rw [after0_3, after0_3, outK_prev m c t h5]
  rw [(dats m 0 c).before_out_traj 3 rfl (fun _ _ => rfl) hc t.val t rfl d, if_neg (fun h' => h ((fresh3 t).mp h')), after0_3, after0_3, outK_prev m c t h]
/-- Past its second point, the second tile's. -/
theorem before0_4 (c : Dev nD) (t : Fin cfg0.N) (h : 2 ≤ t.val % 5) (d) : (dats m 0 c).before 4 t d = (dats m 0 c).after 4 t := by
  have hc : ∀ (t : Fin cfg0.N) (_ : t.val ≠ 0), cfg0.idle 4 (cfg0.grid.coords t) = true → cfg0.fresh 4 t.val = false →
      (dats m 0 c).after 4 t = (dats m 0 c).after 4 ⟨t.val - 1, by omega⟩ := by
    intro t h0 _ hf
    have h5 : t.val % 5 ≠ 0 := fun h => by rw [(fresh4 t).mpr (by omega)] at hf; exact Bool.noConfusion hf
    rw [after0_4, after0_4, outV_prev m c t h5]
  rw [(dats m 0 c).before_out_traj 4 rfl (fun _ _ => rfl) hc t.val t rfl d, if_neg (fun h' => by have := (fresh4 t).mp h'; omega), after0_4, after0_4, outV_prev m c t (by omega)]

/-! ## The body at a point -/

theorem idle3 (t : Fin cfg0.N) : cfg0.idle 3 (cfg0.grid.coords t) = !(k0_cond1 (grid0.coords t) == 1#1) := rfl
theorem idle4 (t : Fin cfg0.N) : cfg0.idle 4 (cfg0.grid.coords t) = !(k0_cond2 (grid0.coords t) == 1#1) := rfl
theorem idle5 (t : Fin cfg0.N) : cfg0.idle 5 (cfg0.grid.coords t) = !(k0_cond3 (grid0.coords t) == 1#1) := rfl
theorem stores {b : BitVec 1} (h : b = 1#1) : (!(b == 1#1)) = false := by subst h; rfl
theorem skips {b : BitVec 1} (h : ¬ b = 1#1) : (!(b == 1#1)) = true := by simp [h]

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ left (dats m 0 c) 3 t ∗ left (dats m 0 c) 4 t ∗ left (dats m 0 c) 5 t)

theorem normed_succ (c : Dev nD) (t : Fin cfg0.N) (s : FVec F S1024x2048 .bf16) (hs : s = normed m c t) :
    ∀ h : t.val + 1 < cfg0.N, (t.val + 1) % 5 ≠ 0 → s = normed m c ⟨t.val + 1, h⟩ := fun h h5 =>
  hs.trans (normed_prev m c ⟨t.val + 1, h⟩ h5)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0_0, after0_1, after0_2]
  rw [show (dats m 0 c).Φ t.succ = kept m c (t.val + 1) from rfl, show (dats m 0 c).Φ t.castSucc = kept m c t.val from rfl,
    show (dats m 0 c).owesAt () t.succ = (dats m 0 c).owesAt () t.castSucc from rfl]
  simp only [before0_0, before0_1, before0_2]
  unfold kept
  iintro ⟨⟨⟨%s, %hs, S⟩, Hg⟩, Ho, ⟨%d0, H0⟩, ⟨%d1, H1⟩, ⟨%d2, H2⟩, ⟨%d3, H3⟩, ⟨%d4, H4⟩, ⟨%d5, H5⟩⟩
  by_cases h0 : t.val % 5 = 0
  · have h1 : k0_cond1 (grid0.coords t) = 1#1 := (cond1_iff t).mpr h0
    have h2 : ¬ k0_cond2 (grid0.coords t) = 1#1 := fun h => by have := (cond2_iff t).mp h; omega
    have h3 : ¬ k0_cond3 (grid0.coords t) = 1#1 := fun h => by have := (cond3_iff t).mp h; omega
    have e3 : (dats m 0 c).after 3 t = k0_pay3 (iblk m c 0 t) (iblk m c 1 t) (iblk m c 2 t) := by
      rw [after0_3]; unfold outK; rw [first_self t h0]
    have en : k0_pay2 (iblk m c 0 t) (iblk m c 1 t) = normed m c t := by unfold normed; rw [first_self t h0]
    have f4 : ¬ (cfg0.win 4).flush t = true := fun h => by have := (flush0_4 t).mp h; omega
    have f5 : ¬ (cfg0.win 5).flush t = true := fun h => by have := (flush5 t).mp h; omega
    iapply (first_tile c (grid0.coords t) h1 h2 h3 _ _ _ _ _ _ _ _ _ _ _ _ _ _ (iblk m c 0 t) (iblk m c 1 t) (iblk m c 2 t) _ s _)
    isplitl [H0]; · iexact H0
    isplitl [H1]; · iexact H1
    isplitl [H2]; · iexact H2
    isplitl [H3]; · iexact H3
    isplitl [S]; · iexact S
    iintro ⟨H0, H1, H2, H3, S⟩
    isplitl [S Hg]
    · isplitl [S]
      · iexists _; isplitr; swap; · iexact S
        ipureintro; exact normed_succ m c t _ en
      iexact Hg
    isplitl [Ho]; · iexact Ho
    isplitl [H0]; · iexact H0
    isplitl [H1]; · iexact H1
    isplitl [H2]; · iexact H2
    isplitl [H3]
    · iapply (left_stored (dats m 0 c) 3 t ((idle3 t).trans (stores h1)))
      rw [e3]; iexact H3
    isplitl [H4]; · iapply (left_kept (dats m 0 c) 4 t ((idle4 t).trans (skips h2)) d4 (fun h => absurd h f4)); iexact H4
    iapply (left_kept (dats m 0 c) 5 t ((idle5 t).trans (skips h3)) d5 (fun h => absurd h f5)); iexact H5
  have h1 : ¬ k0_cond1 (grid0.coords t) = 1#1 := fun h => h0 ((cond1_iff t).mp h)
  have hsn : s = normed m c t := hs t.isLt h0
  by_cases h1' : t.val % 5 = 1
  · have h2 : k0_cond2 (grid0.coords t) = 1#1 := (cond2_iff t).mpr h1'
    have h3 : ¬ k0_cond3 (grid0.coords t) = 1#1 := fun h => by have := (cond3_iff t).mp h; omega
    have e4 : (dats m 0 c).after 4 t = k0_pay4 s (iblk m c 2 t) := by
      rw [after0_4, hsn]; unfold outV; rw [second_self t h1']
    have f5 : ¬ (cfg0.win 5).flush t = true := fun h => by have := (flush5 t).mp h; omega
    iapply (second_tile c (grid0.coords t) h1 h2 h3 _ _ _ _ _ _ _ _ _ _ _ _ _ _ (iblk m c 2 t) _ s _)
    isplitl [H2]; · iexact H2
    isplitl [H4]; · iexact H4
    isplitl [S]; · iexact S
    iintro ⟨H2, H4, S⟩
    isplitl [S Hg]
    · isplitl [S]
      · iexists s; isplitr; swap; · iexact S
        ipureintro; exact normed_succ m c t _ hsn
      iexact Hg
    isplitl [Ho]; · iexact Ho
    isplitl [H0]; · iexact H0
    isplitl [H1]; · iexact H1
    isplitl [H2]; · iexact H2
    isplitl [H3]; · iapply (left_kept (dats m 0 c) 3 t ((idle3 t).trans (skips h1)) d3 (fun _ => before0_3 m c t h0 d3)); iexact H3
    isplitl [H4]
    · iapply (left_stored (dats m 0 c) 4 t ((idle4 t).trans (stores h2)))
      rw [e4]; iexact H4
    iapply (left_kept (dats m 0 c) 5 t ((idle5 t).trans (skips h3)) d5 (fun h => absurd h f5)); iexact H5
  · have h2 : ¬ k0_cond2 (grid0.coords t) = 1#1 := fun h => h1' ((cond2_iff t).mp h)
    have h3 : k0_cond3 (grid0.coords t) = 1#1 := (cond3_iff t).mpr (by omega)
    have e5 : (dats m 0 c).after 5 t = k0_pay5 s (iblk m c 2 t) := by
      rw [after0_5, hsn]; rfl
    iapply (later_tile c (grid0.coords t) h1 h2 h3 _ _ _ _ _ _ _ _ _ _ _ _ _ _ (iblk m c 2 t) _ s _)
    isplitl [H2]; · iexact H2
    isplitl [H5]; · iexact H5
    isplitl [S]; · iexact S
    iintro ⟨H2, H5, S⟩
    isplitl [S Hg]
    · isplitl [S]
      · iexists s; isplitr; swap; · iexact S
        ipureintro; exact normed_succ m c t _ hsn
      iexact Hg
    isplitl [Ho]; · iexact Ho
    isplitl [H0]; · iexact H0
    isplitl [H1]; · iexact H1
    isplitl [H2]; · iexact H2
    isplitl [H3]; · iapply (left_kept (dats m 0 c) 3 t ((idle3 t).trans (skips h1)) d3 (fun _ => before0_3 m c t h0 d3)); iexact H3
    isplitl [H4]; · iapply (left_kept (dats m 0 c) 4 t ((idle4 t).trans (skips h2)) d4 (fun _ => before0_4 m c t (by omega) d4)); iexact H4
    iapply (left_stored (dats m 0 c) 5 t ((idle5 t).trans (stores h3)))
    rw [e5]; iexact H5

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem entry (c : Dev nD) : Pipeline.ΦA spec0 c ⊢ kept m c 0 := by
  unfold Pipeline.ΦA kept
  rw [scopedRest0_eq]
  iintro ⟨S, Hg⟩
  isplitl [S]
  · ihave S := (Entails.of_eq (Memref.IsWhole.exists_owns_eq (c := (c : Thread nD τ)) (Memref.isWhole_whole cc0_scratch0) fullShare).symm) $$ S
    icases S with ⟨%s, S⟩
    iexists s; isplitr; · ipureintro; exact fun _ h => absurd rfl h
    iexact S
  iexact Hg
theorem leave (c : Dev nD) (n : ℕ) : kept m c n ⊢ Pipeline.ΦA spec0 c := by
  unfold Pipeline.ΦA kept
  rw [scopedRest0_eq]
  iintro ⟨⟨%s, -, S⟩, Hg⟩
  isplitl [S]
  · iapply (Entails.of_eq (Memref.IsWhole.exists_owns_eq (c := (c : Thread nD τ)) (Memref.isWhole_whole cc0_scratch0) fullShare))
    iexists s; iexact S
  iexact Hg

set_option backward.isDefEq.respectTransparency.types false in
set_option maxHeartbeats 4000000 in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => entry m c) (hout := fun c => leave m c _)

/-- The arguments end as they began, and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.InProjRun

end
-- ==== Proof.InProjPair.lean ====
/- The input projection's kernel and its ideal reading are one text: their body tables are equal, so the run of the one
   is the run of the other, and the kernel's frame is its ideal reading's. -/
module

public import proofs.«01_k».proof.Defs
public import proofs.«01_k».proof.Proof.Gen.InProj
public import proofs.«01_k».proof.Proof.InProjFrame

@[expose] public section

set_option maxRecDepth 100000
set_option maxHeartbeats 4000000

noncomputable section

namespace Cert.InProjRun

open Idealize.ShloMosaic Idealize.SL.Sem

attribute [local instance] Cert.InProj.Gen.facts Cert.InProjIdeal.Gen.facts

variable {F : FTy → Type} [FloatOps F]

/-- The two body tables hold the same kernel body. -/
theorem pair_defs₀ : Cert.InProjIdeal.defs₀ (F := F) = Cert.InProj.defs₀ (F := F) := by
  unfold Cert.InProjIdeal.defs₀ Cert.InProj.defs₀
  congr 1
  funext l a
  match l with
  | 0 => rfl

/-- With the pipeline's labels the tables are still the same. -/
theorem pair_defs : Cert.InProjIdeal.defs (F := F) = Cert.InProj.defs (F := F) :=
  congrArg (Pipeline.defs Cert.InProjIdeal.pcfgs) pair_defs₀

/-- The kernel ends, leaves its arguments as they were and every counter at zero. -/
theorem frame_kernel : Cert.quiescent_InProj (hInProj := Cert.InProj.Gen.facts) := fun m ρ _ => by
  have h := frame_run (F := Bits) m ρ
  rw [pair_defs] at h
  exact h

end Cert.InProjRun

end
-- ==== Proof.InProjValue.lean ====
/-
  The input projection of the prompt: what the three arrays that the call returns hold, and that it is what the reference
  computes. A block of rows is normed once; tile `j` of the packed weight is a run of columns of the weight, so each
  result is a run of columns of the product of the normed rows with the whole weight.
-/
module

public import proofs.«01_k».proof.Defs
public import proofs.«01_k».proof.Proof.Gen.InProjRefIdeal.Run
public import proofs.«01_k».proof.Proof.InProjFrame
public import Idealize.ShloMosaic.Lib.Pipeline.ValueKit
public import Idealize.ShloMosaic.Lib.Pointwise

@[expose] public section

set_option maxRecDepth 16384

noncomputable section

namespace Cert.InProjValue

open Idealize.ShloMosaic Idealize.ShloMosaic.TcCoe Idealize.SL.Sem

section Reference
open Cert.InProjRefIdeal Cert.InProjRefIdeal.Gen

/-- Rows scaled by the reciprocal root of their mean square, then by the gains. -/
def refNorm (x : FVec Ideal S2x4096x2048 .f32) (g : FVec Ideal S2048 .f32) : FVec Ideal S2x4096x2048 .f32 :=
  mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))
/-- The projected rows, all columns. -/
def refRows (xn : FVec Ideal S2x4096x2048 .f32) (w : FVec Ideal S2048x5120 .f32) : FVec Ideal S8192x5120 .f32 :=
  shapeCast _ (Host.dotGeneral dot_S2x4096x2048_S2048x5120_S2x4096x5120_2_0_01_1_n_n none xn w) shapeCasts_S2x4096x5120_S8192x5120
/-- The keys, the values, and the three other runs of columns. -/
def refK (p : FVec Ideal S8192x5120 .f32) : FVec Ideal S8192x1024 .f32 := extractStridedSlice S8192x1024 ![0, 1024] p slices_S8192x5120_S8192x1024_0_1024
def refV (p : FVec Ideal S8192x5120 .f32) : FVec Ideal S8192x1024 .f32 := extractStridedSlice S8192x1024 ![0, 2048] p slices_S8192x5120_S8192x1024_0_2048
def refQ (p : FVec Ideal S8192x5120 .f32) : FVec Ideal S3x8192x1024 .f32 :=
  concatenate S3x8192x1024 0 [⟨S1x8192x1024, broadcastInDim S1x8192x1024 ![1, 2] bcast_S8192x1024_S1x8192x1024_1_2 (extractStridedSlice S8192x1024 ![0, 0] p slices_S8192x5120_S8192x1024_0_0)⟩, ⟨S1x8192x1024, broadcastInDim S1x8192x1024 ![1, 2] bcast_S8192x1024_S1x8192x1024_1_2 (extractStridedSlice S8192x1024 ![0, 3072] p slices_S8192x5120_S8192x1024_0_3072)⟩, ⟨S1x8192x1024, broadcastInDim S1x8192x1024 ![1, 2] bcast_S8192x1024_S1x8192x1024_1_2 (extractStridedSlice S8192x1024 ![0, 4096] p slices_S8192x5120_S8192x1024_0_4096)⟩] concatenates_S1x8192x1024_S1x8192x1024_S1x8192x1024_S3x8192x1024_d0

end Reference

open Cert.InProjIdeal Cert.InProjIdeal.Gen Cert.InProjRun

variable (m : (ℓ : Loc nD τ sig) → Buf (Elt Ideal) ℓ)

theorem idx : ∀ t : Fin grid0.N, win0_0.index t = ![t.val / 5, 0] ∧ win0_1.index t = ![0, 0] ∧ win0_2.index t = ![t.val % 5, 0, 0]
    ∧ win0_3.index t = ![t.val / 5, 0] ∧ win0_4.index t = ![t.val / 5, 0] ∧ win0_5.index t = ![t.val % 5 - 2, t.val / 5, 0] := by decide +kernel

abbrev aX (c : Dev nD) : FVec Ideal S2x4096x2048 .f32 := m ((c.tc : Thread nD τ).loc main_arg0)
abbrev aG (c : Dev nD) : FVec Ideal S2048 .f32 := m ((c.tc : Thread nD τ).loc main_arg1)
abbrev aW (c : Dev nD) : FVec Ideal S2048x5120 .f32 := m ((c.tc : Thread nD τ).loc main_arg2)

/-- Row `i` of the row block of `t`, and its place in the two batches. -/
def row (t : Fin cfg0.N) (i : Fin 1024) : Fin 8192 := ⟨1024 * (t.val / 5) + i.val, by have h : t.val < 40 := Nat.lt_of_lt_of_eq t.isLt N_0; omega⟩
def rhi (r : Fin 8192) : Fin 2 := ⟨r.val / 4096, by omega⟩
def rlo (r : Fin 8192) : Fin 4096 := ⟨r.val % 4096, by omega⟩

theorem row_first (t : Fin cfg0.N) (i : Fin 1024) : row (first t) i = row t i := by
  apply Fin.ext; show 1024 * (5 * (t.val / 5) / 5) + i.val = 1024 * (t.val / 5) + i.val; omega

set_option maxHeartbeats 4000000 in
/-- A block of rows, read in the two batches. -/
theorem inX_point (c : Dev nD) (t : Fin cfg0.N) (i : Fin 1024) (k : Fin 2048) :
    inX m c t (ix2 i k) = aX m c (ix3 (rhi (row t i)) (rlo (row t i)) k) := by
  unfold inX aX
  blk_point [iblk, V, idx t, row, rhi, rlo]

set_option maxHeartbeats 4000000 in
theorem inG_point (c : Dev nD) (t : Fin cfg0.N) (k : Fin 2048) : inG m c t (ix2 (0 : Fin 1) k) = aG m c (ix1 k) := by
  unfold inG aG
  blk_point [iblk, V, idx t]

/-- Where tile `j` begins among the weight's columns: the keys' tile and the values' come first. -/
def src (j : ℕ) : ℕ := if j = 0 then 1 else if j = 1 then 2 else if j = 2 then 0 else j
def wcol (t : Fin cfg0.N) (q : Fin 1024) : Fin 5120 := ⟨src (t.val % 5) * 1024 + q.val, by
  have : src (t.val % 5) ≤ 4 := by unfold src; split_ifs <;> omega
  omega⟩

/-- The weight cut into its five tiles of columns. -/
def wT (c : Dev nD) : FVec Ideal S5x2048x1024 .f32 :=
  transpose S5x2048x1024 [1, 0, 2] (shapeCast S2048x5x1024 (aW m c) shapeCasts_S2048x5120_S2048x5x1024) transposes_S2048x5x1024_S5x2048x1024_1_0_2

set_option maxHeartbeats 4000000 in
/-- The packed weight: the tiles of the keys and the values first. -/
theorem v6_eq (c : Dev nD) : V m c main_v6 = truncf (F := Ideal) .bf16 (concatenate S5x2048x1024 0 [⟨S2x2048x1024, extractStridedSlice S2x2048x1024 ![1, 0, 0] (wT m c) slices_S5x2048x1024_S2x2048x1024_1_0_0⟩, ⟨S1x2048x1024, extractStridedSlice S1x2048x1024 ![0, 0, 0] (wT m c) slices_S5x2048x1024_S1x2048x1024_0_0_0⟩, ⟨S2x2048x1024, extractStridedSlice S2x2048x1024 ![3, 0, 0] (wT m c) slices_S5x2048x1024_S2x2048x1024_3_0_0⟩] concatenates_S2x2048x1024_S1x2048x1024_S2x2048x1024_S5x2048x1024_d0) := by
  have hv : V m c main_v6 = StableHlo.after hostOps0 (fun b => m (c, b)) (Proc.tc.devRef main_v6) := rfl
  rw [hv]
  after_results <;> rfl

set_option maxHeartbeats 4000000 in
/-- Tile `t` of the packed weight. -/
theorem inW_point (c : Dev nD) (t : Fin cfg0.N) (k : Fin 2048) (q : Fin 1024) :
    inW m c t (ix3 (0 : Fin 1) k q) = aW m c (ix2 k (wcol t q)) := by
  unfold inW aW iblk
  blk_simp
  have e : ((cfg0.win 2).blk t).view.emb (ix3 (0 : Fin 1) k q) = ix3 (⟨t.val % 5, by omega⟩ : Fin 5) k q := by
    blk_ext [idx t]
  refine (congrArg (V m c main_v6) e).trans ?_
  have hb : ∀ b : Fin 5, V m c main_v6 (ix3 b k q) = m ((c.tc : Thread nD τ).loc main_arg2) (ix2 k ⟨src b.val * 1024 + q.val, by
      have : src b.val ≤ 4 := by unfold src; split_ifs <;> omega
      omega⟩) := by
    intro b
    rw [v6_eq]
    unfold wT
    pointwise [src]
    fin_vals b with hk
    all_goals simp only [hk, Nat.reduceSub, Nat.reduceLT, ↓reduceDIte]
    all_goals exact congrArg (aW m c) (congrArg (ix2 k) (Fin.ext (by simp)))
  exact hb _

set_option maxHeartbeats 4000000 in
/-- A row of a block, normed, is the reference's row. -/
theorem pay_row (c : Dev nD) (t : Fin cfg0.N) (i : Fin 1024) (k : Fin 2048) :
    k0_pay1 (inX m c (first t)) (inG m c (first t)) (ix2 i k) = refNorm (aX m c) (aG m c) (ix3 (rhi (row t i)) (rlo (row t i)) k) := by
  have hx : ∀ k, inX m c (first t) (ix2 i k) = aX m c (ix3 (rhi (row t i)) (rlo (row t i)) k) := fun k => by
    rw [inX_point, row_first]
  have hg : ∀ k, inG m c (first t) (ix2 (0 : Fin 1) k) = aG m c (ix1 k) := inG_point m c (first t)
  generalize inX m c (first t) = x at *
  generalize inG m c (first t) = g at *
  generalize aX m c = X at *
  generalize aG m c = G at *
  unfold refNorm
  pointwise [k0_pay1]
  simp only [hx, hg]

theorem normed_row (c : Dev nD) (t : Fin cfg0.N) (i : Fin 1024) (k : Fin 2048) :
    normed m c t (ix2 i k) = refNorm (aX m c) (aG m c) (ix3 (rhi (row t i)) (rlo (row t i)) k) := by
  rw [← pay_row]
  unfold normed
  pointwise [k0_pay2]

/-- A row of the product with the whole weight. -/
theorem rows_point (xn : FVec Ideal S2x4096x2048 .f32) (w : FVec Ideal S2048x5120 .f32) (r : Fin 8192) (q : Fin 5120) :
    refRows xn w (ix2 r q) = ∑ k : Fin 2048, xn (ix3 (rhi r) (rlo r) k) * w (ix2 k q) := by
  unfold refRows
  pointwise []
  rfl

/-- The reference's projected rows of the prompt. -/
def allRows (c : Dev nD) : FVec Ideal Cert.InProjRefIdeal.S8192x5120 .f32 := refRows (refNorm (aX m c) (aG m c)) (aW m c)

/-- A product of a block's normed rows with tile `u` is a run of the reference's columns. -/
theorem tile_row (c : Dev nD) (t u : Fin cfg0.N) (s : FVec Ideal S1024x2048 .bf16)
    (hs : ∀ (i : Fin 1024) (k : Fin 2048), s (ix2 i k) = refNorm (aX m c) (aG m c) (ix3 (rhi (row t i)) (rlo (row t i)) k)) (i q : Fin 1024) :
    ∑ k : Fin 2048, s (ix2 i k) * inW m c u (ix3 (0 : Fin 1) k q) = allRows m c (ix2 (row t i) (wcol u q)) := by
  unfold allRows
  rw [rows_point]
  refine Finset.sum_congr rfl fun k _ => ?_
  rw [hs, inW_point]

theorem outK_point (c : Dev nD) (t : Fin cfg0.N) (i q : Fin 1024) :
    outK m c t (ix2 i q) = allRows m c (ix2 (row t i) (wcol (first t) q)) := by
  rw [← tile_row m c t (first t) _ (pay_row m c t)]
  unfold outK
  generalize inW m c (first t) = w
  pointwise [k0_pay3]

theorem outV_point (c : Dev nD) (t : Fin cfg0.N) (i q : Fin 1024) :
    outV m c t (ix2 i q) = allRows m c (ix2 (row t i) (wcol (second t) q)) := by
  rw [← tile_row m c t (second t) _ (normed_row m c t)]
  unfold outV
  generalize normed m c t = s
  generalize inW m c (second t) = w
  pointwise [k0_pay4]

theorem outQ_point (c : Dev nD) (t : Fin cfg0.N) (i q : Fin 1024) :
    outQ m c t (ix3 (0 : Fin 1) i q) = allRows m c (ix2 (row t i) (wcol t q)) := by
  rw [← tile_row m c t t _ (normed_row m c t)]
  unfold outQ
  generalize normed m c t = s
  generalize inW m c t = w
  pointwise [k0_pay5]

/-! ## The three results -/

theorem wcol_first (t : Fin cfg0.N) (q : Fin 1024) : wcol (first t) q = ⟨1024 + q.val, by omega⟩ := by
  apply Fin.ext
  show src (5 * (t.val / 5) % 5) * 1024 + q.val = 1024 + q.val
  rw [show 5 * (t.val / 5) % 5 = 0 by omega]; unfold src; simp
theorem wcol_second (t : Fin cfg0.N) (q : Fin 1024) : wcol (second t) q = ⟨2048 + q.val, by omega⟩ := by
  apply Fin.ext
  show src ((5 * (t.val / 5) + 1) % 5) * 1024 + q.val = 2048 + q.val
  rw [show (5 * (t.val / 5) + 1) % 5 = 1 by omega]; unfold src; simp

theorem refK_point (p : FVec Ideal Cert.InProjRefIdeal.S8192x5120 .f32) (r : Fin 8192) (q : Fin 1024) : refK p (ix2 r q) = p (ix2 r ⟨1024 + q.val, by omega⟩) := by
  unfold refK
  pointwise []
theorem refV_point (p : FVec Ideal Cert.InProjRefIdeal.S8192x5120 .f32) (r : Fin 8192) (q : Fin 1024) : refV p (ix2 r q) = p (ix2 r ⟨2048 + q.val, by omega⟩) := by
  unfold refV
  pointwise []
/-- The three other runs of columns: the first, and the last two. -/
theorem refQ_point (p : FVec Ideal Cert.InProjRefIdeal.S8192x5120 .f32) (j : Fin 3) (r : Fin 8192) (q : Fin 1024) :
    refQ p (ix3 j r q) = p (ix2 r ⟨src (j.val + 2) * 1024 + q.val, by
      have : src (j.val + 2) ≤ 4 := by unfold src; split_ifs <;> omega
      omega⟩) := by
  unfold refQ
  pointwise [src]
  fin_vals j with hk
  all_goals simp only [hk, Nat.reduceSub, Nat.reduceLT, ↓reduceDIte]
  all_goals exact congrArg p (congrArg (ix2 r) (Fin.ext (by simp)))

theorem keys_point (c : Dev nD) (t : Fin cfg0.N) (i q : Fin 1024) : outK m c t (ix2 i q) = refK (allRows m c) (ix2 (row t i) q) := by
  rw [outK_point, wcol_first, refK_point]
theorem values_point (c : Dev nD) (t : Fin cfg0.N) (i q : Fin 1024) : outV m c t (ix2 i q) = refV (allRows m c) (ix2 (row t i) q) := by
  rw [outV_point, wcol_second, refV_point]
theorem others_point (c : Dev nD) (t : Fin cfg0.N) (h2 : 2 ≤ t.val % 5) (hj : t.val % 5 - 2 < 3) (i q : Fin 1024) :
    outQ m c t (ix3 (0 : Fin 1) i q) = refQ (allRows m c) (ix3 (⟨t.val % 5 - 2, hj⟩ : Fin 3) (row t i) q) := by
  rw [outQ_point, refQ_point]
  refine congrArg (allRows m c) (congrArg (ix2 (row t i)) (Fin.ext ?_))
  show src (t.val % 5) * 1024 + _ = src (t.val % 5 - 2 + 2) * 1024 + _
  rw [show t.val % 5 - 2 + 2 = t.val % 5 by omega]

set_option maxHeartbeats 4000000 in
theorem keys_eq (c : Dev nD) : (dats m 0 c).arrAt 3 cfg0.N = refK (allRows m c) := by
  refine (dats m 0 c).arrAt_eq_of_covers 3 _ (by decide +kernel) fun t hf y => ?_
  blk_simp
  rw [after0_3]
  have hy : (win0_3.blk t).view.emb y = ix2 (row t (y 0)) (y 1) := by blk_ext [idx t, row]
  have ey : y = (ix2 (y 0) (y 1) : S1024x1024.Idx) := by funext a; fin_cases a <;> rfl
  rw [hy]
  refine (congrArg (outK m c t) ey).trans ?_
  exact keys_point m c t (y 0) (y 1)

set_option maxHeartbeats 4000000 in
theorem values_eq (c : Dev nD) : (dats m 0 c).arrAt 4 cfg0.N = refV (allRows m c) := by
  refine (dats m 0 c).arrAt_eq_of_covers 4 _ (by decide +kernel) fun t hf y => ?_
  blk_simp
  rw [after0_4]
  have hy : (win0_4.blk t).view.emb y = ix2 (row t (y 0)) (y 1) := by blk_ext [idx t, row]
  have ey : y = (ix2 (y 0) (y 1) : S1024x1024.Idx) := by funext a; fin_cases a <;> rfl
  rw [hy]
  refine (congrArg (outV m c t) ey).trans ?_
  exact values_point m c t (y 0) (y 1)

set_option maxHeartbeats 4000000 in
theorem others_eq (c : Dev nD) : (dats m 0 c).arrAt 5 cfg0.N = refQ (allRows m c) := by
  refine (dats m 0 c).arrAt_eq_of_covers 5 _ (by decide +kernel) fun t hf y => ?_
  have h2 : 2 ≤ t.val % 5 := (flush5 t).mp hf
  have hj : t.val % 5 - 2 < 3 := by omega
  blk_simp
  rw [after0_5]
  have hy : (win0_5.blk t).view.emb y = ix3 (⟨t.val % 5 - 2, hj⟩ : Fin 3) (row t (y 1)) (y 2) := by blk_ext [idx t, row]
  have ey : y = (ix3 (0 : Fin 1) (y 1) (y 2) : S1x1024x1024.Idx) := by
    funext a; fin_cases a; · exact Subsingleton.elim (α := Fin 1) _ _
    · rfl
    · rfl
  rw [hy]
  refine (congrArg (outQ m c t) ey).trans ?_
  exact others_point m c t h2 hj (y 1) (y 2)

/-- Both runs end at the same three arrays. -/
theorem algebraic : Cert.algebraic_InProjIdeal_InProjRefIdeal := by
  intro m g m' g' _ hagree
  refine ⟨fun c => refK (allRows m c), fun c => refV (allRows m c), fun c => refQ (allRows m c), ?_, ?_⟩
  · refine (θ_run _ _ _).mono (fun r h c => ?_) (run_main m g)
    exact ⟨((h.1 c).1 3).trans (keys_eq m c), ((h.1 c).1 4).trans (values_eq m c), ((h.1 c).1 5).trans (others_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩
  · refine (θ_run _ _ _).mono (fun r h c => ?_) (Cert.InProjRefIdeal.Value.run m' g')
    obtain ⟨h0, h1, h2⟩ := hagree c
    have e : refRows (refNorm (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1))) (m' ((c.tc : Thread Cert.InProjRefIdeal.nD Cert.InProjRefIdeal.τ).loc Cert.InProjRefIdeal.main_arg2)) = allRows m c := by
      rw [h0, h1, h2]; rfl
    obtain ⟨v0, v1, v2, ha⟩ := h c
    exact ⟨v0.trans (congrArg refK e), v1.trans (congrArg refV e), v2.trans (congrArg refQ e), ha⟩

end Cert.InProjValue

end
-- ==== Proof.InProjSFrame.lean ====
/-
  The run of the input projection of the sample. A grid point is one tile of 1024 columns, which it rounds and hands out:
  the first point norms the rows, keeps them, and multiplies them with its tile; the later points multiply the kept rows
  with theirs. The launched program ends with its arguments as they were and every semaphore at zero.
-/
module

public import proofs.«01_k».proof.Proof.Gen.InProjSIdeal.Frame
public import proofs.«01_k».proof.Proof.Gen.InProjSIdeal.Launch
public import proofs.«01_k».proof.Proof.Gen.InProjSIdeal.Skeleton
public import proofs.«01_k».proof.Proof.Gen.InProjSIdeal.Points
public import proofs.«01_k».proof.Proof.ColumnTiles

@[expose] public section

noncomputable section

namespace Cert.InProjSRun

open Cert.InProjSIdeal Cert.InProjSIdeal.Gen Cert.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the run. -/
local notation "𝕄" => MT nD τ sig Unit (Elt F) ℕ (UR sig nD τ) ℕ

set_option maxRecDepth 16384

set_option maxHeartbeats 4000000 in
/-- The first point: round and hand out the first tile, norm the rows, keep them, and store the tile's product. -/
theorem first_tile (c : Dev nD) (i : grid0.Coords) (h1 : k0_cond1 i = 1#1) (h2 : ¬ k0_cond2 i = 1#1) (h3 : ¬ k0_cond3 i = 1#1) (arg2 : Memref sig .tc .vmem S64x2048 .f32) (harg2 : arg2.IsWhole) (arg3 : Memref sig .tc .vmem S1x2048 .f32) (harg3 : arg3.IsWhole) (arg4 : Memref sig .tc .vmem S2048x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S1x64x1024 .f32) (harg7 : arg7.IsWhole) (arg8 : Memref sig .tc .vmem S1x2048x1024 .bf16) (harg8 : arg8.IsWhole) (arg9 : Memref sig .tc .vmem S64x2048 .bf16) (harg9 : arg9.IsWhole) (x : FVec F S64x2048 .f32) (g : FVec F S1x2048 .f32) (w : FVec F S2048x1024 .f32) (e : FVec F S1x2048x1024 .bf16) (o : FVec F S64x1024 .f32) (s : FVec F S64x2048 .bf16) (K : PUnit → sProp 𝕄) :
    iprop(owns (c : Thread nD τ) arg2 fullShare x ∗ owns (c : Thread nD τ) arg3 fullShare g ∗ owns (c : Thread nD τ) arg4 fullShare w ∗ owns (c : Thread nD τ) arg5 fullShare o ∗ owns (c : Thread nD τ) arg8 fullShare e ∗ owns (c : Thread nD τ) arg9 fullShare s
        ∗ (iprop(owns (c : Thread nD τ) arg2 fullShare x ∗ owns (c : Thread nD τ) arg3 fullShare g ∗ owns (c : Thread nD τ) arg4 fullShare w ∗ owns (c : Thread nD τ) arg5 fullShare (k0_pay4 x g (k0_pay1 w)) ∗ owns (c : Thread nD τ) arg8 fullShare (k0_pay1 w) ∗ owns (c : Thread nD τ) arg9 fullShare (k0_pay3 x g)) -∗ K ⟨⟩))
      ⊢ wp frame (wpE (defs₀ (F := F)) Variants.none (c : Thread nD τ) none) Set.univ (cc0_in_proj i arg2 harg2 arg3 harg3 arg4 harg4 arg5 harg5 arg6 harg6 arg7 harg7 arg8 harg8 arg9 harg9) K := by
  rw [cc0_in_proj_eq_skeleton]; unfold cc0_in_proj_skel
  iintro ⟨X, G, W, O, E, S, Hk⟩
  iapply load_whole $$ W
  iintro W
  iapply load_whole $$ E
  iintro E
  iapply store_whole $$ E
  iintro E
  iapply (then_pos h1)
  iapply load_whole $$ X
  iintro X
  iapply load_whole $$ G
  iintro G
  iapply load_whole $$ S
  iintro S
  iapply store_whole $$ S
  iintro S
  iapply load_whole $$ E
  iintro E
  iapply load_whole $$ O
  iintro O
  iapply store_whole $$ O
  iintro O
  iapply (then_neg h2)
  iapply (then_neg h3)
  iapply le_wp_ret
  iapply Hk
  isplitl [X]; · iexact X
  isplitl [G]; · iexact G
  isplitl [W]; · iexact W
  isplitl [O]; · iexact O
  isplitl [E]; · iexact E
  iexact S

set_option maxHeartbeats 4000000 in
/-- The second point: the second tile, and its product with the kept rows. -/
theorem second_tile (c : Dev nD) (i : grid0.Coords) (h1 : ¬ k0_cond1 i = 1#1) (h2 : k0_cond2 i = 1#1) (h3 : ¬ k0_cond3 i = 1#1) (arg2 : Memref sig .tc .vmem S64x2048 .f32) (harg2 : arg2.IsWhole) (arg3 : Memref sig .tc .vmem S1x2048 .f32) (harg3 : arg3.IsWhole) (arg4 : Memref sig .tc .vmem S2048x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S1x64x1024 .f32) (harg7 : arg7.IsWhole) (arg8 : Memref sig .tc .vmem S1x2048x1024 .bf16) (harg8 : arg8.IsWhole) (arg9 : Memref sig .tc .vmem S64x2048 .bf16) (harg9 : arg9.IsWhole) (w : FVec F S2048x1024 .f32) (e : FVec F S1x2048x1024 .bf16) (o : FVec F S64x1024 .f32) (s : FVec F S64x2048 .bf16) (K : PUnit → sProp 𝕄) :
    iprop(owns (c : Thread nD τ) arg4 fullShare w ∗ owns (c : Thread nD τ) arg6 fullShare o ∗ owns (c : Thread nD τ) arg8 fullShare e ∗ owns (c : Thread nD τ) arg9 fullShare s
        ∗ (iprop(owns (c : Thread nD τ) arg4 fullShare w ∗ owns (c : Thread nD τ) arg6 fullShare (k0_pay5 s (k0_pay1 w)) ∗ owns (c : Thread nD τ) arg8 fullShare (k0_pay1 w) ∗ owns (c : Thread nD τ) arg9 fullShare s) -∗ K ⟨⟩))
      ⊢ wp frame (wpE (defs₀ (F := F)) Variants.none (c : Thread nD τ) none) Set.univ (cc0_in_proj i arg2 harg2 arg3 harg3 arg4 harg4 arg5 harg5 arg6 harg6 arg7 harg7 arg8 harg8 arg9 harg9) K := by
  rw [cc0_in_proj_eq_skeleton]; unfold cc0_in_proj_skel
  iintro ⟨W, O, E, S, Hk⟩
  iapply load_whole $$ W
  iintro W
  iapply load_whole $$ E
  iintro E
  iapply store_whole $$ E
  iintro E
  iapply (then_neg h1)
  iapply (then_pos h2)
  iapply load_whole $$ S
  iintro S
  iapply load_whole $$ E
  iintro E
  iapply load_whole $$ O
  iintro O
  iapply store_whole $$ O
  iintro O
  iapply (then_neg h3)
  iapply le_wp_ret
  iapply Hk
  isplitl [W]; · iexact W
  isplitl [O]; · iexact O
  isplitl [E]; · iexact E
  iexact S

set_option maxHeartbeats 4000000 in
/-- The later points: one more tile, and its product with the kept rows. -/
theorem later_tile (c : Dev nD) (i : grid0.Coords) (h1 : ¬ k0_cond1 i = 1#1) (h2 : ¬ k0_cond2 i = 1#1) (h3 : k0_cond3 i = 1#1) (arg2 : Memref sig .tc .vmem S64x2048 .f32) (harg2 : arg2.IsWhole) (arg3 : Memref sig .tc .vmem S1x2048 .f32) (harg3 : arg3.IsWhole) (arg4 : Memref sig .tc .vmem S2048x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S1x64x1024 .f32) (harg7 : arg7.IsWhole) (arg8 : Memref sig .tc .vmem S1x2048x1024 .bf16) (harg8 : arg8.IsWhole) (arg9 : Memref sig .tc .vmem S64x2048 .bf16) (harg9 : arg9.IsWhole) (w : FVec F S2048x1024 .f32) (e : FVec F S1x2048x1024 .bf16) (o : FVec F S1x64x1024 .f32) (s : FVec F S64x2048 .bf16) (K : PUnit → sProp 𝕄) :
    iprop(owns (c : Thread nD τ) arg4 fullShare w ∗ owns (c : Thread nD τ) arg7 fullShare o ∗ owns (c : Thread nD τ) arg8 fullShare e ∗ owns (c : Thread nD τ) arg9 fullShare s
        ∗ (iprop(owns (c : Thread nD τ) arg4 fullShare w ∗ owns (c : Thread nD τ) arg7 fullShare (k0_pay6 s (k0_pay1 w)) ∗ owns (c : Thread nD τ) arg8 fullShare (k0_pay1 w) ∗ owns (c : Thread nD τ) arg9 fullShare s) -∗ K ⟨⟩))
      ⊢ wp frame (wpE (defs₀ (F := F)) Variants.none (c : Thread nD τ) none) Set.univ (cc0_in_proj i arg2 harg2 arg3 harg3 arg4 harg4 arg5 harg5 arg6 harg6 arg7 harg7 arg8 harg8 arg9 harg9) K := by
  rw [cc0_in_proj_eq_skeleton]; unfold cc0_in_proj_skel
  iintro ⟨W, O, E, S, Hk⟩
  iapply load_whole $$ W
  iintro W
  iapply load_whole $$ E
  iintro E
  iapply store_whole $$ E
  iintro E
  iapply (then_neg h1)
  iapply (then_neg h2)
  iapply (then_pos h3)
  iapply load_whole $$ S
  iintro S
  iapply load_whole $$ E
  iintro E
  iapply load_whole $$ O
  iintro O
  iapply store_whole $$ O
  iintro O
  iapply le_wp_ret
  iapply Hk
  isplitl [W]; · iexact W
  isplitl [O]; · iexact O
  isplitl [E]; · iexact E
  iexact S

variable (m : (ℓ : Loc nD τ sig) → Buf (Elt F) ℓ) (ρ : Dev nD → PrngReg)

/-! ## The grid: point `5 i + j` is row block `i`, tile `j` -/

/-- The first point of `t`'s row block. -/
def first (t : Fin cfg0.N) : Fin cfg0.N := ⟨5 * (t.val / 5), by have := t.isLt; omega⟩
/-- Its second point. -/
def second (t : Fin cfg0.N) : Fin cfg0.N := ⟨5 * (t.val / 5) + 1, by have : t.val < 5 := t.isLt; show _ < 5; omega⟩

theorem cond1_iff (t : Fin cfg0.N) : k0_cond1 (grid0.coords t) = 1#1 ↔ t.val % 5 = 0 :=
  (by decide +kernel : ∀ t : Fin grid0.N, k0_cond1 (grid0.coords t) = 1#1 ↔ t.val % 5 = 0) t
theorem cond2_iff (t : Fin cfg0.N) : k0_cond2 (grid0.coords t) = 1#1 ↔ t.val % 5 = 1 :=
  (by decide +kernel : ∀ t : Fin grid0.N, k0_cond2 (grid0.coords t) = 1#1 ↔ t.val % 5 = 1) t
theorem cond3_iff (t : Fin cfg0.N) : k0_cond3 (grid0.coords t) = 1#1 ↔ 2 ≤ t.val % 5 :=
  (by decide +kernel : ∀ t : Fin grid0.N, k0_cond3 (grid0.coords t) = 1#1 ↔ 2 ≤ t.val % 5) t
theorem fresh3 (t : Fin cfg0.N) : cfg0.fresh 3 t.val = true ↔ t.val % 5 = 0 :=
  (by decide +kernel : ∀ t : Fin grid0.N, cfg0.fresh 3 t.val = true ↔ t.val % 5 = 0) t
theorem fresh4 (t : Fin cfg0.N) : cfg0.fresh 4 t.val = true ↔ t.val % 5 ≤ 1 :=
  (by decide +kernel : ∀ t : Fin grid0.N, cfg0.fresh 4 t.val = true ↔ t.val % 5 ≤ 1) t
theorem flush5 (t : Fin cfg0.N) : (cfg0.win 5).flush t = true ↔ 2 ≤ t.val % 5 :=
  (by decide +kernel : ∀ t : Fin grid0.N, win0_5.flush t = true ↔ 2 ≤ t.val % 5) t

/-! ## The proof data -/

/-- Row block of `t`, its weights, and tile `t`. -/
abbrev inX (c : Dev nD) (t : Fin cfg0.N) : FVec F S64x2048 .f32 := iblk m c 0 t
abbrev inG (c : Dev nD) (t : Fin cfg0.N) : FVec F S1x2048 .f32 := iblk m c 1 t
abbrev inW (c : Dev nD) (t : Fin cfg0.N) : FVec F S2048x1024 .f32 := iblk m c 2 t
/-- The normed rows of `t`'s row block. -/
def normed (c : Dev nD) (t : Fin cfg0.N) : FVec F S64x2048 .bf16 := k0_pay3 (inX m c (first t)) (inG m c (first t))
/-- The first tile's product, the second's, and tile `t`'s. -/
def outK (c : Dev nD) (t : Fin cfg0.N) : FVec F S64x1024 .f32 := k0_pay4 (inX m c (first t)) (inG m c (first t)) (k0_pay1 (inW m c (first t)))
def outV (c : Dev nD) (t : Fin cfg0.N) : FVec F S64x1024 .f32 := k0_pay5 (normed m c t) (k0_pay1 (inW m c (second t)))
def outQ (c : Dev nD) (t : Fin cfg0.N) : FVec F S1x64x1024 .f32 := k0_pay6 (normed m c t) (k0_pay1 (inW m c t))

/-- What is kept between points: the scratch holds the normed rows of the row block under way, anything between row
    blocks; and the generator's register. -/
def kept (c : Dev nD) (n : ℕ) : sProp 𝕄 :=
  iprop((∃ s, ⌜∀ h : n < cfg0.N, n % 5 ≠ 0 → s = normed m c ⟨n, h⟩⌝ ∗ owns (c : Thread nD τ) (Memref.whole cc0_scratch0) fullShare s) ∗ ∃ r, prngReg c r)

/-- The proof data: each window's block after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outK m c t
    | ⟨4, _⟩ => outV m c t
    | ⟨5, _⟩ => outQ m c t
    | ⟨6, _⟩ => k0_pay1 (inW m c t)
  Φ t := kept m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outK m c t := by dsimp only [dats]
theorem after0_4 (c : Dev nD) (t : Fin cfg0.N) : (dats m 0 c).after 4 t = outV m c t := by dsimp only [dats]
theorem after0_5 (c : Dev nD) (t : Fin cfg0.N) : (dats m 0 c).after 5 t = outQ m c t := by dsimp only [dats]
theorem after0_6 (c : Dev nD) (t : Fin cfg0.N) : (dats m 0 c).after 6 t = k0_pay1 (inW m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Points of one row block share its first and second point. -/
theorem first_prev (t : Fin cfg0.N) (h : t.val % 5 ≠ 0) : first (⟨t.val - 1, by omega⟩ : Fin cfg0.N) = first t := by
  unfold first; apply Fin.ext; show 5 * ((t.val - 1) / 5) = 5 * (t.val / 5); omega
theorem second_prev (t : Fin cfg0.N) (h : t.val % 5 ≠ 0) : second (⟨t.val - 1, by omega⟩ : Fin cfg0.N) = second t := by
  unfold second; apply Fin.ext; show 5 * ((t.val - 1) / 5) + 1 = 5 * (t.val / 5) + 1; omega
theorem normed_prev (c : Dev nD) (t : Fin cfg0.N) (h : t.val % 5 ≠ 0) : normed m c ⟨t.val - 1, by omega⟩ = normed m c t := by
  unfold normed; rw [first_prev t h]
theorem outK_prev (c : Dev nD) (t : Fin cfg0.N) (h : t.val % 5 ≠ 0) : outK m c ⟨t.val - 1, by omega⟩ = outK m c t := by
  unfold outK; rw [first_prev t h]
theorem outV_prev (c : Dev nD) (t : Fin cfg0.N) (h : t.val % 5 ≠ 0) : outV m c ⟨t.val - 1, by omega⟩ = outV m c t := by
  unfold outV; rw [normed_prev m c t h, second_prev t h]
theorem first_self (t : Fin cfg0.N) (h : t.val % 5 = 0) : first t = t := by
  unfold first; apply Fin.ext; show 5 * (t.val / 5) = t.val; omega
theorem second_self (t : Fin cfg0.N) (h : t.val % 5 = 1) : second t = t := by
  unfold second; apply Fin.ext; show 5 * (t.val / 5) + 1 = t.val; omega

/-- Past its first point, a row block's buffer of the first tile holds that tile's product. -/
theorem before0_3 (c : Dev nD) (t : Fin cfg0.N) (h : t.val % 5 ≠ 0) (d) : (dats m 0 c).before 3 t d = (dats m 0 c).after 3 t := by
  have hc : ∀ (t : Fin cfg0.N) (_ : t.val ≠ 0), cfg0.idle 3 (cfg0.grid.coords t) = true → cfg0.fresh 3 t.val = false →
      (dats m 0 c).after 3 t = (dats m 0 c).after 3 ⟨t.val - 1, by omega⟩ := by
    intro t h0 _ hf
    have h5 : t.val % 5 ≠ 0 := fun h => by rw [(fresh3 t).mpr h] at hf; exact Bool.noConfusion hf
    rw [after0_3, after0_3, outK_prev m c t h5]
  rw [(dats m 0 c).before_out_traj 3 rfl (fun _ _ => rfl) hc t.val t rfl d, if_neg (fun h' => h ((fresh3 t).mp h')), after0_3, after0_3, outK_prev m c t h]
/-- Past its second point, the second tile's. -/
theorem before0_4 (c : Dev nD) (t : Fin cfg0.N) (h : 2 ≤ t.val % 5) (d) : (dats m 0 c).before 4 t d = (dats m 0 c).after 4 t := by
  have hc : ∀ (t : Fin cfg0.N) (_ : t.val ≠ 0), cfg0.idle 4 (cfg0.grid.coords t) = true → cfg0.fresh 4 t.val = false →
      (dats m 0 c).after 4 t = (dats m 0 c).after 4 ⟨t.val - 1, by omega⟩ := by
    intro t h0 _ hf
    have h5 : t.val % 5 ≠ 0 := fun h => by rw [(fresh4 t).mpr (by omega)] at hf; exact Bool.noConfusion hf
    rw [after0_4, after0_4, outV_prev m c t h5]
  rw [(dats m 0 c).before_out_traj 4 rfl (fun _ _ => rfl) hc t.val t rfl d, if_neg (fun h' => by have := (fresh4 t).mp h'; omega), after0_4, after0_4, outV_prev m c t (by omega)]

/-! ## The body at a point -/

theorem idle3 (t : Fin cfg0.N) : cfg0.idle 3 (cfg0.grid.coords t) = !(k0_cond1 (grid0.coords t) == 1#1) := rfl
theorem idle4 (t : Fin cfg0.N) : cfg0.idle 4 (cfg0.grid.coords t) = !(k0_cond2 (grid0.coords t) == 1#1) := rfl
theorem idle5 (t : Fin cfg0.N) : cfg0.idle 5 (cfg0.grid.coords t) = !(k0_cond3 (grid0.coords t) == 1#1) := rfl
theorem stores {b : BitVec 1} (h : b = 1#1) : (!(b == 1#1)) = false := by subst h; rfl
theorem skips {b : BitVec 1} (h : ¬ b = 1#1) : (!(b == 1#1)) = true := by simp [h]

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ left (dats m 0 c) 3 t ∗ left (dats m 0 c) 4 t ∗ left (dats m 0 c) 5 t
    ∗ owns (c : Thread nD τ) (st0_6 t) fullShare ((dats m 0 c).after 6 t))

theorem normed_succ (c : Dev nD) (t : Fin cfg0.N) (s : FVec F S64x2048 .bf16) (hs : s = normed m c t) :
    ∀ h : t.val + 1 < cfg0.N, (t.val + 1) % 5 ≠ 0 → s = normed m c ⟨t.val + 1, h⟩ := fun h h5 =>
  hs.trans (normed_prev m c ⟨t.val + 1, h⟩ h5)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0_0, after0_1, after0_2, after0_6]
  rw [show (dats m 0 c).Φ t.succ = kept m c (t.val + 1) from rfl, show (dats m 0 c).Φ t.castSucc = kept m c t.val from rfl,
    show (dats m 0 c).owesAt () t.succ = (dats m 0 c).owesAt () t.castSucc from rfl]
  simp only [before0_0, before0_1, before0_2]
  unfold kept
  iintro ⟨⟨⟨%s, %hs, S⟩, Hg⟩, Ho, ⟨%d0, H0⟩, ⟨%d1, H1⟩, ⟨%d2, H2⟩, ⟨%d3, H3⟩, ⟨%d4, H4⟩, ⟨%d5, H5⟩, ⟨%d6, H6⟩⟩
  by_cases h0 : t.val % 5 = 0
  · have h1 : k0_cond1 (grid0.coords t) = 1#1 := (cond1_iff t).mpr h0
    have h2 : ¬ k0_cond2 (grid0.coords t) = 1#1 := fun h => by have := (cond2_iff t).mp h; omega
    have h3 : ¬ k0_cond3 (grid0.coords t) = 1#1 := fun h => by have := (cond3_iff t).mp h; omega
    have e3 : (dats m 0 c).after 3 t = k0_pay4 (iblk m c 0 t) (iblk m c 1 t) (k0_pay1 (iblk m c 2 t)) := by
      rw [after0_3]; unfold outK; rw [first_self t h0]
    have en : k0_pay3 (iblk m c 0 t) (iblk m c 1 t) = normed m c t := by unfold normed; rw [first_self t h0]
    have f4 : ¬ (cfg0.win 4).flush t = true := fun h => by have := (flush0_4 t).mp h; omega
    have f5 : ¬ (cfg0.win 5).flush t = true := fun h => by have := (flush5 t).mp h; omega
    iapply (first_tile c (grid0.coords t) h1 h2 h3 _ _ _ _ _ _ _ _ _ _ _ _ _ _ _ _ (iblk m c 0 t) (iblk m c 1 t) (iblk m c 2 t) _ _ s _)
    isplitl [H0]; · iexact H0
    isplitl [H1]; · iexact H1
    isplitl [H2]; · iexact H2
    isplitl [H3]; · iexact H3
    isplitl [H6]; · iexact H6
    isplitl [S]; · iexact S
    iintro ⟨H0, H1, H2, H3, H6, S⟩
    isplitl [S Hg]
    · isplitl [S]
      · iexists _; isplitr; swap; · iexact S
        ipureintro; exact normed_succ m c t _ en
      iexact Hg
    isplitl [Ho]; · iexact Ho
    isplitl [H0]; · iexact H0
    isplitl [H1]; · iexact H1
    isplitl [H2]; · iexact H2
    isplitl [H3]
    · iapply (left_stored (dats m 0 c) 3 t ((idle3 t).trans (stores h1)))
      rw [e3]; iexact H3
    isplitl [H4]; · iapply (left_kept (dats m 0 c) 4 t ((idle4 t).trans (skips h2)) d4 (fun h => absurd h f4)); iexact H4
    isplitl [H5]; · iapply (left_kept (dats m 0 c) 5 t ((idle5 t).trans (skips h3)) d5 (fun h => absurd h f5)); iexact H5
    iexact H6
  have h1 : ¬ k0_cond1 (grid0.coords t) = 1#1 := fun h => h0 ((cond1_iff t).mp h)
  have hsn : s = normed m c t := hs t.isLt h0
  by_cases h1' : t.val % 5 = 1
  · have h2 : k0_cond2 (grid0.coords t) = 1#1 := (cond2_iff t).mpr h1'
    have h3 : ¬ k0_cond3 (grid0.coords t) = 1#1 := fun h => by have := (cond3_iff t).mp h; omega
    have e4 : (dats m 0 c).after 4 t = k0_pay5 s (k0_pay1 (iblk m c 2 t)) := by
      rw [after0_4, hsn]; unfold outV; rw [second_self t h1']
    have f5 : ¬ (cfg0.win 5).flush t = true := fun h => by have := (flush5 t).mp h; omega
    iapply (second_tile c (grid0.coords t) h1 h2 h3 _ _ _ _ _ _ _ _ _ _ _ _ _ _ _ _ (iblk m c 2 t) _ _ s _)
    isplitl [H2]; · iexact H2
    isplitl [H4]; · iexact H4
    isplitl [H6]; · iexact H6
    isplitl [S]; · iexact S
    iintro ⟨H2, H4, H6, S⟩
    isplitl [S Hg]
    · isplitl [S]
      · iexists s; isplitr; swap; · iexact S
        ipureintro; exact normed_succ m c t _ hsn
      iexact Hg
    isplitl [Ho]; · iexact Ho
    isplitl [H0]; · iexact H0
    isplitl [H1]; · iexact H1
    isplitl [H2]; · iexact H2
    isplitl [H3]; · iapply (left_kept (dats m 0 c) 3 t ((idle3 t).trans (skips h1)) d3 (fun _ => before0_3 m c t h0 d3)); iexact H3
    isplitl [H4]
    · iapply (left_stored (dats m 0 c) 4 t ((idle4 t).trans (stores h2)))
      rw [e4]; iexact H4
    isplitl [H5]; · iapply (left_kept (dats m 0 c) 5 t ((idle5 t).trans (skips h3)) d5 (fun h => absurd h f5)); iexact H5
    iexact H6
  · have h2 : ¬ k0_cond2 (grid0.coords t) = 1#1 := fun h => h1' ((cond2_iff t).mp h)
    have h3 : k0_cond3 (grid0.coords t) = 1#1 := (cond3_iff t).mpr (by omega)
    have e5 : (dats m 0 c).after 5 t = k0_pay6 s (k0_pay1 (iblk m c 2 t)) := by
      rw [after0_5, hsn]; rfl
    iapply (later_tile c (grid0.coords t) h1 h2 h3 _ _ _ _ _ _ _ _ _ _ _ _ _ _ _ _ (iblk m c 2 t) _ _ s _)
    isplitl [H2]; · iexact H2
    isplitl [H5]; · iexact H5
    isplitl [H6]; · iexact H6
    isplitl [S]; · iexact S
    iintro ⟨H2, H5, H6, S⟩
    isplitl [S Hg]
    · isplitl [S]
      · iexists s; isplitr; swap; · iexact S
        ipureintro; exact normed_succ m c t _ hsn
      iexact Hg
    isplitl [Ho]; · iexact Ho
    isplitl [H0]; · iexact H0
    isplitl [H1]; · iexact H1
    isplitl [H2]; · iexact H2
    isplitl [H3]; · iapply (left_kept (dats m 0 c) 3 t ((idle3 t).trans (skips h1)) d3 (fun _ => before0_3 m c t h0 d3)); iexact H3
    isplitl [H4]; · iapply (left_kept (dats m 0 c) 4 t ((idle4 t).trans (skips h2)) d4 (fun _ => before0_4 m c t (by omega) d4)); iexact H4
    isplitl [H5]
    · iapply (left_stored (dats m 0 c) 5 t ((idle5 t).trans (stores h3)))
      rw [e5]; iexact H5
    iexact H6

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem entry (c : Dev nD) : Pipeline.ΦA spec0 c ⊢ kept m c 0 := by
  unfold Pipeline.ΦA kept
  rw [scopedRest0_eq]
  iintro ⟨S, Hg⟩
  isplitl [S]
  · ihave S := (Entails.of_eq (Memref.IsWhole.exists_owns_eq (c := (c : Thread nD τ)) (Memref.isWhole_whole cc0_scratch0) fullShare).symm) $$ S
    icases S with ⟨%s, S⟩
    iexists s; isplitr; · ipureintro; exact fun _ h => absurd rfl h
    iexact S
  iexact Hg
theorem leave (c : Dev nD) (n : ℕ) : kept m c n ⊢ Pipeline.ΦA spec0 c := by
  unfold Pipeline.ΦA kept
  rw [scopedRest0_eq]
  iintro ⟨⟨%s, -, S⟩, Hg⟩
  isplitl [S]
  · iapply (Entails.of_eq (Memref.IsWhole.exists_owns_eq (c := (c : Thread nD τ)) (Memref.isWhole_whole cc0_scratch0) fullShare))
    iexists s; iexact S
  iexact Hg

set_option backward.isDefEq.respectTransparency.types false in
set_option maxHeartbeats 4000000 in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => entry m c) (hout := fun c => leave m c _)

/-- The arguments end as they began, and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c)))⟩, h.2⟩) (run_main m ρ)

end Cert.InProjSRun

end
-- ==== Proof.InProjSPair.lean ====
/- The input projection of the sample's kernel and its ideal reading are one text: their body tables are equal, so the run of the one
   is the run of the other, and the kernel's frame is its ideal reading's. -/
module

public import proofs.«01_k».proof.Defs
public import proofs.«01_k».proof.Proof.Gen.InProjS
public import proofs.«01_k».proof.Proof.InProjSFrame

@[expose] public section

set_option maxRecDepth 100000
set_option maxHeartbeats 4000000

noncomputable section

namespace Cert.InProjSRun

open Idealize.ShloMosaic Idealize.SL.Sem

attribute [local instance] Cert.InProjS.Gen.facts Cert.InProjSIdeal.Gen.facts

variable {F : FTy → Type} [FloatOps F]

/-- The two body tables hold the same kernel body. -/
theorem pair_defs₀ : Cert.InProjSIdeal.defs₀ (F := F) = Cert.InProjS.defs₀ (F := F) := by
  unfold Cert.InProjSIdeal.defs₀ Cert.InProjS.defs₀
  congr 1
  funext l a
  match l with
  | 0 => rfl

/-- With the pipeline's labels the tables are still the same. -/
theorem pair_defs : Cert.InProjSIdeal.defs (F := F) = Cert.InProjS.defs (F := F) :=
  congrArg (Pipeline.defs Cert.InProjSIdeal.pcfgs) pair_defs₀

/-- The kernel ends, leaves its arguments as they were and every counter at zero. -/
theorem frame_kernel : Cert.quiescent_InProjS (hInProjS := Cert.InProjS.Gen.facts) := fun m ρ _ => by
  have h := frame_run (F := Bits) m ρ
  rw [pair_defs] at h
  exact h

end Cert.InProjSRun

end
-- ==== Proof.InProjSValue.lean ====
/-
  The input projection of the sample: what the four arrays that the call returns hold, and that it is what the reference
  computes. The rows are normed once; tile `j` is a run of columns of the weight, so each of the first three results is a
  run of columns of the product of the normed rows with the whole weight, and the fourth is the weight cut into its tiles.
-/
module

public import proofs.«01_k».proof.Defs
public import proofs.«01_k».proof.Proof.Gen.InProjSRefIdeal.Run
public import proofs.«01_k».proof.Proof.InProjSFrame
public import Idealize.ShloMosaic.Lib.Pipeline.ValueKit
public import Idealize.ShloMosaic.Lib.Pointwise

@[expose] public section

set_option maxRecDepth 16384

noncomputable section

namespace Cert.InProjSValue

open Idealize.ShloMosaic Idealize.ShloMosaic.TcCoe Idealize.SL.Sem

section Reference
open Cert.InProjSRefIdeal Cert.InProjSRefIdeal.Gen

/-- Rows scaled by the reciprocal root of their mean square, then by the gains. -/
def refNorm (x : FVec Ideal S8x8x2048 .f32) (g : FVec Ideal S2048 .f32) : FVec Ideal S8x8x2048 .f32 :=
  mulf (mulf x (broadcastInDim S8x8x2048 ![0, 1, 2] bcast_S8x8x1_S8x8x2048_0_1_2 (Host.rsqrt (addf (Host.divf (broadcastInDim S8x8x1 ![0, 1] bcast_S8x8_S8x8x1_0_1 (Host.reduceAdd (mulf x x) (constant S_ .f32 0x00000000#32) reducesTo_S8x8x2048_S8x8_d2 h_S_)) (broadcastInDim S8x8x1 ![] bcast_S_S8x8x1 (constant S_ .f32 0x45000000#32))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 g))
/-- The projected rows, all columns. -/
def refRows (xn : FVec Ideal S8x8x2048 .f32) (w : FVec Ideal S2048x5120 .f32) : FVec Ideal S64x5120 .f32 :=
  shapeCast _ (Host.dotGeneral dot_S8x8x2048_S2048x5120_S8x8x5120_2_0_01_1_n_n none xn w) shapeCasts_S8x8x5120_S64x5120
/-- The keys, the values, and the three other runs of columns. -/
def refK (p : FVec Ideal S64x5120 .f32) : FVec Ideal S64x1024 .f32 := extractStridedSlice S64x1024 ![0, 1024] p slices_S64x5120_S64x1024_0_1024
def refV (p : FVec Ideal S64x5120 .f32) : FVec Ideal S64x1024 .f32 := extractStridedSlice S64x1024 ![0, 2048] p slices_S64x5120_S64x1024_0_2048
def refQ (p : FVec Ideal S64x5120 .f32) : FVec Ideal S3x64x1024 .f32 :=
  concatenate S3x64x1024 0 [⟨S1x64x1024, broadcastInDim S1x64x1024 ![1, 2] bcast_S64x1024_S1x64x1024_1_2 (extractStridedSlice S64x1024 ![0, 0] p slices_S64x5120_S64x1024_0_0)⟩, ⟨S1x64x1024, broadcastInDim S1x64x1024 ![1, 2] bcast_S64x1024_S1x64x1024_1_2 (extractStridedSlice S64x1024 ![0, 3072] p slices_S64x5120_S64x1024_0_3072)⟩, ⟨S1x64x1024, broadcastInDim S1x64x1024 ![1, 2] bcast_S64x1024_S1x64x1024_1_2 (extractStridedSlice S64x1024 ![0, 4096] p slices_S64x5120_S64x1024_0_4096)⟩] concatenates_S1x64x1024_S1x64x1024_S1x64x1024_S3x64x1024_d0

/-- The weight cut into its five tiles of columns, the keys' and the values' first, rounded. -/
def refT (w : FVec Ideal S2048x5120 .f32) : FVec Ideal S5x2048x1024 .f32 :=
  transpose S5x2048x1024 [1, 0, 2] (shapeCast S2048x5x1024 w shapeCasts_S2048x5120_S2048x5x1024) transposes_S2048x5x1024_S5x2048x1024_1_0_2
def refE (w : FVec Ideal S2048x5120 .f32) : FVec Ideal S5x2048x1024 .bf16 :=
  truncf (F := Ideal) .bf16 (concatenate S5x2048x1024 0 [⟨S2x2048x1024, extractStridedSlice S2x2048x1024 ![1, 0, 0] (refT w) slices_S5x2048x1024_S2x2048x1024_1_0_0⟩, ⟨S1x2048x1024, extractStridedSlice S1x2048x1024 ![0, 0, 0] (refT w) slices_S5x2048x1024_S1x2048x1024_0_0_0⟩, ⟨S2x2048x1024, extractStridedSlice S2x2048x1024 ![3, 0, 0] (refT w) slices_S5x2048x1024_S2x2048x1024_3_0_0⟩] concatenates_S2x2048x1024_S1x2048x1024_S2x2048x1024_S5x2048x1024_d0)

end Reference

open Cert.InProjSIdeal Cert.InProjSIdeal.Gen Cert.InProjSRun

variable (m : (ℓ : Loc nD τ sig) → Buf (Elt Ideal) ℓ)

/-- Where tile `j` begins among the weight's columns: the keys' tile and the values' come first. -/
def src (j : ℕ) : ℕ := if j = 0 then 1 else if j = 1 then 2 else if j = 2 then 0 else j

theorem idx : ∀ t : Fin grid0.N, win0_0.index t = ![0, 0] ∧ win0_1.index t = ![0, 0] ∧ win0_2.index t = ![0, src (t.val % 5)]
    ∧ win0_3.index t = ![0, 0] ∧ win0_4.index t = ![0, 0] ∧ win0_5.index t = ![t.val % 5 - 2, 0, 0]
    ∧ win0_6.index t = ![t.val % 5, 0, 0] := by decide +kernel

abbrev aX (c : Dev nD) : FVec Ideal S8x8x2048 .f32 := m ((c.tc : Thread nD τ).loc main_arg0)
abbrev aG (c : Dev nD) : FVec Ideal S2048 .f32 := m ((c.tc : Thread nD τ).loc main_arg1)
abbrev aW (c : Dev nD) : FVec Ideal S2048x5120 .f32 := m ((c.tc : Thread nD τ).loc main_arg2)

/-- Row `i` of the row block of `t`, and its place in the two batches. -/
def row (t : Fin cfg0.N) (i : Fin 64) : Fin 64 := i
def rhi (r : Fin 64) : Fin 8 := ⟨r.val / 8, by omega⟩
def rlo (r : Fin 64) : Fin 8 := ⟨r.val % 8, by omega⟩

theorem row_first (t : Fin cfg0.N) (i : Fin 64) : row (first t) i = row t i := rfl

set_option maxHeartbeats 4000000 in
/-- A block of rows, read in the two batches. -/
theorem inX_point (c : Dev nD) (t : Fin cfg0.N) (i : Fin 64) (k : Fin 2048) :
    inX m c t (ix2 i k) = aX m c (ix3 (rhi (row t i)) (rlo (row t i)) k) := by
  unfold inX aX
  blk_point [iblk, V, idx t, row, rhi, rlo]

set_option maxHeartbeats 4000000 in
theorem inG_point (c : Dev nD) (t : Fin cfg0.N) (k : Fin 2048) : inG m c t (ix2 (0 : Fin 1) k) = aG m c (ix1 k) := by
  unfold inG aG
  blk_point [iblk, V, idx t]

def wcol (t : Fin cfg0.N) (q : Fin 1024) : Fin 5120 := ⟨src (t.val % 5) * 1024 + q.val, by
  have : src (t.val % 5) ≤ 4 := by unfold src; split_ifs <;> omega
  omega⟩

set_option maxHeartbeats 4000000 in
/-- Tile `t` of the weight. -/
theorem inW_point (c : Dev nD) (t : Fin cfg0.N) (k : Fin 2048) (q : Fin 1024) :
    k0_pay1 (inW m c t) (ix3 (0 : Fin 1) k q) = aW m c (ix2 k (wcol t q)) := by
  have hw : inW m c t (ix2 k q) = aW m c (ix2 k (wcol t q)) := by
    unfold inW aW
    blk_point [iblk, V, idx t, wcol]
  rw [← hw]
  generalize inW m c t = w
  pointwise [k0_pay1]

set_option maxHeartbeats 4000000 in
/-- A row of a block, normed, is the reference's row. -/
theorem pay_row (c : Dev nD) (t : Fin cfg0.N) (i : Fin 64) (k : Fin 2048) :
    k0_pay2 (inX m c (first t)) (inG m c (first t)) (ix2 i k) = refNorm (aX m c) (aG m c) (ix3 (rhi (row t i)) (rlo (row t i)) k) := by
  have hx : ∀ k, inX m c (first t) (ix2 i k) = aX m c (ix3 (rhi (row t i)) (rlo (row t i)) k) := fun k => by
    rw [inX_point, row_first]
  have hg : ∀ k, inG m c (first t) (ix2 (0 : Fin 1) k) = aG m c (ix1 k) := inG_point m c (first t)
  generalize inX m c (first t) = x at *
  generalize inG m c (first t) = g at *
  generalize aX m c = X at *
  generalize aG m c = G at *
  unfold refNorm
  pointwise [k0_pay2]
  simp only [hx, hg]

theorem normed_row (c : Dev nD) (t : Fin cfg0.N) (i : Fin 64) (k : Fin 2048) :
    normed m c t (ix2 i k) = refNorm (aX m c) (aG m c) (ix3 (rhi (row t i)) (rlo (row t i)) k) := by
  rw [← pay_row]
  unfold normed
  pointwise [k0_pay3]

/-- A row of the product with the whole weight. -/
theorem rows_point (xn : FVec Ideal S8x8x2048 .f32) (w : FVec Ideal S2048x5120 .f32) (r : Fin 64) (q : Fin 5120) :
    refRows xn w (ix2 r q) = ∑ k : Fin 2048, xn (ix3 (rhi r) (rlo r) k) * w (ix2 k q) := by
  unfold refRows
  pointwise []
  rfl

/-- The reference's projected rows of the prompt. -/
def allRows (c : Dev nD) : FVec Ideal Cert.InProjSRefIdeal.S64x5120 .f32 := refRows (refNorm (aX m c) (aG m c)) (aW m c)

/-- A product of a block's normed rows with tile `u` is a run of the reference's columns. -/
theorem tile_row (c : Dev nD) (t u : Fin cfg0.N) (s : FVec Ideal S64x2048 .bf16)
    (hs : ∀ (i : Fin 64) (k : Fin 2048), s (ix2 i k) = refNorm (aX m c) (aG m c) (ix3 (rhi (row t i)) (rlo (row t i)) k)) (i : Fin 64) (q : Fin 1024) :
    ∑ k : Fin 2048, s (ix2 i k) * k0_pay1 (inW m c u) (ix3 (0 : Fin 1) k q) = allRows m c (ix2 (row t i) (wcol u q)) := by
  unfold allRows
  rw [rows_point]
  refine Finset.sum_congr rfl fun k _ => ?_
  rw [hs, inW_point]

theorem outK_point (c : Dev nD) (t : Fin cfg0.N) (i : Fin 64) (q : Fin 1024) :
    outK m c t (ix2 i q) = allRows m c (ix2 (row t i) (wcol (first t) q)) := by
  rw [← tile_row m c t (first t) _ (pay_row m c t)]
  unfold outK
  generalize k0_pay1 (inW m c (first t)) = w
  pointwise [k0_pay4]

theorem outV_point (c : Dev nD) (t : Fin cfg0.N) (i : Fin 64) (q : Fin 1024) :
    outV m c t (ix2 i q) = allRows m c (ix2 (row t i) (wcol (second t) q)) := by
  rw [← tile_row m c t (second t) _ (normed_row m c t)]
  unfold outV
  generalize normed m c t = s
  generalize k0_pay1 (inW m c (second t)) = w
  pointwise [k0_pay5]

theorem outQ_point (c : Dev nD) (t : Fin cfg0.N) (i : Fin 64) (q : Fin 1024) :
    outQ m c t (ix3 (0 : Fin 1) i q) = allRows m c (ix2 (row t i) (wcol t q)) := by
  rw [← tile_row m c t t _ (normed_row m c t)]
  unfold outQ
  generalize normed m c t = s
  generalize k0_pay1 (inW m c t) = w
  pointwise [k0_pay6]

/-! ## The four results -/

theorem wcol_first (t : Fin cfg0.N) (q : Fin 1024) : wcol (first t) q = ⟨1024 + q.val, by omega⟩ := by
  apply Fin.ext
  show src (5 * (t.val / 5) % 5) * 1024 + q.val = 1024 + q.val
  rw [show 5 * (t.val / 5) % 5 = 0 by omega]; unfold src; simp
theorem wcol_second (t : Fin cfg0.N) (q : Fin 1024) : wcol (second t) q = ⟨2048 + q.val, by omega⟩ := by
  apply Fin.ext
  show src ((5 * (t.val / 5) + 1) % 5) * 1024 + q.val = 2048 + q.val
  rw [show (5 * (t.val / 5) + 1) % 5 = 1 by omega]; unfold src; simp

theorem refK_point (p : FVec Ideal Cert.InProjSRefIdeal.S64x5120 .f32) (r : Fin 64) (q : Fin 1024) : refK p (ix2 r q) = p (ix2 r ⟨1024 + q.val, by omega⟩) := by
  unfold refK
  pointwise []
theorem refV_point (p : FVec Ideal Cert.InProjSRefIdeal.S64x5120 .f32) (r : Fin 64) (q : Fin 1024) : refV p (ix2 r q) = p (ix2 r ⟨2048 + q.val, by omega⟩) := by
  unfold refV
  pointwise []
/-- The three other runs of columns: the first, and the last two. -/
theorem refQ_point (p : FVec Ideal Cert.InProjSRefIdeal.S64x5120 .f32) (j : Fin 3) (r : Fin 64) (q : Fin 1024) :
    refQ p (ix3 j r q) = p (ix2 r ⟨src (j.val + 2) * 1024 + q.val, by
      have : src (j.val + 2) ≤ 4 := by unfold src; split_ifs <;> omega
      omega⟩) := by
  unfold refQ
  pointwise [src]
  fin_vals j with hk
  all_goals simp only [hk, Nat.reduceSub, Nat.reduceLT, ↓reduceDIte]
  all_goals exact congrArg p (congrArg (ix2 r) (Fin.ext (by simp)))

theorem keys_point (c : Dev nD) (t : Fin cfg0.N) (i : Fin 64) (q : Fin 1024) : outK m c t (ix2 i q) = refK (allRows m c) (ix2 (row t i) q) := by
  rw [outK_point, wcol_first, refK_point]
theorem values_point (c : Dev nD) (t : Fin cfg0.N) (i : Fin 64) (q : Fin 1024) : outV m c t (ix2 i q) = refV (allRows m c) (ix2 (row t i) q) := by
  rw [outV_point, wcol_second, refV_point]
theorem others_point (c : Dev nD) (t : Fin cfg0.N) (h2 : 2 ≤ t.val % 5) (hj : t.val % 5 - 2 < 3) (i : Fin 64) (q : Fin 1024) :
    outQ m c t (ix3 (0 : Fin 1) i q) = refQ (allRows m c) (ix3 (⟨t.val % 5 - 2, hj⟩ : Fin 3) (row t i) q) := by
  rw [outQ_point, refQ_point]
  refine congrArg (allRows m c) (congrArg (ix2 (row t i)) (Fin.ext ?_))
  show src (t.val % 5) * 1024 + _ = src (t.val % 5 - 2 + 2) * 1024 + _
  rw [show t.val % 5 - 2 + 2 = t.val % 5 by omega]

set_option maxHeartbeats 4000000 in
theorem keys_eq (c : Dev nD) : (dats m 0 c).arrAt 3 cfg0.N = refK (allRows m c) := by
  refine (dats m 0 c).arrAt_eq_of_covers 3 _ (by decide +kernel) fun t hf y => ?_
  blk_simp
  rw [after0_3]
  have hy : (win0_3.blk t).view.emb y = ix2 (row t (y 0)) (y 1) := by blk_ext [idx t, row]
  have ey : y = (ix2 (y 0) (y 1) : S64x1024.Idx) := by funext a; fin_cases a <;> rfl
  rw [hy]
  refine (congrArg (outK m c t) ey).trans ?_
  exact keys_point m c t (y 0) (y 1)

set_option maxHeartbeats 4000000 in
theorem values_eq (c : Dev nD) : (dats m 0 c).arrAt 4 cfg0.N = refV (allRows m c) := by
  refine (dats m 0 c).arrAt_eq_of_covers 4 _ (by decide +kernel) fun t hf y => ?_
  blk_simp
  rw [after0_4]
  have hy : (win0_4.blk t).view.emb y = ix2 (row t (y 0)) (y 1) := by blk_ext [idx t, row]
  have ey : y = (ix2 (y 0) (y 1) : S64x1024.Idx) := by funext a; fin_cases a <;> rfl
  rw [hy]
  refine (congrArg (outV m c t) ey).trans ?_
  exact values_point m c t (y 0) (y 1)

set_option maxHeartbeats 4000000 in
theorem others_eq (c : Dev nD) : (dats m 0 c).arrAt 5 cfg0.N = refQ (allRows m c) := by
  refine (dats m 0 c).arrAt_eq_of_covers 5 _ (by decide +kernel) fun t hf y => ?_
  have h2 : 2 ≤ t.val % 5 := (flush5 t).mp hf
  have hj : t.val % 5 - 2 < 3 := by omega
  blk_simp
  rw [after0_5]
  have hy : (win0_5.blk t).view.emb y = ix3 (⟨t.val % 5 - 2, hj⟩ : Fin 3) (row t (y 1)) (y 2) := by blk_ext [idx t, row]
  have ey : y = (ix3 (0 : Fin 1) (y 1) (y 2) : S1x64x1024.Idx) := by
    funext a; fin_cases a; · exact Subsingleton.elim (α := Fin 1) _ _
    · rfl
    · rfl
  rw [hy]
  refine (congrArg (outQ m c t) ey).trans ?_
  exact others_point m c t h2 hj (y 1) (y 2)

/-- A tile that is handed out is the reference's. -/
theorem refE_point (w : FVec Ideal S2048x5120 .f32) (b : Fin 5) (k : Fin 2048) (q : Fin 1024) :
    refE w (ix3 b k q) = w (ix2 k ⟨src b.val * 1024 + q.val, by
      have : src b.val ≤ 4 := by unfold src; split_ifs <;> omega
      omega⟩) := by
  unfold refE refT
  pointwise [src]
  fin_vals b with hk
  all_goals simp only [hk, Nat.reduceSub, Nat.reduceLT, ↓reduceDIte]
  all_goals exact congrArg w (congrArg (ix2 k) (Fin.ext (by simp)))
theorem tiles_point (c : Dev nD) (t : Fin cfg0.N) (k : Fin 2048) (q : Fin 1024) :
    k0_pay1 (inW m c t) (ix3 (0 : Fin 1) k q) = refE (aW m c) (ix3 (⟨t.val % 5, by omega⟩ : Fin 5) k q) := by
  rw [inW_point, refE_point]; rfl

set_option maxHeartbeats 4000000 in
theorem tiles_eq (c : Dev nD) : (dats m 0 c).arrAt 6 cfg0.N = refE (aW m c) := by
  refine (dats m 0 c).arrAt_eq_of_covers 6 _ (by decide +kernel) fun t hf y => ?_
  blk_simp
  rw [after0_6]
  have hy : (win0_6.blk t).view.emb y = ix3 (⟨t.val % 5, by omega⟩ : Fin 5) (y 1) (y 2) := by blk_ext [idx t]
  have ey : y = (ix3 (0 : Fin 1) (y 1) (y 2) : S1x2048x1024.Idx) := by
    funext a; fin_cases a; · exact Subsingleton.elim (α := Fin 1) _ _
    · rfl
    · rfl
  rw [hy]
  refine (congrArg (k0_pay1 (inW m c t)) ey).trans ?_
  exact tiles_point m c t (y 1) (y 2)

/-- Both runs end at the same four arrays. -/
theorem algebraic : Cert.algebraic_InProjSIdeal_InProjSRefIdeal := by
  intro m g m' g' _ hagree
  refine ⟨fun c => refK (allRows m c), fun c => refV (allRows m c), fun c => refQ (allRows m c), fun c => refE (aW m c), ?_, ?_⟩
  · refine (θ_run _ _ _).mono (fun r h c => ?_) (run_main m g)
    exact ⟨((h.1 c).1 3).trans (keys_eq m c), ((h.1 c).1 4).trans (values_eq m c), ((h.1 c).1 5).trans (others_eq m c), ((h.1 c).1 6).trans (tiles_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c)))⟩
  · refine (θ_run _ _ _).mono (fun r h c => ?_) (Cert.InProjSRefIdeal.Value.run m' g')
    obtain ⟨h0, h1, h2⟩ := hagree c
    have e : refRows (refNorm (m' ((c.tc : Thread Cert.InProjSRefIdeal.nD Cert.InProjSRefIdeal.τ).loc Cert.InProjSRefIdeal.main_arg0)) (m' ((c.tc : Thread Cert.InProjSRefIdeal.nD Cert.InProjSRefIdeal.τ).loc Cert.InProjSRefIdeal.main_arg1))) (m' ((c.tc : Thread Cert.InProjSRefIdeal.nD Cert.InProjSRefIdeal.τ).loc Cert.InProjSRefIdeal.main_arg2)) = allRows m c := by
      rw [h0, h1, h2]; rfl
    have e' : m' ((c.tc : Thread Cert.InProjSRefIdeal.nD Cert.InProjSRefIdeal.τ).loc Cert.InProjSRefIdeal.main_arg2) = aW m c := h2
    obtain ⟨v0, v1, v2, v3, ha⟩ := h c
    exact ⟨v0.trans (congrArg refK e), v1.trans (congrArg refV e), v2.trans (congrArg refQ e), v3.trans (congrArg refE e'), ha⟩

end Cert.InProjSValue

end
-- ==== Proof.MemKvFrame.lean ====
/-
  The run of the projection of the memory bank. There is one block of rows: the first point norms it, keeps it and
  multiplies it with the first tile of the two weights laid side by side, the second multiplies the kept rows with the
  second tile. Both products are written back at the end. The launched program ends with its arguments as they were and
  every semaphore at zero.
-/
module

public import proofs.«01_k».proof.Proof.Gen.MemKvIdeal.Frame
public import proofs.«01_k».proof.Proof.Gen.MemKvIdeal.Launch
public import proofs.«01_k».proof.Proof.Gen.MemKvIdeal.Skeleton
public import proofs.«01_k».proof.Proof.Gen.MemKvIdeal.Points
public import proofs.«01_k».proof.Proof.ColumnTiles

@[expose] public section

noncomputable section

namespace Cert.MemKvRun

open Cert.MemKvIdeal Cert.MemKvIdeal.Gen Cert.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the run. -/
local notation "𝕄" => MT nD τ sig Unit (Elt F) ℕ (UR sig nD τ) ℕ

set_option maxRecDepth 16384

/-- Whether the point is the first. -/
def k0_cond1 (i : grid0.Coords) : BitVec 1 := Scalar.cmpi .ne (Scalar.extui (Scalar.cmpi .eq (BitVec.ofNat 32 (i 1).val) 0#32)) 0#32

set_option maxHeartbeats 4000000 in
/-- The first point: norm the rows, keep them, and store the product with the first tile. -/
theorem first_tile (c : Dev nD) (i : grid0.Coords) (h1 : k0_cond1 i = 1#1) (h2 : k0_cond2 i = 1#1) (h3 : ¬ k0_cond3 i = 1#1) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x2048 .bf16) (harg7 : arg7.IsWhole) (x : FVec F S512x2048 .f32) (g : FVec F S1x2048 .f32) (w : FVec F S2048x512 .bf16) (o : FVec F S512x512 .f32) (s : FVec F S512x2048 .bf16) (K : PUnit → sProp 𝕄) :
    iprop(owns (c : Thread nD τ) arg2 fullShare x ∗ owns (c : Thread nD τ) arg3 fullShare g ∗ owns (c : Thread nD τ) arg4 fullShare w ∗ owns (c : Thread nD τ) arg5 fullShare o ∗ owns (c : Thread nD τ) arg7 fullShare s
        ∗ (iprop(owns (c : Thread nD τ) arg2 fullShare x ∗ owns (c : Thread nD τ) arg3 fullShare g ∗ owns (c : Thread nD τ) arg4 fullShare w ∗ owns (c : Thread nD τ) arg5 fullShare (k0_pay2 (k0_pay1 x g) w) ∗ owns (c : Thread nD τ) arg7 fullShare (k0_pay1 x g)) -∗ K ⟨⟩))
      ⊢ wp frame (wpE (defs₀ (F := F)) Variants.none (c : Thread nD τ) none) Set.univ (cc0_norm_matmul i arg2 harg2 arg3 harg3 arg4 harg4 arg5 harg5 arg6 harg6 arg7 harg7) K := by
  rw [cc0_norm_matmul_eq_skeleton]; unfold cc0_norm_matmul_skel
  iintro ⟨X, G, W, O, S, Hk⟩
  iapply (then_pos h1)
  iapply load_whole $$ X
  iintro X
  iapply load_whole $$ G
  iintro G
  iapply load_whole $$ S
  iintro S
  iapply store_whole $$ S
  iintro S
  iapply (then_pos h2)
  iapply load_whole $$ S
  iintro S
  iapply load_whole $$ W
  iintro W
  iapply load_whole $$ O
  iintro O
  iapply store_whole $$ O
  iintro O
  iapply (then_neg h3)
  iapply le_wp_ret
  iapply Hk
  isplitl [X]; · iexact X
  isplitl [G]; · iexact G
  isplitl [W]; · iexact W
  isplitl [O]; · iexact O
  iexact S

set_option maxHeartbeats 4000000 in
/-- The second point: the product of the kept rows with the second tile. -/
theorem second_tile (c : Dev nD) (i : grid0.Coords) (h1 : ¬ k0_cond1 i = 1#1) (h2 : ¬ k0_cond2 i = 1#1) (h3 : k0_cond3 i = 1#1) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x2048 .bf16) (harg7 : arg7.IsWhole) (w : FVec F S2048x512 .bf16) (o : FVec F S512x512 .f32) (s : FVec F S512x2048 .bf16) (K : PUnit → sProp 𝕄) :
    iprop(owns (c : Thread nD τ) arg4 fullShare w ∗ owns (c : Thread nD τ) arg6 fullShare o ∗ owns (c : Thread nD τ) arg7 fullShare s
        ∗ (iprop(owns (c : Thread nD τ) arg4 fullShare w ∗ owns (c : Thread nD τ) arg6 fullShare (k0_pay3 s w) ∗ owns (c : Thread nD τ) arg7 fullShare s) -∗ K ⟨⟩))
      ⊢ wp frame (wpE (defs₀ (F := F)) Variants.none (c : Thread nD τ) none) Set.univ (cc0_norm_matmul i arg2 harg2 arg3 harg3 arg4 harg4 arg5 harg5 arg6 harg6 arg7 harg7) K := by
  rw [cc0_norm_matmul_eq_skeleton]; unfold cc0_norm_matmul_skel
  iintro ⟨W, O, S, Hk⟩
  iapply (then_neg h1)
  iapply (then_neg h2)
  iapply (then_pos h3)
  iapply load_whole $$ S
  iintro S
  iapply load_whole $$ W
  iintro W
  iapply load_whole $$ O
  iintro O
  iapply store_whole $$ O
  iintro O
  iapply le_wp_ret
  iapply Hk
  isplitl [W]; · iexact W
  isplitl [O]; · iexact O
  iexact S

variable (m : (ℓ : Loc nD τ sig) → Buf (Elt F) ℓ) (ρ : Dev nD → PrngReg)

/-! ## The grid: one row block, two tiles -/

/-- The first point and the second. -/
def first : Fin cfg0.N := ⟨0, by decide⟩
def second : Fin cfg0.N := ⟨1, by decide⟩
theorem points (t : Fin cfg0.N) : t = first ∨ t = second :=
  (by decide +kernel : ∀ t : Fin grid0.N, t = (⟨0, by decide⟩ : Fin grid0.N) ∨ t = (⟨1, by decide⟩ : Fin grid0.N)) t

/-! ## The proof data -/

/-- The rows, their gains, and tile `t`. -/
abbrev inX (c : Dev nD) (t : Fin cfg0.N) : FVec F S512x2048 .f32 := iblk m c 0 t
abbrev inG (c : Dev nD) (t : Fin cfg0.N) : FVec F S1x2048 .f32 := iblk m c 1 t
abbrev inW (c : Dev nD) (t : Fin cfg0.N) : FVec F S2048x512 .bf16 := iblk m c 2 t
/-- The normed rows. -/
def normed (c : Dev nD) : FVec F S512x2048 .bf16 := k0_pay1 (inX m c first) (inG m c first)
/-- Their products with the two tiles. -/
def outK (c : Dev nD) : FVec F S512x512 .f32 := k0_pay2 (normed m c) (inW m c first)
def outV (c : Dev nD) : FVec F S512x512 .f32 := k0_pay3 (normed m c) (inW m c second)

/-- What is kept between points: after the first, the scratch holds the normed rows; and the generator's register. -/
def kept (c : Dev nD) (n : ℕ) : sProp 𝕄 :=
  iprop((∃ s, ⌜n = 1 → s = normed m c⌝ ∗ owns (c : Thread nD τ) (Memref.whole cc0_scratch0) fullShare s) ∗ ∃ r, prngReg c r)

/-- The proof data: each window's block after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outK m c
    | ⟨4, _⟩ => outV m c
  Φ t := kept m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outK m c := by dsimp only [dats]
theorem after0_4 (c : Dev nD) (t : Fin cfg0.N) : (dats m 0 c).after 4 t = outV m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem fresh3 (t : Fin cfg0.N) : cfg0.fresh 3 t.val = true ↔ t.val = 0 :=
  (by decide +kernel : ∀ t : Fin grid0.N, cfg0.fresh 3 t.val = true ↔ t.val = 0) t
/-- At the second point the first tile's buffer holds that tile's product. -/
theorem before0_3 (c : Dev nD) (t : Fin cfg0.N) (h : t.val ≠ 0) (d) : (dats m 0 c).before 3 t d = (dats m 0 c).after 3 t := by
  have hc : ∀ (t : Fin cfg0.N) (_ : t.val ≠ 0), cfg0.idle 3 (cfg0.grid.coords t) = true → cfg0.fresh 3 t.val = false →
      (dats m 0 c).after 3 t = (dats m 0 c).after 3 ⟨t.val - 1, by omega⟩ := fun t h0 _ hf => by rw [after0_3, after0_3]
  rw [(dats m 0 c).before_out_traj 3 rfl (fun _ _ => rfl) hc t.val t rfl d, if_neg (fun h' => h ((fresh3 t).mp h')), after0_3, after0_3]

/-! ## The body at a point -/

theorem idle3 (t : Fin cfg0.N) : cfg0.idle 3 (cfg0.grid.coords t) = !(k0_cond2 (grid0.coords t) == 1#1) := rfl
theorem idle4 (t : Fin cfg0.N) : cfg0.idle 4 (cfg0.grid.coords t) = !(k0_cond3 (grid0.coords t) == 1#1) := rfl
theorem stores {b : BitVec 1} (h : b = 1#1) : (!(b == 1#1)) = false := by subst h; rfl
theorem skips {b : BitVec 1} (h : ¬ b = 1#1) : (!(b == 1#1)) = true := by simp [h]

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ left (dats m 0 c) 3 t ∗ left (dats m 0 c) 4 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0_0, after0_1, after0_2]
  rw [show (dats m 0 c).Φ t.succ = kept m c (t.val + 1) from rfl, show (dats m 0 c).Φ t.castSucc = kept m c t.val from rfl,
    show (dats m 0 c).owesAt () t.succ = (dats m 0 c).owesAt () t.castSucc from rfl]
  simp only [before0_0, before0_1, before0_2]
  unfold kept
  iintro ⟨⟨⟨%s, %hs, S⟩, Hg⟩, Ho, ⟨%d0, H0⟩, ⟨%d1, H1⟩, ⟨%d2, H2⟩, ⟨%d3, H3⟩, ⟨%d4, H4⟩⟩
  rcases points t with h0 | h0
  · have h1 : k0_cond1 (grid0.coords t) = 1#1 := by rw [h0]; decide
    have h2 : k0_cond2 (grid0.coords t) = 1#1 := by rw [h0]; decide
    have h3 : ¬ k0_cond3 (grid0.coords t) = 1#1 := by rw [h0]; decide
    have e3 : (dats m 0 c).after 3 t = k0_pay2 (k0_pay1 (iblk m c 0 t) (iblk m c 1 t)) (iblk m c 2 t) := by
      rw [after0_3, h0]; rfl
    have en : k0_pay1 (iblk m c 0 t) (iblk m c 1 t) = normed m c := by rw [h0]; rfl
    have f4 : ¬ (cfg0.win 4).flush t = true := by rw [h0]; decide
    iapply (first_tile c (grid0.coords t) h1 h2 h3 _ _ _ _ _ _ _ _ _ _ _ _ (iblk m c 0 t) (iblk m c 1 t) (iblk m c 2 t) _ s _)
    isplitl [H0]; · iexact H0
    isplitl [H1]; · iexact H1
    isplitl [H2]; · iexact H2
    isplitl [H3]; · iexact H3
    isplitl [S]; · iexact S
    iintro ⟨H0, H1, H2, H3, S⟩
    isplitl [S Hg]
    · isplitl [S]
      · iexists _; isplitr; swap; · iexact S
        ipureintro; exact fun _ => en
      iexact Hg
    isplitl [Ho]; · iexact Ho
    isplitl [H0]; · iexact H0
    isplitl [H1]; · iexact H1
    isplitl [H2]; · iexact H2
    isplitl [H3]
    · iapply (left_stored (dats m 0 c) 3 t ((idle3 t).trans (stores h2)))
      rw [e3]; iexact H3
    iapply (left_kept (dats m 0 c) 4 t ((idle4 t).trans (skips h3)) d4 (fun h => absurd h f4)); iexact H4
  · have h1 : ¬ k0_cond1 (grid0.coords t) = 1#1 := by rw [h0]; decide
    have h2 : ¬ k0_cond2 (grid0.coords t) = 1#1 := by rw [h0]; decide
    have h3 : k0_cond3 (grid0.coords t) = 1#1 := by rw [h0]; decide
    have hsn : s = normed m c := hs (by rw [h0]; rfl)
    have e4 : (dats m 0 c).after 4 t = k0_pay3 s (iblk m c 2 t) := by rw [after0_4, hsn, h0]; rfl
    iapply (second_tile c (grid0.coords t) h1 h2 h3 _ _ _ _ _ _ _ _ _ _ _ _ (iblk m c 2 t) _ s _)
    isplitl [H2]; · iexact H2
    isplitl [H4]; · iexact H4
    isplitl [S]; · iexact S
    iintro ⟨H2, H4, S⟩
    isplitl [S Hg]
    · isplitl [S]
      · iexists s; isplitr; swap; · iexact S
        ipureintro; exact fun _ => hsn
      iexact Hg
    isplitl [Ho]; · iexact Ho
    isplitl [H0]; · iexact H0
    isplitl [H1]; · iexact H1
    isplitl [H2]; · iexact H2
    isplitl [H3]; · iapply (left_kept (dats m 0 c) 3 t ((idle3 t).trans (skips h2)) d3 (fun _ => before0_3 m c t (by rw [h0]; decide) d3)); iexact H3
    iapply (left_stored (dats m 0 c) 4 t ((idle4 t).trans (stores h3)))
    rw [e4]; iexact H4

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem entry (c : Dev nD) : Pipeline.ΦA spec0 c ⊢ kept m c 0 := by
  unfold Pipeline.ΦA kept
  rw [scopedRest0_eq]
  iintro ⟨S, Hg⟩
  isplitl [S]
  · ihave S := (Entails.of_eq (Memref.IsWhole.exists_owns_eq (c := (c : Thread nD τ)) (Memref.isWhole_whole cc0_scratch0) fullShare).symm) $$ S
    icases S with ⟨%s, S⟩
    iexists s; isplitr; · ipureintro; exact fun h => absurd h (by decide)
    iexact S
  iexact Hg
theorem leave (c : Dev nD) (n : ℕ) : kept m c n ⊢ Pipeline.ΦA spec0 c := by
  unfold Pipeline.ΦA kept
  rw [scopedRest0_eq]
  iintro ⟨⟨%s, -, S⟩, Hg⟩
  isplitl [S]
  · iapply (Entails.of_eq (Memref.IsWhole.exists_owns_eq (c := (c : Thread nD τ)) (Memref.isWhole_whole cc0_scratch0) fullShare))
    iexists s; iexact S
  iexact Hg

set_option backward.isDefEq.respectTransparency.types false in
set_option maxHeartbeats 4000000 in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => entry m c) (hout := fun c => leave m c _)

/-- The arguments end as they began, and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.MemKvRun

end
-- ==== Proof.MemKvPair.lean ====
/- The memory projection's kernel and its ideal reading are one text: their body tables are equal, so the run of the one
   is the run of the other, and the kernel's frame is its ideal reading's. -/
module

public import proofs.«01_k».proof.Defs
public import proofs.«01_k».proof.Proof.Gen.MemKv
public import proofs.«01_k».proof.Proof.MemKvFrame

@[expose] public section

set_option maxRecDepth 100000
set_option maxHeartbeats 4000000

noncomputable section

namespace Cert.MemKvRun

open Idealize.ShloMosaic Idealize.SL.Sem

attribute [local instance] Cert.MemKv.Gen.facts Cert.MemKvIdeal.Gen.facts

variable {F : FTy → Type} [FloatOps F]

/-- The two body tables hold the same kernel body. -/
theorem pair_defs₀ : Cert.MemKvIdeal.defs₀ (F := F) = Cert.MemKv.defs₀ (F := F) := by
  unfold Cert.MemKvIdeal.defs₀ Cert.MemKv.defs₀
  congr 1
  funext l a
  match l with
  | 0 => rfl

/-- With the pipeline's labels the tables are still the same. -/
theorem pair_defs : Cert.MemKvIdeal.defs (F := F) = Cert.MemKv.defs (F := F) :=
  congrArg (Pipeline.defs Cert.MemKvIdeal.pcfgs) pair_defs₀

/-- The kernel ends, leaves its arguments as they were and every counter at zero. -/
theorem frame_kernel : Cert.quiescent_MemKv (hMemKv := Cert.MemKv.Gen.facts) := fun m ρ _ => by
  have h := frame_run (F := Bits) m ρ
  rw [pair_defs] at h
  exact h

end Cert.MemKvRun

end
-- ==== Proof.MemKvValue.lean ====
/-
  The projection of the memory bank: what the two arrays that the call returns hold, and that it is what the reference
  computes. The rows are normed once; each of the two tiles is one of the two weights, so each result is the product of
  the normed rows with one of them.
-/
module

public import proofs.«01_k».proof.Defs
public import proofs.«01_k».proof.Proof.Gen.MemKvRefIdeal.Run
public import proofs.«01_k».proof.Proof.MemKvFrame
public import Idealize.ShloMosaic.Lib.Pipeline.ValueKit
public import Idealize.ShloMosaic.Lib.Pointwise

@[expose] public section

set_option maxRecDepth 16384

noncomputable section

namespace Cert.MemKvValue

open Idealize.ShloMosaic Idealize.ShloMosaic.TcCoe Idealize.SL.Sem

section Reference
open Cert.MemKvRefIdeal Cert.MemKvRefIdeal.Gen

/-- Rows scaled by the reciprocal root of their mean square, then by the gains. -/
def refNorm (x : FVec Ideal S2x256x2048 .f32) (g : FVec Ideal S2048 .f32) : FVec Ideal S2x256x2048 .f32 :=
  mulf (mulf x (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf x x) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 g))
/-- The normed rows times a weight. -/
def refRows (xn : FVec Ideal S2x256x2048 .f32) (w : FVec Ideal S2048x512 .f32) : FVec Ideal S512x512 .f32 :=
  shapeCast _ (Host.dotGeneral dot_S2x256x2048_S2048x512_S2x256x512_2_0_01_1_n_n none xn w) shapeCasts_S2x256x512_S512x512

end Reference

open Cert.MemKvIdeal Cert.MemKvIdeal.Gen Cert.MemKvRun

variable (m : (ℓ : Loc nD τ sig) → Buf (Elt Ideal) ℓ)

theorem idx : ∀ t : Fin grid0.N, win0_0.index t = ![0, 0] ∧ win0_1.index t = ![0, 0] ∧ win0_2.index t = ![0, t.val]
    ∧ win0_3.index t = ![0, 0] ∧ win0_4.index t = ![0, 0] := by decide +kernel

abbrev aX (c : Dev nD) : FVec Ideal S2x256x2048 .f32 := m ((c.tc : Thread nD τ).loc main_arg0)
abbrev aG (c : Dev nD) : FVec Ideal S2048 .f32 := m ((c.tc : Thread nD τ).loc main_arg1)
abbrev aK (c : Dev nD) : FVec Ideal S2048x512 .f32 := m ((c.tc : Thread nD τ).loc main_arg2)
abbrev aV (c : Dev nD) : FVec Ideal S2048x512 .f32 := m ((c.tc : Thread nD τ).loc main_arg3)

/-- The place of a row in the two batches. -/
def rhi (r : Fin 512) : Fin 2 := ⟨r.val / 256, by omega⟩
def rlo (r : Fin 512) : Fin 256 := ⟨r.val % 256, by omega⟩

set_option maxHeartbeats 4000000 in
theorem inX_point (c : Dev nD) (t : Fin cfg0.N) (i : Fin 512) (k : Fin 2048) :
    inX m c t (ix2 i k) = aX m c (ix3 (rhi i) (rlo i) k) := by
  unfold inX aX
  blk_point [iblk, V, idx t, rhi, rlo]

set_option maxHeartbeats 4000000 in
theorem inG_point (c : Dev nD) (t : Fin cfg0.N) (k : Fin 2048) : inG m c t (ix2 (0 : Fin 1) k) = aG m c (ix1 k) := by
  unfold inG aG
  blk_point [iblk, V, idx t]

set_option maxHeartbeats 4000000 in
/-- The two weights side by side. -/
theorem v1_eq (c : Dev nD) : V m c main_v1 = truncf (F := Ideal) .bf16 (concatenate S2048x1024 1 [⟨S2048x512, aK m c⟩, ⟨S2048x512, aV m c⟩] concatenates_S2048x512_S2048x512_S2048x1024_d1) := by
  have hv : V m c main_v1 = StableHlo.after hostOps0 (fun b => m (c, b)) (Proc.tc.devRef main_v1) := rfl
  rw [hv]
  after_results <;> rfl

theorem two (t : Fin cfg0.N) : t.val < 2 := Nat.lt_of_lt_of_eq t.isLt N_0

set_option maxHeartbeats 4000000 in
/-- Tile `t` is a run of the columns of the two weights side by side. -/
theorem inW_tile (c : Dev nD) (t : Fin cfg0.N) (k : Fin 2048) (q : Fin 512) :
    inW m c t (ix2 k q) = V m c main_v1 (ix2 k (⟨t.val * 512 + q.val, by have := two t; omega⟩ : Fin 1024)) := by
  unfold inW iblk
  blk_simp
  have e : ((cfg0.win 2).blk t).view.emb (ix2 k q) = ix2 k (⟨t.val * 512 + q.val, by have := two t; omega⟩ : Fin 1024) := by
    blk_ext [idx t]
  exact congrArg (V m c main_v1) e

set_option maxHeartbeats 4000000 in
/-- The first tile is the first weight, the second the second. -/
theorem inW_first (c : Dev nD) (k : Fin 2048) (q : Fin 512) : inW m c first (ix2 k q) = aK m c (ix2 k q) := by
  have e : (⟨first.val * 512 + q.val, by have := two first; omega⟩ : Fin 1024) = ⟨q.val, by omega⟩ := Fin.ext (by show 0 * 512 + q.val = q.val; omega)
  rw [inW_tile, e, v1_eq]
  generalize aK m c = a
  generalize aV m c = b
  pointwise []
set_option maxHeartbeats 4000000 in
theorem inW_second (c : Dev nD) (k : Fin 2048) (q : Fin 512) : inW m c second (ix2 k q) = aV m c (ix2 k q) := by
  have e : (⟨second.val * 512 + q.val, by have := two second; omega⟩ : Fin 1024) = ⟨512 + q.val, by omega⟩ := Fin.ext (by show 1 * 512 + q.val = 512 + q.val; omega)
  rw [inW_tile, e, v1_eq]
  generalize aK m c = a
  generalize aV m c = b
  pointwise []

set_option maxHeartbeats 4000000 in
/-- A row, normed, is the reference's row. -/
theorem normed_row (c : Dev nD) (i : Fin 512) (k : Fin 2048) :
    normed m c (ix2 i k) = refNorm (aX m c) (aG m c) (ix3 (rhi i) (rlo i) k) := by
  have hx : ∀ k, inX m c first (ix2 i k) = aX m c (ix3 (rhi i) (rlo i) k) := fun k => inX_point m c first i k
  have hg : ∀ k, inG m c first (ix2 (0 : Fin 1) k) = aG m c (ix1 k) := inG_point m c first
  unfold normed
  generalize inX m c first = x at *
  generalize inG m c first = g at *
  generalize aX m c = X at *
  generalize aG m c = G at *
  unfold refNorm
  pointwise [k0_pay1]
  simp only [hx, hg]

theorem rows_point (xn : FVec Ideal S2x256x2048 .f32) (w : FVec Ideal S2048x512 .f32) (r q : Fin 512) :
    refRows xn w (ix2 r q) = ∑ k : Fin 2048, xn (ix3 (rhi r) (rlo r) k) * w (ix2 k q) := by
  unfold refRows
  pointwise []
  rfl

/-- The reference's two results. -/
def refK (c : Dev nD) : FVec Ideal S512x512 .f32 := refRows (refNorm (aX m c) (aG m c)) (aK m c)
def refV (c : Dev nD) : FVec Ideal S512x512 .f32 := refRows (refNorm (aX m c) (aG m c)) (aV m c)

theorem keys_point (c : Dev nD) (i q : Fin 512) : outK m c (ix2 i q) = refK m c (ix2 i q) := by
  unfold refK
  rw [rows_point]
  have hs := fun k => normed_row m c i k
  have hw := fun k => inW_first m c k q
  unfold outK
  generalize normed m c = s at *
  generalize inW m c first = w at *
  pointwise [k0_pay2]
  simp only [hs, hw]
theorem values_point (c : Dev nD) (i q : Fin 512) : outV m c (ix2 i q) = refV m c (ix2 i q) := by
  unfold refV
  rw [rows_point]
  have hs := fun k => normed_row m c i k
  have hw := fun k => inW_second m c k q
  unfold outV
  generalize normed m c = s at *
  generalize inW m c second = w at *
  pointwise [k0_pay3]
  simp only [hs, hw]

set_option maxHeartbeats 4000000 in
theorem keys_eq (c : Dev nD) : (dats m 0 c).arrAt 3 cfg0.N = refK m c := by
  refine (dats m 0 c).arrAt_eq_of_covers 3 _ (by decide +kernel) fun t hf y => ?_
  blk_simp
  rw [after0_3]
  have hy : (win0_3.blk t).view.emb y = ix2 (y 0) (y 1) := by blk_ext [idx t]
  have ey : y = (ix2 (y 0) (y 1) : S512x512.Idx) := by funext a; fin_cases a <;> rfl
  rw [hy]
  refine (congrArg (outK m c) ey).trans ?_
  exact keys_point m c (y 0) (y 1)

set_option maxHeartbeats 4000000 in
theorem values_eq (c : Dev nD) : (dats m 0 c).arrAt 4 cfg0.N = refV m c := by
  refine (dats m 0 c).arrAt_eq_of_covers 4 _ (by decide +kernel) fun t hf y => ?_
  blk_simp
  rw [after0_4]
  have hy : (win0_4.blk t).view.emb y = ix2 (y 0) (y 1) := by blk_ext [idx t]
  have ey : y = (ix2 (y 0) (y 1) : S512x512.Idx) := by funext a; fin_cases a <;> rfl
  rw [hy]
  refine (congrArg (outV m c) ey).trans ?_
  exact values_point m c (y 0) (y 1)

/-- Both runs end at the same two arrays. -/
theorem algebraic : Cert.algebraic_MemKvIdeal_MemKvRefIdeal := by
  intro m g m' g' _ hagree
  refine ⟨fun c => refK m c, fun c => refV m c, ?_, ?_⟩
  · refine (θ_run _ _ _).mono (fun r h c => ?_) (run_main m g)
    exact ⟨((h.1 c).1 3).trans (keys_eq m c), ((h.1 c).1 4).trans (values_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩
  · refine (θ_run _ _ _).mono (fun r h c => ?_) (Cert.MemKvRefIdeal.Value.run m' g')
    obtain ⟨h0, h1, h2, h3⟩ := hagree c
    obtain ⟨v0, v1, ha⟩ := h c
    refine ⟨v0.trans ?_, v1.trans ?_, ha⟩
    · rw [h0, h1, h2]; rfl
    · rw [h0, h1, h3]; rfl

end Cert.MemKvValue

end
-- ==== Proof.Sigmoid.lean ====
/- The logistic function by the hyperbolic tangent: `1/2 · tanh (x/2) + 1/2`, at every extended real. -/
module

public import Idealize.ShloMosaic.PureOps.Ideal

@[expose] public section

noncomputable section

namespace Cert.Sigmoid

open Idealize.ShloMosaic

/-- On the reals. -/
theorem real (r : ℝ) : (1 / 2 : ℝ) * Real.tanh ((1 / 2 : ℝ) * r) + 1 / 2 = (1 + Real.exp (-r))⁻¹ := by
  have e : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, e]
  generalize Real.exp (1 / 2 * r) = a at *
  generalize Real.exp (-(1 / 2 * r)) = b at *
  have h2 : (0 : ℝ) < a + b := by positivity
  have h3 : (0 : ℝ) < 1 + b * b := by positivity
  field_simp
  nlinarith [h1]

/-- The half, as its float word. -/
theorem half : Ideal.ofBits .f32 0x3F000000#32 = ((1 / 2 : ℝ) : EReal) := by
  simp [Ideal.ofBits, Ideal.ieee, -EReal.coe_mul]; norm_num

/-- At every extended real. -/
theorem logistic_eq (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num)]
    have e : (-((2⁻¹ : ℝ) : EReal) + ((2⁻¹ : ℝ) : EReal)) = 0 := by rw [← EReal.coe_neg, ← EReal.coe_add]; norm_num
    have e' : (1 : EReal) + ⊤ = ⊤ := EReal.coe_add_top 1
    simp [Ideal.logistic, Ideal.div]
    rw [e, e', if_neg (by simp), EReal.inv_top]
  | top =>
    rw [EReal.coe_mul_top_of_pos (by norm_num)]
    simp [Ideal.logistic, Ideal.div]
    rw [← EReal.coe_one, ← EReal.coe_add]; norm_num
  | coe r =>
    have h : (1 + Real.exp (-r)) ≠ 0 := by positivity
    rw [← EReal.coe_mul, Ideal.tanh_coe, ← EReal.coe_mul, ← EReal.coe_add, real]
    unfold Ideal.logistic Ideal.div
    rw [← EReal.coe_neg, Ideal.exp_coe, ← EReal.coe_one, ← EReal.coe_add, if_neg (by exact_mod_cast h), ← EReal.coe_inv, ← EReal.coe_mul, one_mul]

end Cert.Sigmoid

end
-- ==== Proof.ConvSBody.lean ====
/-
  The convolution of the sample batch, one sequence: what the body's buffers hold. The parameter buffer holds the
  taps, the bias, the gain and the offset, one row each; the history buffer holds the gated rows behind the previous
  ones.
-/
module

public import proofs.«01_k».proof.Proof.Gen.ConvSIdeal.Frame
public import proofs.«01_k».proof.Proof.Sigmoid
public import Idealize.ShloMosaic.Lib.Pipeline.ValueKit
public import Idealize.ShloMosaic.Lib.Pointwise
public import Idealize.ShloMosaic.Lib.WholeRead
public import Idealize.ShloMosaic.Lib.WritesUnit

@[expose] public section

set_option maxRecDepth 16384

noncomputable section

namespace Cert.ConvSBody

open Cert.ConvSIdeal Cert.ConvSIdeal.Gen Idealize.ShloMosaic Idealize.ShloMosaic.TcCoe Idealize.ShloMosaic.Tactic

/-- A lane. -/
abbrev lane (l : ℕ) : Fin 1024 := ⟨l % 1024, Nat.mod_lt _ (by norm_num)⟩

/-- Row `j` of the parameters at lane `l`: the 31 taps, then the bias, the gain, the offset. -/
def P (w : Vec Ideal S31x1024 .f32) (b g o : Vec Ideal S1x1024 .f32) (j l : ℕ) : EReal :=
  if j < 31 then w (ix2 (⟨j % 31, Nat.mod_lt _ (by norm_num)⟩ : Fin 31) (lane l)) else if j = 31 then b (ix2 (0 : Fin 1) (lane l))
    else if j = 32 then g (ix2 (0 : Fin 1) (lane l)) else o (ix2 (0 : Fin 1) (lane l))

/-- Row `r` of the gated rows. -/
def gated (u v : Vec Ideal S1x1x8x1024 .f32) (r l : ℕ) : EReal :=
  u (ix4 (0 : Fin 1) (0 : Fin 1) (⟨r % 8, Nat.mod_lt _ (by norm_num)⟩ : Fin 8) (lane l))
    * Ideal.logistic (v (ix4 (0 : Fin 1) (0 : Fin 1) (⟨r % 8, Nat.mod_lt _ (by norm_num)⟩ : Fin 8) (lane l)))

/-- Row `r` of the history at lane `l`: two rows of zeros, the 30 previous rows, the 8 gated rows. -/
def H (u v : Vec Ideal S1x1x8x1024 .f32) (p : Vec Ideal S1x1x30x1024 .f32) (r l : ℕ) : EReal :=
  if 32 ≤ r then gated u v (r - 32) l
  else if 2 ≤ r then p (ix4 (0 : Fin 1) (0 : Fin 1) (⟨(r - 2) % 30, Nat.mod_lt _ (by norm_num)⟩ : Fin 30) (lane l)) else 0

section

variable (c : Dev nD)
  (arg2 : Memref sig .tc .vmem S1x1x8x1024 .f32) (harg2 : arg2.IsWhole) (arg3 : Memref sig .tc .vmem S1x1x8x1024 .f32) (harg3 : arg3.IsWhole)
  (arg4 : Memref sig .tc .vmem S1x1x30x1024 .f32) (harg4 : arg4.IsWhole) (arg5 : Memref sig .tc .vmem S31x1024 .f32) (harg5 : arg5.IsWhole)
  (arg6 : Memref sig .tc .vmem S1x1024 .f32) (harg6 : arg6.IsWhole) (arg7 : Memref sig .tc .vmem S1x1024 .f32) (harg7 : arg7.IsWhole)
  (arg8 : Memref sig .tc .vmem S1x1024 .f32) (harg8 : arg8.IsWhole)
  (arg11 : Memref sig .tc .vmem S40x1024 .f32) (arg12 : Memref sig .tc .vmem S34x8x1024 .f32)
  (x0 x1 : Vec Ideal S1x1x8x1024 .f32) (x2 : Vec Ideal S1x1x30x1024 .f32) (x3 : Vec Ideal S31x1024 .f32) (x4 x5 x6 : Vec Ideal S1x1024 .f32)

variable {x3 x4 x5 x6} in
/-- A row of the taps, staged. -/
theorem tap_piece {j : ℕ} (hj : j < 31) (inb : ∀ a, ![j, 0] a + ![1, 1024] a ≤ S31x1024.size a)
    (inb' : ∀ a, ![j, 0, 0] a + ![1, 8, 1024] a ≤ S34x8x1024.size a) {x : (Rect.unit (s := S34x8x1024) ![j, 0, 0] ![1, 8, 1024] inb').shape.Idx} :
    x3 ((Rect.unit (s := S31x1024) ![j, 0] ![1, 1024] inb).idx (ix2 (0 : Fin 1) (x 2)))
      = P x3 x4 x5 x6 ((Rect.unit (s := S34x8x1024) ![j, 0, 0] ![1, 8, 1024] inb').emb x 0).val ((Rect.unit (s := S34x8x1024) ![j, 0, 0] ![1, 8, 1024] inb').emb x 2).val := by
  have e0 : ((Rect.unit (s := S34x8x1024) ![j, 0, 0] ![1, 8, 1024] inb').emb x 0).val = j := by
    have : (x 0).val < 1 := (x 0).isLt
    show j + 1 * (x 0).val = j
    omega
  have e2 : ((Rect.unit (s := S34x8x1024) ![j, 0, 0] ![1, 8, 1024] inb').emb x 2).val = (x 2).val := by
    show 0 + 1 * (x 2).val = (x 2).val
    omega
  have : (x 2).val < 1024 := (x 2).isLt
  rw [e0, e2]
  unfold P; rw [if_pos hj]
  refine congrArg x3 ?_
  funext a
  fin_cases a <;> apply Fin.ext <;> simp [LoadRect.idx] <;> omega

variable {x3 x4 x5 x6} in
/-- The bias, the gain, the offset, staged. -/
theorem row_piece {v : Vec Ideal S1x1024 .f32} {j : ℕ} (hj : (j = 31 ∧ v = x4) ∨ (j = 32 ∧ v = x5) ∨ (j = 33 ∧ v = x6)) (inb : ∀ a, ![0, 0] a + ![1, 1024] a ≤ S1x1024.size a)
    (inb' : ∀ a, ![j, 0, 0] a + ![1, 8, 1024] a ≤ S34x8x1024.size a) {x : (Rect.unit (s := S34x8x1024) ![j, 0, 0] ![1, 8, 1024] inb').shape.Idx} :
    v ((Rect.unit (s := S1x1024) ![0, 0] ![1, 1024] inb).idx (ix2 (0 : Fin 1) (x 2)))
      = P x3 x4 x5 x6 ((Rect.unit (s := S34x8x1024) ![j, 0, 0] ![1, 8, 1024] inb').emb x 0).val ((Rect.unit (s := S34x8x1024) ![j, 0, 0] ![1, 8, 1024] inb').emb x 2).val := by
  have e0 : ((Rect.unit (s := S34x8x1024) ![j, 0, 0] ![1, 8, 1024] inb').emb x 0).val = j := by
    have : (x 0).val < 1 := (x 0).isLt
    show j + 1 * (x 0).val = j
    omega
  have e2 : ((Rect.unit (s := S34x8x1024) ![j, 0, 0] ![1, 8, 1024] inb').emb x 2).val = (x 2).val := by
    show 0 + 1 * (x 2).val = (x 2).val
    omega
  have : (x 2).val < 1024 := (x 2).isLt
  rw [e0, e2]
  have hix : (Rect.unit (s := S1x1024) ![0, 0] ![1, 1024] inb).idx (ix2 (0 : Fin 1) (x 2)) = ix2 (0 : Fin 1) (lane (x 2).val) := by
    funext a
    fin_cases a <;> apply Fin.ext <;> simp [LoadRect.idx] <;> omega
  rw [hix]
  obtain ⟨rfl, rfl⟩ | ⟨rfl, rfl⟩ | ⟨rfl, rfl⟩ := hj <;> simp [P]

set_option maxHeartbeats 4000000 in
/-- A read of the parameter buffer. -/
theorem par_read (B : LoadRect S34x8x1024) (x : B.shape.Idx) :
    arg12.view.readCov (kernelRun0_A.sl.HS1_34 c arg5 harg5 arg6 harg6 arg7 harg7 arg8 harg8 x3 x4 x5 x6) B x
      = P x3 x4 x5 x6 (B.idx x 0).val (B.idx x 2).val := by
  refine View.read_writes_apply_of_pieces (Val := Elt Ideal) (e := .f32) arg12.view _ (fun y => P x3 x4 x5 x6 (y 0).val (y 2).val) _ ?_ (B.idx x) ?_
  · unfold kernelRun0_A.sl.HS1_34
    simp only [List.forall_mem_cons, List.not_mem_nil, false_imp_iff, implies_true, and_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · intro x; pointwise [k0_pay44]; simp only [harg8.readAt_unread]
      exact row_piece (Or.inr (Or.inr ⟨rfl, rfl⟩)) _ _
    · intro x; sl_unfold_run_names; pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]; simp only [harg7.readAt_unread]
      exact row_piece (Or.inr (Or.inl ⟨rfl, rfl⟩)) _ _
    · intro x; sl_unfold_run_names; pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]; simp only [harg6.readAt_unread]
      exact row_piece (Or.inl ⟨rfl, rfl⟩) _ _
    all_goals
      intro x; sl_unfold_run_names; pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]; simp only [harg5.readAt_unread]
      exact tap_piece (by norm_num) _ _
  · exact View.cover_of_tiledL _ ![1, 8, 1024] (by sl_kernel_rfl) _

set_option maxHeartbeats 4000000 in
/-- A read of the history buffer. -/
theorem buf_read (B : LoadRect S40x1024) (x : B.shape.Idx) :
    arg11.view.readCov (kernelRun0_A.sl.HS0_3 c arg2 harg2 arg3 harg3 arg4 harg4 x0 x1 x2) B x
      = H x0 x1 x2 (B.idx x 0).val (B.idx x 1).val := by
  show View.read _ _ (arg11.view.writes _ _ _) (B.idx x) = _
  generalize B.idx x = y
  have hy : (y 0).val < 40 := (y 0).isLt
  have hy' : (y 1).val < 1024 := (y 1).isLt
  unfold kernelRun0_A.sl.HS0_3
  rw [View.read_writes_cons_unit (heq := k0_off2_eq)]
  split
  · next h =>
    have h0 := h 0
    have h0' : 32 ≤ (y 0).val := h0.1
    unfold H gated; rw [if_pos h0']
    pointwise [k0_pay46]
    simp only [harg2.readAt_unread, harg3.readAt_unread]
    rw [Sigmoid.half, Sigmoid.logistic_eq]
    have hix : (Rect.unit (s := S1x1x8x1024) k0_off1 ![1, 1, 8, 1024] k0_off1_inb).idx (ix4 0 0 (Rect.unitLocal y h 0) (Rect.unitLocal y h 1))
        = ix4 (0 : Fin 1) (0 : Fin 1) (⟨((y 0).val - 32) % 8, Nat.mod_lt _ (by norm_num)⟩ : Fin 8) (lane (y 1).val) := by
      funext a
      fin_cases a <;> apply Fin.ext <;> simp [LoadRect.idx, k0_off1_eq] <;> omega
    rw [hix]
  · next h =>
    have h0 : ¬(32 ≤ (y 0).val) := fun h0 => h fun a => by fin_cases a <;> simp <;> omega
    unfold H; rw [if_neg h0, View.read_writes_cons_unit (heq := rfl)]
    split
    · next h' =>
      have h1 := h' 0
      have h1' : 2 ≤ (y 0).val := h1.1
      rw [if_pos h1']
      pointwise [k0_pay4]
      simp only [harg4.readAt_unread]
      refine congrArg x2 ?_
      funext a
      fin_cases a <;> apply Fin.ext <;> simp [LoadRect.idx] <;> omega
    · next h' =>
      have h1 : ¬(2 ≤ (y 0).val) := fun h1 => h' fun a => by fin_cases a <;> simp <;> omega
      rw [if_neg h1, View.read_writes_cons_unit (heq := rfl), dif_pos (fun a => by fin_cases a <;> simp <;> omega)]
      pointwise [k0_pay3]
end

end Cert.ConvSBody

end
-- ==== Proof.ConvSSum.lean ====
/-
  The convolution of the sample batch, one sequence: each lane tile of the sum. Row `s` of the sum at a lane is the bias
  plus the 31 taps by the history rows `s + 2 … s + 32`.
-/
module

public import proofs.«01_k».proof.Proof.ConvSBody

@[expose] public section

namespace Cert.ConvSSum

open Cert.ConvSIdeal Cert.ConvSIdeal.Gen Cert.ConvSBody
open Idealize Idealize.ShloMosaic Idealize.ShloMosaic.TcCoe Idealize.ShloMosaic.Tactic

/-- Row `s` of the sum at lane `l`. -/
noncomputable def Z (u v : Vec Ideal S1x1x8x1024 .f32) (p : Vec Ideal S1x1x30x1024 .f32) (w : Vec Ideal S31x1024 .f32) (b g o : Vec Ideal S1x1024 .f32) (s l : ℕ) : EReal :=
  P w b g o 31 l + ∑ j ∈ Finset.range 31, P w b g o j l * H u v p (s + 2 + j) l

/-- The taps, taken phase by phase, are the taps. -/
theorem sum_phases (a : EReal) (f : ℕ → EReal) :
    a + f 6 + f 14 + f 22 + f 30 + f 7 + f 15 + f 23 + f 0 + f 8 + f 16 + f 24 + f 1 + f 9 + f 17 + f 25 + f 2 + f 10 + f 18 + f 26 + f 3 + f 11 + f 19 + f 27 + f 4 + f 12 + f 20 + f 28 + f 5 + f 13 + f 21 + f 29 = a + ∑ j ∈ Finset.range 31, f j := by
  simp only [Finset.sum_range_succ, Finset.sum_range_zero, zero_add]
  abel

/-- The taps by the history rows, phase by phase. -/
theorem phase_rows (x0 x1 : Vec Ideal S1x1x8x1024 .f32) (x2 : Vec Ideal S1x1x30x1024 .f32) (x3 : Vec Ideal S31x1024 .f32) (x4 x5 x6 : Vec Ideal S1x1024 .f32) (s l : ℕ) :
    P x3 x4 x5 x6 31 l
      + P x3 x4 x5 x6 6 l * H x0 x1 x2 (8 + s) l
      + P x3 x4 x5 x6 14 l * H x0 x1 x2 (8 + (8 + s)) l
      + P x3 x4 x5 x6 22 l * H x0 x1 x2 (8 + (16 + s)) l
      + P x3 x4 x5 x6 30 l * H x0 x1 x2 (8 + (24 + s)) l
      + P x3 x4 x5 x6 7 l * H x0 x1 x2 (9 + s) l
      + P x3 x4 x5 x6 15 l * H x0 x1 x2 (9 + (8 + s)) l
      + P x3 x4 x5 x6 23 l * H x0 x1 x2 (9 + (16 + s)) l
      + P x3 x4 x5 x6 0 l * H x0 x1 x2 (2 + s) l
      + P x3 x4 x5 x6 8 l * H x0 x1 x2 (2 + (8 + s)) l
      + P x3 x4 x5 x6 16 l * H x0 x1 x2 (2 + (16 + s)) l
      + P x3 x4 x5 x6 24 l * H x0 x1 x2 (2 + (24 + s)) l
      + P x3 x4 x5 x6 1 l * H x0 x1 x2 (3 + s) l
      + P x3 x4 x5 x6 9 l * H x0 x1 x2 (3 + (8 + s)) l
      + P x3 x4 x5 x6 17 l * H x0 x1 x2 (3 + (16 + s)) l
      + P x3 x4 x5 x6 25 l * H x0 x1 x2 (3 + (24 + s)) l
      + P x3 x4 x5 x6 2 l * H x0 x1 x2 (4 + s) l
      + P x3 x4 x5 x6 10 l * H x0 x1 x2 (4 + (8 + s)) l
      + P x3 x4 x5 x6 18 l * H x0 x1 x2 (4 + (16 + s)) l
      + P x3 x4 x5 x6 26 l * H x0 x1 x2 (4 + (24 + s)) l
      + P x3 x4 x5 x6 3 l * H x0 x1 x2 (5 + s) l
      + P x3 x4 x5 x6 11 l * H x0 x1 x2 (5 + (8 + s)) l
      + P x3 x4 x5 x6 19 l * H x0 x1 x2 (5 + (16 + s)) l
      + P x3 x4 x5 x6 27 l * H x0 x1 x2 (5 + (24 + s)) l
      + P x3 x4 x5 x6 4 l * H x0 x1 x2 (6 + s) l
      + P x3 x4 x5 x6 12 l * H x0 x1 x2 (6 + (8 + s)) l
      + P x3 x4 x5 x6 20 l * H x0 x1 x2 (6 + (16 + s)) l
      + P x3 x4 x5 x6 28 l * H x0 x1 x2 (6 + (24 + s)) l
      + P x3 x4 x5 x6 5 l * H x0 x1 x2 (7 + s) l
      + P x3 x4 x5 x6 13 l * H x0 x1 x2 (7 + (8 + s)) l
      + P x3 x4 x5 x6 21 l * H x0 x1 x2 (7 + (16 + s)) l
      + P x3 x4 x5 x6 29 l * H x0 x1 x2 (7 + (24 + s)) l
      = Z x0 x1 x2 x3 x4 x5 x6 s l := by
  rw [show 8 + (8 + s) = s + 2 + 14 by omega,
    show 8 + (16 + s) = s + 2 + 22 by omega,
    show 8 + (24 + s) = s + 2 + 30 by omega,
    show 9 + (8 + s) = s + 2 + 15 by omega,
    show 9 + (16 + s) = s + 2 + 23 by omega,
    show 2 + (8 + s) = s + 2 + 8 by omega,
    show 2 + (16 + s) = s + 2 + 16 by omega,
    show 2 + (24 + s) = s + 2 + 24 by omega,
    show 3 + (8 + s) = s + 2 + 9 by omega,
    show 3 + (16 + s) = s + 2 + 17 by omega,
    show 3 + (24 + s) = s + 2 + 25 by omega,
    show 4 + (8 + s) = s + 2 + 10 by omega,
    show 4 + (16 + s) = s + 2 + 18 by omega,
    show 4 + (24 + s) = s + 2 + 26 by omega,
    show 5 + (8 + s) = s + 2 + 11 by omega,
    show 5 + (16 + s) = s + 2 + 19 by omega,
    show 5 + (24 + s) = s + 2 + 27 by omega,
    show 6 + (8 + s) = s + 2 + 12 by omega,
    show 6 + (16 + s) = s + 2 + 20 by omega,
    show 6 + (24 + s) = s + 2 + 28 by omega,
    show 7 + (8 + s) = s + 2 + 13 by omega,
    show 7 + (16 + s) = s + 2 + 21 by omega,
    show 7 + (24 + s) = s + 2 + 29 by omega,
    show 8 + s = s + 2 + 6 by omega,
    show 9 + s = s + 2 + 7 by omega,
    show 2 + s = s + 2 + 0 by omega,
    show 3 + s = s + 2 + 1 by omega,
    show 4 + s = s + 2 + 2 by omega,
    show 5 + s = s + 2 + 3 by omega,
    show 6 + s = s + 2 + 4 by omega,
    show 7 + s = s + 2 + 5 by omega]
  exact sum_phases _ (fun j => P x3 x4 x5 x6 j l * H x0 x1 x2 (s + 2 + j) l)

section

variable (c : Dev nD)
  (arg2 : Memref sig .tc .vmem S1x1x8x1024 .f32) (harg2 : arg2.IsWhole) (arg3 : Memref sig .tc .vmem S1x1x8x1024 .f32) (harg3 : arg3.IsWhole)
  (arg4 : Memref sig .tc .vmem S1x1x30x1024 .f32) (harg4 : arg4.IsWhole) (arg5 : Memref sig .tc .vmem S31x1024 .f32) (harg5 : arg5.IsWhole)
  (arg6 : Memref sig .tc .vmem S1x1024 .f32) (harg6 : arg6.IsWhole) (arg7 : Memref sig .tc .vmem S1x1024 .f32) (harg7 : arg7.IsWhole)
  (arg8 : Memref sig .tc .vmem S1x1024 .f32) (harg8 : arg8.IsWhole)
  (arg11 : Memref sig .tc .vmem S40x1024 .f32) (arg12 : Memref sig .tc .vmem S34x8x1024 .f32)
  (x0 x1 : Vec Ideal S1x1x8x1024 .f32) (x2 : Vec Ideal S1x1x30x1024 .f32) (x3 : Vec Ideal S31x1024 .f32) (x4 x5 x6 : Vec Ideal S1x1024 .f32)

/-- A read of a lane tile of the parameters. -/
theorem par_at {j m : ℕ} (inb : ∀ a, ![j, 0, m] a + ![1, 8, 256] a ≤ S34x8x1024.size a) (i : (Rect.unit (s := S34x8x1024) ![j, 0, m] ![1, 8, 256] inb).toLoadRect.shape.Idx) :
    arg12.view.readCov (kernelRun0_A.sl.HS1_34 c arg5 harg5 arg6 harg6 arg7 harg7 arg8 harg8 x3 x4 x5 x6)
      (Rect.unit (s := S34x8x1024) ![j, 0, m] ![1, 8, 256] inb).toLoadRect i = P x3 x4 x5 x6 j (m + (i 2).val) := by
  rw [par_read]
  have : (i 0).val < 1 := (i 0).isLt
  have e0 : ((Rect.unit (s := S34x8x1024) ![j, 0, m] ![1, 8, 256] inb).toLoadRect.idx i 0).val = j := by
    show j + 1 * (i 0).val = j
    omega
  have e2 : ((Rect.unit (s := S34x8x1024) ![j, 0, m] ![1, 8, 256] inb).toLoadRect.idx i 2).val = m + (i 2).val := by
    show m + 1 * (i 2).val = _
    omega
  rw [e0, e2]

/-- A read of a window of a lane tile of the history. -/
theorem win_at {off : Fin 2 → ℕ} {m q n : ℕ} (ho : off = ![0, m]) (inb : ∀ a, off a + ![40, 256] a ≤ S40x1024.size a)
    (inb' : ∀ a, ![q, 0] a + ![n, 256] a ≤ S40x256.size a) (pf) (i : (⟨2, ![n, 256]⟩ : Shape).Idx) :
    arg11.view.readCov (kernelRun0_A.sl.HS0_3 c arg2 harg2 arg3 harg3 arg4 harg4 x0 x1 x2)
      ((Rect.unit (s := S40x1024) off ![40, 256] inb).withinL (Rect.unit (s := S40x256) ![q, 0] ![n, 256] inb').toLoadRect pf) i
        = H x0 x1 x2 (q + (i 0).val) (m + (i 1).val) := by
  subst ho
  refine (buf_read ..).trans ?_
  have e0 : (((Rect.unit (s := S40x1024) ![0, m] ![40, 256] inb).withinL (Rect.unit (s := S40x256) ![q, 0] ![n, 256] inb').toLoadRect pf).idx i 0).val = q + (i 0).val := by
    show 0 + q + 1 * (i 0).val = _
    omega
  have e2 : (((Rect.unit (s := S40x1024) ![0, m] ![40, 256] inb).withinL (Rect.unit (s := S40x256) ![q, 0] ![n, 256] inb').toLoadRect pf).idx i 1).val = m + (i 1).val := by
    show m + 0 + 1 * (i 1).val = _
    omega
  rw [e0, e2]

set_option maxHeartbeats 8000000 in
set_option maxRecDepth 8000 in
/-- Lane tile 0. -/
theorem tile0 (x : S8x256.Idx) :
    k0_pay56 (kernelRun0_A.sl.r_8 c arg2 harg2 arg3 harg3 arg4 harg4 arg5 harg5 arg6 harg6 arg7 harg7 arg8 harg8 arg11 arg12 x0 x1 x2 x3 x4 x5 x6) (kernelRun0_A.sl.r_9 c arg2 harg2 arg3 harg3 arg4 harg4 arg11 x0 x1 x2) (kernelRun0_A.sl.v230 c arg5 harg5 arg6 harg6 arg7 harg7 arg8 harg8 arg12 x3 x4 x5 x6) (kernelRun0_A.sl.v236 c arg2 harg2 arg3 harg3 arg4 harg4 arg11 x0 x1 x2) (kernelRun0_A.sl.v239 c arg5 harg5 arg6 harg6 arg7 harg7 arg8 harg8 arg12 x3 x4 x5 x6) (kernelRun0_A.sl.v246 c arg5 harg5 arg6 harg6 arg7 harg7 arg8 harg8 arg12 x3 x4 x5 x6) (kernelRun0_A.sl.v253 c arg5 harg5 arg6 harg6 arg7 harg7 arg8 harg8 arg12 x3 x4 x5 x6) (kernelRun0_A.sl.v260 c arg5 harg5 arg6 harg6 arg7 harg7 arg8 harg8 arg12 x3 x4 x5 x6) x
      = Z x0 x1 x2 x3 x4 x5 x6 (x 0).val (0 + (x 1).val) := by
  have e0 : kernelRun0_A.sl.v33 c arg2 harg2 arg3 harg3 arg4 harg4 arg11 x0 x1 x2 = fun i => H x0 x1 x2 (8 + (i (0 : Fin 2)).val) (0 + (i (1 : Fin 2)).val) := funext fun i => win_at c arg2 harg2 arg3 harg3 arg4 harg4 arg11 x0 x1 x2 k0_off3_eq _ _ _ i
  have e1 : kernelRun0_A.sl.v63 c arg2 harg2 arg3 harg3 arg4 harg4 arg11 x0 x1 x2 = fun i => H x0 x1 x2 (9 + (i (0 : Fin 2)).val) (0 + (i (1 : Fin 2)).val) := funext fun i => win_at c arg2 harg2 arg3 harg3 arg4 harg4 arg11 x0 x1 x2 k0_off3_eq _ _ _ i
  have e2 : kernelRun0_A.sl.v86 c arg2 harg2 arg3 harg3 arg4 harg4 arg11 x0 x1 x2 = fun i => H x0 x1 x2 (2 + (i (0 : Fin 2)).val) (0 + (i (1 : Fin 2)).val) := funext fun i => win_at c arg2 harg2 arg3 harg3 arg4 harg4 arg11 x0 x1 x2 k0_off3_eq _ _ _ i
  have e3 : kernelRun0_A.sl.v116 c arg2 harg2 arg3 harg3 arg4 harg4 arg11 x0 x1 x2 = fun i => H x0 x1 x2 (3 + (i (0 : Fin 2)).val) (0 + (i (1 : Fin 2)).val) := funext fun i => win_at c arg2 harg2 arg3 harg3 arg4 harg4 arg11 x0 x1 x2 k0_off3_eq _ _ _ i
  have e4 : kernelRun0_A.sl.v146 c arg2 harg2 arg3 harg3 arg4 harg4 arg11 x0 x1 x2 = fun i => H x0 x1 x2 (4 + (i (0 : Fin 2)).val) (0 + (i (1 : Fin 2)).val) := funext fun i => win_at c arg2 harg2 arg3 harg3 arg4 harg4 arg11 x0 x1 x2 k0_off3_eq _ _ _ i
  have e5 : kernelRun0_A.sl.v176 c arg2 harg2 arg3 harg3 arg4 harg4 arg11 x0 x1 x2 = fun i => H x0 x1 x2 (5 + (i (0 : Fin 2)).val) (0 + (i (1 : Fin 2)).val) := funext fun i => win_at c arg2 harg2 arg3 harg3 arg4 harg4 arg11 x0 x1 x2 k0_off3_eq _ _ _ i
  have e6 : kernelRun0_A.sl.v206 c arg2 harg2 arg3 harg3 arg4 harg4 arg11 x0 x1 x2 = fun i => H x0 x1 x2 (6 + (i (0 : Fin 2)).val) (0 + (i (1 : Fin 2)).val) := funext fun i => win_at c arg2 harg2 arg3 harg3 arg4 harg4 arg11 x0 x1 x2 k0_off3_eq _ _ _ i
  have e7 : kernelRun0_A.sl.v236 c arg2 harg2 arg3 harg3 arg4 harg4 arg11 x0 x1 x2 = fun i => H x0 x1 x2 (7 + (i (0 : Fin 2)).val) (0 + (i (1 : Fin 2)).val) := funext fun i => win_at c arg2 harg2 arg3 harg3 arg4 harg4 arg11 x0 x1 x2 k0_off3_eq _ _ _ i
  simp only [kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1]
  pointwise [k0_pay47, k0_pay48, k0_pay49, k0_pay50, k0_pay51, k0_pay52, k0_pay53, k0_pay54, k0_pay55, k0_pay56]
  simp only [kernelRun0_A.sl.v260, kernelRun0_A.sl.v253, kernelRun0_A.sl.v246, kernelRun0_A.sl.v239, kernelRun0_A.sl.v230, kernelRun0_A.sl.v223, kernelRun0_A.sl.v216, kernelRun0_A.sl.v209, kernelRun0_A.sl.v200, kernelRun0_A.sl.v193, kernelRun0_A.sl.v186, kernelRun0_A.sl.v179, kernelRun0_A.sl.v170, kernelRun0_A.sl.v163, kernelRun0_A.sl.v156, kernelRun0_A.sl.v149, kernelRun0_A.sl.v140, kernelRun0_A.sl.v133, kernelRun0_A.sl.v126, kernelRun0_A.sl.v119, kernelRun0_A.sl.v110, kernelRun0_A.sl.v103, kernelRun0_A.sl.v96, kernelRun0_A.sl.v89, kernelRun0_A.sl.v80, kernelRun0_A.sl.v73, kernelRun0_A.sl.v66, kernelRun0_A.sl.v57, kernelRun0_A.sl.v50, kernelRun0_A.sl.v43, kernelRun0_A.sl.v36, kernelRun0_A.sl.v29, Shape.size, par_at, e0, e1, e2, e3, e4, e5, e6, e7]
  refine (phase_rows x0 x1 x2 x3 x4 x5 x6 (x 0).val (0 + (x 1).val)).trans ?_
  rw [Nat.zero_add]

set_option maxHeartbeats 8000000 in
set_option maxRecDepth 8000 in
/-- Lane tile 1. -/
theorem tile1 (x : S8x256.Idx) :
    k0_pay69 (kernelRun0_A.sl.r_20 c arg2 harg2 arg3 harg3 arg4 harg4 arg5 harg5 arg6 harg6 arg7 harg7 arg8 harg8 arg11 arg12 x0 x1 x2 x3 x4 x5 x6) (kernelRun0_A.sl.r_21 c arg2 harg2 arg3 harg3 arg4 harg4 arg11 x0 x1 x2) (kernelRun0_A.sl.v471 c arg5 harg5 arg6 harg6 arg7 harg7 arg8 harg8 arg12 x3 x4 x5 x6) (kernelRun0_A.sl.v477 c arg2 harg2 arg3 harg3 arg4 harg4 arg11 x0 x1 x2) (kernelRun0_A.sl.v480 c arg5 harg5 arg6 harg6 arg7 harg7 arg8 harg8 arg12 x3 x4 x5 x6) (kernelRun0_A.sl.v487 c arg5 harg5 arg6 harg6 arg7 harg7 arg8 harg8 arg12 x3 x4 x5 x6) (kernelRun0_A.sl.v494 c arg5 harg5 arg6 harg6 arg7 harg7 arg8 harg8 arg12 x3 x4 x5 x6) (kernelRun0_A.sl.v501 c arg5 harg5 arg6 harg6 arg7 harg7 arg8 harg8 arg12 x3 x4 x5 x6) x
      = Z x0 x1 x2 x3 x4 x5 x6 (x 0).val (256 + (x 1).val) := by
  have e0 : kernelRun0_A.sl.v274 c arg2 harg2 arg3 harg3 arg4 harg4 arg11 x0 x1 x2 = fun i => H x0 x1 x2 (8 + (i (0 : Fin 2)).val) (256 + (i (1 : Fin 2)).val) := funext fun i => win_at c arg2 harg2 arg3 harg3 arg4 harg4 arg11 x0 x1 x2 k0_off5_eq _ _ _ i
  have e1 : kernelRun0_A.sl.v304 c arg2 harg2 arg3 harg3 arg4 harg4 arg11 x0 x1 x2 = fun i => H x0 x1 x2 (9 + (i (0 : Fin 2)).val) (256 + (i (1 : Fin 2)).val) := funext fun i => win_at c arg2 harg2 arg3 harg3 arg4 harg4 arg11 x0 x1 x2 k0_off5_eq _ _ _ i
  have e2 : kernelRun0_A.sl.v327 c arg2 harg2 arg3 harg3 arg4 harg4 arg11 x0 x1 x2 = fun i => H x0 x1 x2 (2 + (i (0 : Fin 2)).val) (256 + (i (1 : Fin 2)).val) := funext fun i => win_at c arg2 harg2 arg3 harg3 arg4 harg4 arg11 x0 x1 x2 k0_off5_eq _ _ _ i
  have e3 : kernelRun0_A.sl.v357 c arg2 harg2 arg3 harg3 arg4 harg4 arg11 x0 x1 x2 = fun i => H x0 x1 x2 (3 + (i (0 : Fin 2)).val) (256 + (i (1 : Fin 2)).val) := funext fun i => win_at c arg2 harg2 arg3 harg3 arg4 harg4 arg11 x0 x1 x2 k0_off5_eq _ _ _ i
  have e4 : kernelRun0_A.sl.v387 c arg2 harg2 arg3 harg3 arg4 harg4 arg11 x0 x1 x2 = fun i => H x0 x1 x2 (4 + (i (0 : Fin 2)).val) (256 + (i (1 : Fin 2)).val) := funext fun i => win_at c arg2 harg2 arg3 harg3 arg4 harg4 arg11 x0 x1 x2 k0_off5_eq _ _ _ i
  have e5 : kernelRun0_A.sl.v417 c arg2 harg2 arg3 harg3 arg4 harg4 arg11 x0 x1 x2 = fun i => H x0 x1 x2 (5 + (i (0 : Fin 2)).val) (256 + (i (1 : Fin 2)).val) := funext fun i => win_at c arg2 harg2 arg3 harg3 arg4 harg4 arg11 x0 x1 x2 k0_off5_eq _ _ _ i
  have e6 : kernelRun0_A.sl.v447 c arg2 harg2 arg3 harg3 arg4 harg4 arg11 x0 x1 x2 = fun i => H x0 x1 x2 (6 + (i (0 : Fin 2)).val) (256 + (i (1 : Fin 2)).val) := funext fun i => win_at c arg2 harg2 arg3 harg3 arg4 harg4 arg11 x0 x1 x2 k0_off5_eq _ _ _ i
  have e7 : kernelRun0_A.sl.v477 c arg2 harg2 arg3 harg3 arg4 harg4 arg11 x0 x1 x2 = fun i => H x0 x1 x2 (7 + (i (0 : Fin 2)).val) (256 + (i (1 : Fin 2)).val) := funext fun i => win_at c arg2 harg2 arg3 harg3 arg4 harg4 arg11 x0 x1 x2 k0_off5_eq _ _ _ i
  simp only [kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10]
  pointwise [k0_pay57, k0_pay58, k0_pay59, k0_pay60, k0_pay61, k0_pay62, k0_pay63, k0_pay64, k0_pay65, k0_pay66, k0_pay67, k0_pay68, k0_pay69]
  simp only [kernelRun0_A.sl.v501, kernelRun0_A.sl.v494, kernelRun0_A.sl.v487, kernelRun0_A.sl.v480, kernelRun0_A.sl.v471, kernelRun0_A.sl.v464, kernelRun0_A.sl.v457, kernelRun0_A.sl.v450, kernelRun0_A.sl.v441, kernelRun0_A.sl.v434, kernelRun0_A.sl.v427, kernelRun0_A.sl.v420, kernelRun0_A.sl.v411, kernelRun0_A.sl.v404, kernelRun0_A.sl.v397, kernelRun0_A.sl.v390, kernelRun0_A.sl.v381, kernelRun0_A.sl.v374, kernelRun0_A.sl.v367, kernelRun0_A.sl.v360, kernelRun0_A.sl.v351, kernelRun0_A.sl.v344, kernelRun0_A.sl.v337, kernelRun0_A.sl.v330, kernelRun0_A.sl.v321, kernelRun0_A.sl.v314, kernelRun0_A.sl.v307, kernelRun0_A.sl.v298, kernelRun0_A.sl.v291, kernelRun0_A.sl.v284, kernelRun0_A.sl.v277, kernelRun0_A.sl.v270, Shape.size, par_at, e0, e1, e2, e3, e4, e5, e6, e7]
  exact phase_rows x0 x1 x2 x3 x4 x5 x6 (x 0).val (256 + (x 1).val)

set_option maxHeartbeats 8000000 in
set_option maxRecDepth 8000 in
/-- Lane tile 2. -/
theorem tile2 (x : S8x256.Idx) :
    k0_pay80 (kernelRun0_A.sl.r_31 c arg2 harg2 arg3 harg3 arg4 harg4 arg5 harg5 arg6 harg6 arg7 harg7 arg8 harg8 arg11 arg12 x0 x1 x2 x3 x4 x5 x6) x
      = Z x0 x1 x2 x3 x4 x5 x6 (x 0).val (512 + (x 1).val) := by
  have e0 : kernelRun0_A.sl.v515 c arg2 harg2 arg3 harg3 arg4 harg4 arg11 x0 x1 x2 = fun i => H x0 x1 x2 (8 + (i (0 : Fin 2)).val) (512 + (i (1 : Fin 2)).val) := funext fun i => win_at c arg2 harg2 arg3 harg3 arg4 harg4 arg11 x0 x1 x2 k0_off7_eq _ _ _ i
  have e1 : kernelRun0_A.sl.v545 c arg2 harg2 arg3 harg3 arg4 harg4 arg11 x0 x1 x2 = fun i => H x0 x1 x2 (9 + (i (0 : Fin 2)).val) (512 + (i (1 : Fin 2)).val) := funext fun i => win_at c arg2 harg2 arg3 harg3 arg4 harg4 arg11 x0 x1 x2 k0_off7_eq _ _ _ i
  have e2 : kernelRun0_A.sl.v568 c arg2 harg2 arg3 harg3 arg4 harg4 arg11 x0 x1 x2 = fun i => H x0 x1 x2 (2 + (i (0 : Fin 2)).val) (512 + (i (1 : Fin 2)).val) := funext fun i => win_at c arg2 harg2 arg3 harg3 arg4 harg4 arg11 x0 x1 x2 k0_off7_eq _ _ _ i
  have e3 : kernelRun0_A.sl.v598 c arg2 harg2 arg3 harg3 arg4 harg4 arg11 x0 x1 x2 = fun i => H x0 x1 x2 (3 + (i (0 : Fin 2)).val) (512 + (i (1 : Fin 2)).val) := funext fun i => win_at c arg2 harg2 arg3 harg3 arg4 harg4 arg11 x0 x1 x2 k0_off7_eq _ _ _ i
  have e4 : kernelRun0_A.sl.v628 c arg2 harg2 arg3 harg3 arg4 harg4 arg11 x0 x1 x2 = fun i => H x0 x1 x2 (4 + (i (0 : Fin 2)).val) (512 + (i (1 : Fin 2)).val) := funext fun i => win_at c arg2 harg2 arg3 harg3 arg4 harg4 arg11 x0 x1 x2 k0_off7_eq _ _ _ i
  have e5 : kernelRun0_A.sl.v658 c arg2 harg2 arg3 harg3 arg4 harg4 arg11 x0 x1 x2 = fun i => H x0 x1 x2 (5 + (i (0 : Fin 2)).val) (512 + (i (1 : Fin 2)).val) := funext fun i => win_at c arg2 harg2 arg3 harg3 arg4 harg4 arg11 x0 x1 x2 k0_off7_eq _ _ _ i
  have e6 : kernelRun0_A.sl.v688 c arg2 harg2 arg3 harg3 arg4 harg4 arg11 x0 x1 x2 = fun i => H x0 x1 x2 (6 + (i (0 : Fin 2)).val) (512 + (i (1 : Fin 2)).val) := funext fun i => win_at c arg2 harg2 arg3 harg3 arg4 harg4 arg11 x0 x1 x2 k0_off7_eq _ _ _ i
  have e7 : kernelRun0_A.sl.v718 c arg2 harg2 arg3 harg3 arg4 harg4 arg11 x0 x1 x2 = fun i => H x0 x1 x2 (7 + (i (0 : Fin 2)).val) (512 + (i (1 : Fin 2)).val) := funext fun i => win_at c arg2 harg2 arg3 harg3 arg4 harg4 arg11 x0 x1 x2 k0_off7_eq _ _ _ i
  simp only [kernelRun0_A.sl.r_31, kernelRun0_A.sl.r_30, kernelRun0_A.sl.r_29, kernelRun0_A.sl.r_28, kernelRun0_A.sl.r_27, kernelRun0_A.sl.r_26, kernelRun0_A.sl.r_25, kernelRun0_A.sl.r_24, kernelRun0_A.sl.r_23, kernelRun0_A.sl.r_22]
  pointwise [k0_pay70, k0_pay71, k0_pay72, k0_pay73, k0_pay74, k0_pay75, k0_pay76, k0_pay77, k0_pay78, k0_pay79, k0_pay80]
  simp only [kernelRun0_A.sl.v742, kernelRun0_A.sl.v735, kernelRun0_A.sl.v728, kernelRun0_A.sl.v721, kernelRun0_A.sl.v712, kernelRun0_A.sl.v705, kernelRun0_A.sl.v698, kernelRun0_A.sl.v691, kernelRun0_A.sl.v682, kernelRun0_A.sl.v675, kernelRun0_A.sl.v668, kernelRun0_A.sl.v661, kernelRun0_A.sl.v652, kernelRun0_A.sl.v645, kernelRun0_A.sl.v638, kernelRun0_A.sl.v631, kernelRun0_A.sl.v622, kernelRun0_A.sl.v615, kernelRun0_A.sl.v608, kernelRun0_A.sl.v601, kernelRun0_A.sl.v592, kernelRun0_A.sl.v585, kernelRun0_A.sl.v578, kernelRun0_A.sl.v571, kernelRun0_A.sl.v562, kernelRun0_A.sl.v555, kernelRun0_A.sl.v548, kernelRun0_A.sl.v539, kernelRun0_A.sl.v532, kernelRun0_A.sl.v525, kernelRun0_A.sl.v518, kernelRun0_A.sl.v511, Shape.size, par_at, e0, e1, e2, e3, e4, e5, e6, e7]
  exact phase_rows x0 x1 x2 x3 x4 x5 x6 (x 0).val (512 + (x 1).val)

set_option maxHeartbeats 8000000 in
set_option maxRecDepth 8000 in
/-- Lane tile 3. -/
theorem tile3 (x : S8x256.Idx) :
    k0_pay91 (kernelRun0_A.sl.r_41 c arg2 harg2 arg3 harg3 arg4 harg4 arg5 harg5 arg6 harg6 arg7 harg7 arg8 harg8 arg11 arg12 x0 x1 x2 x3 x4 x5 x6) x
      = Z x0 x1 x2 x3 x4 x5 x6 (x 0).val (768 + (x 1).val) := by
  have e0 : kernelRun0_A.sl.v756 c arg2 harg2 arg3 harg3 arg4 harg4 arg11 x0 x1 x2 = fun i => H x0 x1 x2 (8 + (i (0 : Fin 2)).val) (768 + (i (1 : Fin 2)).val) := funext fun i => win_at c arg2 harg2 arg3 harg3 arg4 harg4 arg11 x0 x1 x2 k0_off9_eq _ _ _ i
  have e1 : kernelRun0_A.sl.v786 c arg2 harg2 arg3 harg3 arg4 harg4 arg11 x0 x1 x2 = fun i => H x0 x1 x2 (9 + (i (0 : Fin 2)).val) (768 + (i (1 : Fin 2)).val) := funext fun i => win_at c arg2 harg2 arg3 harg3 arg4 harg4 arg11 x0 x1 x2 k0_off9_eq _ _ _ i
  have e2 : kernelRun0_A.sl.v809 c arg2 harg2 arg3 harg3 arg4 harg4 arg11 x0 x1 x2 = fun i => H x0 x1 x2 (2 + (i (0 : Fin 2)).val) (768 + (i (1 : Fin 2)).val) := funext fun i => win_at c arg2 harg2 arg3 harg3 arg4 harg4 arg11 x0 x1 x2 k0_off9_eq _ _ _ i
  have e3 : kernelRun0_A.sl.v839 c arg2 harg2 arg3 harg3 arg4 harg4 arg11 x0 x1 x2 = fun i => H x0 x1 x2 (3 + (i (0 : Fin 2)).val) (768 + (i (1 : Fin 2)).val) := funext fun i => win_at c arg2 harg2 arg3 harg3 arg4 harg4 arg11 x0 x1 x2 k0_off9_eq _ _ _ i
  have e4 : kernelRun0_A.sl.v869 c arg2 harg2 arg3 harg3 arg4 harg4 arg11 x0 x1 x2 = fun i => H x0 x1 x2 (4 + (i (0 : Fin 2)).val) (768 + (i (1 : Fin 2)).val) := funext fun i => win_at c arg2 harg2 arg3 harg3 arg4 harg4 arg11 x0 x1 x2 k0_off9_eq _ _ _ i
  have e5 : kernelRun0_A.sl.v899 c arg2 harg2 arg3 harg3 arg4 harg4 arg11 x0 x1 x2 = fun i => H x0 x1 x2 (5 + (i (0 : Fin 2)).val) (768 + (i (1 : Fin 2)).val) := funext fun i => win_at c arg2 harg2 arg3 harg3 arg4 harg4 arg11 x0 x1 x2 k0_off9_eq _ _ _ i
  have e6 : kernelRun0_A.sl.v929 c arg2 harg2 arg3 harg3 arg4 harg4 arg11 x0 x1 x2 = fun i => H x0 x1 x2 (6 + (i (0 : Fin 2)).val) (768 + (i (1 : Fin 2)).val) := funext fun i => win_at c arg2 harg2 arg3 harg3 arg4 harg4 arg11 x0 x1 x2 k0_off9_eq _ _ _ i
  have e7 : kernelRun0_A.sl.v959 c arg2 harg2 arg3 harg3 arg4 harg4 arg11 x0 x1 x2 = fun i => H x0 x1 x2 (7 + (i (0 : Fin 2)).val) (768 + (i (1 : Fin 2)).val) := funext fun i => win_at c arg2 harg2 arg3 harg3 arg4 harg4 arg11 x0 x1 x2 k0_off9_eq _ _ _ i
  simp only [kernelRun0_A.sl.r_41, kernelRun0_A.sl.r_40, kernelRun0_A.sl.r_39, kernelRun0_A.sl.r_38, kernelRun0_A.sl.r_37, kernelRun0_A.sl.r_36, kernelRun0_A.sl.r_35, kernelRun0_A.sl.r_34, kernelRun0_A.sl.r_33, kernelRun0_A.sl.r_32]
  pointwise [k0_pay81, k0_pay82, k0_pay83, k0_pay84, k0_pay85, k0_pay86, k0_pay87, k0_pay88, k0_pay89, k0_pay90, k0_pay91]
  simp only [kernelRun0_A.sl.v983, kernelRun0_A.sl.v976, kernelRun0_A.sl.v969, kernelRun0_A.sl.v962, kernelRun0_A.sl.v953, kernelRun0_A.sl.v946, kernelRun0_A.sl.v939, kernelRun0_A.sl.v932, kernelRun0_A.sl.v923, kernelRun0_A.sl.v916, kernelRun0_A.sl.v909, kernelRun0_A.sl.v902, kernelRun0_A.sl.v893, kernelRun0_A.sl.v886, kernelRun0_A.sl.v879, kernelRun0_A.sl.v872, kernelRun0_A.sl.v863, kernelRun0_A.sl.v856, kernelRun0_A.sl.v849, kernelRun0_A.sl.v842, kernelRun0_A.sl.v833, kernelRun0_A.sl.v826, kernelRun0_A.sl.v819, kernelRun0_A.sl.v812, kernelRun0_A.sl.v803, kernelRun0_A.sl.v796, kernelRun0_A.sl.v789, kernelRun0_A.sl.v780, kernelRun0_A.sl.v773, kernelRun0_A.sl.v766, kernelRun0_A.sl.v759, kernelRun0_A.sl.v752, Shape.size, par_at, e0, e1, e2, e3, e4, e5, e6, e7]
  exact phase_rows x0 x1 x2 x3 x4 x5 x6 (x 0).val (768 + (x 1).val)

end

end Cert.ConvSSum

end
-- ==== Proof.ConvSOut.lean ====
/-
  The convolution of the sample batch, one sequence: what the body leaves in its two output blocks. Row `s` of the first is
  row `s` of the sum, normalised over the lanes, scaled and shifted, times its own logistic; the second is rows 10 … 39 of
  the history.
-/
module

public import proofs.«01_k».proof.Proof.ConvSSum

@[expose] public section

namespace Cert.ConvSOut

open Cert.ConvSIdeal Cert.ConvSIdeal.Gen Cert.ConvSBody Cert.ConvSSum
open Idealize Idealize.ShloMosaic Idealize.ShloMosaic.TcCoe Idealize.ShloMosaic.Tactic

section

variable (c : Dev nD)
  (arg2 : Memref sig .tc .vmem S1x1x8x1024 .f32) (harg2 : arg2.IsWhole) (arg3 : Memref sig .tc .vmem S1x1x8x1024 .f32) (harg3 : arg3.IsWhole)
  (arg4 : Memref sig .tc .vmem S1x1x30x1024 .f32) (harg4 : arg4.IsWhole) (arg5 : Memref sig .tc .vmem S31x1024 .f32) (harg5 : arg5.IsWhole)
  (arg6 : Memref sig .tc .vmem S1x1024 .f32) (harg6 : arg6.IsWhole) (arg7 : Memref sig .tc .vmem S1x1024 .f32) (harg7 : arg7.IsWhole)
  (arg8 : Memref sig .tc .vmem S1x1024 .f32) (harg8 : arg8.IsWhole)
  (arg11 : Memref sig .tc .vmem S40x1024 .f32) (arg12 : Memref sig .tc .vmem S34x8x1024 .f32)
  (x0 x1 : Vec Ideal S1x1x8x1024 .f32) (x2 : Vec Ideal S1x1x30x1024 .f32) (x3 : Vec Ideal S31x1024 .f32) (x4 x5 x6 : Vec Ideal S1x1024 .f32)
  (arg13 : Memref sig .tc .vmem S8x1024 .f32)

/-- The half by the hyperbolic tangent of the half of `n`. -/
noncomputable def halfTanh (n : FVec Ideal S8x1024 .f32) : FVec Ideal S8x1024 .f32 :=
  mulf (broadcast S8x1024 (Scalar.ofBits .f32 0x3F000000#32)) (tanh (mulf (broadcast S8x1024 (Scalar.ofBits .f32 0x3F000000#32)) n))

/-- The mean over the lanes. -/
noncomputable def mean (z : ℕ → EReal) : EReal := Ideal.div (∑ l : Fin 1024, z l.val) (Ideal.ofBits .f32 0x44800000#32)

/-- A row normalised over the lanes, scaled and shifted, at lane `l`. -/
noncomputable def normal (z : ℕ → EReal) (g o : EReal) (l : ℕ) : EReal :=
  (z l - mean z) * Ideal.rsqrt (Ideal.div (∑ l : Fin 1024, (z l.val - mean z) * (z l.val - mean z)) (Ideal.ofBits .f32 0x44800000#32) + Ideal.ofBits .f32 0x358637BD#32) * g + o

/-- The row that a tile of the rows puts its own row at. -/
theorem unit_row {off : Fin 2 → ℕ} {m n : ℕ} (ho : off = ![0, m]) (inb : ∀ a, off a + ![8, n] a ≤ S8x1024.size a) (x : (⟨2, ![8, n]⟩ : Shape).Idx) :
    (x 0).val = ((Rect.unit (s := S8x1024) off ![8, n] inb).emb x 0).val := by
  subst ho
  show _ = 0 + 1 * (x 0).val
  omega

/-- The lane that a tile of the rows puts its own lane at. -/
theorem unit_lane {off : Fin 2 → ℕ} {m n : ℕ} (ho : off = ![0, m]) (inb : ∀ a, off a + ![8, n] a ≤ S8x1024.size a) (x : (⟨2, ![8, n]⟩ : Shape).Idx) :
    m + (x 1).val = ((Rect.unit (s := S8x1024) off ![8, n] inb).emb x 1).val := by
  subst ho
  show _ = m + 1 * (x 1).val
  omega

set_option maxHeartbeats 4000000 in
/-- A read of the buffer of sums. -/
theorem z_read (B : LoadRect S8x1024) (x : B.shape.Idx) :
    arg13.view.readCov (kernelRun0_A.sl.HS2_4 c arg2 harg2 arg3 harg3 arg4 harg4 arg5 harg5 arg6 harg6 arg7 harg7 arg8 harg8 arg11 arg12 x0 x1 x2 x3 x4 x5 x6) B x = Z x0 x1 x2 x3 x4 x5 x6 (B.idx x 0).val (B.idx x 1).val := by
  refine View.read_writes_apply_of_pieces (Val := Elt Ideal) (e := .f32) arg13.view _ (fun y => Z x0 x1 x2 x3 x4 x5 x6 (y 0).val (y 1).val) _ ?_ (B.idx x) ?_
  · unfold kernelRun0_A.sl.HS2_4
    simp only [List.forall_mem_cons, List.not_mem_nil, false_imp_iff, implies_true, and_true]
    refine ⟨?_, ?_, ?_, ?_⟩
    · intro x
      refine (tile3 c arg2 harg2 arg3 harg3 arg4 harg4 arg5 harg5 arg6 harg6 arg7 harg7 arg8 harg8 arg11 arg12 x0 x1 x2 x3 x4 x5 x6 x).trans ?_
      exact congrArg₂ (Z x0 x1 x2 x3 x4 x5 x6) (unit_row k0_off10_eq _ x) (unit_lane k0_off10_eq _ x)
    · intro x
      refine (tile2 c arg2 harg2 arg3 harg3 arg4 harg4 arg5 harg5 arg6 harg6 arg7 harg7 arg8 harg8 arg11 arg12 x0 x1 x2 x3 x4 x5 x6 x).trans ?_
      exact congrArg₂ (Z x0 x1 x2 x3 x4 x5 x6) (unit_row k0_off8_eq _ x) (unit_lane k0_off8_eq _ x)
    · intro x
      refine (tile1 c arg2 harg2 arg3 harg3 arg4 harg4 arg5 harg5 arg6 harg6 arg7 harg7 arg8 harg8 arg11 arg12 x0 x1 x2 x3 x4 x5 x6 x).trans ?_
      exact congrArg₂ (Z x0 x1 x2 x3 x4 x5 x6) (unit_row k0_off6_eq _ x) (unit_lane k0_off6_eq _ x)
    · intro x
      refine (tile0 c arg2 harg2 arg3 harg3 arg4 harg4 arg5 harg5 arg6 harg6 arg7 harg7 arg8 harg8 arg11 arg12 x0 x1 x2 x3 x4 x5 x6 x).trans ?_
      exact congrArg₂ (Z x0 x1 x2 x3 x4 x5 x6) (unit_row k0_off4_eq _ x) (unit_lane k0_off4_eq _ x)
  · exact View.cover_of_tiledL _ ![8, 256] (by sl_kernel_rfl) _

set_option maxHeartbeats 4000000 in
/-- The rows kept for the next call. -/
theorem st_at (x : S1x30x1024.Idx) :
    k0_pay2 (kernelRun0_A.sl.v1038 c arg2 harg2 arg3 harg3 arg4 harg4 arg11 x0 x1 x2) x = H x0 x1 x2 (10 + (x 1).val) (x 2).val := by
  have e : kernelRun0_A.sl.v1038 c arg2 harg2 arg3 harg3 arg4 harg4 arg11 x0 x1 x2 = fun i => H x0 x1 x2 (10 + (i (0 : Fin 2)).val) (i (1 : Fin 2)).val := by
    funext i
    refine (buf_read ..).trans ?_
    exact congrArg₂ (H x0 x1 x2) (by show 10 + 1 * (i (0 : Fin 2)).val = _; omega) (by show 0 + 1 * (i (1 : Fin 2)).val = _; omega)
  rw [e]
  pointwise [k0_pay2]

set_option maxHeartbeats 4000000 in
/-- A row of the first output. -/
theorem y_at (x : S8x1024.Idx) :
    kernelRun0_A.sl.r_42 c arg2 harg2 arg3 harg3 arg4 harg4 arg5 harg5 arg6 harg6 arg7 harg7 arg8 harg8 arg11 arg12 arg13 x0 x1 x2 x3 x4 x5 x6 x
      = normal (Z x0 x1 x2 x3 x4 x5 x6 (x 0).val) (P x3 x4 x5 x6 32 (x 1).val) (P x3 x4 x5 x6 33 (x 1).val) (x 1).val := by
  have e : kernelRun0_A.sl.v996 c arg2 harg2 arg3 harg3 arg4 harg4 arg5 harg5 arg6 harg6 arg7 harg7 arg8 harg8 arg11 arg12 arg13 x0 x1 x2 x3 x4 x5 x6 = fun i => Z x0 x1 x2 x3 x4 x5 x6 (i (0 : Fin 2)).val (i (1 : Fin 2)).val := by
    funext i
    refine (z_read ..).trans ?_
    exact congrArg₂ (Z x0 x1 x2 x3 x4 x5 x6) ((unit_row k0_off11_eq _ i).symm) ((unit_lane k0_off11_eq _ i).symm.trans (by omega))
  have eg : kernelRun0_A.sl.v1014 c arg5 harg5 arg6 harg6 arg7 harg7 arg8 harg8 arg12 x3 x4 x5 x6 = fun i => P x3 x4 x5 x6 32 (i (2 : Fin 3)).val := by
    funext i
    refine (par_read ..).trans ?_
    exact congrArg₂ (P x3 x4 x5 x6) (by have : (i (0 : Fin 3)).val < 1 := (i (0 : Fin 3)).isLt; show 32 + 1 * (i (0 : Fin 3)).val = _; omega) (by show 0 + 1 * (i (2 : Fin 3)).val = _; omega)
  have eo : kernelRun0_A.sl.v1018 c arg5 harg5 arg6 harg6 arg7 harg7 arg8 harg8 arg12 x3 x4 x5 x6 = fun i => P x3 x4 x5 x6 33 (i (2 : Fin 3)).val := by
    funext i
    refine (par_read ..).trans ?_
    exact congrArg₂ (P x3 x4 x5 x6) (by have : (i (0 : Fin 3)).val < 1 := (i (0 : Fin 3)).isLt; show 33 + 1 * (i (0 : Fin 3)).val = _; omega) (by show 0 + 1 * (i (2 : Fin 3)).val = _; omega)
  unfold kernelRun0_A.sl.r_42
  rw [e, eg, eo]
  pointwise [k0_pay92]
  rfl

set_option maxHeartbeats 4000000 in
/-- An entry of the first output. -/
theorem out_at (x : S1x8x1024.Idx) :
    k0_pay1 (kernelRun0_A.sl.r_42 c arg2 harg2 arg3 harg3 arg4 harg4 arg5 harg5 arg6 harg6 arg7 harg7 arg8 harg8 arg11 arg12 arg13 x0 x1 x2 x3 x4 x5 x6) (kernelRun0_A.sl.r_43 c arg2 harg2 arg3 harg3 arg4 harg4 arg5 harg5 arg6 harg6 arg7 harg7 arg8 harg8 arg11 arg12 arg13 x0 x1 x2 x3 x4 x5 x6) k0_pay94 x
      = normal (Z x0 x1 x2 x3 x4 x5 x6 (x 1).val) (P x3 x4 x5 x6 32 (x 2).val) (P x3 x4 x5 x6 33 (x 2).val) (x 2).val
        * Ideal.logistic (normal (Z x0 x1 x2 x3 x4 x5 x6 (x 1).val) (P x3 x4 x5 x6 32 (x 2).val) (P x3 x4 x5 x6 33 (x 2).val) (x 2).val) := by
  have e : kernelRun0_A.sl.r_43 c arg2 harg2 arg3 harg3 arg4 harg4 arg5 harg5 arg6 harg6 arg7 harg7 arg8 harg8 arg11 arg12 arg13 x0 x1 x2 x3 x4 x5 x6 = halfTanh (kernelRun0_A.sl.r_42 c arg2 harg2 arg3 harg3 arg4 harg4 arg5 harg5 arg6 harg6 arg7 harg7 arg8 harg8 arg11 arg12 arg13 x0 x1 x2 x3 x4 x5 x6) := rfl
  rw [e]
  have e' : kernelRun0_A.sl.r_42 c arg2 harg2 arg3 harg3 arg4 harg4 arg5 harg5 arg6 harg6 arg7 harg7 arg8 harg8 arg11 arg12 arg13 x0 x1 x2 x3 x4 x5 x6 = fun x => normal (Z x0 x1 x2 x3 x4 x5 x6 (x 0).val) (P x3 x4 x5 x6 32 (x 1).val) (P x3 x4 x5 x6 33 (x 1).val) (x 1).val := funext fun x => y_at ..
  rw [e']
  pointwise [k0_pay1, halfTanh, k0_pay94]
  rw [Sigmoid.half, Sigmoid.logistic_eq]

end

end Cert.ConvSOut

end
-- ==== Proof.ConvSRef.lean ====
/-
  The convolution of the sample batch: what the reference computes, an entry at a time, of one sequence `b`. Row `r` of its
  padded rows is row `2 + r` of the history; its sum is the bias plus the taps by the rows.
-/
module

public import proofs.«01_k».proof.Proof.ConvSOut
public import proofs.«01_k».proof.Proof.Gen.ConvSRefIdeal.Run

@[expose] public section

namespace Cert.ConvSRef

open Cert.ConvSBody Cert.ConvSSum Cert.ConvSOut
open Cert.ConvSRefIdeal Cert.ConvSRefIdeal.Value
open Idealize Idealize.ShloMosaic Idealize.ShloMosaic.TcCoe Idealize.ShloMosaic.Tactic

variable (V0 : Valuation τ sig (Elt Ideal))

/-- The projection, the previous rows, the taps, the bias, the gain, the offset. -/
abbrev A0 : Vec Ideal S3x8x8x1024 .f32 := V0 (Proc.devRef .tc main_arg0)
abbrev A1 : Vec Ideal S1x8x30x1024 .f32 := V0 (Proc.devRef .tc main_arg1)
abbrev A2 : Vec Ideal S31x1024 .f32 := V0 (Proc.devRef .tc main_arg2)
abbrev A3 : Vec Ideal S1024 .f32 := V0 (Proc.devRef .tc main_arg3)
abbrev A4 : Vec Ideal S1024 .f32 := V0 (Proc.devRef .tc main_arg4)
abbrev A5 : Vec Ideal S1024 .f32 := V0 (Proc.devRef .tc main_arg5)

/-- The two parts of the projection and the previous rows of sequence `b`; a vector as one row. -/
def part (k : Fin 3) (b : Fin 8) : Vec Ideal ⟨4, ![1, 1, 8, 1024]⟩ .f32 := fun i => A0 V0 (ix4 k b (i 2) (i 3))
def prev (b : Fin 8) : Vec Ideal ⟨4, ![1, 1, 30, 1024]⟩ .f32 := fun i => A1 V0 (ix4 (0 : Fin 1) b (i 2) (i 3))
def one (v : Vec Ideal S1024 .f32) : Vec Ideal ⟨2, ![1, 1024]⟩ .f32 := fun i => v (ix1 (i 1))

theorem lane_val (l : Fin 1024) : lane l.val = l := Fin.ext (Nat.mod_eq_of_lt l.isLt)

/-- The history's rows at a previous row and at a gated row. -/
theorem H_prev (b : Fin 8) (r : ℕ) (h : r < 30) (l : Fin 1024) :
    H (part V0 1 b) (part V0 2 b) (prev V0 b) (2 + r) l.val = A1 V0 (ix4 (0 : Fin 1) b (⟨r, h⟩ : Fin 30) l) := by
  unfold H
  rw [if_neg (by omega), if_pos (by omega)]
  refine congrArg (A1 V0) ?_
  have hl : l.val % 1024 = l.val := Nat.mod_eq_of_lt l.isLt
  funext a
  fin_cases a
  · rfl
  · rfl
  · exact Fin.ext (by show (2 + r - 2) % 30 = r; omega)
  · exact lane_val l

theorem H_new (b : Fin 8) (r : ℕ) (h : ¬r < 30) (h' : r < 38) (l : Fin 1024) :
    H (part V0 1 b) (part V0 2 b) (prev V0 b) (2 + r) l.val
      = @HMul.hMul EReal EReal EReal _ (A0 V0 (ix4 (1 : Fin 3) b (⟨r - 30, by omega⟩ : Fin 8) l))
          (Ideal.logistic (A0 V0 (ix4 (2 : Fin 3) b (⟨r - 30, by omega⟩ : Fin 8) l))) := by
  have e : (⟨(2 + r - 32) % 8, Nat.mod_lt _ (by norm_num)⟩ : Fin 8) = ⟨r - 30, by omega⟩ := Fin.ext (by show (2 + r - 32) % 8 = r - 30; omega)
  have e' (k : Fin 3) : part V0 k b (ix4 (0 : Fin 1) (0 : Fin 1) (⟨(2 + r - 32) % 8, Nat.mod_lt _ (by norm_num)⟩ : Fin 8) (lane l.val)) = A0 V0 (ix4 k b (⟨r - 30, by omega⟩ : Fin 8) l) := by
    rw [e, lane_val]
    rfl
  unfold H gated
  rw [if_pos (by omega), e' 1, e' 2]

set_option maxHeartbeats 4000000 in
/-- A padded row. -/
theorem xp_at (b : Fin 8) (r : Fin 38) (l : Fin 1024) :
    res_main_v12 V0 (ix3 b r l) = H (part V0 1 b) (part V0 2 b) (prev V0 b) (2 + r.val) l.val := by
  unfold res_main_v12
  pointwise []
  split
  · next h => exact (H_prev V0 b r.val h l).symm
  · next h => exact (H_new V0 b r.val h (by omega) l).symm

/-- The taps in order. -/
theorem sum_taps (a : EReal) (f : ℕ → EReal) :
    a + (f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30) = a + ∑ j ∈ Finset.range 31, f j := by
  simp only [Finset.sum_range_succ, Finset.sum_range_zero, zero_add]

set_option maxHeartbeats 4000000 in
/-- The sum. -/
theorem z_at (b : Fin 8) (s : Fin 8) (l : Fin 1024) :
    res_main_v233 V0 (ix3 b s l) = Z (part V0 1 b) (part V0 2 b) (prev V0 b) (A2 V0) (one (A3 V0)) (one (A4 V0)) (one (A5 V0)) s.val l.val := by
  have ha : A3 V0 (ix1 l) = P (A2 V0) (one (A3 V0)) (one (A4 V0)) (one (A5 V0)) 31 l.val := by
    simp only [P, one, if_neg (show ¬(31 < 31) by norm_num), if_pos]
    exact congrArg (A3 V0) (congrArg ix1 (lane_val l).symm)
  have hp (j : ℕ) (hj : j < 31) : A2 V0 (ix2 (⟨j, hj⟩ : Fin 31) l) = P (A2 V0) (one (A3 V0)) (one (A4 V0)) (one (A5 V0)) j l.val := by
    unfold P
    rw [if_pos hj, lane_val]
    exact congrArg (fun i : Fin 31 => A2 V0 (ix2 i l)) (Fin.ext (Nat.mod_eq_of_lt hj).symm)
  have ht (j : ℕ) (hj : j < 31) : @HMul.hMul EReal EReal EReal _ (res_main_v12 V0 (ix3 b (⟨j + s.val, by omega⟩ : Fin 38) l)) (A2 V0 (ix2 (⟨j, hj⟩ : Fin 31) l))
      = P (A2 V0) (one (A3 V0)) (one (A4 V0)) (one (A5 V0)) j l.val * H (part V0 1 b) (part V0 2 b) (prev V0 b) (s.val + 2 + j) l.val := by
    refine (mul_comm _ _).trans ?_
    rw [hp j hj]
    refine congrArg (fun h : EReal => P (A2 V0) (one (A3 V0)) (one (A4 V0)) (one (A5 V0)) j l.val * h) ?_
    rw [xp_at]
    exact congrArg (fun r => H (part V0 1 b) (part V0 2 b) (prev V0 b) r l.val) (by show 2 + (j + s.val) = _; omega)
  have ht0 : @HMul.hMul EReal EReal EReal _ (res_main_v12 V0 (ix3 b (⟨s.val, by omega⟩ : Fin 38) l)) (A2 V0 (ix2 (0 : Fin 31) l))
      = P (A2 V0) (one (A3 V0)) (one (A4 V0)) (one (A5 V0)) 0 l.val * H (part V0 1 b) (part V0 2 b) (prev V0 b) (s.val + 2 + 0) l.val := by
    refine Eq.trans ?_ (ht 0 (by norm_num))
    refine congrArg (fun r : Fin 38 => @HMul.hMul EReal EReal EReal _ (res_main_v12 V0 (ix3 b r l)) (A2 V0 (ix2 (0 : Fin 31) l))) (Fin.ext ?_)
    show s.val = 0 + s.val
    omega
  unfold res_main_v233 res_main_v167 res_main_v90
  pointwise []
  exact (congrArg₂ (fun a b : EReal => a + b) ha (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (ht0) (ht 1 (by norm_num))) (ht 2 (by norm_num))) (ht 3 (by norm_num))) (ht 4 (by norm_num))) (ht 5 (by norm_num))) (ht 6 (by norm_num))) (ht 7 (by norm_num))) (ht 8 (by norm_num))) (ht 9 (by norm_num))) (ht 10 (by norm_num))) (ht 11 (by norm_num))) (ht 12 (by norm_num))) (ht 13 (by norm_num))) (ht 14 (by norm_num))) (ht 15 (by norm_num))) (ht 16 (by norm_num))) (ht 17 (by norm_num))) (ht 18 (by norm_num))) (ht 19 (by norm_num))) (ht 20 (by norm_num))) (ht 21 (by norm_num))) (ht 22 (by norm_num))) (ht 23 (by norm_num))) (ht 24 (by norm_num))) (ht 25 (by norm_num))) (ht 26 (by norm_num))) (ht 27 (by norm_num))) (ht 28 (by norm_num))) (ht 29 (by norm_num))) (ht 30 (by norm_num)))).trans (sum_taps _ (fun j => P (A2 V0) (one (A3 V0)) (one (A4 V0)) (one (A5 V0)) j l.val * H (part V0 1 b) (part V0 2 b) (prev V0 b) (s.val + 2 + j) l.val))

set_option maxHeartbeats 4000000 in
/-- The normalised row. -/
theorem n_at (b : Fin 8) (s : Fin 8) (l : Fin 1024) :
    res_main_v255 V0 (ix3 b s l) = normal (Z (part V0 1 b) (part V0 2 b) (prev V0 b) (A2 V0) (one (A3 V0)) (one (A4 V0)) (one (A5 V0)) s.val) (P (A2 V0) (one (A3 V0)) (one (A4 V0)) (one (A5 V0)) 32 l.val) (P (A2 V0) (one (A3 V0)) (one (A4 V0)) (one (A5 V0)) 33 l.val) l.val := by
  have hg : A4 V0 (ix1 l) = P (A2 V0) (one (A3 V0)) (one (A4 V0)) (one (A5 V0)) 32 l.val := by
    simp only [P, one, if_neg (show ¬(32 < 31) by norm_num), if_neg (show ¬(32 = 31) by norm_num), if_pos]
    exact congrArg (A4 V0) (congrArg ix1 (lane_val l).symm)
  have ho : A5 V0 (ix1 l) = P (A2 V0) (one (A3 V0)) (one (A4 V0)) (one (A5 V0)) 33 l.val := by
    simp only [P, one, if_neg (show ¬(33 < 31) by norm_num), if_neg (show ¬(33 = 31) by norm_num), if_neg (show ¬(33 = 32) by norm_num)]
    exact congrArg (A5 V0) (congrArg ix1 (lane_val l).symm)
  rw [← hg, ← ho]
  unfold res_main_v255 res_main_v239
  pointwise []
  simp only [z_at]
  rfl

end Cert.ConvSRef

end
-- ==== Proof.ConvSValue.lean ====
/-
  The convolution of the sample batch: the two arrays that the call returns, and that they are what the reference computes.
  Grid point `t` is sequence `t`.
-/
module

public import proofs.«01_k».proof.Defs
public import proofs.«01_k».proof.Proof.ConvSRef
public import proofs.«01_k».proof.Proof.Gen.ConvSIdeal.Value

@[expose] public section

set_option maxRecDepth 16384

noncomputable section

namespace Cert.ConvSValue

open Cert.ConvSBody Cert.ConvSSum Cert.ConvSOut
open Cert.ConvSIdeal Cert.ConvSIdeal.Gen
open Idealize.ShloMosaic Idealize.ShloMosaic.TcCoe Idealize.SL.Sem

variable (m : (ℓ : Loc nD τ sig) → Buf (Elt Ideal) ℓ)
  (m' : (ℓ : Loc Cert.ConvSRefIdeal.nD Cert.ConvSRefIdeal.τ Cert.ConvSRefIdeal.sig) → Buf (Elt Ideal) ℓ)

/-- Where each window's block lies at a point. -/
theorem idx : ∀ t : Fin grid0.N, win0_0.index t = ![1, t.val, 0, 0] ∧ win0_1.index t = ![2, t.val, 0, 0] ∧ win0_2.index t = ![0, t.val, 0, 0]
    ∧ win0_3.index t = ![0, 0] ∧ win0_4.index t = ![0, 0] ∧ win0_5.index t = ![0, 0] ∧ win0_6.index t = ![0, 0]
    ∧ win0_7.index t = ![t.val, 0, 0] ∧ win0_8.index t = ![t.val, 0, 0] := by decide +kernel

/-- A number times its logistic. -/
def act (n : EReal) : EReal := n * Ideal.logistic n

/-- The sequence of a point. -/
def seq (t : Fin cfg0.N) : Fin 8 := ⟨t.val, Nat.lt_of_lt_of_eq t.isLt N_0⟩

section

variable (V0 : Valuation Cert.ConvSRefIdeal.τ Cert.ConvSRefIdeal.sig (Elt Ideal)) (c : Dev nD)
  (h0 : V0 (Proc.devRef .tc Cert.ConvSRefIdeal.main_arg0) = m ((c.tc : Thread nD τ).loc main_arg0))
  (h1 : V0 (Proc.devRef .tc Cert.ConvSRefIdeal.main_arg1) = m ((c.tc : Thread nD τ).loc main_arg1))
  (h2 : V0 (Proc.devRef .tc Cert.ConvSRefIdeal.main_arg2) = m ((c.tc : Thread nD τ).loc main_arg2))
  (h3 : V0 (Proc.devRef .tc Cert.ConvSRefIdeal.main_arg3) = m ((c.tc : Thread nD τ).loc main_arg3))
  (h4 : V0 (Proc.devRef .tc Cert.ConvSRefIdeal.main_arg4) = m ((c.tc : Thread nD τ).loc main_arg4))
  (h5 : V0 (Proc.devRef .tc Cert.ConvSRefIdeal.main_arg5) = m ((c.tc : Thread nD τ).loc main_arg5))

set_option maxHeartbeats 4000000 in
include h0 in
theorem blk0 (t : Fin cfg0.N) : (iblk m c 0 t : Vec Ideal S1x1x8x1024 .f32) = ConvSRef.part V0 1 (seq t) := by
  funext i
  unfold ConvSRef.part ConvSRef.A0
  rw [h0]
  blk_point [iblk, V, idx t, seq]

set_option maxHeartbeats 4000000 in
include h0 in
theorem blk1 (t : Fin cfg0.N) : (iblk m c 1 t : Vec Ideal S1x1x8x1024 .f32) = ConvSRef.part V0 2 (seq t) := by
  funext i
  unfold ConvSRef.part ConvSRef.A0
  rw [h0]
  blk_point [iblk, V, idx t, seq]

set_option maxHeartbeats 4000000 in
include h1 in
theorem blk2 (t : Fin cfg0.N) : (iblk m c 2 t : Vec Ideal S1x1x30x1024 .f32) = ConvSRef.prev V0 (seq t) := by
  funext i
  unfold ConvSRef.prev ConvSRef.A1
  rw [h1]
  blk_point [iblk, V, idx t, seq]

set_option maxHeartbeats 4000000 in
include h2 in
theorem blk3 (t : Fin cfg0.N) : (iblk m c 3 t : Vec Ideal S31x1024 .f32) = ConvSRef.A2 V0 := by
  funext i
  unfold ConvSRef.A2
  rw [h2]
  blk_point [iblk, V, idx t]

set_option maxHeartbeats 4000000 in
include h3 in
theorem blk4 (t : Fin cfg0.N) : (iblk m c 4 t : Vec Ideal S1x1024 .f32) = ConvSRef.one (ConvSRef.A3 V0) := by
  funext i
  unfold ConvSRef.one ConvSRef.A3
  rw [h3]
  blk_point [iblk, V, idx t]

set_option maxHeartbeats 4000000 in
include h4 in
theorem blk5 (t : Fin cfg0.N) : (iblk m c 5 t : Vec Ideal S1x1024 .f32) = ConvSRef.one (ConvSRef.A4 V0) := by
  funext i
  unfold ConvSRef.one ConvSRef.A4
  rw [h4]
  blk_point [iblk, V, idx t]

set_option maxHeartbeats 4000000 in
include h5 in
theorem blk6 (t : Fin cfg0.N) : (iblk m c 6 t : Vec Ideal S1x1024 .f32) = ConvSRef.one (ConvSRef.A5 V0) := by
  funext i
  unfold ConvSRef.one ConvSRef.A5
  rw [h5]
  blk_point [iblk, V, idx t]

end

set_option maxHeartbeats 4000000 in
/-- The first result, entry by entry, from a point's blocks. -/
theorem out7 (c : Dev nD) (t : Fin cfg0.N) (y : S1x8x1024.Idx) :
    ((outsAt0 m c t).1 : Vec Ideal S1x8x1024 .f32) y = act (normal (Z (iblk m c 0 t) (iblk m c 1 t) (iblk m c 2 t) (iblk m c 3 t) (iblk m c 4 t) (iblk m c 5 t) (iblk m c 6 t) (y 1).val)
      (P (iblk m c 3 t) (iblk m c 4 t) (iblk m c 5 t) (iblk m c 6 t) 32 (y 2).val) (P (iblk m c 3 t) (iblk m c 4 t) (iblk m c 5 t) (iblk m c 6 t) 33 (y 2).val) (y 2).val) := by
  unfold outsAt0 out0_A_7 kernelRun0_A
  dsimp only
  refine (View.read_writes_cons_unit (heq := k0_off12_eq) ..).trans ?_
  have h : ∀ a, (![0, 0, 0] : Fin 3 → ℕ) a ≤ (y a).val ∧ (y a).val < (![0, 0, 0] : Fin 3 → ℕ) a + S1x8x1024.size a := fun a => by
    have := (y a).isLt
    fin_cases a <;> exact ⟨Nat.zero_le _, by simpa using this⟩
  rw [dif_pos h]
  refine (ConvSOut.out_at ..).trans ?_
  rfl

set_option maxHeartbeats 4000000 in
/-- The second result, entry by entry, from a point's blocks. -/
theorem out8 (c : Dev nD) (t : Fin cfg0.N) (y : S1x30x1024.Idx) :
    ((outsAt0 m c t).2 : Vec Ideal S1x30x1024 .f32) y = H (iblk m c 0 t) (iblk m c 1 t) (iblk m c 2 t) (10 + (y 1).val) (y 2).val := by
  unfold outsAt0 out0_A_8 kernelRun0_A
  dsimp only
  refine (View.read_writes_cons_unit (heq := rfl) ..).trans ?_
  have h : ∀ a, (![0, 0, 0] : Fin 3 → ℕ) a ≤ (y a).val ∧ (y a).val < (![0, 0, 0] : Fin 3 → ℕ) a + S1x30x1024.size a := fun a => by
    have := (y a).isLt
    fin_cases a <;> exact ⟨Nat.zero_le _, by simpa using this⟩
  rw [dif_pos h]
  refine (ConvSOut.st_at ..).trans ?_
  rfl

/-- The reference's first result. -/
def ref0 (V0 : Valuation Cert.ConvSRefIdeal.τ Cert.ConvSRefIdeal.sig (Elt Ideal)) : Vec Ideal S8x8x1024 .f32 :=
  mulf (Cert.ConvSRefIdeal.Value.res_main_v255 V0) (Host.divf (broadcastInDim Cert.ConvSRefIdeal.S8x8x1024 ![] Cert.ConvSRefIdeal.Gen.bcast_S_S8x8x1024 (constant Cert.ConvSRefIdeal.S_ .f32 0x3F800000#32)) (addf (broadcastInDim Cert.ConvSRefIdeal.S8x8x1024 ![] Cert.ConvSRefIdeal.Gen.bcast_S_S8x8x1024 (constant Cert.ConvSRefIdeal.S_ .f32 0x3F800000#32)) (Host.exp (Host.negf (Cert.ConvSRefIdeal.Value.res_main_v255 V0)))))

/-- The reference's second result. -/
def ref1 (V0 : Valuation Cert.ConvSRefIdeal.τ Cert.ConvSRefIdeal.sig (Elt Ideal)) : Vec Ideal S8x30x1024 .f32 :=
  extractStridedSlice Cert.ConvSRefIdeal.S8x30x1024 ![0, 8, 0] (Cert.ConvSRefIdeal.Value.res_main_v12 V0) Cert.ConvSRefIdeal.Gen.slices_S8x38x1024_S8x30x1024_0_8_0

theorem ref0_act (V0 : Valuation Cert.ConvSRefIdeal.τ Cert.ConvSRefIdeal.sig (Elt Ideal)) (y : S8x8x1024.Idx) :
    ref0 V0 y = act (Cert.ConvSRefIdeal.Value.res_main_v255 V0 y) := by
  unfold ref0 act
  generalize Cert.ConvSRefIdeal.Value.res_main_v255 V0 = z
  pointwise []
  rfl

theorem ref0_at (V0 : Valuation Cert.ConvSRefIdeal.τ Cert.ConvSRefIdeal.sig (Elt Ideal)) (b s : Fin 8) (l : Fin 1024) :
    ref0 V0 (ix3 b s l) = act (normal (Z (ConvSRef.part V0 1 b) (ConvSRef.part V0 2 b) (ConvSRef.prev V0 b) (ConvSRef.A2 V0) (ConvSRef.one (ConvSRef.A3 V0)) (ConvSRef.one (ConvSRef.A4 V0)) (ConvSRef.one (ConvSRef.A5 V0)) s.val)
      (P (ConvSRef.A2 V0) (ConvSRef.one (ConvSRef.A3 V0)) (ConvSRef.one (ConvSRef.A4 V0)) (ConvSRef.one (ConvSRef.A5 V0)) 32 l.val) (P (ConvSRef.A2 V0) (ConvSRef.one (ConvSRef.A3 V0)) (ConvSRef.one (ConvSRef.A4 V0)) (ConvSRef.one (ConvSRef.A5 V0)) 33 l.val) l.val) :=
  (ref0_act V0 _).trans (congrArg act (ConvSRef.n_at V0 b s l))

theorem ref1_at (V0 : Valuation Cert.ConvSRefIdeal.τ Cert.ConvSRefIdeal.sig (Elt Ideal)) (b : Fin 8) (r : Fin 30) (l : Fin 1024) :
    ref1 V0 (ix3 b r l) = H (ConvSRef.part V0 1 b) (ConvSRef.part V0 2 b) (ConvSRef.prev V0 b) (10 + r.val) l.val := by
  have e : ref1 V0 (ix3 b r l) = Cert.ConvSRefIdeal.Value.res_main_v12 V0 (ix3 b ⟨8 + r.val, by omega⟩ l) := by
    unfold ref1
    generalize Cert.ConvSRefIdeal.Value.res_main_v12 V0 = z
    refine congrArg z ?_
    funext a
    fin_cases a
    · exact Fin.ext (show 0 + b.val = b.val by omega)
    · exact Fin.ext (show 8 + r.val = 8 + r.val from rfl)
    · exact Fin.ext (show 0 + l.val = l.val by omega)
  refine e.trans ((ConvSRef.xp_at V0 b _ l).trans ?_)
  exact congrArg (fun k => H (ConvSRef.part V0 1 b) (ConvSRef.part V0 2 b) (ConvSRef.prev V0 b) k l.val) (show 2 + (8 + r.val) = 10 + r.val by omega)

set_option maxHeartbeats 4000000 in
theorem final7 (V0 : Valuation Cert.ConvSRefIdeal.τ Cert.ConvSRefIdeal.sig (Elt Ideal)) (c : Dev nD)
    (h0 : V0 (Proc.devRef .tc Cert.ConvSRefIdeal.main_arg0) = m ((c.tc : Thread nD τ).loc main_arg0))
    (h1 : V0 (Proc.devRef .tc Cert.ConvSRefIdeal.main_arg1) = m ((c.tc : Thread nD τ).loc main_arg1))
    (h2 : V0 (Proc.devRef .tc Cert.ConvSRefIdeal.main_arg2) = m ((c.tc : Thread nD τ).loc main_arg2))
    (h3 : V0 (Proc.devRef .tc Cert.ConvSRefIdeal.main_arg3) = m ((c.tc : Thread nD τ).loc main_arg3))
    (h4 : V0 (Proc.devRef .tc Cert.ConvSRefIdeal.main_arg4) = m ((c.tc : Thread nD τ).loc main_arg4))
    (h5 : V0 (Proc.devRef .tc Cert.ConvSRefIdeal.main_arg5) = m ((c.tc : Thread nD τ).loc main_arg5)) :
    (dats m 0 c).arrAt 7 cfg0.N = ref0 V0 := by
  refine (dats m 0 c).arrAt_eq_of_covers 7 _ (by decide +kernel) fun t hf y => ?_
  blk_simp
  rw [after0_7]
  have hy : (win0_7.blk t).view.emb y = ix3 (seq t) (y 1) (y 2) := by blk_ext [idx t, seq]
  rw [hy]
  refine (out7 m c t y).trans ?_
  rw [blk0 m V0 c h0 t, blk1 m V0 c h0 t, blk2 m V0 c h1 t, blk3 m V0 c h2 t, blk4 m V0 c h3 t, blk5 m V0 c h4 t, blk6 m V0 c h5 t]
  exact (ref0_at V0 (seq t) (y 1) (y 2)).symm

set_option maxHeartbeats 4000000 in
theorem final8 (V0 : Valuation Cert.ConvSRefIdeal.τ Cert.ConvSRefIdeal.sig (Elt Ideal)) (c : Dev nD)
    (h0 : V0 (Proc.devRef .tc Cert.ConvSRefIdeal.main_arg0) = m ((c.tc : Thread nD τ).loc main_arg0))
    (h1 : V0 (Proc.devRef .tc Cert.ConvSRefIdeal.main_arg1) = m ((c.tc : Thread nD τ).loc main_arg1))
    (h2 : V0 (Proc.devRef .tc Cert.ConvSRefIdeal.main_arg2) = m ((c.tc : Thread nD τ).loc main_arg2))
    (h3 : V0 (Proc.devRef .tc Cert.ConvSRefIdeal.main_arg3) = m ((c.tc : Thread nD τ).loc main_arg3))
    (h4 : V0 (Proc.devRef .tc Cert.ConvSRefIdeal.main_arg4) = m ((c.tc : Thread nD τ).loc main_arg4))
    (h5 : V0 (Proc.devRef .tc Cert.ConvSRefIdeal.main_arg5) = m ((c.tc : Thread nD τ).loc main_arg5)) :
    (dats m 0 c).arrAt 8 cfg0.N = ref1 V0 := by
  refine (dats m 0 c).arrAt_eq_of_covers 8 _ (by decide +kernel) fun t hf y => ?_
  blk_simp
  rw [after0_8]
  have hy : (win0_8.blk t).view.emb y = ix3 (seq t) (y 1) (y 2) := by blk_ext [idx t, seq]
  rw [hy]
  refine (out8 m c t y).trans ?_
  rw [blk0 m V0 c h0 t, blk1 m V0 c h0 t, blk2 m V0 c h1 t]
  exact (ref1_at V0 (seq t) (y 1) (y 2)).symm

/-- Both runs end at the same two arrays. -/
theorem algebraic : Cert.algebraic_ConvSIdeal_ConvSRefIdeal := by
  intro m g m' g' _ hagree
  refine ⟨fun c => ref0 (Idealize.ShloMosaic.StableHlo.launchContents m' c), fun c => ref1 (Idealize.ShloMosaic.StableHlo.launchContents m' c), ?_, ?_⟩
  · refine (θ_run _ _ _).mono (fun r h c => ?_) (Cert.ConvSIdeal.Value.run_blocks m g)
    obtain ⟨h0, h1, h2, h3, h4, h5⟩ := hagree c
    obtain ⟨v0, v1, ha⟩ := h c
    exact ⟨v0.trans (final7 m _ c h0 h1 h2 h3 h4 h5), v1.trans (final8 m _ c h0 h1 h2 h3 h4 h5), ha⟩
  · exact Cert.ConvSRefIdeal.Value.run m' g'

end Cert.ConvSValue

end
-- ==== Proof.XAttnBlocks.lean ====
/- The attention over the memory: where the blocks of a grid point lie in the arrays. -/
module

public import proofs.«01_k».proof.Proof.Gen.XAttnIdeal.Value
public import Idealize.ShloMosaic.Lib.Pipeline.ValueKit
public import Idealize.ShloMosaic.Lib.Pointwise

@[expose] public section

set_option maxRecDepth 16384

noncomputable section

namespace Cert.XAttnBlocks

open Idealize.ShloMosaic Idealize.ShloMosaic.TcCoe Idealize.SL.Sem
open Cert.XAttnIdeal Cert.XAttnIdeal.Gen

variable (m : (ℓ : Loc nD τ sig) → Buf (Elt Ideal) ℓ)

/-- Where each window's block lies at a point: the rows move with the point, the memory's rows with its sequence. -/
theorem idx : ∀ t : Fin grid0.N, win0_0.index t = ![t.val, 0] ∧ win0_1.index t = ![0, t.val / 8, 0, 0] ∧ win0_2.index t = ![0, t.val / 8, 0, 0]
    ∧ win0_3.index t = ![0, 0] ∧ win0_4.index t = ![0, 0] ∧ win0_5.index t = ![0, 0] ∧ win0_6.index t = ![0, 0]
    ∧ win0_7.index t = ![t.val, 0] := by decide +kernel

theorem points (t : Fin cfg0.N) : t.val < 16 := Nat.lt_of_lt_of_eq t.isLt N_0

/-- A row of a point's block, among all the rows. -/
def at_ (t : Fin cfg0.N) (i : Fin 512) : Fin 8192 := ⟨t.val * 512 + i.val, by have := points t; omega⟩

set_option maxHeartbeats 4000000 in
theorem blk0 (c : Dev nD) (t : Fin cfg0.N) (i : Fin 512) (x : Fin 2048) : iblk m c 0 t (ix2 i x)
    = m ((c.tc : Thread nD τ).loc main_arg0) (ix3 (⟨(at_ t i).val / 4096, by omega⟩ : Fin 2) (⟨(at_ t i).val % 4096, Nat.mod_lt _ (by norm_num)⟩ : Fin 4096) x) := by
  blk_point [iblk, V, idx t, at_]

set_option maxHeartbeats 4000000 in
theorem blk1 (c : Dev nD) (t : Fin cfg0.N) (i : Fin 512) (x : Fin 256) (e : Fin 512) : iblk m c 1 t (ix4 (0 : Fin 1) (0 : Fin 1) x e)
    = m ((c.tc : Thread nD τ).loc main_arg1) (ix4 (⟨(at_ t i).val / 4096, by omega⟩ : Fin 2) x (⟨e.val / 128, by omega⟩ : Fin 4) (⟨e.val % 128, Nat.mod_lt _ (by norm_num)⟩ : Fin 128)) := by
  have ht := points t
  have hb : (⟨(at_ t i).val / 4096, by omega⟩ : Fin 2) = ⟨t.val / 8, by omega⟩ := Fin.ext (by show (t.val * 512 + i.val) / 4096 = t.val / 8; omega)
  rw [hb]
  blk_point [iblk, V, idx t]

set_option maxHeartbeats 4000000 in
theorem blk2 (c : Dev nD) (t : Fin cfg0.N) (i : Fin 512) (x : Fin 256) (e : Fin 512) : iblk m c 2 t (ix4 (0 : Fin 1) (0 : Fin 1) x e)
    = m ((c.tc : Thread nD τ).loc main_arg2) (ix4 (⟨(at_ t i).val / 4096, by omega⟩ : Fin 2) x (⟨e.val / 128, by omega⟩ : Fin 4) (⟨e.val % 128, Nat.mod_lt _ (by norm_num)⟩ : Fin 128)) := by
  have ht := points t
  have hb : (⟨(at_ t i).val / 4096, by omega⟩ : Fin 2) = ⟨t.val / 8, by omega⟩ := Fin.ext (by show (t.val * 512 + i.val) / 4096 = t.val / 8; omega)
  rw [hb]
  blk_point [iblk, V, idx t]

set_option maxHeartbeats 4000000 in
theorem blk3 (c : Dev nD) (t : Fin cfg0.N) (x : Fin 2048) : iblk m c 3 t (ix2 (0 : Fin 1) x) = m ((c.tc : Thread nD τ).loc main_arg3) (ix1 x) := by
  blk_point [iblk, V, idx t]

set_option maxHeartbeats 4000000 in
theorem blk4 (c : Dev nD) (t : Fin cfg0.N) (x : Fin 2048) (e : Fin 512) : iblk m c 4 t (ix2 x e) = m ((c.tc : Thread nD τ).loc main_arg4) (ix2 x e) := by
  blk_point [iblk, V, idx t]

set_option maxHeartbeats 4000000 in
theorem blk5 (c : Dev nD) (t : Fin cfg0.N) (e : Fin 512) (j : Fin 2048) : iblk m c 5 t (ix2 e j) = m ((c.tc : Thread nD τ).loc main_arg5) (ix2 e j) := by
  blk_point [iblk, V, idx t]

set_option maxHeartbeats 4000000 in
theorem blk6 (c : Dev nD) (t : Fin cfg0.N) (x : Fin 2048) : iblk m c 6 t (ix2 (0 : Fin 1) x) = m ((c.tc : Thread nD τ).loc main_arg6) (ix1 x) := by
  blk_point [iblk, V, idx t]

end Cert.XAttnBlocks

end
-- ==== Proof.XAttnMath.lean ====
/- One row of the attention over the memory: the weighted sum divided by the weights' sum is the sum under the divided
   weights, where the scores are real numbers. -/
module

public import Idealize.ShloMosaic.PureOps.Ideal
public import Mathlib.Data.EReal.Operations
public import Mathlib.Data.EReal.Inv

@[expose] public section

noncomputable section

namespace Cert.XAttnMath

open Idealize.ShloMosaic

/-- A real number. -/
def IsR (x : EReal) : Prop := ∃ r : ℝ, x = (r : EReal)

theorem IsR.mul {x y : EReal} : IsR x → IsR y → IsR (x * y) := by
  rintro ⟨a, rfl⟩ ⟨b, rfl⟩
  exact ⟨a * b, (EReal.coe_mul a b).symm⟩

theorem IsR.add {x y : EReal} : IsR x → IsR y → IsR (x + y) := by
  rintro ⟨a, rfl⟩ ⟨b, rfl⟩
  exact ⟨a + b, (EReal.coe_add a b).symm⟩

theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

/-- A sum of squares of real numbers. -/
theorem sq_sum {ι : Type} (s : Finset ι) (f : ι → EReal) (h : ∀ i, IsR (f i)) : ∃ r : ℝ, 0 ≤ r ∧ ∑ i ∈ s, f i * f i = (r : EReal) := by
  classical
  induction s using Finset.induction_on with
  | empty => exact ⟨0, le_rfl, by simp⟩
  | insert a s ha ih =>
    obtain ⟨r, hr, e⟩ := ih
    obtain ⟨b, hb⟩ := h a
    refine ⟨b * b + r, add_nonneg (mul_self_nonneg b) hr, ?_⟩
    rw [Finset.sum_insert ha, e, hb, EReal.coe_add, EReal.coe_mul]

theorem width : Ideal.ofBits .f32 0x45000000#32 = ((2048 : ℝ) : EReal) := by
  simp [Ideal.ofBits, Ideal.ieee, -EReal.coe_mul]; norm_num

theorem eps : ∃ r : ℝ, 0 < r ∧ Ideal.ofBits .f32 0x358637BD#32 = (r : EReal) := by
  refine ⟨_, ?_, by simp [Ideal.ofBits, Ideal.ieee, -EReal.coe_mul]; rfl⟩
  norm_num

theorem scale : IsR (Ideal.ofBits .f32 0x3DB504F3#32) := by
  refine ⟨_, by simp [Ideal.ofBits, Ideal.ieee, -EReal.coe_mul]; rfl⟩

theorem low : Ideal.ofBits .f32 0xFF800000#32 = ⊥ := by
  simp [Ideal.ofBits, Ideal.ieee]

/-- The reciprocal root of a mean square. -/
theorem IsR.root {ι : Type} (s : Finset ι) (f : ι → EReal) (h : ∀ i, IsR (f i)) :
    IsR (Ideal.rsqrt (Ideal.div (∑ i ∈ s, f i * f i) (Ideal.ofBits .f32 0x45000000#32) + Ideal.ofBits .f32 0x358637BD#32)) := by
  obtain ⟨r, hr, e⟩ := sq_sum s f h
  obtain ⟨u, hu, e'⟩ := eps
  have hp : (0 : ℝ) < r * 2048⁻¹ + u := by positivity
  have h0 : ((2048 : ℝ) : EReal) ≠ 0 := by exact_mod_cast (by norm_num : (2048 : ℝ) ≠ 0)
  rw [e, e', width]
  unfold Ideal.div
  rw [if_neg h0, ← EReal.coe_inv, ← EReal.coe_mul, ← EReal.coe_add]
  refine ⟨(Real.sqrt (r * 2048⁻¹ + u))⁻¹, ?_⟩
  show (if _ then _ else _) = _
  rw [if_neg (not_lt.2 hp.le), if_neg hp.ne']

/-- A score: a query with a key. -/
def score (q k : Fin 128 → EReal) : EReal := (∑ e, q e * k e) * Ideal.ofBits .f32 0x3DB504F3#32

theorem IsR.score {q k : Fin 128 → EReal} (hq : ∀ e, IsR (q e)) (hk : ∀ e, IsR (k e)) : IsR (score q k) :=
  (IsR.sum _ _ fun e => (hq e).mul (hk e)).mul scale

/-- The largest of a row's scores. -/
def top (s : Fin 256 → EReal) : EReal := Finset.fold max (Ideal.ofBits .f32 0xFF800000#32) s Finset.univ

theorem top_max (s : Fin 256 → EReal) : max (Ideal.ofBits .f32 0xFF800000#32) (top s) = top s :=
  max_eq_right (Finset.le_fold_max _ |>.2 (Or.inl le_rfl))

theorem IsR.top {s : Fin 256 → EReal} (h : ∀ x, IsR (s x)) : IsR (top s) := by
  have h1 : XAttnMath.top s < ⊤ := (Finset.fold_max_lt _).2 ⟨by rw [low]; exact bot_lt_top, fun x _ => by obtain ⟨r, e⟩ := h x; rw [e]; exact EReal.coe_lt_top r⟩
  have h2 : s 0 ≤ XAttnMath.top s := (Finset.le_fold_max _).2 (Or.inr ⟨0, Finset.mem_univ _, le_rfl⟩)
  obtain ⟨r, e⟩ := h 0
  rw [e] at h2
  have h3 : XAttnMath.top s ≠ ⊥ := fun hb => by rw [hb] at h2; exact absurd h2 (not_le.2 (EReal.bot_lt_coe r))
  exact ⟨(XAttnMath.top s).toReal, (EReal.coe_toReal h1.ne h3).symm⟩

/-- A weight. -/
def weight (s : Fin 256 → EReal) (x : Fin 256) : EReal := Ideal.exp (s x - top s)

/-- The weights' sum is a positive real number. -/
theorem total {s : Fin 256 → EReal} (h : ∀ x, IsR (s x)) : ∃ r : ℝ, 0 < r ∧ ∑ x, weight s x = (r : EReal) := by
  obtain ⟨t, et⟩ := IsR.top h
  choose f hf using h
  have e (x : Fin 256) : weight s x = ((Real.exp (f x - t) : ℝ) : EReal) := by
    unfold weight
    rw [et, hf x, ← EReal.coe_sub, Ideal.exp_coe]
  refine ⟨∑ x, Real.exp (f x - t), Finset.sum_pos (fun x _ => Real.exp_pos _) Finset.univ_nonempty, ?_⟩
  simp only [e]
  exact (map_sum (⟨⟨fun r : ℝ => (r : EReal), EReal.coe_zero⟩, EReal.coe_add⟩ : ℝ →+ EReal) _ _).symm

theorem sum_scale (w : EReal) (h0 : 0 ≤ w) (h1 : w ≠ ⊤) (f : Fin 256 → EReal) : (∑ x, f x) * w = ∑ x, f x * w := by
  have g : ∀ s : Finset (Fin 256), (∑ x ∈ s, f x) * w = ∑ x ∈ s, f x * w := fun s => by
    induction s using Finset.induction_on with
    | empty => simp
    | insert a s ha ih => rw [Finset.sum_insert ha, Finset.sum_insert ha, EReal.right_distrib_of_nonneg_of_ne_top h0 h1, ih]
  exact g _

/-- An entry of the attention's output. -/
def att (s v : Fin 256 → EReal) : EReal := Ideal.div (∑ x, weight s x * v x) (∑ x, weight s x)

theorem att_eq {s : Fin 256 → EReal} (h : ∀ x, IsR (s x)) (v : Fin 256 → EReal) :
    att s v = ∑ x, v x * Ideal.div (weight s x) (∑ x, weight s x) := by
  obtain ⟨r, hr, e⟩ := total h
  have h0 : ((r : ℝ) : EReal) ≠ 0 := by exact_mod_cast hr.ne'
  unfold att Ideal.div
  rw [e]
  simp only [if_neg h0]
  rw [← EReal.coe_inv, sum_scale _ (by exact_mod_cast (inv_pos.2 hr).le) (EReal.coe_ne_top _)]
  exact Finset.sum_congr rfl fun x _ => by rw [mul_comm (weight s x) (v x), mul_assoc]

/-- Lane `d` of the head whose lanes begin at `b`, from a row of queries, the keys and the values. -/
def head (A : (Fin 256 → EReal) → (Fin 256 → EReal) → EReal) (q : Fin 512 → EReal) (k v : Fin 256 → Fin 512 → EReal) (b : ℕ) (hb : b ≤ 384) (d : Fin 128) : EReal :=
  A (fun x => score (fun e => q ⟨b + e.val, by omega⟩) (fun e => k x ⟨b + e.val, by omega⟩)) (fun x => v x ⟨b + d.val, by omega⟩)

/-- Lane `c` of the attention's output. -/
def lane (A : (Fin 256 → EReal) → (Fin 256 → EReal) → EReal) (q : Fin 512 → EReal) (k v : Fin 256 → Fin 512 → EReal) (c : Fin 512) : EReal :=
  head A q k v (128 * (c.val / 128)) (by omega) ⟨c.val % 128, Nat.mod_lt _ (by norm_num)⟩

theorem lane_head (A : (Fin 256 → EReal) → (Fin 256 → EReal) → EReal) (q : Fin 512 → EReal) (k v : Fin 256 → Fin 512 → EReal) (c : Fin 512)
    (b : ℕ) (hb : b ≤ 384) (d : Fin 128) (h : 128 * (c.val / 128) = b) (h' : c.val % 128 = d.val) : head A q k v b hb d = lane A q k v c := by
  subst h
  exact congrArg (head A q k v _ _) (Fin.ext h'.symm)

/-- A row's queries. -/
def query (h g : Fin 2048 → EReal) (w : Fin 2048 → Fin 512 → EReal) (e : Fin 512) : EReal :=
  ∑ x, h x * Ideal.rsqrt (Ideal.div (∑ x, h x * h x) (Ideal.ofBits .f32 0x45000000#32) + Ideal.ofBits .f32 0x358637BD#32) * g x * w x e

theorem IsR.query {h g : Fin 2048 → EReal} {w : Fin 2048 → Fin 512 → EReal} (hh : ∀ x, IsR (h x)) (hg : ∀ x, IsR (g x)) (hw : ∀ x e, IsR (w x e)) (e : Fin 512) :
    IsR (query h g w e) :=
  IsR.sum _ _ fun x => (((hh x).mul (IsR.root _ _ hh)).mul (hg x)).mul (hw x e)

/-- A row plus its normed product. -/
def residual (h y g : Fin 2048 → EReal) (j : Fin 2048) : EReal :=
  h j + y j * Ideal.rsqrt (Ideal.div (∑ x, y x * y x) (Ideal.ofBits .f32 0x45000000#32) + Ideal.ofBits .f32 0x358637BD#32) * g j

/-- A row of the result. -/
def row (A : (Fin 256 → EReal) → (Fin 256 → EReal) → EReal) (h : Fin 2048 → EReal) (k v : Fin 256 → Fin 512 → EReal) (g : Fin 2048 → EReal)
    (w : Fin 2048 → Fin 512 → EReal) (wo : Fin 512 → Fin 2048 → EReal) (g' : Fin 2048 → EReal) (j : Fin 2048) : EReal :=
  residual h (fun j => ∑ c, lane A (query h g w) k v c * wo c j) g' j

/-- An entry under the divided weights. -/
def att' (s v : Fin 256 → EReal) : EReal := ∑ x, v x * Ideal.div (weight s x) (∑ x, weight s x)

theorem row_eq {h : Fin 2048 → EReal} {k : Fin 256 → Fin 512 → EReal} {g : Fin 2048 → EReal} {w : Fin 2048 → Fin 512 → EReal}
    (hh : ∀ x, IsR (h x)) (hk : ∀ x e, IsR (k x e)) (hg : ∀ x, IsR (g x)) (hw : ∀ x e, IsR (w x e))
    (v : Fin 256 → Fin 512 → EReal) (wo : Fin 512 → Fin 2048 → EReal) (g' : Fin 2048 → EReal) (j : Fin 2048) :
    row att h k v g w wo g' j = row att' h k v g w wo g' j := by
  have e (c : Fin 512) : lane att (query h g w) k v c = lane att' (query h g w) k v c :=
    att_eq (fun x => IsR.score (fun e => IsR.query hh hg hw _) (fun e => hk x _)) _
  unfold row
  simp only [e]

end Cert.XAttnMath

end
-- ==== Proof.XAttnFinite.lean ====
/- What the precondition says: that the entries of four of the arrays are real numbers. -/
module

public import proofs.«01_k».proof.Pre_xattn_finite
public import proofs.«01_k».proof.Proof.XAttnMath
public import Idealize.ShloMosaic.Lib.ReduceAll
public import Idealize.ShloMosaic.Lib.Affine
public import Idealize.ShloMosaic.Lib.Pointwise

@[expose] public section

set_option maxRecDepth 16384

noncomputable section

namespace Cert.XAttnFinite

open Idealize.ShloMosaic Cert.Pre_xattn_finite Cert.XAttnMath

/-- The shape relations of the precondition's operations. -/
theorem facts : Cert.Pre_xattn_finite.Facts where
  bcast_S_S2x4096x2048 := by decide
  reducesTo_S2x4096x2048_S_d0_1_2 := by decide
  h_S_ := by decide
  bcast_S_S2x256x4x128 := by decide
  reducesTo_S2x256x4x128_S_d0_1_2_3 := by decide
  bcast_S_S2048 := by decide
  reducesTo_S2048_S_d0 := by decide
  bcast_S_S2048x512 := by decide
  reducesTo_S2048x512_S_d0_1 := by decide

theorem inf : Ideal.ofBits .f32 0x7F800000#32 = ⊤ := by
  simp [Ideal.ofBits, Ideal.ieee]

/-- An entry whose magnitude is below the infinite word is a real number. -/
theorem isR_of {x : EReal} (e : Ideal.cmp .olt (max x (-x)) (Ideal.ofBits .f32 0x7F800000#32) = 1#1) : IsR x := by
  rw [inf] at e
  have h : max x (-x) < ⊤ := by
    by_contra h
    simp [Ideal.cmp, h] at e
  have h1 : x < ⊤ := lt_of_le_of_lt (le_max_left _ _) h
  have h2 : -x < ⊤ := lt_of_le_of_lt (le_max_right _ _) h
  induction x using EReal.rec with
  | bot => simp at h2
  | coe r => exact ⟨r, rfl⟩
  | top => simp at h1

/-- The entries of the four arrays are real numbers. -/
theorem real [Facts] {a0 : FVec Ideal S2x4096x2048 .f32} {a1 a2 : FVec Ideal S2x256x4x128 .f32} {a3 : FVec Ideal S2048 .f32} {a4 : FVec Ideal S2048x512 .f32}
    {a5 : FVec Ideal S512x2048 .f32} {a6 : FVec Ideal S2048 .f32} (h : Cert.Pre_xattn_finite.fn (F := Ideal) a0 a1 a2 a3 a4 a5 a6 = fun _ => 1#1) :
    (∀ i, IsR (a0 i)) ∧ (∀ i, IsR (a1 i)) ∧ (∀ i, IsR (a3 i)) ∧ (∀ i, IsR (a4 i)) := by
  have hs : Subsingleton S_.Idx := ⟨fun a b => funext fun k => k.elim0⟩
  have h := congrFun h ix0
  unfold Cert.Pre_xattn_finite.fn Cert.Pre_xattn_finite.fn_part1 at h
  obtain ⟨h, h4⟩ := IntOp.andi_eq_one.1 h
  obtain ⟨h, h3⟩ := IntOp.andi_eq_one.1 h
  obtain ⟨h0, h1⟩ := IntOp.andi_eq_one.1 h
  exact ⟨fun i => isR_of (Host.reduce_andi_all _ _ _ _ _ h0 i), fun i => isR_of (Host.reduce_andi_all _ _ _ _ _ h1 i),
    fun i => isR_of (Host.reduce_andi_all _ _ _ _ _ h3 i), fun i => isR_of (Host.reduce_andi_all _ _ _ _ _ h4 i)⟩

end Cert.XAttnFinite

end
-- ==== Proof.XAttnKernel.lean ====
/- The attention over the memory: a row of what a grid point stores, from its blocks. -/
module

public import proofs.«01_k».proof.Proof.XAttnMath
public import proofs.«01_k».proof.Proof.Gen.XAttnIdeal.Value
public import Idealize.ShloMosaic.Lib.Pipeline.ValueKit
public import Idealize.ShloMosaic.Lib.Pointwise

@[expose] public section

set_option maxRecDepth 16384

noncomputable section

namespace Cert.XAttnKernel

open Idealize.ShloMosaic Idealize.ShloMosaic.TcCoe Idealize.SL.Sem
open Cert.XAttnIdeal Cert.XAttnIdeal.Gen Cert.XAttnMath

variable (x0 : Vec Ideal S512x2048 .f32) (x1 x2 : Vec Ideal S1x1x256x512 .f32) (x3 : Vec Ideal S1x2048 .f32) (x4 : Vec Ideal S2048x512 .bf16)
  (x5 : Vec Ideal S512x2048 .bf16) (x6 : Vec Ideal S1x2048 .f32)

/-- A row's queries, from the blocks. -/
def q (i : Fin 512) : Fin 512 → EReal := query (fun x => x0 (ix2 i x)) (fun x => x3 (ix2 0 x)) (fun x e => x4 (ix2 x e))

/-- A block's rows and lanes. -/
def kv (a : Vec Ideal S1x1x256x512 .f32) (x : Fin 256) (e : Fin 512) : EReal := a (ix4 0 0 x e)

set_option maxHeartbeats 4000000 in
theorem q_at (i j : Fin 512) : k0_pay11 x0 x1 x2 x3 x4 x5 x6 (ix2 i j) = q x0 x3 x4 i j := by
  unfold k0_pay11
  pointwise [k0_pay3, k0_pay2]
  rfl

set_option maxHeartbeats 4000000 in
theorem head0 (i : Fin 512) (d : Fin 128) :
    k0_pay7 (k0_pay5 x0 x3 x4 (View.ld x1 r0_3)) (k0_pay6 x0 x3 x4 (View.ld x1 r0_3)) (View.ld x2 r0_3) (ix2 i d)
      = head att (q x0 x3 x4 i) (kv x1) (kv x2) 0 (by norm_num) d := by
  have hq (e : Fin 512) : k0_pay3 x0 x3 x4 (ix2 i e) = q x0 x3 x4 i e := by
    pointwise [k0_pay3, k0_pay2]
    rfl
  unfold k0_pay5 k0_pay6
  unfold k0_pay4
  generalize k0_pay3 x0 x3 x4 = z at *
  generalize q x0 x3 x4 i = f at *
  pointwise [k0_pay7, View.ld, r0_3]
  simp only [hq]
  simp only [head, att, weight, top, score, kv, Nat.zero_add]

set_option maxHeartbeats 4000000 in
theorem head1 (i : Fin 512) (d : Fin 128) :
    k0_pay8 (k0_pay11 x0 x1 x2 x3 x4 x5 x6) (View.ld x1 r0_4) (View.ld x2 r0_4) (ix2 i d)
      = head att (q x0 x3 x4 i) (kv x1) (kv x2) 128 (by norm_num) d := by
  have hq := q_at x0 x1 x2 x3 x4 x5 x6 i
  generalize k0_pay11 x0 x1 x2 x3 x4 x5 x6 = z at *
  generalize q x0 x3 x4 i = f at *
  pointwise [k0_pay8, View.ld, r0_4]
  simp only [hq]
  simp only [head, att, weight, top, score, kv]

set_option maxHeartbeats 4000000 in
/-- A row of the product with the output weight. -/
theorem y_at (v41 v63 : FVec Ideal S512x128 .f32) (i : Fin 512) (j : Fin 2048)
    (h0 : ∀ d : Fin 128, v41 (ix2 i d) = head att (q x0 x3 x4 i) (kv x1) (kv x2) 0 (by norm_num) d)
    (h1 : ∀ d : Fin 128, v63 (ix2 i d) = head att (q x0 x3 x4 i) (kv x1) (kv x2) 128 (by norm_num) d) :
    k0_pay10 (k0_pay11 x0 x1 x2 x3 x4 x5 x6) v41 v63 (k0_pay9 (k0_pay11 x0 x1 x2 x3 x4 x5 x6) (View.ld x1 r0_5)) (View.ld x2 r0_5) (View.ld x1 r0_6) (View.ld x2 r0_6) x5 (ix2 i j)
      = ∑ c : Fin 512, lane att (q x0 x3 x4 i) (kv x1) (kv x2) c * x5 (ix2 c j) := by
  have hq := q_at x0 x1 x2 x3 x4 x5 x6 i
  generalize k0_pay11 x0 x1 x2 x3 x4 x5 x6 = z at *
  generalize q x0 x3 x4 i = f at *
  pointwise [k0_pay10, k0_pay9, View.ld, r0_5, r0_6]
  simp only [hq, h0, h1]
  refine Finset.sum_congr rfl fun c _ => congrArg (fun o : EReal => o * x5 (ix2 c j)) ?_
  have hc := c.isLt
  split
  · exact lane_head _ _ _ _ c _ _ _ (by omega) (show c.val % 128 = c.val by omega)
  · split
    · exact lane_head _ _ _ _ c _ _ _ (by omega) (show c.val % 128 = c.val - 128 by omega)
    · split
      · refine Eq.trans ?_ (lane_head att f (kv x1) (kv x2) c 256 (by norm_num) ⟨c.val - 128 - 128, by omega⟩ (by omega) (show c.val % 128 = c.val - 128 - 128 by omega))
        simp only [head, att, weight, top, score, kv]
      · refine Eq.trans ?_ (lane_head att f (kv x1) (kv x2) c 384 (by norm_num) ⟨c.val - 128 - 128 - 128, by omega⟩ (by omega) (show c.val % 128 = c.val - 128 - 128 - 128 by omega))
        simp only [head, att, weight, top, score, kv]

set_option maxHeartbeats 4000000 in
/-- A row of the result, from the blocks. -/
theorem out_at (i : Fin 512) (j : Fin 2048) : out0_7 x0 x1 x2 x3 x4 x5 x6 (ix2 i j)
    = row att (fun x => x0 (ix2 i x)) (kv x1) (kv x2) (fun x => x3 (ix2 0 x)) (fun x e => x4 (ix2 x e)) (fun c j => x5 (ix2 c j)) (fun x => x6 (ix2 0 x)) j := by
  have hy := fun j => y_at x0 x1 x2 x3 x4 x5 x6 _ _ i j (head0 x0 x1 x2 x3 x4 i) (head1 x0 x1 x2 x3 x4 x5 x6 i)
  unfold out0_7
  frame_out
  pointwise [k0_pay1, k0_pay2]
  simp only [hy]
  rfl

end Cert.XAttnKernel

end
-- ==== Proof.XAttnRef.lean ====
/- The reference of the attention over the memory, stage by stage: a row of its result. -/
module

public import proofs.«01_k».proof.Proof.XAttnMath
public import proofs.«01_k».proof.Proof.Gen.XAttnRefIdeal.Run
public import Idealize.ShloMosaic.Lib.Pipeline.ValueKit
public import Idealize.ShloMosaic.Lib.Pointwise

@[expose] public section

set_option maxRecDepth 16384

noncomputable section

namespace Cert.XAttnRef

open Idealize.ShloMosaic Idealize.ShloMosaic.TcCoe Idealize.SL.Sem
open Cert.XAttnRefIdeal Cert.XAttnRefIdeal.Gen Cert.XAttnMath

variable (a0 : FVec Ideal S2x4096x2048 .f32) (a1 : FVec Ideal S2x256x4x128 .f32) (a2 : FVec Ideal S2x256x4x128 .f32) (a3 : FVec Ideal S2048 .f32) (a4 : FVec Ideal S2048x512 .f32) (a5 : FVec Ideal S512x2048 .f32) (a6 : FVec Ideal S2048 .f32)

/-- The normed rows. -/
def xn : FVec Ideal S2x4096x2048 .f32 :=
  mulf (mulf a0 (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf a0 a0) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 a3))

/-- The scores. -/
def sc : FVec Ideal S2x4x4096x256 .f32 :=
  mulf (Host.dotGeneral dot_S2x4096x4x128_S2x256x4x128_S2x4x4096x256_3_3_1_1_02_02 none (shapeCast _ (Host.dotGeneral dot_S2x4096x2048_S2048x512_S2x4096x512_2_0_01_1_n_n none (xn a0 a3) a4) shapeCasts_S2x4096x512_S2x4096x4x128) a1) (broadcastInDim S2x4x4096x256 ![] bcast_S_S2x4x4096x256 (constant S_ .f32 0x3DB504F3#32))

/-- The weights. -/
def wt : FVec Ideal S2x4x4096x256 .f32 :=
  Host.exp (subf (sc a0 a1 a3 a4) (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant S_ .f32 0xFF800000#32)) (Host.reduce FloatOps.maximumf (sc a0 a1 a3 a4) (constant S_ .f32 0xFF800000#32) reducesTo_S2x4x4096x256_S2x4x4096_d3 h_S_)))))

/-- The attention's output, lanes before rows. -/
def oo : FVec Ideal S2x4x128x4096 .f32 :=
  Host.dotGeneral dot_S2x256x4x128_S2x4x4096x256_S2x4x128x4096_1_3_3_2_02_01 none a2 (Host.divf (wt a0 a1 a3 a4) (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd (wt a0 a1 a3 a4) (constant S_ .f32 0x00000000#32) reducesTo_S2x4x4096x256_S2x4x4096_d3 h_S_))))

/-- The product with the output weight. -/
def yy : FVec Ideal S2x4096x2048 .f32 :=
  Host.dotGeneral dot_S2x4096x512_S512x2048_S2x4096x2048_2_0_01_1_n_n none (shapeCast _ (transpose S2x4096x4x128 [0, 3, 1, 2] (oo a0 a1 a2 a3 a4) transposes_S2x4x128x4096_S2x4096x4x128_0_3_1_2) shapeCasts_S2x4096x4x128_S2x4096x512) a5

/-- The result. -/
def out : FVec Ideal S8192x2048 .f32 :=
  shapeCast _ (addf a0 (mulf (mulf (yy a0 a1 a2 a3 a4 a5) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (yy a0 a1 a2 a3 a4 a5) (yy a0 a1 a2 a3 a4 a5)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 a6)))) shapeCasts_S2x4096x2048_S8192x2048

/-- The stages make up the reference. -/
theorem out_res (m : (ℓ : Loc nD τ sig) → Buf (Elt Ideal) ℓ) (c : Dev nD) :
    Cert.XAttnRefIdeal.Value.res_main_v47 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

/-- A row's queries. -/
def q (b : Fin 2) (t : Fin 4096) : Fin 512 → EReal := query (fun x => a0 (ix3 b t x)) (fun x => a3 (ix1 x)) (fun x e => a4 (ix2 x e))

/-- The memory's rows, a head's lanes behind one another. -/
def kv (a : FVec Ideal S2x256x4x128 .f32) (b : Fin 2) (x : Fin 256) (e : Fin 512) : EReal :=
  a (ix4 b x ⟨e.val / 128, by omega⟩ ⟨e.val % 128, Nat.mod_lt _ (by norm_num)⟩)

theorem kv_head (a : FVec Ideal S2x256x4x128 .f32) (b : Fin 2) (x : Fin 256) (h : Fin 4) (e : Fin 128) :
    kv a b x ⟨128 * h.val + e.val, by omega⟩ = a (ix4 b x h e) := by
  unfold kv
  have e1 : (⟨(128 * h.val + e.val) / 128, by omega⟩ : Fin 4) = h := Fin.ext (by show (128 * h.val + e.val) / 128 = h.val; omega)
  have e2 : (⟨(128 * h.val + e.val) % 128, Nat.mod_lt _ (by norm_num)⟩ : Fin 128) = e := Fin.ext (by show (128 * h.val + e.val) % 128 = e.val; omega)
  exact congrArg₂ (fun h e => a (ix4 b x h e)) e1 e2

set_option maxHeartbeats 4000000 in
theorem xn_at (b : Fin 2) (t : Fin 4096) (x : Fin 2048) : xn a0 a3 (ix3 b t x)
    = a0 (ix3 b t x) * Ideal.rsqrt (Ideal.div (∑ x, a0 (ix3 b t x) * a0 (ix3 b t x)) (Ideal.ofBits .f32 0x45000000#32) + Ideal.ofBits .f32 0x358637BD#32) * a3 (ix1 x) := by
  unfold xn
  pointwise []

/-- The scores of a row and a head. -/
def s (b : Fin 2) (h : Fin 4) (t : Fin 4096) (x : Fin 256) : EReal :=
  score (fun e => q a0 a3 a4 b t ⟨128 * h.val + e.val, by omega⟩) (fun e => kv a1 b x ⟨128 * h.val + e.val, by omega⟩)

set_option maxHeartbeats 4000000 in
theorem sc_at (b : Fin 2) (h : Fin 4) (t : Fin 4096) (x : Fin 256) : sc a0 a1 a3 a4 (ix4 b h t x) = s a0 a1 a3 a4 b h t x := by
  have hx := xn_at a0 a3 b t
  unfold sc s score q query
  simp only [kv_head]
  generalize xn a0 a3 = z at *
  pointwise []
  simp only [hx, Nat.mul_comm h.val 128]

/-- The largest of a row of scores. -/
theorem top_of (z : FVec Ideal S2x4x4096x256 .f32) (b : Fin 2) (h : Fin 4) (t : Fin 4096) :
    Host.reduce FloatOps.maximumf z (constant S_ .f32 0xFF800000#32) reducesTo_S2x4x4096x256_S2x4x4096_d3 h_S_ (ix3 b h t) = top (fun x => z (ix4 b h t x)) := by
  refine (Host.reduce_eq_fold _ _ _ _ _ _).trans ?_
  refine (Shape.ReducesTo.fold_fiber_r4_a3 _ _ _ _ _).trans ?_
  rfl

theorem wt_r (z : FVec Ideal S2x4x4096x256 .f32) (r : FVec Ideal S2x4x4096 .f32) (b : Fin 2) (h : Fin 4) (t : Fin 4096) (x : Fin 256) :
    (Host.exp (subf z (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant S_ .f32 0xFF800000#32)) r)))) : FVec Ideal S2x4x4096x256 .f32) (ix4 b h t x)
      = Ideal.exp (z (ix4 b h t x) - max (Ideal.ofBits .f32 0xFF800000#32) (r (ix3 b h t))) := by
  pointwise []

theorem wt_of (z : FVec Ideal S2x4x4096x256 .f32) (b : Fin 2) (h : Fin 4) (t : Fin 4096) (x : Fin 256) :
    (Host.exp (subf z (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant S_ .f32 0xFF800000#32)) (Host.reduce FloatOps.maximumf z (constant S_ .f32 0xFF800000#32) reducesTo_S2x4x4096x256_S2x4x4096_d3 h_S_))))) : FVec Ideal S2x4x4096x256 .f32) (ix4 b h t x) = weight (fun x => z (ix4 b h t x)) x :=
  (wt_r z _ b h t x).trans (congrArg (fun u => Ideal.exp (z (ix4 b h t x) - u))
    ((congrArg (max (Ideal.ofBits .f32 0xFF800000#32)) (top_of z b h t)).trans (top_max fun x => z (ix4 b h t x))))

theorem wt_at (b : Fin 2) (h : Fin 4) (t : Fin 4096) (x : Fin 256) : wt a0 a1 a3 a4 (ix4 b h t x) = weight (s a0 a1 a3 a4 b h t) x :=
  (wt_of (sc a0 a1 a3 a4) b h t x).trans (congrArg (fun f => weight f x) (funext fun x => sc_at a0 a1 a3 a4 b h t x))

set_option maxHeartbeats 4000000 in
theorem oo_at (b : Fin 2) (h : Fin 4) (d : Fin 128) (t : Fin 4096) : oo a0 a1 a2 a3 a4 (ix4 b h d t)
    = head att' (q a0 a3 a4 b t) (kv a1 b) (kv a2 b) (128 * h.val) (by omega) d := by
  have hs := wt_at a0 a1 a3 a4 b h t
  unfold head att' oo
  simp only [kv_head]
  generalize wt a0 a1 a3 a4 = z at *
  pointwise []
  simp only [hs]
  unfold s
  simp only [kv_head]

set_option maxHeartbeats 4000000 in
theorem yy_at (b : Fin 2) (t : Fin 4096) (j : Fin 2048) : yy a0 a1 a2 a3 a4 a5 (ix3 b t j)
    = ∑ c : Fin 512, lane att' (q a0 a3 a4 b t) (kv a1 b) (kv a2 b) c * a5 (ix2 c j) := by
  have ho := fun h d => oo_at a0 a1 a2 a3 a4 b h d t
  unfold yy
  generalize oo a0 a1 a2 a3 a4 = z at *
  pointwise []
  simp only [ho]
  rfl

set_option maxHeartbeats 4000000 in
/-- A row of the reference's result. -/
theorem out_at (r : Fin 8192) (j : Fin 2048) : out a0 a1 a2 a3 a4 a5 a6 (ix2 r j)
    = row att' (fun x => a0 (ix3 ⟨r.val / 4096, by omega⟩ ⟨r.val % 4096, Nat.mod_lt _ (by norm_num)⟩ x)) (kv a1 ⟨r.val / 4096, by omega⟩) (kv a2 ⟨r.val / 4096, by omega⟩)
      (fun x => a3 (ix1 x)) (fun x e => a4 (ix2 x e)) (fun c j => a5 (ix2 c j)) (fun x => a6 (ix1 x)) j := by
  have hy := yy_at a0 a1 a2 a3 a4 a5 ⟨r.val / 4096, by omega⟩ ⟨r.val % 4096, Nat.mod_lt _ (by norm_num)⟩
  unfold out
  generalize yy a0 a1 a2 a3 a4 a5 = z at *
  pointwise []
  simp only [hy]
  rfl

end Cert.XAttnRef

end
-- ==== Proof.XAttnValue.lean ====
/-
  The attention over the memory: what the array that the call returns holds, and that it is what the reference computes
  where the scores are real numbers.
-/
module

public import proofs.«01_k».proof.Defs
public import proofs.«01_k».proof.Proof.XAttnBlocks
public import proofs.«01_k».proof.Proof.XAttnFinite
public import proofs.«01_k».proof.Proof.XAttnKernel
public import proofs.«01_k».proof.Proof.XAttnRef

@[expose] public section

set_option maxRecDepth 16384

noncomputable section

namespace Cert.XAttnValue

open Idealize.ShloMosaic Idealize.ShloMosaic.TcCoe Idealize.SL.Sem
open Cert.XAttnIdeal Cert.XAttnIdeal.Gen Cert.XAttnMath Cert.XAttnBlocks

variable (m : (ℓ : Loc nD τ sig) → Buf (Elt Ideal) ℓ)

/-- The result from the arrays. -/
def result (c : Dev nD) : FVec Ideal Cert.XAttnRefIdeal.S8192x2048 .f32 :=
  Cert.XAttnRef.out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

set_option maxHeartbeats 4000000 in
/-- What a point stores is the reference's rows. -/
theorem stored (hp : Pre_XAttnIdeal_xattn_finite (hPre_xattn_finite := Cert.XAttnFinite.facts) m) (c : Dev nD) (t : Fin cfg0.N) (i : Fin 512) (j : Fin 2048) :
    out0_7 (iblk m c 0 t) (iblk m c 1 t) (iblk m c 2 t) (iblk m c 3 t) (iblk m c 4 t) (iblk m c 5 t) (iblk m c 6 t) (ix2 i j) = result m c (ix2 (at_ t i) j) := by
  obtain ⟨f0, f1, f3, f4⟩ := @Cert.XAttnFinite.real Cert.XAttnFinite.facts _ _ _ _ _ _ _ (hp c)
  refine (Cert.XAttnKernel.out_at _ _ _ _ _ _ _ i j).trans ?_
  rw [show (fun x => iblk m c 0 t (ix2 i x)) = _ from funext fun x => blk0 m c t i x,
    show Cert.XAttnKernel.kv (iblk m c 1 t) = _ from funext fun x => funext fun e => blk1 m c t i x e,
    show Cert.XAttnKernel.kv (iblk m c 2 t) = _ from funext fun x => funext fun e => blk2 m c t i x e,
    show (fun x => iblk m c 3 t (ix2 0 x)) = _ from funext fun x => blk3 m c t x,
    show (fun x e => iblk m c 4 t (ix2 x e)) = _ from funext fun x => funext fun e => blk4 m c t x e,
    show (fun e j => iblk m c 5 t (ix2 e j)) = _ from funext fun e => funext fun j => blk5 m c t e j,
    show (fun x => iblk m c 6 t (ix2 0 x)) = _ from funext fun x => blk6 m c t x]
  refine Eq.trans ?_ (Cert.XAttnRef.out_at _ _ _ _ _ _ _ (at_ t i) j).symm
  exact row_eq (fun x => f0 _) (fun x e => f1 _) (fun x => f3 _) (fun x e => f4 _) _ _ _ j

set_option maxHeartbeats 4000000 in
/-- The array is the reference's. -/
theorem final_eq (hp : Pre_XAttnIdeal_xattn_finite (hPre_xattn_finite := Cert.XAttnFinite.facts) m) (c : Dev nD) :
    (dats m 0 c).arrAt 7 cfg0.N = result m c := by
  refine (dats m 0 c).arrAt_eq_of_covers 7 _ (by decide +kernel) fun t hf y => ?_
  blk_simp
  rw [after0_7]
  have hy : (win0_7.blk t).view.emb y = ix2 (at_ t (y 0)) (y 1) := by blk_ext [idx t, at_]
  have e : y = ix2 (y 0) (y 1) := funext fun k => match k with | ⟨0, _⟩ => rfl | ⟨1, _⟩ => rfl
  rw [hy]
  exact (congrArg _ e).trans (stored m hp c t (y 0) (y 1))

/-- Both runs end at one array, where the precondition holds. -/
theorem algebraic : Cert.algebraic_XAttnIdeal_XAttnRefIdeal_pre_xattn_finite (hPre_xattn_finite := Cert.XAttnFinite.facts) := by
  intro m g m' g' hp hagree
  refine ⟨fun c => result m c, ?_, ?_⟩
  · refine (θ_run _ _ _).mono (fun r h c => ?_) (Cert.XAttnIdeal.Value.run_blocks m g)
    obtain ⟨hv, ha⟩ := h c
    exact ⟨hv.trans (final_eq m hp c), ha⟩
  · refine (θ_run _ _ _).mono (fun r h c => ?_) (Cert.XAttnRefIdeal.Value.run m' g')
    obtain ⟨h0, h1, h2, h3, h4, h5, h6⟩ := hagree c
    obtain ⟨hv, ha⟩ := h c
    refine ⟨hv.trans ((Cert.XAttnRef.out_res m' c).trans ?_), ha⟩
    rw [h0, h1, h2, h3, h4, h5, h6]
    rfl

end Cert.XAttnValue

end
-- ==== Proof.lean ====
/- The claim about the layer's calls, put together from the modules that prove its parts: for each call
   the two frames (of the kernel as it is and of its ideal reading), the reference's frame, and the equation of
   the kernel's results with the reference's. -/
module

public import proofs.«01_k».proof.Defs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.MixValue
public import proofs.«01_k».proof.Proof.Gen.Ffn
public import proofs.«01_k».proof.Proof.Gen.Ffn.Skeleton
public import proofs.«01_k».proof.Proof.Gen.Ffn.Loops
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Loops
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.FfnFrame
public import proofs.«01_k».proof.Proof.FfnPair
public import proofs.«01_k».proof.Proof.FfnValue
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.InProjFrame
public import proofs.«01_k».proof.Proof.InProjPair
public import proofs.«01_k».proof.Proof.InProjValue
public import proofs.«01_k».proof.Proof.Gen.InProjS
public import proofs.«01_k».proof.Proof.Gen.InProjS.Skeleton
public import proofs.«01_k».proof.Proof.Gen.InProjS.Launch
public import proofs.«01_k».proof.Proof.Gen.InProjS.Points
public import proofs.«01_k».proof.Proof.Gen.InProjS.Frame
public import proofs.«01_k».proof.Proof.Gen.InProjSIdeal
public import proofs.«01_k».proof.Proof.Gen.InProjSIdeal.Skeleton
public import proofs.«01_k».proof.Proof.Gen.InProjSIdeal.Launch
public import proofs.«01_k».proof.Proof.Gen.InProjSIdeal.Points
public import proofs.«01_k».proof.Proof.Gen.InProjSIdeal.Frame
public import proofs.«01_k».proof.Proof.Gen.InProjSRefIdeal
public import proofs.«01_k».proof.Proof.Gen.InProjSRefIdeal.Run
public import proofs.«01_k».proof.Proof.InProjSFrame
public import proofs.«01_k».proof.Proof.InProjSPair
public import proofs.«01_k».proof.Proof.InProjSValue
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MemKvRefIdeal.Run
public import proofs.«01_k».proof.Proof.MemKvFrame
public import proofs.«01_k».proof.Proof.MemKvPair
public import proofs.«01_k».proof.Proof.MemKvValue
public import proofs.«01_k».proof.Proof.Gen.ConvS
public import proofs.«01_k».proof.Proof.Gen.ConvS.Skeleton
public import proofs.«01_k».proof.Proof.Gen.ConvS.Launch
public import proofs.«01_k».proof.Proof.Gen.ConvS.Points
public import proofs.«01_k».proof.Proof.Gen.ConvS.Frame
public import proofs.«01_k».proof.Proof.Gen.ConvSIdeal
public import proofs.«01_k».proof.Proof.Gen.ConvSIdeal.Skeleton
public import proofs.«01_k».proof.Proof.Gen.ConvSIdeal.Launch
public import proofs.«01_k».proof.Proof.Gen.ConvSIdeal.Points
public import proofs.«01_k».proof.Proof.Gen.ConvSIdeal.Frame
public import proofs.«01_k».proof.Proof.Gen.ConvSIdeal.Value
public import proofs.«01_k».proof.Proof.Gen.ConvSRefIdeal
public import proofs.«01_k».proof.Proof.Gen.ConvSRefIdeal.Run
public import proofs.«01_k».proof.Proof.ConvSValue
public import proofs.«01_k».proof.Proof.Gen.XAttn
public import proofs.«01_k».proof.Proof.Gen.XAttn.Skeleton
public import proofs.«01_k».proof.Proof.Gen.XAttn.Launch
public import proofs.«01_k».proof.Proof.Gen.XAttn.Points
public import proofs.«01_k».proof.Proof.Gen.XAttn.Frame
public import proofs.«01_k».proof.Proof.Gen.XAttnIdeal
public import proofs.«01_k».proof.Proof.Gen.XAttnIdeal.Skeleton
public import proofs.«01_k».proof.Proof.Gen.XAttnIdeal.Launch
public import proofs.«01_k».proof.Proof.Gen.XAttnIdeal.Points
public import proofs.«01_k».proof.Proof.Gen.XAttnIdeal.Frame
public import proofs.«01_k».proof.Proof.Gen.XAttnIdeal.Value
public import proofs.«01_k».proof.Proof.Gen.XAttnRefIdeal
public import proofs.«01_k».proof.Proof.Gen.XAttnRefIdeal.Run
public import proofs.«01_k».proof.Proof.XAttnValue
public import Idealize.ShloMosaic.Adequacy
public import Idealize.ShloMosaic.Init

@[expose] public section

noncomputable section

namespace Cert.Proof

open Idealize.ShloMosaic Idealize.SL.Sem Cert.Mix

theorem claim : Cert.Claim := ⟨Cert.Mix.Gen.facts, Cert.MixIdeal.Gen.facts, Cert.MixRefIdeal.Gen.facts, Cert.Ffn.Gen.facts, Cert.FfnIdeal.Gen.facts, Cert.FfnRefIdeal.Gen.facts, Cert.InProj.Gen.facts, Cert.InProjIdeal.Gen.facts, Cert.InProjRefIdeal.Gen.facts, Cert.InProjS.Gen.facts, Cert.InProjSIdeal.Gen.facts, Cert.InProjSRefIdeal.Gen.facts, Cert.MemKv.Gen.facts, Cert.MemKvIdeal.Gen.facts, Cert.MemKvRefIdeal.Gen.facts, Cert.ConvS.Gen.facts, Cert.ConvSIdeal.Gen.facts, Cert.ConvSRefIdeal.Gen.facts, Cert.XAttn.Gen.facts, Cert.XAttnIdeal.Gen.facts, Cert.XAttnRefIdeal.Gen.facts, Cert.XAttnFinite.facts,
  fun m ρ _ => Cert.Mix.Gen.frame m ρ,
  fun m ρ _ => Cert.MixIdeal.Gen.frame m ρ,
  fun m ρ _ => (θ_run Cert.MixRefIdeal.defs _ _).mono (fun r h => ⟨fun c => (h c).2, sem_eq_zero_of_no_sems rfl r.2⟩) (Cert.MixRefIdeal.Value.run m ρ),
  Cert.FfnRun.frame_kernel,
  fun m ρ _ => Cert.FfnRun.frame_run m ρ,
  fun m ρ _ => (θ_run Cert.FfnRefIdeal.defs _ _).mono (fun r h => ⟨fun c => (h c).2, sem_eq_zero_of_no_sems rfl r.2⟩) (Cert.FfnRefIdeal.Value.run m ρ),
  Cert.InProjRun.frame_kernel,
  fun m ρ _ => Cert.InProjRun.frame_run m ρ,
  fun m ρ _ => (θ_run Cert.InProjRefIdeal.defs _ _).mono (fun r h => ⟨fun c => (h c).2.2.2, sem_eq_zero_of_no_sems rfl r.2⟩) (Cert.InProjRefIdeal.Value.run m ρ),
  Cert.InProjSRun.frame_kernel,
  fun m ρ _ => Cert.InProjSRun.frame_run m ρ,
  fun m ρ _ => (θ_run Cert.InProjSRefIdeal.defs _ _).mono (fun r h => ⟨fun c => (h c).2.2.2.2, sem_eq_zero_of_no_sems rfl r.2⟩) (Cert.InProjSRefIdeal.Value.run m ρ),
  Cert.MemKvRun.frame_kernel,
  fun m ρ _ => Cert.MemKvRun.frame_run m ρ,
  fun m ρ _ => (θ_run Cert.MemKvRefIdeal.defs _ _).mono (fun r h => ⟨fun c => (h c).2.2, sem_eq_zero_of_no_sems rfl r.2⟩) (Cert.MemKvRefIdeal.Value.run m ρ),
  fun m ρ _ => Cert.ConvS.Gen.frame m ρ,
  fun m ρ _ => Cert.ConvSIdeal.Gen.frame m ρ,
  fun m ρ _ => (θ_run Cert.ConvSRefIdeal.defs _ _).mono (fun r h => ⟨fun c => (h c).2.2, sem_eq_zero_of_no_sems rfl r.2⟩) (Cert.ConvSRefIdeal.Value.run m ρ),
  fun m ρ _ => Cert.XAttn.Gen.frame m ρ,
  fun m ρ _ => Cert.XAttnIdeal.Gen.frame m ρ,
  fun m ρ _ => Cert.XAttnIdeal.Gen.frame m ρ,
  fun m ρ _ => (θ_run Cert.XAttnRefIdeal.defs _ _).mono (fun r h => ⟨fun c => (h c).2, sem_eq_zero_of_no_sems rfl r.2⟩) (Cert.XAttnRefIdeal.Value.run m ρ),
  fun m ρ _ => (θ_run Cert.XAttnRefIdeal.defs _ _).mono (fun r h => ⟨fun c => (h c).2, sem_eq_zero_of_no_sems rfl r.2⟩) (Cert.XAttnRefIdeal.Value.run m ρ),
  trivial,
  Cert.MixValue.algebraic,
  trivial,
  Cert.FfnValue.algebraic,
  trivial,
  Cert.InProjValue.algebraic,
  trivial,
  Cert.InProjSValue.algebraic,
  trivial,
  Cert.MemKvValue.algebraic,
  trivial,
  Cert.ConvSValue.algebraic,
  trivial,
  Cert.XAttnValue.algebraic⟩

end Cert.Proof

end
